-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_keys_finite [hPre_keys_finite : Cert.Pre_keys_finite.Facts] (m : (ℓ : Loc Cert.PrepIdeal.nD Cert.PrepIdeal.τ Cert.PrepIdeal.sig) → Buf (Elt Ideal) ℓ) : Prop :=
  ∀ c : Dev Cert.PrepIdeal.nD,
    (Cert.Pre_keys_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_keys_finite [hPre_keys_finite : Cert.Pre_keys_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_keys_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepIdeal_pre_keys_finite [hPrepIdeal : Cert.PrepIdeal.Facts] [hPre_keys_finite : Cert.Pre_keys_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_keys_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def quiescent_PrepRefIdeal_pre_keys_finite [hPrepRefIdeal : Cert.PrepRefIdeal.Facts] [hPre_keys_finite : Cert.Pre_keys_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_keys_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v397) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v345) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v29) = v0 c
          ∧ r.2.mem ((c.tc : Thread Cert.ConvRefIdeal.nD Cert.ConvRefIdeal.τ).loc Cert.ConvRefIdeal.main_v27) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v44) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Prep_PrepIdeal : Prop :=
  True

def algebraic_PrepIdeal_PrepRefIdeal_pre_keys_finite [hPrepIdeal : Cert.PrepIdeal.Facts] [hPrepRefIdeal : Cert.PrepRefIdeal.Facts] [hPre_keys_finite : Cert.Pre_keys_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_keys_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v28_1)) (v1 : (c : Dev Cert.PrepIdeal.nD) → Buf (Elt Ideal) ((c.tc : Thread Cert.PrepIdeal.nD Cert.PrepIdeal.τ).loc Cert.PrepIdeal.main_v28_2)) (v2 : (c : Dev Cert.PrepIdeal.nD) → Buf (Elt Ideal) ((c.tc : Thread Cert.PrepIdeal.nD Cert.PrepIdeal.τ).loc Cert.PrepIdeal.main_v28_3)) (v3 : (c : Dev Cert.PrepIdeal.nD) → Buf (Elt Ideal) ((c.tc : Thread Cert.PrepIdeal.nD Cert.PrepIdeal.τ).loc Cert.PrepIdeal.main_v27)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v28_1) = v0 c
          ∧ r.2.mem ((c.tc : Thread Cert.PrepIdeal.nD Cert.PrepIdeal.τ).loc Cert.PrepIdeal.main_v28_2) = v1 c
          ∧ r.2.mem ((c.tc : Thread Cert.PrepIdeal.nD Cert.PrepIdeal.τ).loc Cert.PrepIdeal.main_v28_3) = v2 c
          ∧ r.2.mem ((c.tc : Thread Cert.PrepIdeal.nD Cert.PrepIdeal.τ).loc Cert.PrepIdeal.main_v27) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v49) = v0 c
          ∧ r.2.mem ((c.tc : Thread Cert.PrepRefIdeal.nD Cert.PrepRefIdeal.τ).loc Cert.PrepRefIdeal.main_v50) = v1 c
          ∧ r.2.mem ((c.tc : Thread Cert.PrepRefIdeal.nD Cert.PrepRefIdeal.τ).loc Cert.PrepRefIdeal.main_v51) = v2 c
          ∧ r.2.mem ((c.tc : Thread Cert.PrepRefIdeal.nD Cert.PrepRefIdeal.τ).loc Cert.PrepRefIdeal.main_v54) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2))

def Claim : Prop :=
  ∃ (hKernel : Cert.Kernel.Facts) (hKernelIdeal : Cert.KernelIdeal.Facts) (hReferenceIdeal : Cert.ReferenceIdeal.Facts) (hConv : Cert.Conv.Facts) (hConvIdeal : Cert.ConvIdeal.Facts) (hConvRefIdeal : Cert.ConvRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hFfn : Cert.Ffn.Facts) (hFfnIdeal : Cert.FfnIdeal.Facts) (hFfnRefIdeal : Cert.FfnRefIdeal.Facts) (hPrep : Cert.Prep.Facts) (hPrepIdeal : Cert.PrepIdeal.Facts) (hPrepRefIdeal : Cert.PrepRefIdeal.Facts) (hPre_keys_finite : Cert.Pre_keys_finite.Facts),
    quiescent_Kernel (hKernel := hKernel)
    ∧ quiescent_KernelIdeal (hKernelIdeal := hKernelIdeal)
    ∧ quiescent_ReferenceIdeal (hReferenceIdeal := hReferenceIdeal)
    ∧ quiescent_Conv (hConv := hConv)
    ∧ quiescent_ConvIdeal (hConvIdeal := hConvIdeal)
    ∧ quiescent_ConvRefIdeal (hConvRefIdeal := hConvRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Prep (hPrep := hPrep)
    ∧ quiescent_PrepIdeal (hPrepIdeal := hPrepIdeal)
    ∧ quiescent_PrepIdeal_pre_keys_finite (hPrepIdeal := hPrepIdeal) (hPre_keys_finite := hPre_keys_finite)
    ∧ quiescent_PrepRefIdeal (hPrepRefIdeal := hPrepRefIdeal)
    ∧ quiescent_PrepRefIdeal_pre_keys_finite (hPrepRefIdeal := hPrepRefIdeal) (hPre_keys_finite := hPre_keys_finite)
    ∧ preserves_Kernel_KernelIdeal
    ∧ algebraic_KernelIdeal_ReferenceIdeal (hKernelIdeal := hKernelIdeal) (hReferenceIdeal := hReferenceIdeal)
    ∧ preserves_Conv_ConvIdeal
    ∧ algebraic_ConvIdeal_ConvRefIdeal (hConvIdeal := hConvIdeal) (hConvRefIdeal := hConvRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Ffn_FfnIdeal
    ∧ algebraic_FfnIdeal_FfnRefIdeal (hFfnIdeal := hFfnIdeal) (hFfnRefIdeal := hFfnRefIdeal)
    ∧ preserves_Prep_PrepIdeal
    ∧ algebraic_PrepIdeal_PrepRefIdeal_pre_keys_finite (hPrepIdeal := hPrepIdeal) (hPrepRefIdeal := hPrepRefIdeal) (hPre_keys_finite := hPre_keys_finite)
-- ==== Pre_keys_finite.lean ====
abbrev S8192x5760 : Shape := ⟨2, ![8192, 5760]⟩
abbrev S64 : Shape := ⟨1, ![64]⟩
abbrev S3x64 : Shape := ⟨2, ![3, 64]⟩
abbrev S8192x256 : Shape := ⟨2, ![8192, 256]⟩
abbrev S_ : Shape := ⟨0, ![]⟩

class Facts : Prop where
  slices_S8192x5760_S8192x256_0_512 : S8192x5760.Slices ![0, 512] S8192x256
  bcast_S_S8192x256 : S_.BroadcastsInDim S8192x256 (![] : Fin 0 → Fin S8192x256.rank)
  slices_S8192x5760_S8192x256_0_1024 : S8192x5760.Slices ![0, 1024] S8192x256

variable [Facts]

def fn {F : FTy → Type} [FloatOps F] (main_arg0 : FVec F S8192x5760 .f32) (main_arg1 : FVec F S64 .f32) (main_arg2 : FVec F S3x64 .f32) : IVec S8192x256 1 :=
  let main_v0 : FVec F S8192x256 .f32 := (extractStridedSlice S8192x256 ![0, 512] · slices_S8192x5760_S8192x256_0_512) main_arg0
  let main_v1 : FVec F S8192x256 .f32 := Host.absf main_v0
  let main_cst : FVec F S_ .f32 := constant S_ .f32 0x7F800000#32
  let main_v2 : FVec F S8192x256 .f32 := broadcastInDim S8192x256 ![] bcast_S_S8192x256 main_cst
  let main_v3 : IVec S8192x256 1 := cmpf .olt main_v1 main_v2
  let main_v4 : FVec F S8192x256 .f32 := (extractStridedSlice S8192x256 ![0, 1024] · slices_S8192x5760_S8192x256_0_1024) main_arg0
  let main_v5 : FVec F S8192x256 .f32 := Host.absf main_v4
  let main_cst_0 : FVec F S_ .f32 := constant S_ .f32 0x7F800000#32
  let main_v6 : FVec F S8192x256 .f32 := broadcastInDim S8192x256 ![] bcast_S_S8192x256 main_cst_0
  let main_v7 : IVec S8192x256 1 := cmpf .olt main_v5 main_v6
  let main_v8 : IVec S8192x256 1 := andi main_v3 main_v7
  main_v8
-- ==== Kernel.lean ====
abbrev S8192x5760 : Shape := ⟨2, ![8192, 5760]⟩
abbrev S2x3x1024 : Shape := ⟨3, ![2, 3, 1024]⟩
abbrev S2x8x64x128 : Shape := ⟨4, ![2, 8, 64, 128]⟩
abbrev S4x1024 : Shape := ⟨2, ![4, 1024]⟩
abbrev S1024 : Shape := ⟨1, ![1024]⟩
abbrev S8 : Shape := ⟨1, ![8]⟩
abbrev S1x1024 : Shape := ⟨2, ![1, 1024]⟩
abbrev S_ : Shape := ⟨0, ![]⟩
abbrev S128 : Shape := ⟨1, ![128]⟩
abbrev S1x128 : Shape := ⟨2, ![1, 128]⟩
abbrev S8x64 : Shape := ⟨2, ![8, 64]⟩
abbrev S512 : Shape := ⟨1, ![512]⟩
abbrev S1x512 : Shape := ⟨2, ![1, 512]⟩
abbrev S8192x512 : Shape := ⟨2, ![8192, 512]⟩
abbrev S128x512 : Shape := ⟨2, ![128, 512]⟩
abbrev S128x1024 : Shape := ⟨2, ![128, 1024]⟩
abbrev S128x128 : Shape := ⟨2, ![128, 128]⟩
abbrev S1x3x1024 : Shape := ⟨3, ![1, 3, 1024]⟩
abbrev S1x8x64x128 : Shape := ⟨4, ![1, 8, 64, 128]⟩
abbrev S136x1024 : Shape := ⟨2, ![136, 1024]⟩
abbrev S512x128 : Shape := ⟨2, ![512, 128]⟩
abbrev S3x1024 : Shape := ⟨2, ![3, 1024]⟩
abbrev S8x64x128 : Shape := ⟨3, ![8, 64, 128]⟩
abbrev S128x1 : Shape := ⟨2, ![128, 1]⟩
abbrev S1x1 : Shape := ⟨2, ![1, 1]⟩

abbrev nBuf : Space → Nat
  | .hbm => 23
  | .vmem => 24
  | .smem => 0
  | _ => 0

abbrev bufTy : (tb : Table) → Fin (tcTables nBuf tb) → BufTy
  | .hbm, ⟨0, _⟩ => ⟨S8192x5760, .f32⟩
  | .hbm, ⟨1, _⟩ => ⟨S2x3x1024, .f32⟩
  | .hbm, ⟨2, _⟩ => ⟨S2x8x64x128, .f32⟩
  | .hbm, ⟨3, _⟩ => ⟨S4x1024, .f32⟩
  | .hbm, ⟨4, _⟩ => ⟨S1024, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S1x1024, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S8x64, .f32⟩
  | .hbm, ⟨18, _⟩ => ⟨S512, .f32⟩
  | .hbm, ⟨19, _⟩ => ⟨S1x512, .f32⟩
  | .hbm, ⟨20, _⟩ => ⟨S8192x512, .f32⟩
  | .hbm, ⟨21, _⟩ => ⟨S2x3x1024, .f32⟩
  | .hbm, ⟨22, _⟩ => ⟨S2x8x64x128, .f32⟩
  | .local _ .vmem, ⟨0, _⟩ => ⟨S128x512, .f32⟩
  | .local _ .vmem, ⟨1, _⟩ => ⟨S128x512, .f32⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S128x128, .f32⟩
  | .local _ .vmem, ⟨6, _⟩ => ⟨S1x3x1024, .f32⟩
  | .local _ .vmem, ⟨7, _⟩ => ⟨S1x3x1024, .f32⟩
  | .local _ .vmem, ⟨8, _⟩ => ⟨S1x8x64x128, .f32⟩
  | .local _ .vmem, ⟨9, _⟩ => ⟨S1x8x64x128, .f32⟩
  | .local _ .vmem, ⟨10, _⟩ => ⟨S4x1024, .f32⟩
  | .local _ .vmem, ⟨11, _⟩ => ⟨S1x1024, .f32⟩
  | .local _ .vmem, ⟨12, _⟩ => ⟨S1x128, .f32⟩
  | .local _ .vmem, ⟨13, _⟩ => ⟨S1x128, .f32⟩
  | .local _ .vmem, ⟨14, _⟩ => ⟨S1x512, .f32⟩
  | .local _ .vmem, ⟨15, _⟩ => ⟨S128x512, .f32⟩
  | .local _ .vmem, ⟨16, _⟩ => ⟨S128x512, .f32⟩
  | .local _ .vmem, ⟨17, _⟩ => ⟨S1x3x1024, .f32⟩
  | .local _ .vmem, ⟨18, _⟩ => ⟨S1x3x1024, .f32⟩
  | .local _ .vmem, ⟨19, _⟩ => ⟨S1x8x64x128, .f32⟩
  | .local _ .vmem, ⟨20, _⟩ => ⟨S1x8x64x128, .f32⟩
  | .local _ .vmem, ⟨21, _⟩ => ⟨S136x1024, .f32⟩
  | .local _ .vmem, ⟨22, _⟩ => ⟨S512x128, .f32⟩
  | .local _ .vmem, ⟨23, _⟩ => ⟨S128x128, .f32⟩
  | _, _ => ⟨S8192x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v458 : BitVec 1 := Scalar.cmpi .eq arg1 c31_i32
  let v459 : BitVec 32 := Scalar.extui v458
  let c0_i32_91 : BitVec 32 := 0#32
  let v460 : BitVec 1 := Scalar.cmpi .ne v459 c0_i32_91
  v460

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c10_i32 : BitVec 32 := 10#32
  let c0_i32 : BitVec 32 := 0#32
  ![v1.toNat, c10_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c44_i32 : BitVec 32 := 44#32
  let c0_i32 : BitVec 32 := 0#32
  ![v1.toNat, c44_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x3x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8192x5760 : Shape := ⟨2, ![8192, 5760]⟩
abbrev S2x3x1024 : Shape := ⟨3, ![2, 3, 1024]⟩
abbrev S2x8x64x128 : Shape := ⟨4, ![2, 8, 64, 128]⟩
abbrev S4x1024 : Shape := ⟨2, ![4, 1024]⟩
abbrev S1024 : Shape := ⟨1, ![1024]⟩
abbrev S8 : Shape := ⟨1, ![8]⟩
abbrev S2x4096x5760 : Shape := ⟨3, ![2, 4096, 5760]⟩
abbrev S2x4096x512 : Shape := ⟨3, ![2, 4096, 512]⟩
abbrev S2x4096x1024 : Shape := ⟨3, ![2, 4096, 1024]⟩
abbrev S2x4096x8 : Shape := ⟨3, ![2, 4096, 8]⟩
abbrev S2x4099x1024 : Shape := ⟨3, ![2, 4099, 1024]⟩
abbrev S1x1024 : Shape := ⟨2, ![1, 1024]⟩
abbrev S1x1x1024 : Shape := ⟨3, ![1, 1, 1024]⟩
abbrev S_ : Shape := ⟨0, ![]⟩
abbrev S2x4096x256 : Shape := ⟨3, ![2, 4096, 256]⟩
abbrev S2x4096x8x64 : Shape := ⟨4, ![2, 4096, 8, 64]⟩
abbrev S2x4096x2x128 : Shape := ⟨4, ![2, 4096, 2, 128]⟩
abbrev S2x4096x2x4x128 : Shape := ⟨5, ![2, 4096, 2, 4, 128]⟩
abbrev S2x4096x8x128 : Shape := ⟨4, ![2, 4096, 8, 128]⟩
abbrev S1x1x8 : Shape := ⟨3, ![1, 1, 8]⟩
abbrev S2x4096x8x1 : Shape := ⟨4, ![2, 4096, 8, 1]⟩
abbrev S2x32x128x8x64 : Shape := ⟨5, ![2, 32, 128, 8, 64]⟩
abbrev S2x32x128x8x128 : Shape := ⟨5, ![2, 32, 128, 8, 128]⟩
abbrev S2x32x128x8 : Shape := ⟨4, ![2, 32, 128, 8]⟩
abbrev S128x128 : Shape := ⟨2, ![128, 128]⟩
abbrev S1x1x128x128x1 : Shape := ⟨5, ![1, 1, 128, 128, 1]⟩
abbrev S2x32x128x1x8 : Shape := ⟨5, ![2, 32, 128, 1, 8]⟩
abbrev S2x32x1x128x8 : Shape := ⟨5, ![2, 32, 1, 128, 8]⟩
abbrev S2x32x128x128x8 : Shape := ⟨5, ![2, 32, 128, 128, 8]⟩
abbrev S2x32x8x128x128 : Shape := ⟨5, ![2, 32, 8, 128, 128]⟩
abbrev S2x32x8x64x128 : Shape := ⟨5, ![2, 32, 8, 64, 128]⟩
abbrev S2x32x1x8 : Shape := ⟨4, ![2, 32, 1, 8]⟩
abbrev S2x32x128x8x1 : Shape := ⟨5, ![2, 32, 128, 8, 1]⟩
abbrev S2x32x8 : Shape := ⟨3, ![2, 32, 8]⟩
abbrev S2x1x8 : Shape := ⟨3, ![2, 1, 8]⟩
abbrev S2x8 : Shape := ⟨2, ![2, 8]⟩
abbrev S2x8x1x1 : Shape := ⟨4, ![2, 8, 1, 1]⟩
abbrev S2x1x8x64x128 : Shape := ⟨5, ![2, 1, 8, 64, 128]⟩
abbrev S2x16x8x64x128 : Shape := ⟨5, ![2, 16, 8, 64, 128]⟩
abbrev S8x1 : Shape := ⟨2, ![8, 1]⟩
abbrev S1x1x8x1 : Shape := ⟨4, ![1, 1, 8, 1]⟩
abbrev S8192x512 : Shape := ⟨2, ![8192, 512]⟩

abbrev nBuf : Space → Nat
  | .hbm => 450
  | .vmem => 0
  | .smem => 0
  | _ => 0

abbrev hbmTy0_0 (i : Nat) : BufTy := match i % 128 with
  | 0 => ⟨S8192x5760, .f32⟩
  | 1 => ⟨S2x3x1024, .f32⟩
  | 2 => ⟨S2x8x64x128, .f32⟩
  | 3 => ⟨S4x1024, .f32⟩
  | 4 => ⟨S1024, .f32⟩
  | 5 => ⟨S8, .f32⟩
  | 6 => ⟨S8, .f32⟩
  | 7 => ⟨S8, .f32⟩
  | 8 => ⟨S2x4096x5760, .f32⟩
  | 9 => ⟨S2x4096x512, .f32⟩
  | 10 => ⟨S2x4096x1024, .f32⟩
  | 11 => ⟨S2x4096x8, .f32⟩
  | 12 => ⟨S2x4099x1024, .f32⟩
  | 13 => ⟨S2x4096x1024, .f32⟩
  | 14 => ⟨S1x1024, .f32⟩
  | 15 => ⟨S1024, .f32⟩
  | 16 => ⟨S1x1x1024, .f32⟩
  | 17 => ⟨S2x4096x1024, .f32⟩
  | 18 => ⟨S2x4096x1024, .f32⟩
  | 19 => ⟨S2x4096x1024, .f32⟩
  | 20 => ⟨S1x1024, .f32⟩
  | 21 => ⟨S1024, .f32⟩
  | 22 => ⟨S1x1x1024, .f32⟩
  | 23 => ⟨S2x4096x1024, .f32⟩
  | 24 => ⟨S2x4096x1024, .f32⟩
  | 25 => ⟨S2x4096x1024, .f32⟩
  | 26 => ⟨S2x4096x1024, .f32⟩
  | 27 => ⟨S1x1024, .f32⟩
  | 28 => ⟨S1024, .f32⟩
  | 29 => ⟨S1x1x1024, .f32⟩
  | 30 => ⟨S2x4096x1024, .f32⟩
  | 31 => ⟨S2x4096x1024, .f32⟩
  | 32 => ⟨S2x4096x1024, .f32⟩
  | 33 => ⟨S2x4096x1024, .f32⟩
  | 34 => ⟨S1x1024, .f32⟩
  | 35 => ⟨S1024, .f32⟩
  | 36 => ⟨S1x1x1024, .f32⟩
  | 37 => ⟨S2x4096x1024, .f32⟩
  | 38 => ⟨S2x4096x1024, .f32⟩
  | 39 => ⟨S2x4096x1024, .f32⟩
  | 40 => ⟨S2x3x1024, .f32⟩
  | 41 => ⟨S1x1x1024, .f32⟩
  | 42 => ⟨S2x4096x1024, .f32⟩
  | 43 => ⟨S2x4096x1024, .f32⟩
  | 44 => ⟨S2x4096x1024, .f32⟩
  | 45 => ⟨S2x4096x1024, .f32⟩
  | 46 => ⟨S_, .f32⟩
  | 47 => ⟨S2x4096x1024, .f32⟩
  | 48 => ⟨S2x4096x1024, .f32⟩
  | 49 => ⟨S_, .f32⟩
  | 50 => ⟨S2x4096x1024, .f32⟩
  | 51 => ⟨S2x4096x1024, .f32⟩
  | 52 => ⟨S2x4096x1024, .f32⟩
  | 53 => ⟨S2x4096x512, .f32⟩
  | 54 => ⟨S2x4096x256, .f32⟩
  | 55 => ⟨S2x4096x256, .f32⟩
  | 56 => ⟨S2x4096x8x64, .f32⟩
  | 57 => ⟨S2x4096x2x128, .f32⟩
  | 58 => ⟨S2x4096x2x4x128, .f32⟩
  | 59 => ⟨S2x4096x8x128, .f32⟩
  | 60 => ⟨S2x4096x2x128, .f32⟩
  | 61 => ⟨S2x4096x2x4x128, .f32⟩
  | 62 => ⟨S2x4096x8x128, .f32⟩
  | 63 => ⟨S1x1x8, .f32⟩
  | 64 => ⟨S2x4096x8, .f32⟩
  | 65 => ⟨S2x4096x8, .f32⟩
  | 66 => ⟨S_, .f32⟩
  | 67 => ⟨S2x4096x8, .f32⟩
  | 68 => ⟨S2x4096x8, .f32⟩
  | 69 => ⟨S2x4096x8, .f32⟩
  | 70 => ⟨S2x4096x8, .f32⟩
  | 71 => ⟨S2x4096x8, .i1⟩
  | 72 => ⟨S2x4096x8, .f32⟩
  | 73 => ⟨S2x4096x8, .f32⟩
  | 74 => ⟨S2x4096x8, .f32⟩
  | 75 => ⟨S2x4096x8, .f32⟩
  | 76 => ⟨S2x4096x8, .f32⟩
  | 77 => ⟨S2x4096x8, .f32⟩
  | 78 => ⟨S2x4096x8, .f32⟩
  | 79 => ⟨S2x4096x8, .f32⟩
  | 80 => ⟨S8, .f32⟩
  | 81 => ⟨S8, .f32⟩
  | 82 => ⟨S1x1x8, .f32⟩
  | 83 => ⟨S2x4096x8, .f32⟩
  | 84 => ⟨S2x4096x8, .f32⟩
  | 85 => ⟨S2x4096x8x1, .f32⟩
  | 86 => ⟨S2x4096x8x64, .f32⟩
  | 87 => ⟨S2x4096x8x64, .f32⟩
  | 88 => ⟨S2x32x128x8x64, .f32⟩
  | 89 => ⟨S2x32x128x8x128, .f32⟩
  | 90 => ⟨S2x32x128x8x128, .f32⟩
  | 91 => ⟨S2x32x128x8, .f32⟩
  | 92 => ⟨S_, .f32⟩
  | 93 => ⟨S_, .f32⟩
  | 94 => ⟨S2x32x128x8, .f32⟩
  | 95 => ⟨S_, .i1⟩
  | 96 => ⟨S128x128, .i1⟩
  | 97 => ⟨S128x128, .i32⟩
  | 98 => ⟨S_, .i32⟩
  | 99 => ⟨S128x128, .i32⟩
  | 100 => ⟨S128x128, .i32⟩
  | 101 => ⟨S128x128, .i32⟩
  | 102 => ⟨S128x128, .i1⟩
  | 103 => ⟨S_, .i1⟩
  | 104 => ⟨S128x128, .i1⟩
  | 105 => ⟨S128x128, .i1⟩
  | 106 => ⟨S1x1x128x128x1, .i1⟩
  | 107 => ⟨S2x32x128x1x8, .f32⟩
  | 108 => ⟨S2x32x1x128x8, .f32⟩
  | 109 => ⟨S2x32x128x128x8, .f32⟩
  | 110 => ⟨S2x32x128x128x8, .f32⟩
  | 111 => ⟨S2x32x128x128x8, .f32⟩
  | 112 => ⟨S_, .f32⟩
  | 113 => ⟨S_, .f32⟩
  | 114 => ⟨S2x32x128x128x8, .i1⟩
  | 115 => ⟨S2x32x128x128x8, .f32⟩
  | 116 => ⟨S2x32x128x128x8, .f32⟩
  | 117 => ⟨S2x32x128x128x8, .f32⟩
  | 118 => ⟨S2x32x8x128x128, .f32⟩
  | 119 => ⟨S2x32x128x128x8, .f32⟩
  | 120 => ⟨S2x32x128x128x8, .f32⟩
  | 121 => ⟨S2x32x8x64x128, .f32⟩
  | 122 => ⟨S2x32x128x8x64, .f32⟩
  | 123 => ⟨S2x32x1x8, .f32⟩
  | 124 => ⟨S2x32x128x8, .f32⟩
  | 125 => ⟨S2x32x128x8, .f32⟩
  | 126 => ⟨S2x32x128x8, .f32⟩
  | 127 => ⟨S2x32x128x8x1, .f32⟩
  | _ => ⟨S8192x5760, .f32⟩

abbrev hbmTy0_1 (i : Nat) : BufTy := match i % 128 with
  | 0 => ⟨S2x32x128x8x64, .f32⟩
  | 1 => ⟨S2x32x128x8x64, .f32⟩
  | 2 => ⟨S2x32x8x64x128, .f32⟩
  | 3 => ⟨S2x32x1x8, .f32⟩
  | 4 => ⟨S2x32x8, .f32⟩
  | 5 => ⟨S2x32x8, .f32⟩
  | 6 => ⟨S2x1x8, .f32⟩
  | 7 => ⟨S2x8, .f32⟩
  | 8 => ⟨S2x8x1x1, .f32⟩
  | 9 => ⟨S2x8x64x128, .f32⟩
  | 10 => ⟨S2x8x64x128, .f32⟩
  | 11 => ⟨S2x1x8x64x128, .f32⟩
  | 12 => ⟨S2x8x64x128, .f32⟩
  | 13 => ⟨S2x8x64x128, .f32⟩
  | 14 => ⟨S2x1x8, .f32⟩
  | 15 => ⟨S2x8, .f32⟩
  | 16 => ⟨S2x8x1x1, .f32⟩
  | 17 => ⟨S2x8x64x128, .f32⟩
  | 18 => ⟨S2x8x64x128, .f32⟩
  | 19 => ⟨S2x1x8x64x128, .f32⟩
  | 20 => ⟨S2x8x64x128, .f32⟩
  | 21 => ⟨S2x8x64x128, .f32⟩
  | 22 => ⟨S2x1x8, .f32⟩
  | 23 => ⟨S2x8, .f32⟩
  | 24 => ⟨S2x8x1x1, .f32⟩
  | 25 => ⟨S2x8x64x128, .f32⟩
  | 26 => ⟨S2x8x64x128, .f32⟩
  | 27 => ⟨S2x1x8x64x128, .f32⟩
  | 28 => ⟨S2x8x64x128, .f32⟩
  | 29 => ⟨S2x8x64x128, .f32⟩
  | 30 => ⟨S2x1x8, .f32⟩
  | 31 => ⟨S2x8, .f32⟩
  | 32 => ⟨S2x8x1x1, .f32⟩
  | 33 => ⟨S2x8x64x128, .f32⟩
  | 34 => ⟨S2x8x64x128, .f32⟩
  | 35 => ⟨S2x1x8x64x128, .f32⟩
  | 36 => ⟨S2x8x64x128, .f32⟩
  | 37 => ⟨S2x8x64x128, .f32⟩
  | 38 => ⟨S2x1x8, .f32⟩
  | 39 => ⟨S2x8, .f32⟩
  | 40 => ⟨S2x8x1x1, .f32⟩
  | 41 => ⟨S2x8x64x128, .f32⟩
  | 42 => ⟨S2x8x64x128, .f32⟩
  | 43 => ⟨S2x1x8x64x128, .f32⟩
  | 44 => ⟨S2x8x64x128, .f32⟩
  | 45 => ⟨S2x8x64x128, .f32⟩
  | 46 => ⟨S2x1x8, .f32⟩
  | 47 => ⟨S2x8, .f32⟩
  | 48 => ⟨S2x8x1x1, .f32⟩
  | 49 => ⟨S2x8x64x128, .f32⟩
  | 50 => ⟨S2x8x64x128, .f32⟩
  | 51 => ⟨S2x1x8x64x128, .f32⟩
  | 52 => ⟨S2x8x64x128, .f32⟩
  | 53 => ⟨S2x8x64x128, .f32⟩
  | 54 => ⟨S2x1x8, .f32⟩
  | 55 => ⟨S2x8, .f32⟩
  | 56 => ⟨S2x8x1x1, .f32⟩
  | 57 => ⟨S2x8x64x128, .f32⟩
  | 58 => ⟨S2x8x64x128, .f32⟩
  | 59 => ⟨S2x1x8x64x128, .f32⟩
  | 60 => ⟨S2x8x64x128, .f32⟩
  | 61 => ⟨S2x8x64x128, .f32⟩
  | 62 => ⟨S2x1x8, .f32⟩
  | 63 => ⟨S2x8, .f32⟩
  | 64 => ⟨S2x8x1x1, .f32⟩
  | 65 => ⟨S2x8x64x128, .f32⟩
  | 66 => ⟨S2x8x64x128, .f32⟩
  | 67 => ⟨S2x1x8x64x128, .f32⟩
  | 68 => ⟨S2x8x64x128, .f32⟩
  | 69 => ⟨S2x8x64x128, .f32⟩
  | 70 => ⟨S2x1x8, .f32⟩
  | 71 => ⟨S2x8, .f32⟩
  | 72 => ⟨S2x8x1x1, .f32⟩
  | 73 => ⟨S2x8x64x128, .f32⟩
  | 74 => ⟨S2x8x64x128, .f32⟩
  | 75 => ⟨S2x1x8x64x128, .f32⟩
  | 76 => ⟨S2x8x64x128, .f32⟩
  | 77 => ⟨S2x8x64x128, .f32⟩
  | 78 => ⟨S2x1x8, .f32⟩
  | 79 => ⟨S2x8, .f32⟩
  | 80 => ⟨S2x8x1x1, .f32⟩
  | 81 => ⟨S2x8x64x128, .f32⟩
  | 82 => ⟨S2x8x64x128, .f32⟩
  | 83 => ⟨S2x1x8x64x128, .f32⟩
  | 84 => ⟨S2x8x64x128, .f32⟩
  | 85 => ⟨S2x8x64x128, .f32⟩
  | 86 => ⟨S2x1x8, .f32⟩
  | 87 => ⟨S2x8, .f32⟩
  | 88 => ⟨S2x8x1x1, .f32⟩
  | 89 => ⟨S2x8x64x128, .f32⟩
  | 90 => ⟨S2x8x64x128, .f32⟩
  | 91 => ⟨S2x1x8x64x128, .f32⟩
  | 92 => ⟨S2x8x64x128, .f32⟩
  | 93 => ⟨S2x8x64x128, .f32⟩
  | 94 => ⟨S2x1x8, .f32⟩
  | 95 => ⟨S2x8, .f32⟩
  | 96 => ⟨S2x8x1x1, .f32⟩
  | 97 => ⟨S2x8x64x128, .f32⟩
  | 98 => ⟨S2x8x64x128, .f32⟩
  | 99 => ⟨S2x1x8x64x128, .f32⟩
  | 100 => ⟨S2x8x64x128, .f32⟩
  | 101 => ⟨S2x8x64x128, .f32⟩
  | 102 => ⟨S2x1x8, .f32⟩
  | 103 => ⟨S2x8, .f32⟩
  | 104 => ⟨S2x8x1x1, .f32⟩
  | 105 => ⟨S2x8x64x128, .f32⟩
  | 106 => ⟨S2x8x64x128, .f32⟩
  | 107 => ⟨S2x1x8x64x128, .f32⟩
  | 108 => ⟨S2x8x64x128, .f32⟩
  | 109 => ⟨S2x8x64x128, .f32⟩
  | 110 => ⟨S2x1x8, .f32⟩
  | 111 => ⟨S2x8, .f32⟩
  | 112 => ⟨S2x8x1x1, .f32⟩
  | 113 => ⟨S2x8x64x128, .f32⟩
  | 114 => ⟨S2x8x64x128, .f32⟩
  | 115 => ⟨S2x1x8x64x128, .f32⟩
  | 116 => ⟨S2x8x64x128, .f32⟩
  | 117 => ⟨S2x8x64x128, .f32⟩
  | 118 => ⟨S2x1x8, .f32⟩
  | 119 => ⟨S2x8, .f32⟩
  | 120 => ⟨S2x8x1x1, .f32⟩
  | 121 => ⟨S2x8x64x128, .f32⟩
  | 122 => ⟨S2x8x64x128, .f32⟩
  | 123 => ⟨S2x1x8x64x128, .f32⟩
  | 124 => ⟨S2x8x64x128, .f32⟩
  | 125 => ⟨S2x8x64x128, .f32⟩
  | 126 => ⟨S2x1x8, .f32⟩
  | 127 => ⟨S2x8, .f32⟩
  | _ => ⟨S8192x5760, .f32⟩

abbrev hbmTy0_2 (i : Nat) : BufTy := match i % 128 with
  | 0 => ⟨S2x8x1x1, .f32⟩
  | 1 => ⟨S2x8x64x128, .f32⟩
  | 2 => ⟨S2x8x64x128, .f32⟩
  | 3 => ⟨S2x1x8x64x128, .f32⟩
  | 4 => ⟨S2x8x64x128, .f32⟩
  | 5 => ⟨S2x8x64x128, .f32⟩
  | 6 => ⟨S2x1x8, .f32⟩
  | 7 => ⟨S2x8, .f32⟩
  | 8 => ⟨S2x8x1x1, .f32⟩
  | 9 => ⟨S2x8x64x128, .f32⟩
  | 10 => ⟨S2x8x64x128, .f32⟩
  | 11 => ⟨S2x1x8x64x128, .f32⟩
  | 12 => ⟨S2x8x64x128, .f32⟩
  | 13 => ⟨S2x8x64x128, .f32⟩
  | 14 => ⟨S2x1x8, .f32⟩
  | 15 => ⟨S2x8, .f32⟩
  | 16 => ⟨S2x8x1x1, .f32⟩
  | 17 => ⟨S2x8x64x128, .f32⟩
  | 18 => ⟨S2x8x64x128, .f32⟩
  | 19 => ⟨S2x1x8x64x128, .f32⟩
  | 20 => ⟨S2x8x64x128, .f32⟩
  | 21 => ⟨S2x8x64x128, .f32⟩
  | 22 => ⟨S2x1x8, .f32⟩
  | 23 => ⟨S2x8, .f32⟩
  | 24 => ⟨S2x8x1x1, .f32⟩
  | 25 => ⟨S2x8x64x128, .f32⟩
  | 26 => ⟨S2x8x64x128, .f32⟩
  | 27 => ⟨S2x1x8x64x128, .f32⟩
  | 28 => ⟨S2x8x64x128, .f32⟩
  | 29 => ⟨S2x8x64x128, .f32⟩
  | 30 => ⟨S2x1x8, .f32⟩
  | 31 => ⟨S2x8, .f32⟩
  | 32 => ⟨S2x8x1x1, .f32⟩
  | 33 => ⟨S2x8x64x128, .f32⟩
  | 34 => ⟨S2x8x64x128, .f32⟩
  | 35 => ⟨S2x1x8x64x128, .f32⟩
  | 36 => ⟨S2x8x64x128, .f32⟩
  | 37 => ⟨S2x8x64x128, .f32⟩
  | 38 => ⟨S2x1x8, .f32⟩
  | 39 => ⟨S2x8, .f32⟩
  | 40 => ⟨S2x8x1x1, .f32⟩
  | 41 => ⟨S2x8x64x128, .f32⟩
  | 42 => ⟨S2x8x64x128, .f32⟩
  | 43 => ⟨S2x1x8x64x128, .f32⟩
  | 44 => ⟨S2x8x64x128, .f32⟩
  | 45 => ⟨S2x8x64x128, .f32⟩
  | 46 => ⟨S2x1x8, .f32⟩
  | 47 => ⟨S2x8, .f32⟩
  | 48 => ⟨S2x8x1x1, .f32⟩
  | 49 => ⟨S2x8x64x128, .f32⟩
  | 50 => ⟨S2x8x64x128, .f32⟩
  | 51 => ⟨S2x1x8x64x128, .f32⟩
  | 52 => ⟨S2x8x64x128, .f32⟩
  | 53 => ⟨S2x8x64x128, .f32⟩
  | 54 => ⟨S2x1x8, .f32⟩
  | 55 => ⟨S2x8, .f32⟩
  | 56 => ⟨S2x8x1x1, .f32⟩
  | 57 => ⟨S2x8x64x128, .f32⟩
  | 58 => ⟨S2x8x64x128, .f32⟩
  | 59 => ⟨S2x1x8x64x128, .f32⟩
  | 60 => ⟨S2x8x64x128, .f32⟩
  | 61 => ⟨S2x8x64x128, .f32⟩
  | 62 => ⟨S2x1x8, .f32⟩
  | 63 => ⟨S2x8, .f32⟩
  | 64 => ⟨S2x8x1x1, .f32⟩
  | 65 => ⟨S2x8x64x128, .f32⟩
  | 66 => ⟨S2x8x64x128, .f32⟩
  | 67 => ⟨S2x1x8x64x128, .f32⟩
  | 68 => ⟨S2x8x64x128, .f32⟩
  | 69 => ⟨S2x8x64x128, .f32⟩
  | 70 => ⟨S2x1x8, .f32⟩
  | 71 => ⟨S2x8, .f32⟩
  | 72 => ⟨S2x8x1x1, .f32⟩
  | 73 => ⟨S2x8x64x128, .f32⟩
  | 74 => ⟨S2x8x64x128, .f32⟩
  | 75 => ⟨S2x1x8x64x128, .f32⟩
  | 76 => ⟨S2x8x64x128, .f32⟩
  | 77 => ⟨S2x8x64x128, .f32⟩
  | 78 => ⟨S2x1x8, .f32⟩
  | 79 => ⟨S2x8, .f32⟩
  | 80 => ⟨S2x8x1x1, .f32⟩
  | 81 => ⟨S2x8x64x128, .f32⟩
  | 82 => ⟨S2x8x64x128, .f32⟩
  | 83 => ⟨S2x1x8x64x128, .f32⟩
  | 84 => ⟨S2x8x64x128, .f32⟩
  | 85 => ⟨S2x8x64x128, .f32⟩
  | 86 => ⟨S2x1x8, .f32⟩
  | 87 => ⟨S2x8, .f32⟩
  | 88 => ⟨S2x8x1x1, .f32⟩
  | 89 => ⟨S2x8x64x128, .f32⟩
  | 90 => ⟨S2x8x64x128, .f32⟩
  | 91 => ⟨S2x1x8x64x128, .f32⟩
  | 92 => ⟨S2x8x64x128, .f32⟩
  | 93 => ⟨S2x8x64x128, .f32⟩
  | 94 => ⟨S2x1x8, .f32⟩
  | 95 => ⟨S2x8, .f32⟩
  | 96 => ⟨S2x8x1x1, .f32⟩
  | 97 => ⟨S2x8x64x128, .f32⟩
  | 98 => ⟨S2x8x64x128, .f32⟩
  | 99 => ⟨S2x1x8x64x128, .f32⟩
  | 100 => ⟨S2x8x64x128, .f32⟩
  | 101 => ⟨S2x8x64x128, .f32⟩
  | 102 => ⟨S2x1x8, .f32⟩
  | 103 => ⟨S2x8, .f32⟩
  | 104 => ⟨S2x8x1x1, .f32⟩
  | 105 => ⟨S2x8x64x128, .f32⟩
  | 106 => ⟨S2x8x64x128, .f32⟩
  | 107 => ⟨S2x1x8x64x128, .f32⟩
  | 108 => ⟨S2x8x64x128, .f32⟩
  | 109 => ⟨S2x8x64x128, .f32⟩
  | 110 => ⟨S2x1x8, .f32⟩
  | 111 => ⟨S2x8, .f32⟩
  | 112 => ⟨S2x8x1x1, .f32⟩
  | 113 => ⟨S2x8x64x128, .f32⟩
  | 114 => ⟨S2x8x64x128, .f32⟩
  | 115 => ⟨S2x1x8x64x128, .f32⟩
  | 116 => ⟨S2x8x64x128, .f32⟩
  | 117 => ⟨S2x8x64x128, .f32⟩
  | 118 => ⟨S2x1x8, .f32⟩
  | 119 => ⟨S2x8, .f32⟩
  | 120 => ⟨S2x8x1x1, .f32⟩
  | 121 => ⟨S2x8x64x128, .f32⟩
  | 122 => ⟨S2x8x64x128, .f32⟩
  | 123 => ⟨S2x1x8x64x128, .f32⟩
  | 124 => ⟨S2x8x64x128, .f32⟩
  | 125 => ⟨S2x8x64x128, .f32⟩
  | 126 => ⟨S2x1x8, .f32⟩
  | 127 => ⟨S2x8, .f32⟩
  | _ => ⟨S8192x5760, .f32⟩

abbrev hbmTy0_3 (i : Nat) : BufTy := match i % 128 with
  | 0 => ⟨S2x8x1x1, .f32⟩
  | 1 => ⟨S2x8x64x128, .f32⟩
  | 2 => ⟨S2x8x64x128, .f32⟩
  | 3 => ⟨S2x1x8x64x128, .f32⟩
  | 4 => ⟨S2x8x64x128, .f32⟩
  | 5 => ⟨S2x8x64x128, .f32⟩
  | 6 => ⟨S2x1x8x64x128, .f32⟩
  | 7 => ⟨S2x1x8x64x128, .f32⟩
  | 8 => ⟨S2x1x8x64x128, .f32⟩
  | 9 => ⟨S2x1x8x64x128, .f32⟩
  | 10 => ⟨S2x1x8x64x128, .f32⟩
  | 11 => ⟨S2x1x8x64x128, .f32⟩
  | 12 => ⟨S2x1x8x64x128, .f32⟩
  | 13 => ⟨S2x1x8x64x128, .f32⟩
  | 14 => ⟨S2x1x8x64x128, .f32⟩
  | 15 => ⟨S2x1x8x64x128, .f32⟩
  | 16 => ⟨S2x1x8x64x128, .f32⟩
  | 17 => ⟨S2x1x8x64x128, .f32⟩
  | 18 => ⟨S2x1x8x64x128, .f32⟩
  | 19 => ⟨S2x1x8x64x128, .f32⟩
  | 20 => ⟨S2x1x8x64x128, .f32⟩
  | 21 => ⟨S2x1x8x64x128, .f32⟩
  | 22 => ⟨S2x1x8x64x128, .f32⟩
  | 23 => ⟨S2x1x8x64x128, .f32⟩
  | 24 => ⟨S2x1x8x64x128, .f32⟩
  | 25 => ⟨S2x1x8x64x128, .f32⟩
  | 26 => ⟨S2x1x8x64x128, .f32⟩
  | 27 => ⟨S2x1x8x64x128, .f32⟩
  | 28 => ⟨S2x1x8x64x128, .f32⟩
  | 29 => ⟨S2x1x8x64x128, .f32⟩
  | 30 => ⟨S2x1x8x64x128, .f32⟩
  | 31 => ⟨S2x1x8x64x128, .f32⟩
  | 32 => ⟨S2x1x8x64x128, .f32⟩
  | 33 => ⟨S2x1x8x64x128, .f32⟩
  | 34 => ⟨S2x1x8x64x128, .f32⟩
  | 35 => ⟨S2x1x8x64x128, .f32⟩
  | 36 => ⟨S2x1x8x64x128, .f32⟩
  | 37 => ⟨S2x1x8x64x128, .f32⟩
  | 38 => ⟨S2x16x8x64x128, .f32⟩
  | 39 => ⟨S2x16x8x64x128, .f32⟩
  | 40 => ⟨S2x32x8x64x128, .f32⟩
  | 41 => ⟨S2x32x8x64x128, .f32⟩
  | 42 => ⟨S2x32x128x8x64, .f32⟩
  | 43 => ⟨S2x32x128x8, .f32⟩
  | 44 => ⟨S2x32x128x8x1, .f32⟩
  | 45 => ⟨S2x32x128x8x64, .f32⟩
  | 46 => ⟨S2x32x128x8x64, .f32⟩
  | 47 => ⟨S2x32x128x8x64, .f32⟩
  | 48 => ⟨S2x4096x8x64, .f32⟩
  | 49 => ⟨S8x1, .f32⟩
  | 50 => ⟨S1x1x8x1, .f32⟩
  | 51 => ⟨S2x4096x8x64, .f32⟩
  | 52 => ⟨S2x4096x8x64, .f32⟩
  | 53 => ⟨S2x4096x8x64, .f32⟩
  | 54 => ⟨S2x4096x512, .f32⟩
  | 55 => ⟨S2x4096x512, .f32⟩
  | 56 => ⟨S2x4096x512, .f32⟩
  | 57 => ⟨S_, .f32⟩
  | 58 => ⟨S2x4096x512, .f32⟩
  | 59 => ⟨S2x4096x512, .f32⟩
  | 60 => ⟨S_, .f32⟩
  | 61 => ⟨S2x4096x512, .f32⟩
  | 62 => ⟨S2x4096x512, .f32⟩
  | 63 => ⟨S2x4096x512, .f32⟩
  | 64 => ⟨S2x4096x512, .f32⟩
  | 65 => ⟨S8192x512, .f32⟩
  | _ => ⟨S8192x5760, .f32⟩

abbrev hbmTy (i : Nat) : BufTy := match i / 128 with
  | 0 => hbmTy0_0 i
  | 1 => hbmTy0_1 i
  | 2 => hbmTy0_2 i
  | 3 => hbmTy0_3 i
  | _ => ⟨S8192x5760, .f32⟩

abbrev bufTy : (tb : Table) → Fin (tcTables nBuf tb) → BufTy
  | .hbm, ⟨i, _⟩ => hbmTy i
  | _, _ => ⟨S8192x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call2_call0_cst : Ref sig .tc := ⟨.hbm, 92, rfl⟩
abbrev main_call2_call0_v0 : Ref sig .tc := ⟨.hbm, 93, rfl⟩
abbrev main_v63 : Ref sig .tc := ⟨.hbm, 94, rfl⟩
abbrev main_c : Ref sig .tc := ⟨.hbm, 95, rfl⟩
abbrev main_v64 : Ref sig .tc := ⟨.hbm, 96, rfl⟩
abbrev main_call3_v0 : Ref sig .tc := ⟨.hbm, 97, rfl⟩
abbrev main_call3_c : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_c_0 : Ref sig .tc := ⟨.hbm, 103, rfl⟩
abbrev main_call3_v5 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_v295 : Ref sig .tc := ⟨.hbm, 339, rfl⟩
abbrev main_v296 : Ref sig .tc := ⟨.hbm, 340, rfl⟩
abbrev main_v297 : Ref sig .tc := ⟨.hbm, 341, rfl⟩
abbrev main_v298 : Ref sig .tc := ⟨.hbm, 342, rfl⟩
abbrev main_v299 : Ref sig .tc := ⟨.hbm, 343, rfl⟩
abbrev main_v300 : Ref sig .tc := ⟨.hbm, 344, rfl⟩
abbrev main_v301 : Ref sig .tc := ⟨.hbm, 345, rfl⟩
abbrev main_v302 : Ref sig .tc := ⟨.hbm, 346, rfl⟩
abbrev main_v303 : Ref sig .tc := ⟨.hbm, 347, rfl⟩
abbrev main_v304 : Ref sig .tc := ⟨.hbm, 348, rfl⟩
abbrev main_v305 : Ref sig .tc := ⟨.hbm, 349, rfl⟩
abbrev main_v306 : Ref sig .tc := ⟨.hbm, 350, rfl⟩
abbrev main_v307 : Ref sig .tc := ⟨.hbm, 351, rfl⟩
abbrev main_v308 : Ref sig .tc := ⟨.hbm, 352, rfl⟩
abbrev main_v309 : Ref sig .tc := ⟨.hbm, 353, rfl⟩
abbrev main_v310 : Ref sig .tc := ⟨.hbm, 354, rfl⟩
abbrev main_v311 : Ref sig .tc := ⟨.hbm, 355, rfl⟩
abbrev main_v312 : Ref sig .tc := ⟨.hbm, 356, rfl⟩
abbrev main_v313 : Ref sig .tc := ⟨.hbm, 357, rfl⟩
abbrev main_v314 : Ref sig .tc := ⟨.hbm, 358, rfl⟩
abbrev main_v315 : Ref sig .tc := ⟨.hbm, 359, rfl⟩
abbrev main_v316 : Ref sig .tc := ⟨.hbm, 360, rfl⟩
abbrev main_v317 : Ref sig .tc := ⟨.hbm, 361, rfl⟩
abbrev main_v318 : Ref sig .tc := ⟨.hbm, 362, rfl⟩
abbrev main_v319 : Ref sig .tc := ⟨.hbm, 363, rfl⟩
abbrev main_v320 : Ref sig .tc := ⟨.hbm, 364, rfl⟩
abbrev main_v321 : Ref sig .tc := ⟨.hbm, 365, rfl⟩
abbrev main_v322 : Ref sig .tc := ⟨.hbm, 366, rfl⟩
abbrev main_v323 : Ref sig .tc := ⟨.hbm, 367, rfl⟩
abbrev main_v324 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_v330 : Ref sig .tc := ⟨.hbm, 374, rfl⟩
abbrev main_v331 : Ref sig .tc := ⟨.hbm, 375, rfl⟩
abbrev main_v332 : Ref sig .tc := ⟨.hbm, 376, rfl⟩
abbrev main_v333 : Ref sig .tc := ⟨.hbm, 377, rfl⟩
abbrev main_v334 : Ref sig .tc := ⟨.hbm, 378, rfl⟩
abbrev main_v335 : Ref sig .tc := ⟨.hbm, 379, rfl⟩
abbrev main_v336 : Ref sig .tc := ⟨.hbm, 380, rfl⟩
abbrev main_v337 : Ref sig .tc := ⟨.hbm, 381, rfl⟩
abbrev main_v338 : Ref sig .tc := ⟨.hbm, 382, rfl⟩
abbrev main_v339 : Ref sig .tc := ⟨.hbm, 383, rfl⟩
abbrev main_v340 : Ref sig .tc := ⟨.hbm, 384, rfl⟩
abbrev main_v341 : Ref sig .tc := ⟨.hbm, 385, rfl⟩
abbrev main_v342 : Ref sig .tc := ⟨.hbm, 386, rfl⟩
abbrev main_v343 : Ref sig .tc := ⟨.hbm, 387, rfl⟩
abbrev main_v344 : Ref sig .tc := ⟨.hbm, 388, rfl⟩
abbrev main_v345 : Ref sig .tc := ⟨.hbm, 389, rfl⟩
abbrev main_v346 : Ref sig .tc := ⟨.hbm, 390, rfl⟩
abbrev main_v347 : Ref sig .tc := ⟨.hbm, 391, rfl⟩
abbrev main_v348 : Ref sig .tc := ⟨.hbm, 392, rfl⟩
abbrev main_v349 : Ref sig .tc := ⟨.hbm, 393, rfl⟩
abbrev main_v350 : Ref sig .tc := ⟨.hbm, 394, rfl⟩
abbrev main_v351 : Ref sig .tc := ⟨.hbm, 395, rfl⟩
abbrev main_v352 : Ref sig .tc := ⟨.hbm, 396, rfl⟩
abbrev main_v353 : Ref sig .tc := ⟨.hbm, 397, rfl⟩
abbrev main_v354 : Ref sig .tc := ⟨.hbm, 398, rfl⟩
abbrev main_v355 : Ref sig .tc := ⟨.hbm, 399, rfl⟩
abbrev main_v356 : Ref sig .tc := ⟨.hbm, 400, rfl⟩
abbrev main_v357 : Ref sig .tc := ⟨.hbm, 401, rfl⟩
abbrev main_v358 : Ref sig .tc := ⟨.hbm, 402, rfl⟩
abbrev main_v359 : Ref sig .tc := ⟨.hbm, 403, rfl⟩
abbrev main_v360 : Ref sig .tc := ⟨.hbm, 404, rfl⟩
abbrev main_v361 : Ref sig .tc := ⟨.hbm, 405, rfl⟩
abbrev main_v362 : Ref sig .tc := ⟨.hbm, 406, rfl⟩
abbrev main_v363 : Ref sig .tc := ⟨.hbm, 407, rfl⟩
abbrev main_v364 : Ref sig .tc := ⟨.hbm, 408, rfl⟩
abbrev main_v365 : Ref sig .tc := ⟨.hbm, 409, rfl⟩
abbrev main_v366 : Ref sig .tc := ⟨.hbm, 410, rfl⟩
abbrev main_v367 : Ref sig .tc := ⟨.hbm, 411, rfl⟩
abbrev main_v368 : Ref sig .tc := ⟨.hbm, 412, rfl⟩
abbrev main_v369 : Ref sig .tc := ⟨.hbm, 413, rfl⟩
abbrev main_v370 : Ref sig .tc := ⟨.hbm, 414, rfl⟩
abbrev main_v371 : Ref sig .tc := ⟨.hbm, 415, rfl⟩
abbrev main_v372 : Ref sig .tc := ⟨.hbm, 416, rfl⟩
abbrev main_v373 : Ref sig .tc := ⟨.hbm, 417, rfl⟩
abbrev main_v374 : Ref sig .tc := ⟨.hbm, 418, rfl⟩
abbrev main_v375 : Ref sig .tc := ⟨.hbm, 419, rfl⟩
abbrev main_v376 : Ref sig .tc := ⟨.hbm, 420, rfl⟩
abbrev main_v377 : Ref sig .tc := ⟨.hbm, 421, rfl⟩
abbrev main_v378 : Ref sig .tc := ⟨.hbm, 422, rfl⟩
abbrev main_v379 : Ref sig .tc := ⟨.hbm, 423, rfl⟩
abbrev main_v380 : Ref sig .tc := ⟨.hbm, 424, rfl⟩
abbrev main_v381 : Ref sig .tc := ⟨.hbm, 425, rfl⟩
abbrev main_v382 : Ref sig .tc := ⟨.hbm, 426, rfl⟩
abbrev main_v383 : Ref sig .tc := ⟨.hbm, 427, rfl⟩
abbrev main_v384 : Ref sig .tc := ⟨.hbm, 428, rfl⟩
abbrev main_v385 : Ref sig .tc := ⟨.hbm, 429, rfl⟩
abbrev main_v386 : Ref sig .tc := ⟨.hbm, 430, rfl⟩
abbrev main_v387 : Ref sig .tc := ⟨.hbm, 431, rfl⟩
abbrev main_v388 : Ref sig .tc := ⟨.hbm, 432, rfl⟩
abbrev main_v389 : Ref sig .tc := ⟨.hbm, 433, rfl⟩
abbrev main_v390 : Ref sig .tc := ⟨.hbm, 434, rfl⟩
abbrev main_v391 : Ref sig .tc := ⟨.hbm, 435, rfl⟩
abbrev main_v392 : Ref sig .tc := ⟨.hbm, 436, rfl⟩
abbrev main_v393 : Ref sig .tc := ⟨.hbm, 437, rfl⟩
abbrev main_v394 : Ref sig .tc := ⟨.hbm, 438, rfl⟩
abbrev main_call5_v0 : Ref sig .tc := ⟨.hbm, 439, rfl⟩
abbrev main_call5_v1 : Ref sig .tc := ⟨.hbm, 440, rfl⟩
abbrev main_call5_cst : Ref sig .tc := ⟨.hbm, 441, rfl⟩
abbrev main_call5_v2 : Ref sig .tc := ⟨.hbm, 442, rfl⟩
abbrev main_call5_v3 : Ref sig .tc := ⟨.hbm, 443, rfl⟩
abbrev main_call5_cst_0 : Ref sig .tc := ⟨.hbm, 444, rfl⟩
abbrev main_call5_v4 : Ref sig .tc := ⟨.hbm, 445, rfl⟩
abbrev main_call5_v5 : Ref sig .tc := ⟨.hbm, 446, rfl⟩
abbrev main_v395 : Ref sig .tc := ⟨.hbm, 447, rfl⟩
abbrev main_v396 : Ref sig .tc := ⟨.hbm, 448, rfl⟩
abbrev main_v397 : Ref sig .tc := ⟨.hbm, 449, rfl⟩

abbrev nD : Nat := 1
abbrev τ : Topo := Topo.v7x

variable {F : FTy → Type} [FloatOps F]
-- ==== Conv.lean ====
abbrev S8192x5760 : Shape := ⟨2, ![8192, 5760]⟩
abbrev S2x2x512 : Shape := ⟨3, ![2, 2, 512]⟩
abbrev S3x512 : Shape := ⟨2, ![3, 512]⟩
abbrev S8192x512 : Shape := ⟨2, ![8192, 512]⟩
abbrev S512x1536 : Shape := ⟨2, ![512, 1536]⟩
abbrev S1x2x512 : Shape := ⟨3, ![1, 2, 512]⟩
abbrev S512x512 : Shape := ⟨2, ![512, 512]⟩
abbrev S520x512 : Shape := ⟨2, ![520, 512]⟩
abbrev S2x512 : Shape := ⟨2, ![2, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x5760, .f32⟩
  | .hbm, ⟨1, _⟩ => ⟨S2x2x512, .f32⟩
  | .hbm, ⟨2, _⟩ => ⟨S3x512, .f32⟩
  | .hbm, ⟨3, _⟩ => ⟨S8192x512, .f32⟩
  | .hbm, ⟨4, _⟩ => ⟨S2x2x512, .f32⟩
  | .local _ .vmem, ⟨0, _⟩ => ⟨S512x1536, .f32⟩
  | .local _ .vmem, ⟨1, _⟩ => ⟨S512x1536, .f32⟩
  | .local _ .vmem, ⟨2, _⟩ => ⟨S1x2x512, .f32⟩
  | .local _ .vmem, ⟨3, _⟩ => ⟨S1x2x512, .f32⟩
  | .local _ .vmem, ⟨4, _⟩ => ⟨S3x512, .f32⟩
  | .local _ .vmem, ⟨5, _⟩ => ⟨S512x512, .f32⟩
  | .local _ .vmem, ⟨6, _⟩ => ⟨S512x512, .f32⟩
  | .local _ .vmem, ⟨7, _⟩ => ⟨S1x2x512, .f32⟩
  | .local _ .vmem, ⟨8, _⟩ => ⟨S1x2x512, .f32⟩
  | .local _ .vmem, ⟨9, _⟩ => ⟨S520x512, .f32⟩
  | _, _ => ⟨S8192x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvRefIdeal.lean ====
abbrev S8192x5760 : Shape := ⟨2, ![8192, 5760]⟩
abbrev S2x2x512 : Shape := ⟨3, ![2, 2, 512]⟩
abbrev S3x512 : Shape := ⟨2, ![3, 512]⟩
abbrev S2x4096x5760 : Shape := ⟨3, ![2, 4096, 5760]⟩
abbrev S2x4096x1536 : Shape := ⟨3, ![2, 4096, 1536]⟩
abbrev S2x4096x512 : Shape := ⟨3, ![2, 4096, 512]⟩
abbrev S2x4098x512 : Shape := ⟨3, ![2, 4098, 512]⟩
abbrev S1x512 : Shape := ⟨2, ![1, 512]⟩
abbrev S512 : Shape := ⟨1, ![512]⟩
abbrev S1x1x512 : Shape := ⟨3, ![1, 1, 512]⟩
abbrev S8192x512 : Shape := ⟨2, ![8192, 512]⟩

abbrev nBuf : Space → Nat
  | .hbm => 33
  | .vmem => 0
  | .smem => 0
  | _ => 0

abbrev bufTy : (tb : Table) → Fin (tcTables nBuf tb) → BufTy
  | .hbm, ⟨0, _⟩ => ⟨S8192x5760, .f32⟩
  | .hbm, ⟨1, _⟩ => ⟨S2x2x512, .f32⟩
  | .hbm, ⟨2, _⟩ => ⟨S3x512, .f32⟩
  | .hbm, ⟨3, _⟩ => ⟨S2x4096x5760, .f32⟩
  | .hbm, ⟨4, _⟩ => ⟨S2x4096x1536, .f32⟩
  | .hbm, ⟨5, _⟩ => ⟨S2x4096x512, .f32⟩
  | .hbm, ⟨6, _⟩ => ⟨S2x4096x512, .f32⟩
  | .hbm, ⟨7, _⟩ => ⟨S2x4096x512, .f32⟩
  | .hbm, ⟨8, _⟩ => ⟨S2x4096x512, .f32⟩
  | .hbm, ⟨9, _⟩ => ⟨S2x4098x512, .f32⟩
  | .hbm, ⟨10, _⟩ => ⟨S2x4096x512, .f32⟩
  | .hbm, ⟨11, _⟩ => ⟨S1x512, .f32⟩
  | .hbm, ⟨12, _⟩ => ⟨S512, .f32⟩
  | .hbm, ⟨13, _⟩ => ⟨S1x1x512, .f32⟩
  | .hbm, ⟨14, _⟩ => ⟨S2x4096x512, .f32⟩
  | .hbm, ⟨15, _⟩ => ⟨S2x4096x512, .f32⟩
  | .hbm, ⟨16, _⟩ => ⟨S2x4096x512, .f32⟩
  | .hbm, ⟨17, _⟩ => ⟨S1x512, .f32⟩
  | .hbm, ⟨18, _⟩ => ⟨S512, .f32⟩
  | .hbm, ⟨19, _⟩ => ⟨S1x1x512, .f32⟩
  | .hbm, ⟨20, _⟩ => ⟨S2x4096x512, .f32⟩
  | .hbm, ⟨21, _⟩ => ⟨S2x4096x512, .f32⟩
  | .hbm, ⟨22, _⟩ => ⟨S2x4096x512, .f32⟩
  | .hbm, ⟨23, _⟩ => ⟨S2x4096x512, .f32⟩
  | .hbm, ⟨24, _⟩ => ⟨S1x512, .f32⟩
  | .hbm, ⟨25, _⟩ => ⟨S512, .f32⟩
  | .hbm, ⟨26, _⟩ => ⟨S1x1x512, .f32⟩
  | .hbm, ⟨27, _⟩ => ⟨S2x4096x512, .f32⟩
  | .hbm, ⟨28, _⟩ => ⟨S2x4096x512, .f32⟩
  | .hbm, ⟨29, _⟩ => ⟨S2x4096x512, .f32⟩
  | .hbm, ⟨30, _⟩ => ⟨S2x2x512, .f32⟩
  | .hbm, ⟨31, _⟩ => ⟨S2x4096x512, .f32⟩
  | .hbm, ⟨32, _⟩ => ⟨S8192x512, .f32⟩
  | _, _ => ⟨S8192x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩

abbrev nD : Nat := 1
abbrev τ : Topo := Topo.v7x

variable {F : FTy → Type} [FloatOps F]
-- ==== InProj.lean ====
abbrev S8192x2048 : Shape := ⟨2, ![8192, 2048]⟩
abbrev S2048 : Shape := ⟨1, ![2048]⟩
abbrev S2048x5760 : Shape := ⟨2, ![2048, 5760]⟩
abbrev S1x2048 : Shape := ⟨2, ![1, 2048]⟩
abbrev S8192x5760 : Shape := ⟨2, ![8192, 5760]⟩
abbrev S1024x2048 : Shape := ⟨2, ![1024, 2048]⟩
abbrev S2048x1152 : Shape := ⟨2, ![2048, 1152]⟩
abbrev S1024x1152 : Shape := ⟨2, ![1024, 1152]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5760, .f32⟩
  | .hbm, ⟨3, _⟩ => ⟨S1x2048, .f32⟩
  | .hbm, ⟨4, _⟩ => ⟨S2048x5760, .bf16⟩
  | .hbm, ⟨5, _⟩ => ⟨S8192x5760, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1152, .bf16⟩
  | .local _ .vmem, ⟨4, _⟩ => ⟨S2048x1152, .bf16⟩
  | .local _ .vmem, ⟨5, _⟩ => ⟨S1024x1152, .f32⟩
  | .local _ .vmem, ⟨6, _⟩ => ⟨S1024x1152, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S8192x2048 : Shape := ⟨2, ![8192, 2048]⟩
abbrev S2048 : Shape := ⟨1, ![2048]⟩
abbrev S2048x5760 : Shape := ⟨2, ![2048, 5760]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5760 : Shape := ⟨2, ![8192, 5760]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5760, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x5760, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== OutProj.lean ====
abbrev S8192x2048 : Shape := ⟨2, ![8192, 2048]⟩
abbrev S8192x512 : Shape := ⟨2, ![8192, 512]⟩
abbrev S8192x1024 : Shape := ⟨2, ![8192, 1024]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S512x512 : Shape := ⟨2, ![512, 512]⟩
abbrev S512x1024 : Shape := ⟨2, ![512, 1024]⟩
abbrev S1x512 : Shape := ⟨2, ![1, 512]⟩
abbrev S512 : Shape := ⟨1, ![512]⟩
abbrev S512x1 : Shape := ⟨2, ![512, 1]⟩
abbrev S1x1024 : Shape := ⟨2, ![1, 1024]⟩
abbrev S1024x2048 : Shape := ⟨2, ![1024, 2048]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S2048, .f32⟩
  | .hbm, ⟨5, _⟩ => ⟨S2048x2048, .f32⟩
  | .hbm, ⟨6, _⟩ => ⟨S1x2048, .f32⟩
  | .hbm, ⟨7, _⟩ => ⟨S2048x2048, .bf16⟩
  | .hbm, ⟨8, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1x2048, .f32⟩
  | .local _ .vmem, ⟨9, _⟩ => ⟨S2048x2048, .bf16⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S8192x2048 : Shape := ⟨2, ![8192, 2048]⟩
abbrev S8192x512 : Shape := ⟨2, ![8192, 512]⟩
abbrev S8192x1024 : Shape := ⟨2, ![8192, 1024]⟩
abbrev S2048 : Shape := ⟨1, ![2048]⟩
abbrev S2048x2048 : Shape := ⟨2, ![2048, 2048]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S1024 : Shape := ⟨1, ![1024]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S2048, .f32⟩
  | .hbm, ⟨5, _⟩ => ⟨S2048x2048, .f32⟩
  | .hbm, ⟨6, _⟩ => ⟨S512, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x512, .f32⟩
  | .hbm, ⟨19, _⟩ => ⟨S8192x512, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S512, .f32⟩
  | .hbm, ⟨24, _⟩ => ⟨S8192x512, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x512, .f32⟩
  | .hbm, ⟨36, _⟩ => ⟨S8192x512, .f32⟩
  | .hbm, ⟨37, _⟩ => ⟨S1x512, .f32⟩
  | .hbm, ⟨38, _⟩ => ⟨S8192x512, .f32⟩
  | .hbm, ⟨39, _⟩ => ⟨S8192x512, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x2048, .f32⟩
  | .hbm, ⟨58, _⟩ => ⟨S8192x2048, .f32⟩
  | .hbm, ⟨59, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Ffn.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S1x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v36 : BitVec 1 := Scalar.cmpi .eq arg1 c10_i32
  let v37 : BitVec 32 := Scalar.extui v36
  let c0_i32_22 : BitVec 32 := 0#32
  let v38 : BitVec 1 := Scalar.cmpi .ne v37 c0_i32_22
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S_, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x2048, .f32⟩
  | .hbm, ⟨34, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Prep.lean ====
abbrev S8192x5760 : Shape := ⟨2, ![8192, 5760]⟩
abbrev S64 : Shape := ⟨1, ![64]⟩
abbrev S3x64 : Shape := ⟨2, ![3, 64]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x64 : Shape := ⟨2, ![1, 64]⟩
abbrev S4x64 : Shape := ⟨2, ![4, 64]⟩
abbrev S8192x256 : Shape := ⟨2, ![8192, 256]⟩
abbrev S2x4096x256 : Shape := ⟨3, ![2, 4096, 256]⟩
abbrev S2x512x256 : Shape := ⟨3, ![2, 512, 256]⟩
abbrev S16x8192x128 : Shape := ⟨3, ![16, 8192, 128]⟩
abbrev S8192x512 : Shape := ⟨2, ![8192, 512]⟩
abbrev S4x64x128x128 : Shape := ⟨4, ![4, 64, 128, 128]⟩
abbrev S256x1024 : Shape := ⟨2, ![256, 1024]⟩
abbrev S256x1536 : Shape := ⟨2, ![256, 1536]⟩
abbrev S16x256x128 : Shape := ⟨3, ![16, 256, 128]⟩
abbrev S256x512 : Shape := ⟨2, ![256, 512]⟩
abbrev S4x2x128x128 : Shape := ⟨4, ![4, 2, 128, 128]⟩
abbrev S256x128 : Shape := ⟨2, ![256, 128]⟩
abbrev S1x256x128 : Shape := ⟨3, ![1, 256, 128]⟩
abbrev S128x256 : Shape := ⟨2, ![128, 256]⟩
abbrev S64x128 : Shape := ⟨2, ![64, 128]⟩
abbrev S1x1x128x128 : Shape := ⟨4, ![1, 1, 128, 128]⟩
abbrev S128x128 : Shape := ⟨2, ![128, 128]⟩
abbrev S1x1x64x128 : Shape := ⟨4, ![1, 1, 64, 128]⟩

abbrev nBuf : Space → Nat
  | .hbm => 57
  | .vmem => 18
  | .smem => 0
  | _ => 0

abbrev bufTy : (tb : Table) → Fin (tcTables nBuf tb) → BufTy
  | .hbm, ⟨0, _⟩ => ⟨S8192x5760, .f32⟩
  | .hbm, ⟨1, _⟩ => ⟨S64, .f32⟩
  | .hbm, ⟨2, _⟩ => ⟨S3x64, .f32⟩
  | .hbm, ⟨3, _⟩ => ⟨S256, .i32⟩
  | .hbm, ⟨4, _⟩ => ⟨S_, .i32⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S256, .i32⟩
  | .hbm, ⟨9, _⟩ => ⟨S_, .i32⟩
  | .hbm, ⟨10, _⟩ => ⟨S256, .i32⟩
  | .hbm, ⟨11, _⟩ => ⟨S256, .i1⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S256, .i1⟩
  | .hbm, ⟨18, _⟩ => ⟨S_, .i32⟩
  | .hbm, ⟨19, _⟩ => ⟨S256, .i32⟩
  | .hbm, ⟨20, _⟩ => ⟨S256, .i32⟩
  | .hbm, ⟨21, _⟩ => ⟨S256, .i32⟩
  | .hbm, ⟨22, _⟩ => ⟨S256x1, .i32⟩
  | .hbm, ⟨23, _⟩ => ⟨S1x256, .i32⟩
  | .hbm, ⟨24, _⟩ => ⟨S256x256, .i32⟩
  | .hbm, ⟨25, _⟩ => ⟨S256x256, .i32⟩
  | .hbm, ⟨26, _⟩ => ⟨S256x256, .i1⟩
  | .hbm, ⟨27, _⟩ => ⟨S_, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .bf16⟩
  | .hbm, ⟨33, _⟩ => ⟨S1x64, .f32⟩
  | .hbm, ⟨34, _⟩ => ⟨S4x64, .f32⟩
  | .hbm, ⟨35, _⟩ => ⟨S256, .f32⟩
  | .hbm, ⟨36, _⟩ => ⟨S1x256, .f32⟩
  | .hbm, ⟨37, _⟩ => ⟨S1x64, .f32⟩
  | .hbm, ⟨38, _⟩ => ⟨S64, .f32⟩
  | .hbm, ⟨39, _⟩ => ⟨S1x64, .f32⟩
  | .hbm, ⟨40, _⟩ => ⟨S4x64, .f32⟩
  | .hbm, ⟨41, _⟩ => ⟨S256, .f32⟩
  | .hbm, ⟨42, _⟩ => ⟨S1x256, .f32⟩
  | .hbm, ⟨43, _⟩ => ⟨S1x64, .f32⟩
  | .hbm, ⟨44, _⟩ => ⟨S64, .f32⟩
  | .hbm, ⟨45, _⟩ => ⟨S1x64, .f32⟩
  | .hbm, ⟨46, _⟩ => ⟨S4x64, .f32⟩
  | .hbm, ⟨47, _⟩ => ⟨S256, .f32⟩
  | .hbm, ⟨48, _⟩ => ⟨S1x256, .f32⟩
  | .hbm, ⟨49, _⟩ => ⟨S8192x256, .f32⟩
  | .hbm, ⟨50, _⟩ => ⟨S2x4096x256, .f32⟩
  | .hbm, ⟨51, _⟩ => ⟨S2x512x256, .f32⟩
  | .hbm, ⟨52, _⟩ => ⟨S16x8192x128, .bf16⟩
  | .hbm, ⟨53, _⟩ => ⟨S8192x512, .f32⟩
  | .hbm, ⟨54, _⟩ => ⟨S8192x512, .f32⟩
  | .hbm, ⟨55, _⟩ => ⟨S8192x256, .f32⟩
  | .hbm, ⟨56, _⟩ => ⟨S4x64x128x128, .bf16⟩
  | .local _ .vmem, ⟨0, _⟩ => ⟨S256x1024, .f32⟩
  | .local _ .vmem, ⟨1, _⟩ => ⟨S256x1024, .f32⟩
  | .local _ .vmem, ⟨2, _⟩ => ⟨S256x1536, .f32⟩
  | .local _ .vmem, ⟨3, _⟩ => ⟨S256x1536, .f32⟩
  | .local _ .vmem, ⟨4, _⟩ => ⟨S256x256, .bf16⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S16x256x128, .bf16⟩
  | .local _ .vmem, ⟨9, _⟩ => ⟨S16x256x128, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x256, .f32⟩
  | .local _ .vmem, ⟨15, _⟩ => ⟨S256x256, .f32⟩
  | .local _ .vmem, ⟨16, _⟩ => ⟨S4x2x128x128, .bf16⟩
  | .local _ .vmem, ⟨17, _⟩ => ⟨S4x2x128x128, .bf16⟩
  | _, _ => ⟨S8192x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_cst_0 : Ref sig .tc := ⟨.hbm, 28, rfl⟩
abbrev main_call1_v0 : Ref sig .tc := ⟨.hbm, 29, rfl⟩
abbrev main_call1_v1 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28_0 : Ref sig .tc := ⟨.hbm, 52, rfl⟩
abbrev main_v28_1 : Ref sig .tc := ⟨.hbm, 53, rfl⟩
abbrev main_v28_2 : Ref sig .tc := ⟨.hbm, 54, rfl⟩
abbrev main_v28_3 : Ref sig .tc := ⟨.hbm, 55, rfl⟩
abbrev main_v28_4 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x2x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PrepRefIdeal.lean ====
abbrev S8192x5760 : Shape := ⟨2, ![8192, 5760]⟩
abbrev S64 : Shape := ⟨1, ![64]⟩
abbrev S3x64 : Shape := ⟨2, ![3, 64]⟩
abbrev S2x4096x5760 : Shape := ⟨3, ![2, 4096, 5760]⟩
abbrev S2x4096x1536 : Shape := ⟨3, ![2, 4096, 1536]⟩
abbrev S2x4096x3x2x4x64 : Shape := ⟨6, ![2, 4096, 3, 2, 4, 64]⟩
abbrev S2x4096x1x1x4x64 : Shape := ⟨6, ![2, 4096, 1, 1, 4, 64]⟩
abbrev S2x4096x4x64 : Shape := ⟨4, ![2, 4096, 4, 64]⟩
abbrev S1x64 : Shape := ⟨2, ![1, 64]⟩
abbrev S_ : Shape := ⟨0, ![]⟩
abbrev S2x4096x4 : Shape := ⟨3, ![2, 4096, 4]⟩
abbrev S2x4096x4x1 : Shape := ⟨4, ![2, 4096, 4, 1]⟩
abbrev S1x1x1x64 : Shape := ⟨4, ![1, 1, 1, 64]⟩
abbrev S2x4096x1x4x64 : Shape := ⟨5, ![2, 4096, 1, 4, 64]⟩
abbrev S2x4096x2x4x64 : Shape := ⟨5, ![2, 4096, 2, 4, 64]⟩
abbrev S8192x512 : Shape := ⟨2, ![8192, 512]⟩
abbrev S8192x256 : Shape := ⟨2, ![8192, 256]⟩
abbrev S2x512x1x1x4x64 : Shape := ⟨6, ![2, 512, 1, 1, 4, 64]⟩
abbrev S2x512x4x64 : Shape := ⟨4, ![2, 512, 4, 64]⟩
abbrev S2x512x256 : Shape := ⟨3, ![2, 512, 256]⟩

abbrev nBuf : Space → Nat
  | .hbm => 64
  | .vmem => 0
  | .smem => 0
  | _ => 0

abbrev bufTy : (tb : Table) → Fin (tcTables nBuf tb) → BufTy
  | .hbm, ⟨0, _⟩ => ⟨S8192x5760, .f32⟩
  | .hbm, ⟨1, _⟩ => ⟨S64, .f32⟩
  | .hbm, ⟨2, _⟩ => ⟨S3x64, .f32⟩
  | .hbm, ⟨3, _⟩ => ⟨S2x4096x5760, .f32⟩
  | .hbm, ⟨4, _⟩ => ⟨S2x4096x1536, .f32⟩
  | .hbm, ⟨5, _⟩ => ⟨S2x4096x3x2x4x64, .f32⟩
  | .hbm, ⟨6, _⟩ => ⟨S2x4096x1x1x4x64, .f32⟩
  | .hbm, ⟨7, _⟩ => ⟨S2x4096x4x64, .f32⟩
  | .hbm, ⟨8, _⟩ => ⟨S1x64, .f32⟩
  | .hbm, ⟨9, _⟩ => ⟨S64, .f32⟩
  | .hbm, ⟨10, _⟩ => ⟨S2x4096x4x64, .f32⟩
  | .hbm, ⟨11, _⟩ => ⟨S_, .f32⟩
  | .hbm, ⟨12, _⟩ => ⟨S2x4096x4, .f32⟩
  | .hbm, ⟨13, _⟩ => ⟨S2x4096x4x1, .f32⟩
  | .hbm, ⟨14, _⟩ => ⟨S_, .f32⟩
  | .hbm, ⟨15, _⟩ => ⟨S2x4096x4x1, .f32⟩
  | .hbm, ⟨16, _⟩ => ⟨S2x4096x4x1, .f32⟩
  | .hbm, ⟨17, _⟩ => ⟨S_, .f32⟩
  | .hbm, ⟨18, _⟩ => ⟨S2x4096x4x1, .f32⟩
  | .hbm, ⟨19, _⟩ => ⟨S2x4096x4x1, .f32⟩
  | .hbm, ⟨20, _⟩ => ⟨S2x4096x4x1, .f32⟩
  | .hbm, ⟨21, _⟩ => ⟨S2x4096x4x64, .f32⟩
  | .hbm, ⟨22, _⟩ => ⟨S2x4096x4x64, .f32⟩
  | .hbm, ⟨23, _⟩ => ⟨S1x1x1x64, .f32⟩
  | .hbm, ⟨24, _⟩ => ⟨S2x4096x4x64, .f32⟩
  | .hbm, ⟨25, _⟩ => ⟨S2x4096x4x64, .f32⟩
  | .hbm, ⟨26, _⟩ => ⟨S2x4096x1x1x4x64, .f32⟩
  | .hbm, ⟨27, _⟩ => ⟨S2x4096x4x64, .f32⟩
  | .hbm, ⟨28, _⟩ => ⟨S1x64, .f32⟩
  | .hbm, ⟨29, _⟩ => ⟨S64, .f32⟩
  | .hbm, ⟨30, _⟩ => ⟨S2x4096x4x64, .f32⟩
  | .hbm, ⟨31, _⟩ => ⟨S_, .f32⟩
  | .hbm, ⟨32, _⟩ => ⟨S2x4096x4, .f32⟩
  | .hbm, ⟨33, _⟩ => ⟨S2x4096x4x1, .f32⟩
  | .hbm, ⟨34, _⟩ => ⟨S_, .f32⟩
  | .hbm, ⟨35, _⟩ => ⟨S2x4096x4x1, .f32⟩
  | .hbm, ⟨36, _⟩ => ⟨S2x4096x4x1, .f32⟩
  | .hbm, ⟨37, _⟩ => ⟨S_, .f32⟩
  | .hbm, ⟨38, _⟩ => ⟨S2x4096x4x1, .f32⟩
  | .hbm, ⟨39, _⟩ => ⟨S2x4096x4x1, .f32⟩
  | .hbm, ⟨40, _⟩ => ⟨S2x4096x4x1, .f32⟩
  | .hbm, ⟨41, _⟩ => ⟨S2x4096x4x64, .f32⟩
  | .hbm, ⟨42, _⟩ => ⟨S2x4096x4x64, .f32⟩
  | .hbm, ⟨43, _⟩ => ⟨S1x1x1x64, .f32⟩
  | .hbm, ⟨44, _⟩ => ⟨S2x4096x4x64, .f32⟩
  | .hbm, ⟨45, _⟩ => ⟨S2x4096x4x64, .f32⟩
  | .hbm, ⟨46, _⟩ => ⟨S2x4096x1x1x4x64, .f32⟩
  | .hbm, ⟨47, _⟩ => ⟨S2x4096x4x64, .f32⟩
  | .hbm, ⟨48, _⟩ => ⟨S2x4096x1x4x64, .f32⟩
  | .hbm, ⟨49, _⟩ => ⟨S2x4096x1x4x64, .f32⟩
  | .hbm, ⟨50, _⟩ => ⟨S2x4096x2x4x64, .f32⟩
  | .hbm, ⟨51, _⟩ => ⟨S2x4096x1x1x4x64, .f32⟩
  | .hbm, ⟨52, _⟩ => ⟨S2x4096x4x64, .f32⟩
  | .hbm, ⟨53, _⟩ => ⟨S2x4096x1x1x4x64, .f32⟩
  | .hbm, ⟨54, _⟩ => ⟨S2x4096x4x64, .f32⟩
  | .hbm, ⟨55, _⟩ => ⟨S2x4096x1x4x64, .f32⟩
  | .hbm, ⟨56, _⟩ => ⟨S2x4096x1x4x64, .f32⟩
  | .hbm, ⟨57, _⟩ => ⟨S2x4096x2x4x64, .f32⟩
  | .hbm, ⟨58, _⟩ => ⟨S8192x512, .f32⟩
  | .hbm, ⟨59, _⟩ => ⟨S8192x512, .f32⟩
  | .hbm, ⟨60, _⟩ => ⟨S8192x256, .f32⟩
  | .hbm, ⟨61, _⟩ => ⟨S2x512x1x1x4x64, .f32⟩
  | .hbm, ⟨62, _⟩ => ⟨S2x512x4x64, .f32⟩
  | .hbm, ⟨63, _⟩ => ⟨S2x512x256, .f32⟩
  | _, _ => ⟨S8192x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩

abbrev nD : Nat := 1
abbrev τ : Topo := Topo.v7x

variable {F : FTy → Type} [FloatOps F]
-- ==== Proof.SsdParts.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body is taken: the point is the first chunk of its sequence. -/
abbrev isFirst (i : grid0.Coords) : Prop := (Scalar.cmpi .ne (Scalar.extui (Scalar.cmpi .eq (BitVec.ofNat 32 (i 1).val) 0#32)) 0#32) = 1#1

/-- The second conditional is taken: the point is the last chunk of its sequence. -/
abbrev isLast (i : grid0.Coords) : Prop := k0_cond2 i = 1#1

/-- A load of a sub-rectangle reads a window of what the buffer holds. -/
theorem readAt_win {κ : Kind} {sp : Space} {s : Shape} {e : EltTy} (v : View sig κ sp s e) (f : v.ty.Contents (Elt F))
    {off size : Fin s.rank → ℕ} (inb : ∀ a, off a + size a ≤ s.size a) :
    v.readAt (Elt F) (Rect.unit off size inb).toLoadRect f = VecWindow.window (v.read (Elt F) f) off size inb := rfl

/-- A store to a sub-rectangle puts its payload over a window of what the buffer held. -/
theorem read_put {κ : Kind} {sp : Space} {s : Shape} {e : EltTy} (v : View sig κ sp s e) (f : v.ty.Contents (Elt F))
    {off size : Fin s.rank → ℕ} (inb : ∀ a, off a + size a ≤ s.size a) (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

/-- What the executor names for a load that earlier stores cover is a window of what they left. -/
theorem readCov_win {κ : Kind} {sp : Space} {s : Shape} {e : EltTy} (v : View sig κ sp s e) (L : List (View.Piece (Elt F) s e))
    {off size : Fin s.rank → ℕ} (inb : ∀ a, off a + size a ≤ s.size a) :
    v.readCov L (Rect.unit off size inb).toLoadRect = VecWindow.window (v.read (Elt F) (v.writes (Elt F) v.junk L)) off size inb := rfl

/-- A window of the shape's own sizes is the whole. -/
theorem win_full {α : Type} {s : Shape} (x : s.Idx → α) {off : Fin s.rank → ℕ} (inb : ∀ a, off a + s.size a ≤ s.size a) :
    VecWindow.window x off s.size inb = x := by
  funext y
  exact congrArg x (Rect.emb_unit_full inb y)

/-- A put of the shape's own sizes leaves the payload. -/
theorem put_full {α : Type} {s : Shape} (x w : s.Idx → α) {off : Fin s.rank → ℕ} (inb : ∀ a, off a + s.size a ≤ s.size a) :
    VecWindow.put x off s.size w = w := by
  funext y
  have h : ∀ a, off a ≤ (y a).val ∧ (y a).val < off a + s.size a := fun a => by have := inb a; have := (y a).isLt; omega
  have e : VecWindow.put x off s.size w y = w (Rect.unitLocal (s := s) (off := off) (size := s.size) y h) := dif_pos h
  rw [e]
  exact congrArg w (funext fun a => Fin.ext (by rw [Rect.unitLocal_val]; have := inb a; omega))

theorem win_S128x128 (x : Vec F S128x128 .f32) (inb : ∀ a, (![0, 0] : Fin S128x128.rank → ℕ) a + (![128, 128] : Fin S128x128.rank → ℕ) a ≤ S128x128.size a) :
    VecWindow.window (s := S128x128) x ![0, 0] ![128, 128] inb = x := win_full x inb

theorem win_S1x128 (x : Vec F S1x128 .f32) (inb : ∀ a, (![0, 0] : Fin S1x128.rank → ℕ) a + (![1, 128] : Fin S1x128.rank → ℕ) a ≤ S1x128.size a) :
    VecWindow.window (s := S1x128) x ![0, 0] ![1, 128] inb = x := win_full x inb

theorem win_S128x512 (x : Vec F S128x512 .f32) (inb : ∀ a, (![0, 0] : Fin S128x512.rank → ℕ) a + (![128, 512] : Fin S128x512.rank → ℕ) a ≤ S128x512.size a) :
    VecWindow.window (s := S128x512) x ![0, 0] ![128, 512] inb = x := win_full x inb

theorem win_S1x512 (x : Vec F S1x512 .f32) (inb : ∀ a, (![0, 0] : Fin S1x512.rank → ℕ) a + (![1, 512] : Fin S1x512.rank → ℕ) a ≤ S1x512.size a) :
    VecWindow.window (s := S1x512) x ![0, 0] ![1, 512] inb = x := win_full x inb

theorem win_S128x1024 (x : Vec F S128x1024 .f32) (inb : ∀ a, (![0, 0] : Fin S128x1024.rank → ℕ) a + (![128, 1024] : Fin S128x1024.rank → ℕ) a ≤ S128x1024.size a) :
    VecWindow.window (s := S128x1024) x ![0, 0] ![128, 1024] inb = x := win_full x inb

theorem win_S4x1024 (x : Vec F S4x1024 .f32) (inb : ∀ a, (![0, 0] : Fin S4x1024.rank → ℕ) a + (![4, 1024] : Fin S4x1024.rank → ℕ) a ≤ S4x1024.size a) :
    VecWindow.window (s := S4x1024) x ![0, 0] ![4, 1024] inb = x := win_full x inb

theorem win_S1x1024 (x : Vec F S1x1024 .f32) (inb : ∀ a, (![0, 0] : Fin S1x1024.rank → ℕ) a + (![1, 1024] : Fin S1x1024.rank → ℕ) a ≤ S1x1024.size a) :
    VecWindow.window (s := S1x1024) x ![0, 0] ![1, 1024] inb = x := win_full x inb

theorem win_S1x3x1024 (x : Vec F S1x3x1024 .f32) (inb : ∀ a, (![0, 0, 0] : Fin S1x3x1024.rank → ℕ) a + (![1, 3, 1024] : Fin S1x3x1024.rank → ℕ) a ≤ S1x3x1024.size a) :
    VecWindow.window (s := S1x3x1024) x ![0, 0, 0] ![1, 3, 1024] inb = x := win_full x inb

theorem win_S1x8x64x128 (x : Vec F S1x8x64x128 .f32) (inb : ∀ a, (![0, 0, 0, 0] : Fin S1x8x64x128.rank → ℕ) a + (![1, 8, 64, 128] : Fin S1x8x64x128.rank → ℕ) a ≤ S1x8x64x128.size a) :
    VecWindow.window (s := S1x8x64x128) x ![0, 0, 0, 0] ![1, 8, 64, 128] inb = x := win_full x inb

theorem win_S512x128 (x : Vec F S512x128 .f32) (inb : ∀ a, (![0, 0] : Fin S512x128.rank → ℕ) a + (![512, 128] : Fin S512x128.rank → ℕ) a ≤ S512x128.size a) :
    VecWindow.window (s := S512x128) x ![0, 0] ![512, 128] inb = x := win_full x inb

theorem put_S1x3x1024 (x w : Vec F S1x3x1024 .f32) : VecWindow.put (s := S1x3x1024) x ![0, 0, 0] ![1, 3, 1024] w = w := by
  have h : ∀ a, (![0, 0, 0] : Fin S1x3x1024.rank → ℕ) a + S1x3x1024.size a ≤ S1x3x1024.size a := by decide
  exact put_full x w h

theorem put_S512x128 (x w : Vec F S512x128 .f32) : VecWindow.put (s := S512x128) x ![0, 0] ![512, 128] w = w := by
  have h : ∀ a, (![0, 0] : Fin S512x128.rank → ℕ) a + S512x128.size a ≤ S512x128.size a := by decide
  exact put_full x w h

theorem put_S1x8x64x128 (x w : Vec F S1x8x64x128 .f32) : VecWindow.put (s := S1x8x64x128) x ![0, 0, 0, 0] ![1, 8, 64, 128] w = w := by
  have h : ∀ a, (![0, 0, 0, 0] : Fin S1x8x64x128.rank → ℕ) a + S1x8x64x128.size a ≤ S1x8x64x128.size a := by decide
  exact put_full x w h

/-- The last three of the rows 8 to 135, after these were put. -/
theorem win_tail (b : Vec F S136x1024 .f32) (w : Vec F S128x1024 .f32) (inb : ∀ a, (![133, 0] : Fin S136x1024.rank → ℕ) a + (![3, 1024] : Fin S136x1024.rank → ℕ) a ≤ S136x1024.size a) :
    VecWindow.window (s := S136x1024) (VecWindow.put (s := S136x1024) b ![8, 0] ![128, 1024] w) ![133, 0] ![3, 1024] inb
      = VecWindow.window (s := S128x1024) w ![125, 0] S3x1024.size (by decide) :=
  (VecWindow.window_put_of_inside b ![8, 0] ![128, 1024] ![133, 0] ![3, 1024] inb w (by decide)).trans
    (funext fun y => congrArg w (funext fun a => by fin_cases a <;> rfl))

/-- From row 5 on, what rows 5 to 7 and rows 8 to 135 were put over does not matter. -/
theorem win_base (b b' : Vec F S136x1024 .f32) (k : Vec F S3x1024 .f32) (w : Vec F S128x1024 .f32) (o : ℕ) (ho : 5 ≤ o)
    (inb : ∀ a, (![o, 0] : Fin S136x1024.rank → ℕ) a + (![128, 1024] : Fin S136x1024.rank → ℕ) a ≤ S136x1024.size a) :
    VecWindow.window (s := S136x1024) (VecWindow.put (s := S136x1024) (VecWindow.put (s := S136x1024) b ![5, 0] ![3, 1024] k) ![8, 0] ![128, 1024] w) ![o, 0] ![128, 1024] inb
      = VecWindow.window (s := S136x1024) (VecWindow.put (s := S136x1024) (VecWindow.put (s := S136x1024) b' ![5, 0] ![3, 1024] k) ![8, 0] ![128, 1024] w) ![o, 0] ![128, 1024] inb := by
  funext y
  unfold VecWindow.window VecWindow.put
  split_ifs with h1 h2
  · rfl
  · rfl
  · exfalso
    have y0 := (y (0 : Fin 2)).isLt
    have y1 := (y (1 : Fin 2)).isLt
    have e0 : ((Rect.unit (s := S136x1024) ![o, 0] ![128, 1024] inb).emb y (0 : Fin 2)).val = o + 1 * (y (0 : Fin 2)).val := rfl
    have e1 : ((Rect.unit (s := S136x1024) ![o, 0] ![128, 1024] inb).emb y (1 : Fin 2)).val = 0 + 1 * (y (1 : Fin 2)).val := rfl
    have hi : o + 128 ≤ 136 := inb (0 : Fin 2)
    change (y (0 : Fin 2)).val < 128 at y0
    change (y (1 : Fin 2)).val < 1024 at y1
    by_cases h8 : 8 ≤ o + (y (0 : Fin 2)).val
    · refine h1 fun a => ?_
      fin_cases a
      · show 8 ≤ ((Rect.unit (s := S136x1024) ![o, 0] ![128, 1024] inb).emb y (0 : Fin 2)).val ∧ ((Rect.unit (s := S136x1024) ![o, 0] ![128, 1024] inb).emb y (0 : Fin 2)).val < 8 + 128
        omega
      · show 0 ≤ ((Rect.unit (s := S136x1024) ![o, 0] ![128, 1024] inb).emb y (1 : Fin 2)).val ∧ ((Rect.unit (s := S136x1024) ![o, 0] ![128, 1024] inb).emb y (1 : Fin 2)).val < 0 + 1024
        omega
    · refine h2 fun a => ?_
      fin_cases a
      · show 5 ≤ ((Rect.unit (s := S136x1024) ![o, 0] ![128, 1024] inb).emb y (0 : Fin 2)).val ∧ ((Rect.unit (s := S136x1024) ![o, 0] ![128, 1024] inb).emb y (0 : Fin 2)).val < 5 + 3
        omega
      · show 0 ≤ ((Rect.unit (s := S136x1024) ![o, 0] ![128, 1024] inb).emb y (1 : Fin 2)).val ∧ ((Rect.unit (s := S136x1024) ![o, 0] ![128, 1024] inb).emb y (1 : Fin 2)).val < 0 + 1024
        omega

/-- The buffer of rows with the block's rows put at rows 8 to 135. -/
def ext1 (e : Vec F S136x1024 .f32) (x3 : Vec F S128x1024 .f32) : Vec F S136x1024 .f32 :=
  VecWindow.put (s := S136x1024) e ![8, 0] S128x1024.size (k0_pay6 (VecWindow.window (s := S128x1024) x3 ![0, 0] S128x1024.size inb_S128x1024_S128x1024_0_0))

/-- The last three rows of the block. -/
def lastRows (x3 : Vec F S128x1024 .f32) : Vec F S3x1024 .f32 :=
  VecWindow.window (s := S128x1024) (k0_pay6 (VecWindow.window (s := S128x1024) x3 ![0, 0] S128x1024.size inb_S128x1024_S128x1024_0_0)) ![125, 0] S3x1024.size (by decide)

/-- The convolved block, from the buffer of rows. -/
def convOf (e1 : Vec F S136x1024 .f32) (x3 : Vec F S128x1024 .f32) (x7 : Vec F S4x1024 .f32) (x8 : Vec F S1x1024 .f32) : FVec F S128x1024 .f32 :=
  k0_pay7 (VecWindow.window (s := S4x1024) x7 ![0, 0] S4x1024.size inb_S4x1024_S4x1024_0_0)
    (VecWindow.window (s := S136x1024) e1 ![5, 0] S128x1024.size inb_S136x1024_S128x1024_5_0)
    (VecWindow.window (s := S136x1024) e1 ![6, 0] S128x1024.size inb_S136x1024_S128x1024_6_0)
    (VecWindow.window (s := S136x1024) e1 ![7, 0] S128x1024.size inb_S136x1024_S128x1024_7_0)
    (k0_pay6 (VecWindow.window (s := S128x1024) x3 ![0, 0] S128x1024.size inb_S128x1024_S128x1024_0_0))
    (VecWindow.window (s := S1x1024) x8 ![0, 0] S1x1024.size inb_S1x1024_S1x1024_0_0)

set_option maxHeartbeats 4000000 in
/-- What the body's part 1 does at the first chunk of a sequence. -/
theorem part1_first (c : Dev nD) (i : grid0.Coords) (a2 : Memref sig .tc .vmem S128x512 .f32) (h2 : a2.IsWhole) (a3 : Memref sig .tc .vmem S128x1024 .f32) (h3 : a3.IsWhole) (a4 : Memref sig .tc .vmem S128x128 .f32) (h4 : a4.IsWhole) (a5 : Memref sig .tc .vmem S1x3x1024 .f32) (h5 : a5.IsWhole) (a6 : Memref sig .tc .vmem S1x8x64x128 .f32) (h6 : a6.IsWhole) (a7 : Memref sig .tc .vmem S4x1024 .f32) (h7 : a7.IsWhole) (a8 : Memref sig .tc .vmem S1x1024 .f32) (h8 : a8.IsWhole) (a9 : Memref sig .tc .vmem S1x128 .f32) (h9 : a9.IsWhole) (a10 : Memref sig .tc .vmem S1x128 .f32) (h10 : a10.IsWhole) (a11 : Memref sig .tc .vmem S1x512 .f32) (h11 : a11.IsWhole) (a12 : Memref sig .tc .vmem S128x512 .f32) (h12 : a12.IsWhole) (a13 : Memref sig .tc .vmem S1x3x1024 .f32) (h13 : a13.IsWhole) (a14 : Memref sig .tc .vmem S1x8x64x128 .f32) (h14 : a14.IsWhole) (a15 : Memref sig .tc .vmem S136x1024 .f32) (h15 : a15.IsWhole) (a16 : Memref sig .tc .vmem S512x128 .f32) (h16 : a16.IsWhole) (a17 : Memref sig .tc .vmem S128x128 .f32) (h17 : a17.IsWhole) (hf : isFirst i)
    (x3 : Vec F S128x1024 .f32) (x5 : Vec F S1x3x1024 .f32) (x6 : Vec F S1x8x64x128 .f32) (x7 : Vec F S4x1024 .f32) (x8 : Vec F S1x1024 .f32) (x15 : Vec F S136x1024 .f32) (x16 : Vec F S512x128 .f32) (E : Set ℕ) (K : _ → sProp 𝕄) :
    iprop(owns (c : Thread nD τ) a3 fullShare x3 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a15 fullShare x15 ∗ owns (c : Thread nD τ) a16 fullShare x16 ∗ ((owns (c : Thread nD τ) a3 fullShare x3 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a15 fullShare (ext1 (VecWindow.put (s := S136x1024) x15 ![5, 0] S3x1024.size (k0_pay4 (VecWindow.window (s := S1x3x1024) x5 ![0, 0, 0] S1x3x1024.size inb_S1x3x1024_S1x3x1024_0_0_0))) x3) ∗ owns (c : Thread nD τ) a16 fullShare (k0_pay5 (VecWindow.window (s := S1x8x64x128) x6 ![0, 0, 0, 0] S1x8x64x128.size inb_S1x8x64x128_S1x8x64x128_0_0_0_0))) -∗ K ⟨BitVec.ofNat 32 (i 1).val, convOf (ext1 (VecWindow.put (s := S136x1024) x15 ![5, 0] S3x1024.size (k0_pay4 (VecWindow.window (s := S1x3x1024) x5 ![0, 0, 0] S1x3x1024.size inb_S1x3x1024_S1x3x1024_0_0_0))) x3) x3 x7 x8, lastRows x3⟩))
    ⊢ wp frame (wpE (defs₀ (F := F)) Variants.none c none) E (k0_part1 i a2 h2 a3 h3 a4 h4 a5 h5 a6 h6 a7 h7 a8 h8 a9 h9 a10 h10 a11 h11 a12 h12 a13 h13 a14 h14 a15 h15 a16 h16 a17 h17) K := by
  rw [k0_part1_eq_skeleton]; unfold k0_part1_skel; unfold convOf lastRows ext1
  unfold owns
  iintro ⟨⟨%f3, %hf3, H3⟩, ⟨%f5, %hf5, H5⟩, ⟨%f6, %hf6, H6⟩, ⟨%f7, %hf7, H7⟩, ⟨%f8, %hf8, H8⟩, ⟨%f15, %hf15, H15⟩, ⟨%f16, %hf16, H16⟩, Hk⟩
  obtain rfl := h3.eq_unread hf3; obtain rfl := h5.eq_unread hf5; obtain rfl := h6.eq_unread hf6; obtain rfl := h7.eq_unread hf7; obtain rfl := h8.eq_unread hf8; obtain rfl := h15.eq_unread hf15; obtain rfl := h16.eq_unread hf16
  sl_exec (disch := sl_exact hf)

  sl_step
  simp only [readAt_win, Memref.IsWhole.read_unread]
  delta part1_first.sl.v8 part1_first.sl.v12 part1_first.sl.v17 part1_first.sl.v22 part1_first.sl.v33; delta part1_first.sl.H15_2
  simp only [readCov_win, readAt_win, read_put, View.writes_nil, Memref.IsWhole.read_unread]
  rw [VecWindow.window_put_same, win_tail, win_base (View.read (Elt F) a15.view a15.view.junk) x15 _ _ 5 (by decide), win_base (View.read (Elt F) a15.view a15.view.junk) x15 _ _ 6 (by decide), win_base (View.read (Elt F) a15.view a15.view.junk) x15 _ _ 7 (by decide)]
  iapply Hk
  isplitl [H3]
  · iexists _
    isplitr
    swap
    · iexact H3
    · ipureintro
      exact h3.read_unread _
  isplitl [H5]
  · iexists _
    isplitr
    swap
    · iexact H5
    · ipureintro
      exact h5.read_unread _
  isplitl [H6]
  · iexists _
    isplitr
    swap
    · iexact H6
    · ipureintro
      exact h6.read_unread _
  isplitl [H7]
  · iexists _
    isplitr
    swap
    · iexact H7
    · ipureintro
      exact h7.read_unread _
  isplitl [H8]
  · iexists _
    isplitr
    swap
    · iexact H8
    · ipureintro
      exact h8.read_unread _
  isplitl [H15]
  · iexists _
    isplitr
    swap
    · iexact H15
    · ipureintro
      simp only [read_put, put_S1x3x1024, put_S512x128, put_S1x8x64x128, View.writes_nil, Memref.IsWhole.read_unread, ext1]
  iexists _
  isplitr
  swap
  · iexact H16
  · ipureintro
    simp only [read_put, put_S1x3x1024, put_S512x128, put_S1x8x64x128, View.writes_nil, Memref.IsWhole.read_unread, ext1]; exact put_S512x128 _ _

set_option maxHeartbeats 4000000 in
/-- What the body's part 1 does at a later chunk of a sequence. -/
theorem part1_next (c : Dev nD) (i : grid0.Coords) (a2 : Memref sig .tc .vmem S128x512 .f32) (h2 : a2.IsWhole) (a3 : Memref sig .tc .vmem S128x1024 .f32) (h3 : a3.IsWhole) (a4 : Memref sig .tc .vmem S128x128 .f32) (h4 : a4.IsWhole) (a5 : Memref sig .tc .vmem S1x3x1024 .f32) (h5 : a5.IsWhole) (a6 : Memref sig .tc .vmem S1x8x64x128 .f32) (h6 : a6.IsWhole) (a7 : Memref sig .tc .vmem S4x1024 .f32) (h7 : a7.IsWhole) (a8 : Memref sig .tc .vmem S1x1024 .f32) (h8 : a8.IsWhole) (a9 : Memref sig .tc .vmem S1x128 .f32) (h9 : a9.IsWhole) (a10 : Memref sig .tc .vmem S1x128 .f32) (h10 : a10.IsWhole) (a11 : Memref sig .tc .vmem S1x512 .f32) (h11 : a11.IsWhole) (a12 : Memref sig .tc .vmem S128x512 .f32) (h12 : a12.IsWhole) (a13 : Memref sig .tc .vmem S1x3x1024 .f32) (h13 : a13.IsWhole) (a14 : Memref sig .tc .vmem S1x8x64x128 .f32) (h14 : a14.IsWhole) (a15 : Memref sig .tc .vmem S136x1024 .f32) (h15 : a15.IsWhole) (a16 : Memref sig .tc .vmem S512x128 .f32) (h16 : a16.IsWhole) (a17 : Memref sig .tc .vmem S128x128 .f32) (h17 : a17.IsWhole) (hf : ¬ isFirst i)
    (x3 : Vec F S128x1024 .f32) (x7 : Vec F S4x1024 .f32) (x8 : Vec F S1x1024 .f32) (x15 : Vec F S136x1024 .f32) (E : Set ℕ) (K : _ → sProp 𝕄) :
    iprop(owns (c : Thread nD τ) a3 fullShare x3 ∗ owns (c : Thread nD τ) a7 fullShare x7 ∗ owns (c : Thread nD τ) a8 fullShare x8 ∗ owns (c : Thread nD τ) a15 fullShare x15 ∗ ((owns (c : Thread nD τ) a3 fullShare x3 ∗ owns (c : Thread nD τ) a7 fullShare x7 ∗ owns (c : Thread nD τ) a8 fullShare x8 ∗ owns (c : Thread nD τ) a15 fullShare (ext1 x15 x3)) -∗ K ⟨BitVec.ofNat 32 (i 1).val, convOf (ext1 x15 x3) x3 x7 x8, lastRows x3⟩))
    ⊢ wp frame (wpE (defs₀ (F := F)) Variants.none c none) E (k0_part1 i a2 h2 a3 h3 a4 h4 a5 h5 a6 h6 a7 h7 a8 h8 a9 h9 a10 h10 a11 h11 a12 h12 a13 h13 a14 h14 a15 h15 a16 h16 a17 h17) K := by
  rw [k0_part1_eq_skeleton]; unfold k0_part1_skel; unfold convOf lastRows ext1
  unfold owns
  iintro ⟨⟨%f3, %hf3, H3⟩, ⟨%f7, %hf7, H7⟩, ⟨%f8, %hf8, H8⟩, ⟨%f15, %hf15, H15⟩, Hk⟩
  obtain rfl := h3.eq_unread hf3; obtain rfl := h7.eq_unread hf7; obtain rfl := h8.eq_unread hf8; obtain rfl := h15.eq_unread hf15
  sl_exec (disch := sl_exact hf)

  sl_step
  simp only [readAt_win, Memref.IsWhole.read_unread]
  delta part1_next.sl.v22 part1_next.sl.v33 part1_next.sl.H15_1
  simp only [readCov_win, readAt_win, read_put, View.writes_nil, Memref.IsWhole.read_unread]
  rw [VecWindow.window_put_same, win_tail]
  iapply Hk
  isplitl [H3]
  · iexists _
    isplitr
    swap
    · iexact H3
    · ipureintro
      exact h3.read_unread _
  isplitl [H7]
  · iexists _
    isplitr
    swap
    · iexact H7
    · ipureintro
      exact h7.read_unread _
  isplitl [H8]
  · iexists _
    isplitr
    swap
    · iexact H8
    · ipureintro
      exact h8.read_unread _
  iexists _
  isplitr
  swap
  · iexact H15
  · ipureintro
    simp only [read_put, put_S1x3x1024, put_S512x128, put_S1x8x64x128, View.writes_nil, Memref.IsWhole.read_unread, ext1]

set_option maxHeartbeats 4000000 in
/-- What the body's part 2 does: its loads, its stores and the values it hands on. -/
theorem part2_run (c : Dev nD) (i : grid0.Coords) (a2 : Memref sig .tc .vmem S128x512 .f32) (h2 : a2.IsWhole) (a3 : Memref sig .tc .vmem S128x1024 .f32) (h3 : a3.IsWhole) (a4 : Memref sig .tc .vmem S128x128 .f32) (h4 : a4.IsWhole) (a5 : Memref sig .tc .vmem S1x3x1024 .f32) (h5 : a5.IsWhole) (a6 : Memref sig .tc .vmem S1x8x64x128 .f32) (h6 : a6.IsWhole) (a7 : Memref sig .tc .vmem S4x1024 .f32) (h7 : a7.IsWhole) (a8 : Memref sig .tc .vmem S1x1024 .f32) (h8 : a8.IsWhole) (a9 : Memref sig .tc .vmem S1x128 .f32) (h9 : a9.IsWhole) (a10 : Memref sig .tc .vmem S1x128 .f32) (h10 : a10.IsWhole) (a11 : Memref sig .tc .vmem S1x512 .f32) (h11 : a11.IsWhole) (a12 : Memref sig .tc .vmem S128x512 .f32) (h12 : a12.IsWhole) (a13 : Memref sig .tc .vmem S1x3x1024 .f32) (h13 : a13.IsWhole) (a14 : Memref sig .tc .vmem S1x8x64x128 .f32) (h14 : a14.IsWhole) (a15 : Memref sig .tc .vmem S136x1024 .f32) (h15 : a15.IsWhole) (a16 : Memref sig .tc .vmem S512x128 .f32) (h16 : a16.IsWhole) (a17 : Memref sig .tc .vmem S128x128 .f32) (h17 : a17.IsWhole)  (v33 : Vec F S3x1024 .f32)
    (x4 : Vec F S128x128 .f32) (x9 : Vec F S1x128 .f32) (x10 : Vec F S1x128 .f32) (x13 : Vec F S1x3x1024 .f32) (x15 : Vec F S136x1024 .f32) (E : Set ℕ) (K : _ → sProp 𝕄) :
    iprop(owns (c : Thread nD τ) a4 fullShare x4 ∗ owns (c : Thread nD τ) a9 fullShare x9 ∗ owns (c : Thread nD τ) a10 fullShare x10 ∗ owns (c : Thread nD τ) a13 fullShare x13 ∗ owns (c : Thread nD τ) a15 fullShare x15 ∗ ((owns (c : Thread nD τ) a4 fullShare x4 ∗ owns (c : Thread nD τ) a9 fullShare x9 ∗ owns (c : Thread nD τ) a10 fullShare x10 ∗ owns (c : Thread nD τ) a13 fullShare (k0_pay9 v33) ∗ owns (c : Thread nD τ) a15 fullShare (VecWindow.put (s := S136x1024) x15 ![5, 0] S3x1024.size (k0_pay8 v33))) -∗ K ⟨(iota .tc S128x128 32 [0] iota_S128x128_d0_w32), (iota .tc S128x128 32 [1] iota_S128x128_d1_w32), k0_pay10 (VecWindow.window (s := S128x128) x4 ![0, 0] S128x128.size inb_S128x128_S128x128_0_0) (VecWindow.window (s := S1x128) x9 ![0, 0] S1x128.size inb_S1x128_S1x128_0_0), k0_pay12, k0_pay13 (F := F), k0_pay17 (VecWindow.window (s := S128x128) x4 ![0, 0] S128x128.size inb_S128x128_S128x128_0_0) (VecWindow.window (s := S1x128) x9 ![0, 0] S1x128.size inb_S1x128_S1x128_0_0) (VecWindow.window (s := S1x128) x10 ![0, 0] S1x128.size inb_S1x128_S1x128_0_0), k0_pay18 (VecWindow.window (s := S128x128) x4 ![0, 0] S128x128.size inb_S128x128_S128x128_0_0) (VecWindow.window (s := S1x128) x9 ![0, 0] S1x128.size inb_S1x128_S1x128_0_0) (VecWindow.window (s := S1x128) x10 ![0, 0] S1x128.size inb_S1x128_S1x128_0_0), k0_pay19 (VecWindow.window (s := S128x128) x4 ![0, 0] S128x128.size inb_S128x128_S128x128_0_0) (VecWindow.window (s := S1x128) x9 ![0, 0] S1x128.size inb_S1x128_S1x128_0_0) (VecWindow.window (s := S1x128) x10 ![0, 0] S1x128.size inb_S1x128_S1x128_0_0)⟩))
    ⊢ wp frame (wpE (defs₀ (F := F)) Variants.none c none) E (k0_part2 i a2 h2 a3 h3 a4 h4 a5 h5 a6 h6 a7 h7 a8 h8 a9 h9 a10 h10 a11 h11 a12 h12 a13 h13 a14 h14 a15 h15 a16 h16 a17 h17 v33) K := by
  rw [k0_part2_eq_skeleton]; unfold k0_part2_skel
  unfold owns
  iintro ⟨⟨%f4, %hf4, H4⟩, ⟨%f9, %hf9, H9⟩, ⟨%f10, %hf10, H10⟩, ⟨%f13, %hf13, H13⟩, ⟨%f15, %hf15, H15⟩, Hk⟩
  obtain rfl := h4.eq_unread hf4; obtain rfl := h9.eq_unread hf9; obtain rfl := h10.eq_unread hf10; obtain rfl := h13.eq_unread hf13; obtain rfl := h15.eq_unread hf15
  sl_exec

  sl_step
  simp only [readAt_win, Memref.IsWhole.read_unread]
  delta part2_run.sl.v41 part2_run.sl.v42
  iapply Hk
  isplitl [H4]
  · iexists _
    isplitr
    swap
    · iexact H4
    · ipureintro
      exact h4.read_unread _
  isplitl [H9]
  · iexists _
    isplitr
    swap
    · iexact H9
    · ipureintro
      exact h9.read_unread _
  isplitl [H10]
  · iexists _
    isplitr
    swap
    · iexact H10
    · ipureintro
      exact h10.read_unread _
  isplitl [H13]
  · iexists _
    isplitr
    swap
    · iexact H13
    · ipureintro
      simp only [read_put, put_S1x3x1024, put_S512x128, put_S1x8x64x128, View.writes_nil, Memref.IsWhole.read_unread, ext1]; exact put_S1x3x1024 _ _
  iexists _
  isplitr
  swap
  · iexact H15
  · ipureintro
    simp only [read_put, put_S1x3x1024, put_S512x128, put_S1x8x64x128, View.writes_nil, Memref.IsWhole.read_unread, ext1]

set_option maxHeartbeats 4000000 in
/-- What the body's part 3 does: its loads, its stores and the values it hands on. -/
theorem part3_run (c : Dev nD) (i : grid0.Coords) (a2 : Memref sig .tc .vmem S128x512 .f32) (h2 : a2.IsWhole) (a3 : Memref sig .tc .vmem S128x1024 .f32) (h3 : a3.IsWhole) (a4 : Memref sig .tc .vmem S128x128 .f32) (h4 : a4.IsWhole) (a5 : Memref sig .tc .vmem S1x3x1024 .f32) (h5 : a5.IsWhole) (a6 : Memref sig .tc .vmem S1x8x64x128 .f32) (h6 : a6.IsWhole) (a7 : Memref sig .tc .vmem S4x1024 .f32) (h7 : a7.IsWhole) (a8 : Memref sig .tc .vmem S1x1024 .f32) (h8 : a8.IsWhole) (a9 : Memref sig .tc .vmem S1x128 .f32) (h9 : a9.IsWhole) (a10 : Memref sig .tc .vmem S1x128 .f32) (h10 : a10.IsWhole) (a11 : Memref sig .tc .vmem S1x512 .f32) (h11 : a11.IsWhole) (a12 : Memref sig .tc .vmem S128x512 .f32) (h12 : a12.IsWhole) (a13 : Memref sig .tc .vmem S1x3x1024 .f32) (h13 : a13.IsWhole) (a14 : Memref sig .tc .vmem S1x8x64x128 .f32) (h14 : a14.IsWhole) (a15 : Memref sig .tc .vmem S136x1024 .f32) (h15 : a15.IsWhole) (a16 : Memref sig .tc .vmem S512x128 .f32) (h16 : a16.IsWhole) (a17 : Memref sig .tc .vmem S128x128 .f32) (h17 : a17.IsWhole)  (v32 : FVec F S128x1024 .f32) (v41 : IVec S128x128 32) (v42 : IVec S128x128 32) (v54 : FVec F S128x128 .f32) (v62 : IVec S128x128 1) (v66 : FVec F S128x128 .bf16) (v73 : FVec F S128x128 .bf16) (v74 : FVec F S128x128 .f32) (v75 : FVec F S128x128 .f32)
    (x2 : Vec F S128x512 .f32) (x11 : Vec F S1x512 .f32) (E : Set ℕ) (K : _ → sProp 𝕄) :
    iprop(owns (c : Thread nD τ) a2 fullShare x2 ∗ owns (c : Thread nD τ) a11 fullShare x11 ∗ ((owns (c : Thread nD τ) a2 fullShare x2 ∗ owns (c : Thread nD τ) a11 fullShare x11) -∗ K ⟨k0_pay20 v66 v73 v74 v75, k0_pay21 v66 v73 v74 v75, k0_pay22 v66 v73 v74 v75, k0_pay23 v42, k0_pay24 v41, (VecWindow.window (s := S128x512) x2 ![0, 0] S128x512.size inb_S128x512_S128x512_0_0), k0_pay25 (VecWindow.window (s := S1x512) x11 ![0, 0] S1x512.size inb_S1x512_S1x512_0_0), k0_pay26 v32, k0_pay27 v32, k0_pay28 v32, k0_pay29 v32, k0_pay30 v66 v73 v74 v75, k0_pay31 v66 v73 v74 v75, k0_pay32 v32 v42 v54, k0_pay33 v62 v66 v73 v74 v75, k0_pay34 v62 v66 v73 v74 v75, k0_pay35 v32 v42 v54, k0_pay36 v32 v42 v54⟩))
    ⊢ wp frame (wpE (defs₀ (F := F)) Variants.none c none) E (k0_part3 i a2 h2 a3 h3 a4 h4 a5 h5 a6 h6 a7 h7 a8 h8 a9 h9 a10 h10 a11 h11 a12 h12 a13 h13 a14 h14 a15 h15 a16 h16 a17 h17 v32 v41 v42 v54 v62 v66 v73 v74 v75) K := by
  rw [k0_part3_eq_skeleton]; unfold k0_part3_skel
  unfold owns
  iintro ⟨⟨%f2, %hf2, H2⟩, ⟨%f11, %hf11, H11⟩, Hk⟩
  obtain rfl := h2.eq_unread hf2; obtain rfl := h11.eq_unread hf11
  sl_exec

  sl_step
  simp only [readAt_win, Memref.IsWhole.read_unread]

  iapply Hk
  isplitl [H2]
  · iexists _
    isplitr
    swap
    · iexact H2
    · ipureintro
      exact h2.read_unread _
  iexists _
  isplitr
  swap
  · iexact H11
  · ipureintro
    exact h11.read_unread _

set_option maxHeartbeats 4000000 in
/-- What the body's part 4 does: its loads, its stores and the values it hands on. -/
theorem part4_run (c : Dev nD) (i : grid0.Coords) (a2 : Memref sig .tc .vmem S128x512 .f32) (h2 : a2.IsWhole) (a3 : Memref sig .tc .vmem S128x1024 .f32) (h3 : a3.IsWhole) (a4 : Memref sig .tc .vmem S128x128 .f32) (h4 : a4.IsWhole) (a5 : Memref sig .tc .vmem S1x3x1024 .f32) (h5 : a5.IsWhole) (a6 : Memref sig .tc .vmem S1x8x64x128 .f32) (h6 : a6.IsWhole) (a7 : Memref sig .tc .vmem S4x1024 .f32) (h7 : a7.IsWhole) (a8 : Memref sig .tc .vmem S1x1024 .f32) (h8 : a8.IsWhole) (a9 : Memref sig .tc .vmem S1x128 .f32) (h9 : a9.IsWhole) (a10 : Memref sig .tc .vmem S1x128 .f32) (h10 : a10.IsWhole) (a11 : Memref sig .tc .vmem S1x512 .f32) (h11 : a11.IsWhole) (a12 : Memref sig .tc .vmem S128x512 .f32) (h12 : a12.IsWhole) (a13 : Memref sig .tc .vmem S1x3x1024 .f32) (h13 : a13.IsWhole) (a14 : Memref sig .tc .vmem S1x8x64x128 .f32) (h14 : a14.IsWhole) (a15 : Memref sig .tc .vmem S136x1024 .f32) (h15 : a15.IsWhole) (a16 : Memref sig .tc .vmem S512x128 .f32) (h16 : a16.IsWhole) (a17 : Memref sig .tc .vmem S128x128 .f32) (h17 : a17.IsWhole)  (v80 : FVec F S1x128 .f32) (v82 : IVec S128x128 1) (v84 : IVec S128x128 1) (v87 : FVec F S1x512 .f32) (v89 : FVec F S128x128 .bf16) (v91 : FVec F S128x128 .bf16) (v92 : FVec F S128x128 .f32) (v94 : FVec F S128x1 .f32) (v95 : FVec F S128x1 .f32) (v103 : FVec F S128x128 .f32) (v110 : FVec F S128x128 .f32) (v117 : FVec F S128x128 .f32) (v120 : FVec F S128x128 .bf16) (v123 : FVec F S128x128 .bf16)
    (x16 : Vec F S512x128 .f32) (E : Set ℕ) (K : _ → sProp 𝕄) :
    iprop(owns (c : Thread nD τ) a16 fullShare x16 ∗ ((owns (c : Thread nD τ) a16 fullShare (VecWindow.put (s := S512x128) x16 ![0, 0] S128x128.size (k0_pay37 v80 v82 v84 v89 v94 v95 v103 (VecWindow.window (s := S512x128) x16 ![0, 0] S128x128.size inb_S512x128_S128x128_0_0)))) -∗ K ⟨k0_pay38 v82 v91 v92 v94 v95 v110 v117 v120 v123 (VecWindow.window (s := S512x128) x16 ![0, 0] S128x128.size inb_S512x128_S128x128_0_0), k0_pay39 v87⟩))
    ⊢ wp frame (wpE (defs₀ (F := F)) Variants.none c none) E (k0_part4 i a2 h2 a3 h3 a4 h4 a5 h5 a6 h6 a7 h7 a8 h8 a9 h9 a10 h10 a11 h11 a12 h12 a13 h13 a14 h14 a15 h15 a16 h16 a17 h17 v80 v82 v84 v87 v89 v91 v92 v94 v95 v103 v110 v117 v120 v123) K := by
  rw [k0_part4_eq_skeleton]; unfold k0_part4_skel
  unfold owns
  iintro ⟨⟨%f16, %hf16, H16⟩, Hk⟩
  obtain rfl := h16.eq_unread hf16
  sl_exec

  sl_step
  simp only [readAt_win, Memref.IsWhole.read_unread]

  iapply Hk
  iexists _
  isplitr
  swap
  · iexact H16
  · ipureintro
    simp only [read_put, put_S1x3x1024, put_S512x128, put_S1x8x64x128, View.writes_nil, Memref.IsWhole.read_unread, ext1]

set_option maxHeartbeats 4000000 in
/-- What the body's part 5 does: its loads, its stores and the values it hands on. -/
theorem part5_run (c : Dev nD) (i : grid0.Coords) (a2 : Memref sig .tc .vmem S128x512 .f32) (h2 : a2.IsWhole) (a3 : Memref sig .tc .vmem S128x1024 .f32) (h3 : a3.IsWhole) (a4 : Memref sig .tc .vmem S128x128 .f32) (h4 : a4.IsWhole) (a5 : Memref sig .tc .vmem S1x3x1024 .f32) (h5 : a5.IsWhole) (a6 : Memref sig .tc .vmem S1x8x64x128 .f32) (h6 : a6.IsWhole) (a7 : Memref sig .tc .vmem S4x1024 .f32) (h7 : a7.IsWhole) (a8 : Memref sig .tc .vmem S1x1024 .f32) (h8 : a8.IsWhole) (a9 : Memref sig .tc .vmem S1x128 .f32) (h9 : a9.IsWhole) (a10 : Memref sig .tc .vmem S1x128 .f32) (h10 : a10.IsWhole) (a11 : Memref sig .tc .vmem S1x512 .f32) (h11 : a11.IsWhole) (a12 : Memref sig .tc .vmem S128x512 .f32) (h12 : a12.IsWhole) (a13 : Memref sig .tc .vmem S1x3x1024 .f32) (h13 : a13.IsWhole) (a14 : Memref sig .tc .vmem S1x8x64x128 .f32) (h14 : a14.IsWhole) (a15 : Memref sig .tc .vmem S136x1024 .f32) (h15 : a15.IsWhole) (a16 : Memref sig .tc .vmem S512x128 .f32) (h16 : a16.IsWhole) (a17 : Memref sig .tc .vmem S128x128 .f32) (h17 : a17.IsWhole)  (v32 : FVec F S128x1024 .f32) (v54 : FVec F S128x128 .f32) (v62 : IVec S128x128 1) (v78 : FVec F S128x128 .f32) (v79 : FVec F S128x128 .f32) (v82 : IVec S128x128 1) (v85 : Vec F S128x512 .f32) (v92 : FVec F S128x128 .f32) (v93 : FVec F S128x128 .f32) (v173 : FVec F S128x128 .f32) (v174 : FVec F S1x128 .f32)
    (x12 : Vec F S128x512 .f32) (x16 : Vec F S512x128 .f32) (E : Set ℕ) (K : _ → sProp 𝕄) :
    iprop(owns (c : Thread nD τ) a12 fullShare x12 ∗ owns (c : Thread nD τ) a16 fullShare x16 ∗ ((owns (c : Thread nD τ) a12 fullShare (VecWindow.put (s := S128x512) x12 ![0, 0] S128x128.size (k0_pay40 v85 v93 v173 v174)) ∗ owns (c : Thread nD τ) a16 fullShare x16) -∗ K ⟨k0_pay41 v32, k0_pay42 v78, k0_pay43 v78, k0_pay44 v32 v54 v82, k0_pay45 v32 v54 v62 v78 v79 v82 v92, (VecWindow.window (s := S512x128) x16 ![128, 0] S128x128.size inb_S512x128_S128x128_128_0), k0_pay46 (VecWindow.window (s := S512x128) x16 ![128, 0] S128x128.size inb_S512x128_S128x128_128_0), (constant S128x128 .f32 0x00000000#32)⟩))
    ⊢ wp frame (wpE (defs₀ (F := F)) Variants.none c none) E (k0_part5 i a2 h2 a3 h3 a4 h4 a5 h5 a6 h6 a7 h7 a8 h8 a9 h9 a10 h10 a11 h11 a12 h12 a13 h13 a14 h14 a15 h15 a16 h16 a17 h17 v32 v54 v62 v78 v79 v82 v85 v92 v93 v173 v174) K := by
  rw [k0_part5_eq_skeleton]; unfold k0_part5_skel
  unfold owns
  iintro ⟨⟨%f12, %hf12, H12⟩, ⟨%f16, %hf16, H16⟩, Hk⟩
  obtain rfl := h12.eq_unread hf12; obtain rfl := h16.eq_unread hf16
  sl_exec

  sl_step
  simp only [readAt_win, Memref.IsWhole.read_unread]
  delta part5_run.sl.cst_58
  iapply Hk
  isplitl [H12]
  · iexists _
    isplitr
    swap
    · iexact H12
    · ipureintro
      simp only [read_put, put_S1x3x1024, put_S512x128, put_S1x8x64x128, View.writes_nil, Memref.IsWhole.read_unread, ext1]
  iexists _
  isplitr
  swap
  · iexact H16
  · ipureintro
    exact h16.read_unread _

set_option maxHeartbeats 4000000 in
/-- What the body's part 6 does: its loads, its stores and the values it hands on. -/
theorem part6_run (c : Dev nD) (i : grid0.Coords) (a2 : Memref sig .tc .vmem S128x512 .f32) (h2 : a2.IsWhole) (a3 : Memref sig .tc .vmem S128x1024 .f32) (h3 : a3.IsWhole) (a4 : Memref sig .tc .vmem S128x128 .f32) (h4 : a4.IsWhole) (a5 : Memref sig .tc .vmem S1x3x1024 .f32) (h5 : a5.IsWhole) (a6 : Memref sig .tc .vmem S1x8x64x128 .f32) (h6 : a6.IsWhole) (a7 : Memref sig .tc .vmem S4x1024 .f32) (h7 : a7.IsWhole) (a8 : Memref sig .tc .vmem S1x1024 .f32) (h8 : a8.IsWhole) (a9 : Memref sig .tc .vmem S1x128 .f32) (h9 : a9.IsWhole) (a10 : Memref sig .tc .vmem S1x128 .f32) (h10 : a10.IsWhole) (a11 : Memref sig .tc .vmem S1x512 .f32) (h11 : a11.IsWhole) (a12 : Memref sig .tc .vmem S128x512 .f32) (h12 : a12.IsWhole) (a13 : Memref sig .tc .vmem S1x3x1024 .f32) (h13 : a13.IsWhole) (a14 : Memref sig .tc .vmem S1x8x64x128 .f32) (h14 : a14.IsWhole) (a15 : Memref sig .tc .vmem S136x1024 .f32) (h15 : a15.IsWhole) (a16 : Memref sig .tc .vmem S512x128 .f32) (h16 : a16.IsWhole) (a17 : Memref sig .tc .vmem S128x128 .f32) (h17 : a17.IsWhole)  (v32 : FVec F S128x1024 .f32) (v80 : FVec F S1x128 .f32) (v82 : IVec S128x128 1) (v84 : IVec S128x128 1) (v85 : Vec F S128x512 .f32) (v87 : FVec F S1x512 .f32) (v89 : FVec F S128x128 .bf16) (v91 : FVec F S128x128 .bf16) (v183 : FVec F S128x128 .f32) (v184 : FVec F S128x1 .f32) (v185 : FVec F S128x1 .f32) (v193 : FVec F S128x128 .f32) (v220 : FVec F S128x128 .f32) (v221 : Vec F S128x128 .f32) (v222 : FVec F S128x128 .bf16) (cst_58 : FVec F S128x128 .f32)
    (x12 : Vec F S128x512 .f32) (x16 : Vec F S512x128 .f32) (E : Set ℕ) (K : _ → sProp 𝕄) :
    iprop(owns (c : Thread nD τ) a12 fullShare x12 ∗ owns (c : Thread nD τ) a16 fullShare x16 ∗ ((owns (c : Thread nD τ) a12 fullShare (VecWindow.put (s := S128x512) x12 ![0, 128] S128x128.size (k0_pay48 v82 v85 v87 v91 v183 v184 v185 v220 v222 cst_58)) ∗ owns (c : Thread nD τ) a16 fullShare (VecWindow.put (s := S512x128) x16 ![128, 0] S128x128.size (k0_pay47 v80 v82 v84 v89 v184 v185 v193 v221))) -∗ K ⟨k0_pay49 v32, k0_pay50 v32⟩))
    ⊢ wp frame (wpE (defs₀ (F := F)) Variants.none c none) E (k0_part6 i a2 h2 a3 h3 a4 h4 a5 h5 a6 h6 a7 h7 a8 h8 a9 h9 a10 h10 a11 h11 a12 h12 a13 h13 a14 h14 a15 h15 a16 h16 a17 h17 v32 v80 v82 v84 v85 v87 v89 v91 v183 v184 v185 v193 v220 v221 v222 cst_58) K := by
  rw [k0_part6_eq_skeleton]; unfold k0_part6_skel
  unfold owns
  iintro ⟨⟨%f12, %hf12, H12⟩, ⟨%f16, %hf16, H16⟩, Hk⟩
  obtain rfl := h12.eq_unread hf12; obtain rfl := h16.eq_unread hf16
  sl_exec

  sl_step
  simp only [readAt_win, Memref.IsWhole.read_unread]

  iapply Hk
  isplitl [H12]
  · iexists _
    isplitr
    swap
    · iexact H12
    · ipureintro
      simp only [read_put, put_S1x3x1024, put_S512x128, put_S1x8x64x128, View.writes_nil, Memref.IsWhole.read_unread, ext1]
  iexists _
  isplitr
  swap
  · iexact H16
  · ipureintro
    simp only [read_put, put_S1x3x1024, put_S512x128, put_S1x8x64x128, View.writes_nil, Memref.IsWhole.read_unread, ext1]

set_option maxHeartbeats 4000000 in
/-- What the body's part 7 does: its loads, its stores and the values it hands on. -/
theorem part7_run (c : Dev nD) (i : grid0.Coords) (a2 : Memref sig .tc .vmem S128x512 .f32) (h2 : a2.IsWhole) (a3 : Memref sig .tc .vmem S128x1024 .f32) (h3 : a3.IsWhole) (a4 : Memref sig .tc .vmem S128x128 .f32) (h4 : a4.IsWhole) (a5 : Memref sig .tc .vmem S1x3x1024 .f32) (h5 : a5.IsWhole) (a6 : Memref sig .tc .vmem S1x8x64x128 .f32) (h6 : a6.IsWhole) (a7 : Memref sig .tc .vmem S4x1024 .f32) (h7 : a7.IsWhole) (a8 : Memref sig .tc .vmem S1x1024 .f32) (h8 : a8.IsWhole) (a9 : Memref sig .tc .vmem S1x128 .f32) (h9 : a9.IsWhole) (a10 : Memref sig .tc .vmem S1x128 .f32) (h10 : a10.IsWhole) (a11 : Memref sig .tc .vmem S1x512 .f32) (h11 : a11.IsWhole) (a12 : Memref sig .tc .vmem S128x512 .f32) (h12 : a12.IsWhole) (a13 : Memref sig .tc .vmem S1x3x1024 .f32) (h13 : a13.IsWhole) (a14 : Memref sig .tc .vmem S1x8x64x128 .f32) (h14 : a14.IsWhole) (a15 : Memref sig .tc .vmem S136x1024 .f32) (h15 : a15.IsWhole) (a16 : Memref sig .tc .vmem S512x128 .f32) (h16 : a16.IsWhole) (a17 : Memref sig .tc .vmem S128x128 .f32) (h17 : a17.IsWhole)  (v32 : FVec F S128x1024 .f32) (v54 : FVec F S128x128 .f32) (v62 : IVec S128x128 1) (v78 : FVec F S128x128 .f32) (v79 : FVec F S128x128 .f32) (v82 : IVec S128x128 1) (v274 : FVec F S128x128 .bf16) (v275 : FVec F S128x128 .f32)
    (x16 : Vec F S512x128 .f32) (E : Set ℕ) (K : _ → sProp 𝕄) :
    iprop(owns (c : Thread nD τ) a16 fullShare x16 ∗ ((owns (c : Thread nD τ) a16 fullShare x16) -∗ K ⟨k0_pay51 v275, k0_pay52 v274 v275, k0_pay53 v32, k0_pay54 v78, k0_pay55 v78, k0_pay56 v32 v54 v82, k0_pay57 v32 v54 v62 v78 v79 v82 v274 v275, (VecWindow.window (s := S512x128) x16 ![256, 0] S128x128.size inb_S512x128_S128x128_256_0), k0_pay58 v275 (VecWindow.window (s := S512x128) x16 ![256, 0] S128x128.size inb_S512x128_S128x128_256_0), k0_pay59 v78 v82⟩))
    ⊢ wp frame (wpE (defs₀ (F := F)) Variants.none c none) E (k0_part7 i a2 h2 a3 h3 a4 h4 a5 h5 a6 h6 a7 h7 a8 h8 a9 h9 a10 h10 a11 h11 a12 h12 a13 h13 a14 h14 a15 h15 a16 h16 a17 h17 v32 v54 v62 v78 v79 v82 v274 v275) K := by
  rw [k0_part7_eq_skeleton]; unfold k0_part7_skel
  unfold owns
  iintro ⟨⟨%f16, %hf16, H16⟩, Hk⟩
  obtain rfl := h16.eq_unread hf16
  sl_exec

  sl_step
  simp only [readAt_win, Memref.IsWhole.read_unread]

  iapply Hk
  iexists _
  isplitr
  swap
  · iexact H16
  · ipureintro
    exact h16.read_unread _

set_option maxHeartbeats 4000000 in
/-- What the body's part 8 does: its loads, its stores and the values it hands on. -/
theorem part8_run (c : Dev nD) (i : grid0.Coords) (a2 : Memref sig .tc .vmem S128x512 .f32) (h2 : a2.IsWhole) (a3 : Memref sig .tc .vmem S128x1024 .f32) (h3 : a3.IsWhole) (a4 : Memref sig .tc .vmem S128x128 .f32) (h4 : a4.IsWhole) (a5 : Memref sig .tc .vmem S1x3x1024 .f32) (h5 : a5.IsWhole) (a6 : Memref sig .tc .vmem S1x8x64x128 .f32) (h6 : a6.IsWhole) (a7 : Memref sig .tc .vmem S4x1024 .f32) (h7 : a7.IsWhole) (a8 : Memref sig .tc .vmem S1x1024 .f32) (h8 : a8.IsWhole) (a9 : Memref sig .tc .vmem S1x128 .f32) (h9 : a9.IsWhole) (a10 : Memref sig .tc .vmem S1x128 .f32) (h10 : a10.IsWhole) (a11 : Memref sig .tc .vmem S1x512 .f32) (h11 : a11.IsWhole) (a12 : Memref sig .tc .vmem S128x512 .f32) (h12 : a12.IsWhole) (a13 : Memref sig .tc .vmem S1x3x1024 .f32) (h13 : a13.IsWhole) (a14 : Memref sig .tc .vmem S1x8x64x128 .f32) (h14 : a14.IsWhole) (a15 : Memref sig .tc .vmem S136x1024 .f32) (h15 : a15.IsWhole) (a16 : Memref sig .tc .vmem S512x128 .f32) (h16 : a16.IsWhole) (a17 : Memref sig .tc .vmem S128x128 .f32) (h17 : a17.IsWhole)  (v32 : FVec F S128x1024 .f32) (v54 : FVec F S128x128 .f32) (v78 : FVec F S128x128 .f32) (v80 : FVec F S1x128 .f32) (v82 : IVec S128x128 1) (v84 : IVec S128x128 1) (v85 : Vec F S128x512 .f32) (v87 : FVec F S1x512 .f32) (v274 : FVec F S128x128 .bf16) (v278 : FVec F S128x128 .f32) (v279 : FVec F S128x1 .f32) (v280 : FVec F S128x1 .f32) (v288 : FVec F S128x128 .f32) (v315 : FVec F S128x128 .f32) (v316 : Vec F S128x128 .f32) (v318 : FVec F S128x128 .f32) (v325 : FVec F S128x128 .f32)
    (x12 : Vec F S128x512 .f32) (x16 : Vec F S512x128 .f32) (E : Set ℕ) (K : _ → sProp 𝕄) :
    iprop(owns (c : Thread nD τ) a12 fullShare x12 ∗ owns (c : Thread nD τ) a16 fullShare x16 ∗ ((owns (c : Thread nD τ) a12 fullShare (VecWindow.put (s := S128x512) x12 ![0, 256] S128x128.size (k0_pay61 v85 v87 v278 v315 v318 v325)) ∗ owns (c : Thread nD τ) a16 fullShare (VecWindow.put (s := S512x128) x16 ![256, 0] S128x128.size (k0_pay60 v80 v82 v84 v274 v279 v280 v288 v316))) -∗ K ⟨k0_pay62 v32, k0_pay63 v78, k0_pay64 v78, k0_pay65 v32 v54 v82⟩))
    ⊢ wp frame (wpE (defs₀ (F := F)) Variants.none c none) E (k0_part8 i a2 h2 a3 h3 a4 h4 a5 h5 a6 h6 a7 h7 a8 h8 a9 h9 a10 h10 a11 h11 a12 h12 a13 h13 a14 h14 a15 h15 a16 h16 a17 h17 v32 v54 v78 v80 v82 v84 v85 v87 v274 v278 v279 v280 v288 v315 v316 v318 v325) K := by
  rw [k0_part8_eq_skeleton]; unfold k0_part8_skel
  unfold owns
  iintro ⟨⟨%f12, %hf12, H12⟩, ⟨%f16, %hf16, H16⟩, Hk⟩
  obtain rfl := h12.eq_unread hf12; obtain rfl := h16.eq_unread hf16
  sl_exec

  sl_step
  simp only [readAt_win, Memref.IsWhole.read_unread]

  iapply Hk
  isplitl [H12]
  · iexists _
    isplitr
    swap
    · iexact H12
    · ipureintro
      simp only [read_put, put_S1x3x1024, put_S512x128, put_S1x8x64x128, View.writes_nil, Memref.IsWhole.read_unread, ext1]
  iexists _
  isplitr
  swap
  · iexact H16
  · ipureintro
    simp only [read_put, put_S1x3x1024, put_S512x128, put_S1x8x64x128, View.writes_nil, Memref.IsWhole.read_unread, ext1]

set_option maxHeartbeats 4000000 in
/-- What the body's part 9 does: its loads, its stores and the values it hands on. -/
theorem part9_run (c : Dev nD) (i : grid0.Coords) (a2 : Memref sig .tc .vmem S128x512 .f32) (h2 : a2.IsWhole) (a3 : Memref sig .tc .vmem S128x1024 .f32) (h3 : a3.IsWhole) (a4 : Memref sig .tc .vmem S128x128 .f32) (h4 : a4.IsWhole) (a5 : Memref sig .tc .vmem S1x3x1024 .f32) (h5 : a5.IsWhole) (a6 : Memref sig .tc .vmem S1x8x64x128 .f32) (h6 : a6.IsWhole) (a7 : Memref sig .tc .vmem S4x1024 .f32) (h7 : a7.IsWhole) (a8 : Memref sig .tc .vmem S1x1024 .f32) (h8 : a8.IsWhole) (a9 : Memref sig .tc .vmem S1x128 .f32) (h9 : a9.IsWhole) (a10 : Memref sig .tc .vmem S1x128 .f32) (h10 : a10.IsWhole) (a11 : Memref sig .tc .vmem S1x512 .f32) (h11 : a11.IsWhole) (a12 : Memref sig .tc .vmem S128x512 .f32) (h12 : a12.IsWhole) (a13 : Memref sig .tc .vmem S1x3x1024 .f32) (h13 : a13.IsWhole) (a14 : Memref sig .tc .vmem S1x8x64x128 .f32) (h14 : a14.IsWhole) (a15 : Memref sig .tc .vmem S136x1024 .f32) (h15 : a15.IsWhole) (a16 : Memref sig .tc .vmem S512x128 .f32) (h16 : a16.IsWhole) (a17 : Memref sig .tc .vmem S128x128 .f32) (h17 : a17.IsWhole)  (v62 : IVec S128x128 1) (v79 : FVec F S128x128 .f32) (v80 : FVec F S1x128 .f32) (v82 : IVec S128x128 1) (v276 : FVec F S128x128 .bf16) (v277 : FVec F S128x128 .f32) (v369 : FVec F S128x1 .f32) (v370 : FVec F S128x1 .f32) (v378 : FVec F S128x128 .f32)
    (x16 : Vec F S512x128 .f32) (E : Set ℕ) (K : _ → sProp 𝕄) :
    iprop(owns (c : Thread nD τ) a16 fullShare x16 ∗ ((owns (c : Thread nD τ) a16 fullShare x16) -∗ K ⟨k0_pay66 v62 v79 v82 v277 v369 v370 v378, (VecWindow.window (s := S512x128) x16 ![384, 0] S128x128.size inb_S512x128_S128x128_384_0), k0_pay67 v82 v276 v369 v370 (VecWindow.window (s := S512x128) x16 ![384, 0] S128x128.size inb_S512x128_S128x128_384_0), k0_pay68 v80 v82 v369 v370⟩))
    ⊢ wp frame (wpE (defs₀ (F := F)) Variants.none c none) E (k0_part9 i a2 h2 a3 h3 a4 h4 a5 h5 a6 h6 a7 h7 a8 h8 a9 h9 a10 h10 a11 h11 a12 h12 a13 h13 a14 h14 a15 h15 a16 h16 a17 h17 v62 v79 v80 v82 v276 v277 v369 v370 v378) K := by
  rw [k0_part9_eq_skeleton]; unfold k0_part9_skel
  unfold owns
  iintro ⟨⟨%f16, %hf16, H16⟩, Hk⟩
  obtain rfl := h16.eq_unread hf16
  sl_exec

  sl_step
  simp only [readAt_win, Memref.IsWhole.read_unread]

  iapply Hk
  iexists _
  isplitr
  swap
  · iexact H16
  · ipureintro
    exact h16.read_unread _

/-- The value `v54` of the body. -/
def w54 (x4 : Vec F S128x128 .f32) (x9 : Vec F S1x128 .f32) : FVec F S128x128 .f32 :=
  k0_pay10 (VecWindow.window (s := S128x128) x4 ![0, 0] S128x128.size inb_S128x128_S128x128_0_0) (VecWindow.window (s := S1x128) x9 ![0, 0] S1x128.size inb_S1x128_S1x128_0_0)

/-- The value `v62` of the body. -/
def w62  : IVec S128x128 1 :=
  k0_pay12

/-- The value `v66` of the body. -/
def w66  : FVec F S128x128 .bf16 :=
  k0_pay13 (F := F)

/-- The value `v73` of the body. -/
def w73 (x4 : Vec F S128x128 .f32) (x9 : Vec F S1x128 .f32) (x10 : Vec F S1x128 .f32) : FVec F S128x128 .bf16 :=
  k0_pay17 (VecWindow.window (s := S128x128) x4 ![0, 0] S128x128.size inb_S128x128_S128x128_0_0) (VecWindow.window (s := S1x128) x9 ![0, 0] S1x128.size inb_S1x128_S1x128_0_0) (VecWindow.window (s := S1x128) x10 ![0, 0] S1x128.size inb_S1x128_S1x128_0_0)

/-- The value `v74` of the body. -/
def w74 (x4 : Vec F S128x128 .f32) (x9 : Vec F S1x128 .f32) (x10 : Vec F S1x128 .f32) : FVec F S128x128 .f32 :=
  k0_pay18 (VecWindow.window (s := S128x128) x4 ![0, 0] S128x128.size inb_S128x128_S128x128_0_0) (VecWindow.window (s := S1x128) x9 ![0, 0] S1x128.size inb_S1x128_S1x128_0_0) (VecWindow.window (s := S1x128) x10 ![0, 0] S1x128.size inb_S1x128_S1x128_0_0)

/-- The value `v75` of the body. -/
def w75 (x4 : Vec F S128x128 .f32) (x9 : Vec F S1x128 .f32) (x10 : Vec F S1x128 .f32) : FVec F S128x128 .f32 :=
  k0_pay19 (VecWindow.window (s := S128x128) x4 ![0, 0] S128x128.size inb_S128x128_S128x128_0_0) (VecWindow.window (s := S1x128) x9 ![0, 0] S1x128.size inb_S1x128_S1x128_0_0) (VecWindow.window (s := S1x128) x10 ![0, 0] S1x128.size inb_S1x128_S1x128_0_0)

/-- The value `v78` of the body. -/
def w78 (x4 : Vec F S128x128 .f32) (x9 : Vec F S1x128 .f32) (x10 : Vec F S1x128 .f32) : FVec F S128x128 .f32 :=
  k0_pay20 (w66 ) (w73 x4 x9 x10) (w74 x4 x9 x10) (w75 x4 x9 x10)

/-- The value `v79` of the body. -/
def w79 (x4 : Vec F S128x128 .f32) (x9 : Vec F S1x128 .f32) (x10 : Vec F S1x128 .f32) : FVec F S128x128 .f32 :=
  k0_pay21 (w66 ) (w73 x4 x9 x10) (w74 x4 x9 x10) (w75 x4 x9 x10)

/-- The value `v80` of the body. -/
def w80 (x4 : Vec F S128x128 .f32) (x9 : Vec F S1x128 .f32) (x10 : Vec F S1x128 .f32) : FVec F S1x128 .f32 :=
  k0_pay22 (w66 ) (w73 x4 x9 x10) (w74 x4 x9 x10) (w75 x4 x9 x10)

/-- The value `v82` of the body. -/
def w82  : IVec S128x128 1 :=
  k0_pay23 (iota .tc S128x128 32 [1] iota_S128x128_d1_w32)

/-- The value `v84` of the body. -/
def w84  : IVec S128x128 1 :=
  k0_pay24 (iota .tc S128x128 32 [0] iota_S128x128_d0_w32)

/-- The value `v85` of the body. -/
def w85 (x2 : Vec F S128x512 .f32) : Vec F S128x512 .f32 :=
  (VecWindow.window (s := S128x512) x2 ![0, 0] S128x512.size inb_S128x512_S128x512_0_0)

/-- The value `v87` of the body. -/
def w87 (x11 : Vec F S1x512 .f32) : FVec F S1x512 .f32 :=
  k0_pay25 (VecWindow.window (s := S1x512) x11 ![0, 0] S1x512.size inb_S1x512_S1x512_0_0)

/-- The value `v89` of the body. -/
def w89 (u : FVec F S128x1024 .f32) : FVec F S128x128 .bf16 :=
  k0_pay26 u

/-- The value `v91` of the body. -/
def w91 (u : FVec F S128x1024 .f32) : FVec F S128x128 .bf16 :=
  k0_pay27 u

/-- The value `v92` of the body. -/
def w92 (u : FVec F S128x1024 .f32) : FVec F S128x128 .f32 :=
  k0_pay28 u

/-- The value `v93` of the body. -/
def w93 (u : FVec F S128x1024 .f32) : FVec F S128x128 .f32 :=
  k0_pay29 u

/-- The value `v94` of the body. -/
def w94 (x4 : Vec F S128x128 .f32) (x9 : Vec F S1x128 .f32) (x10 : Vec F S1x128 .f32) : FVec F S128x1 .f32 :=
  k0_pay30 (w66 ) (w73 x4 x9 x10) (w74 x4 x9 x10) (w75 x4 x9 x10)

/-- The value `v95` of the body. -/
def w95 (x4 : Vec F S128x128 .f32) (x9 : Vec F S1x128 .f32) (x10 : Vec F S1x128 .f32) : FVec F S128x1 .f32 :=
  k0_pay31 (w66 ) (w73 x4 x9 x10) (w74 x4 x9 x10) (w75 x4 x9 x10)

/-- The value `v103` of the body. -/
def w103 (u : FVec F S128x1024 .f32) (x4 : Vec F S128x128 .f32) (x9 : Vec F S1x128 .f32) : FVec F S128x128 .f32 :=
  k0_pay32 u (iota .tc S128x128 32 [1] iota_S128x128_d1_w32) (w54 x4 x9)

/-- The value `v110` of the body. -/
def w110 (x4 : Vec F S128x128 .f32) (x9 : Vec F S1x128 .f32) (x10 : Vec F S1x128 .f32) : FVec F S128x128 .f32 :=
  k0_pay33 (w62 ) (w66 ) (w73 x4 x9 x10) (w74 x4 x9 x10) (w75 x4 x9 x10)

/-- The value `v117` of the body. -/
def w117 (x4 : Vec F S128x128 .f32) (x9 : Vec F S1x128 .f32) (x10 : Vec F S1x128 .f32) : FVec F S128x128 .f32 :=
  k0_pay34 (w62 ) (w66 ) (w73 x4 x9 x10) (w74 x4 x9 x10) (w75 x4 x9 x10)

/-- The value `v120` of the body. -/
def w120 (u : FVec F S128x1024 .f32) (x4 : Vec F S128x128 .f32) (x9 : Vec F S1x128 .f32) : FVec F S128x128 .bf16 :=
  k0_pay35 u (iota .tc S128x128 32 [1] iota_S128x128_d1_w32) (w54 x4 x9)

/-- The value `v123` of the body. -/
def w123 (u : FVec F S128x1024 .f32) (x4 : Vec F S128x128 .f32) (x9 : Vec F S1x128 .f32) : FVec F S128x128 .bf16 :=
  k0_pay36 u (iota .tc S128x128 32 [1] iota_S128x128_d1_w32) (w54 x4 x9)

/-- The value `v173` of the body. -/
def w173 (u : FVec F S128x1024 .f32) (x4 : Vec F S128x128 .f32) (x9 : Vec F S1x128 .f32) (x10 : Vec F S1x128 .f32) (s : Vec F S512x128 .f32) : FVec F S128x128 .f32 :=
  k0_pay38 (w82 ) (w91 u) (w92 u) (w94 x4 x9 x10) (w95 x4 x9 x10) (w110 x4 x9 x10) (w117 x4 x9 x10) (w120 u x4 x9) (w123 u x4 x9) (VecWindow.window (s := S512x128) s ![0, 0] S128x128.size inb_S512x128_S128x128_0_0)

/-- The value `v174` of the body. -/
def w174 (x11 : Vec F S1x512 .f32) : FVec F S1x128 .f32 :=
  k0_pay39 (w87 x11)

/-- The buffer after the part's store. -/
def stAfter4 (u : FVec F S128x1024 .f32) (x4 : Vec F S128x128 .f32) (x9 : Vec F S1x128 .f32) (x10 : Vec F S1x128 .f32) (s : Vec F S512x128 .f32) : Vec F S512x128 .f32 :=
  VecWindow.put (s := S512x128) s ![0, 0] S128x128.size (k0_pay37 (w80 x4 x9 x10) (w82 ) (w84 ) (w89 u) (w94 x4 x9 x10) (w95 x4 x9 x10) (w103 u x4 x9) (VecWindow.window (s := S512x128) s ![0, 0] S128x128.size inb_S512x128_S128x128_0_0))

/-- The value `v183` of the body. -/
def w183 (u : FVec F S128x1024 .f32) : FVec F S128x128 .f32 :=
  k0_pay41 u

/-- The value `v184` of the body. -/
def w184 (x4 : Vec F S128x128 .f32) (x9 : Vec F S1x128 .f32) (x10 : Vec F S1x128 .f32) : FVec F S128x1 .f32 :=
  k0_pay42 (w78 x4 x9 x10)

/-- The value `v185` of the body. -/
def w185 (x4 : Vec F S128x128 .f32) (x9 : Vec F S1x128 .f32) (x10 : Vec F S1x128 .f32) : FVec F S128x1 .f32 :=
  k0_pay43 (w78 x4 x9 x10)

/-- The value `v193` of the body. -/
def w193 (u : FVec F S128x1024 .f32) (x4 : Vec F S128x128 .f32) (x9 : Vec F S1x128 .f32) : FVec F S128x128 .f32 :=
  k0_pay44 u (w54 x4 x9) (w82 )

/-- The value `v220` of the body. -/
def w220 (u : FVec F S128x1024 .f32) (x4 : Vec F S128x128 .f32) (x9 : Vec F S1x128 .f32) (x10 : Vec F S1x128 .f32) : FVec F S128x128 .f32 :=
  k0_pay45 u (w54 x4 x9) (w62 ) (w78 x4 x9 x10) (w79 x4 x9 x10) (w82 ) (w92 u)

/-- The value `v221` of the body. -/
def w221 (u : FVec F S128x1024 .f32) (x4 : Vec F S128x128 .f32) (x9 : Vec F S1x128 .f32) (x10 : Vec F S1x128 .f32) (s : Vec F S512x128 .f32) : Vec F S128x128 .f32 :=
  (VecWindow.window (s := S512x128) ((stAfter4 u x4 x9 x10 s)) ![128, 0] S128x128.size inb_S512x128_S128x128_128_0)

/-- The value `v222` of the body. -/
def w222 (u : FVec F S128x1024 .f32) (x4 : Vec F S128x128 .f32) (x9 : Vec F S1x128 .f32) (x10 : Vec F S1x128 .f32) (s : Vec F S512x128 .f32) : FVec F S128x128 .bf16 :=
  k0_pay46 (VecWindow.window (s := S512x128) ((stAfter4 u x4 x9 x10 s)) ![128, 0] S128x128.size inb_S512x128_S128x128_128_0)

/-- The buffer after the part's store. -/
def yAfter5 (u : FVec F S128x1024 .f32) (x2 : Vec F S128x512 .f32) (x4 : Vec F S128x128 .f32) (x9 : Vec F S1x128 .f32) (x10 : Vec F S1x128 .f32) (x11 : Vec F S1x512 .f32) (s : Vec F S512x128 .f32) (y : Vec F S128x512 .f32) : Vec F S128x512 .f32 :=
  VecWindow.put (s := S128x512) y ![0, 0] S128x128.size (k0_pay40 (w85 x2) (w93 u) (w173 u x4 x9 x10 s) (w174 x11))

/-- The value `v274` of the body. -/
def w274 (u : FVec F S128x1024 .f32) : FVec F S128x128 .bf16 :=
  k0_pay49 u

/-- The value `v275` of the body. -/
def w275 (u : FVec F S128x1024 .f32) : FVec F S128x128 .f32 :=
  k0_pay50 u

/-- The buffer after the part's store. -/
def yAfter6 (u : FVec F S128x1024 .f32) (x2 : Vec F S128x512 .f32) (x4 : Vec F S128x128 .f32) (x9 : Vec F S1x128 .f32) (x10 : Vec F S1x128 .f32) (x11 : Vec F S1x512 .f32) (s : Vec F S512x128 .f32) (y : Vec F S128x512 .f32) : Vec F S128x512 .f32 :=
  VecWindow.put (s := S128x512) ((yAfter5 u x2 x4 x9 x10 x11 s y)) ![0, 128] S128x128.size (k0_pay48 (w82 ) (w85 x2) (w87 x11) (w91 u) (w183 u) (w184 x4 x9 x10) (w185 x4 x9 x10) (w220 u x4 x9 x10) (w222 u x4 x9 x10 s) (constant S128x128 .f32 0x00000000#32))

/-- The buffer after the part's store. -/
def stAfter6 (u : FVec F S128x1024 .f32) (x4 : Vec F S128x128 .f32) (x9 : Vec F S1x128 .f32) (x10 : Vec F S1x128 .f32) (s : Vec F S512x128 .f32) : Vec F S512x128 .f32 :=
  VecWindow.put (s := S512x128) ((stAfter4 u x4 x9 x10 s)) ![128, 0] S128x128.size (k0_pay47 (w80 x4 x9 x10) (w82 ) (w84 ) (w89 u) (w184 x4 x9 x10) (w185 x4 x9 x10) (w193 u x4 x9) (w221 u x4 x9 x10 s))

/-- The value `v276` of the body. -/
def w276 (u : FVec F S128x1024 .f32) : FVec F S128x128 .bf16 :=
  k0_pay51 (w275 u)

/-- The value `v277` of the body. -/
def w277 (u : FVec F S128x1024 .f32) : FVec F S128x128 .f32 :=
  k0_pay52 (w274 u) (w275 u)

/-- The value `v278` of the body. -/
def w278 (u : FVec F S128x1024 .f32) : FVec F S128x128 .f32 :=
  k0_pay53 u

/-- The value `v279` of the body. -/
def w279 (x4 : Vec F S128x128 .f32) (x9 : Vec F S1x128 .f32) (x10 : Vec F S1x128 .f32) : FVec F S128x1 .f32 :=
  k0_pay54 (w78 x4 x9 x10)

/-- The value `v280` of the body. -/
def w280 (x4 : Vec F S128x128 .f32) (x9 : Vec F S1x128 .f32) (x10 : Vec F S1x128 .f32) : FVec F S128x1 .f32 :=
  k0_pay55 (w78 x4 x9 x10)

/-- The value `v288` of the body. -/
def w288 (u : FVec F S128x1024 .f32) (x4 : Vec F S128x128 .f32) (x9 : Vec F S1x128 .f32) : FVec F S128x128 .f32 :=
  k0_pay56 u (w54 x4 x9) (w82 )

/-- The value `v315` of the body. -/
def w315 (u : FVec F S128x1024 .f32) (x4 : Vec F S128x128 .f32) (x9 : Vec F S1x128 .f32) (x10 : Vec F S1x128 .f32) : FVec F S128x128 .f32 :=
  k0_pay57 u (w54 x4 x9) (w62 ) (w78 x4 x9 x10) (w79 x4 x9 x10) (w82 ) (w274 u) (w275 u)

/-- The value `v316` of the body. -/
def w316 (u : FVec F S128x1024 .f32) (x4 : Vec F S128x128 .f32) (x9 : Vec F S1x128 .f32) (x10 : Vec F S1x128 .f32) (s : Vec F S512x128 .f32) : Vec F S128x128 .f32 :=
  (VecWindow.window (s := S512x128) ((stAfter6 u x4 x9 x10 s)) ![256, 0] S128x128.size inb_S512x128_S128x128_256_0)

/-- The value `v318` of the body. -/
def w318 (u : FVec F S128x1024 .f32) (x4 : Vec F S128x128 .f32) (x9 : Vec F S1x128 .f32) (x10 : Vec F S1x128 .f32) (s : Vec F S512x128 .f32) : FVec F S128x128 .f32 :=
  k0_pay58 (w275 u) (VecWindow.window (s := S512x128) ((stAfter6 u x4 x9 x10 s)) ![256, 0] S128x128.size inb_S512x128_S128x128_256_0)

/-- The value `v325` of the body. -/
def w325 (x4 : Vec F S128x128 .f32) (x9 : Vec F S1x128 .f32) (x10 : Vec F S1x128 .f32) : FVec F S128x128 .f32 :=
  k0_pay59 (w78 x4 x9 x10) (w82 )

/-- The value `v368` of the body. -/
def w368 (u : FVec F S128x1024 .f32) : FVec F S128x128 .f32 :=
  k0_pay62 u

/-- The value `v369` of the body. -/
def w369 (x4 : Vec F S128x128 .f32) (x9 : Vec F S1x128 .f32) (x10 : Vec F S1x128 .f32) : FVec F S128x1 .f32 :=
  k0_pay63 (w78 x4 x9 x10)

/-- The value `v370` of the body. -/
def w370 (x4 : Vec F S128x128 .f32) (x9 : Vec F S1x128 .f32) (x10 : Vec F S1x128 .f32) : FVec F S128x1 .f32 :=
  k0_pay64 (w78 x4 x9 x10)

/-- The value `v378` of the body. -/
def w378 (u : FVec F S128x1024 .f32) (x4 : Vec F S128x128 .f32) (x9 : Vec F S1x128 .f32) : FVec F S128x128 .f32 :=
  k0_pay65 u (w54 x4 x9) (w82 )

/-- The buffer after the part's store. -/
def yAfter8 (u : FVec F S128x1024 .f32) (x2 : Vec F S128x512 .f32) (x4 : Vec F S128x128 .f32) (x9 : Vec F S1x128 .f32) (x10 : Vec F S1x128 .f32) (x11 : Vec F S1x512 .f32) (s : Vec F S512x128 .f32) (y : Vec F S128x512 .f32) : Vec F S128x512 .f32 :=
  VecWindow.put (s := S128x512) ((yAfter6 u x2 x4 x9 x10 x11 s y)) ![0, 256] S128x128.size (k0_pay61 (w85 x2) (w87 x11) (w278 u) (w315 u x4 x9 x10) (w318 u x4 x9 x10 s) (w325 x4 x9 x10))

/-- The buffer after the part's store. -/
def stAfter8 (u : FVec F S128x1024 .f32) (x4 : Vec F S128x128 .f32) (x9 : Vec F S1x128 .f32) (x10 : Vec F S1x128 .f32) (s : Vec F S512x128 .f32) : Vec F S512x128 .f32 :=
  VecWindow.put (s := S512x128) ((stAfter6 u x4 x9 x10 s)) ![256, 0] S128x128.size (k0_pay60 (w80 x4 x9 x10) (w82 ) (w84 ) (w274 u) (w279 x4 x9 x10) (w280 x4 x9 x10) (w288 u x4 x9) (w316 u x4 x9 x10 s))

/-- The value `v405` of the body. -/
def w405 (u : FVec F S128x1024 .f32) (x4 : Vec F S128x128 .f32) (x9 : Vec F S1x128 .f32) (x10 : Vec F S1x128 .f32) : FVec F S128x128 .f32 :=
  k0_pay66 (w62 ) (w79 x4 x9 x10) (w82 ) (w277 u) (w369 x4 x9 x10) (w370 x4 x9 x10) (w378 u x4 x9)

/-- The value `v406` of the body. -/
def w406 (u : FVec F S128x1024 .f32) (x4 : Vec F S128x128 .f32) (x9 : Vec F S1x128 .f32) (x10 : Vec F S1x128 .f32) (s : Vec F S512x128 .f32) : Vec F S128x128 .f32 :=
  (VecWindow.window (s := S512x128) ((stAfter8 u x4 x9 x10 s)) ![384, 0] S128x128.size inb_S512x128_S128x128_384_0)

/-- The value `v416` of the body. -/
def w416 (u : FVec F S128x1024 .f32) (x4 : Vec F S128x128 .f32) (x9 : Vec F S1x128 .f32) (x10 : Vec F S1x128 .f32) (s : Vec F S512x128 .f32) : FVec F S128x128 .f32 :=
  k0_pay67 (w82 ) (w276 u) (w369 x4 x9 x10) (w370 x4 x9 x10) (VecWindow.window (s := S512x128) ((stAfter8 u x4 x9 x10 s)) ![384, 0] S128x128.size inb_S512x128_S128x128_384_0)

/-- The value `v429` of the body. -/
def w429 (x4 : Vec F S128x128 .f32) (x9 : Vec F S1x128 .f32) (x10 : Vec F S1x128 .f32) : FVec F S128x128 .f32 :=
  k0_pay68 (w80 x4 x9 x10) (w82 ) (w369 x4 x9 x10) (w370 x4 x9 x10)

/-- The buffer after the body's last store. -/
def stOut (u : FVec F S128x1024 .f32) (x4 : Vec F S128x128 .f32) (x9 : Vec F S1x128 .f32) (x10 : Vec F S1x128 .f32) (s : Vec F S512x128 .f32) : Vec F S512x128 .f32 :=
  VecWindow.put (s := S512x128) ((stAfter8 u x4 x9 x10 s)) ![384, 0] S128x128.size (k0_pay1 (w80 x4 x9 x10) (w84 ) (w274 u) (w378 u x4 x9) (w406 u x4 x9 x10 s) (w429 x4 x9 x10))

/-- The buffer after the body's last store. -/
def yPut (u : FVec F S128x1024 .f32) (x2 : Vec F S128x512 .f32) (x4 : Vec F S128x128 .f32) (x9 : Vec F S1x128 .f32) (x10 : Vec F S1x128 .f32) (x11 : Vec F S1x512 .f32) (s : Vec F S512x128 .f32) (y : Vec F S128x512 .f32) : Vec F S128x512 .f32 :=
  VecWindow.put (s := S128x512) ((yAfter8 u x2 x4 x9 x10 x11 s y)) ![0, 384] S128x128.size (k0_pay2 (w85 x2) (w87 x11) (w368 u) (w405 u x4 x9 x10) (w416 u x4 x9 x10 s))

end Cert.KernelIdeal.Hand
end
-- ==== Proof.SsdRun.lean ====
module

public import proofs.«01_k».proof.Proof.Gen.KernelIdeal.Frame
public import proofs.«01_k».proof.Proof.Gen.KernelIdeal.Skeleton
public import proofs.«01_k».proof.Proof.SsdParts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole body at a middle chunk of a sequence: what every buffer holds after it. -/
theorem run_mid (c : Dev nD) (i : grid0.Coords) (a2 : Memref sig .tc .vmem S128x512 .f32) (h2 : a2.IsWhole) (a3 : Memref sig .tc .vmem S128x1024 .f32) (h3 : a3.IsWhole) (a4 : Memref sig .tc .vmem S128x128 .f32) (h4 : a4.IsWhole) (a5 : Memref sig .tc .vmem S1x3x1024 .f32) (h5 : a5.IsWhole) (a6 : Memref sig .tc .vmem S1x8x64x128 .f32) (h6 : a6.IsWhole) (a7 : Memref sig .tc .vmem S4x1024 .f32) (h7 : a7.IsWhole) (a8 : Memref sig .tc .vmem S1x1024 .f32) (h8 : a8.IsWhole) (a9 : Memref sig .tc .vmem S1x128 .f32) (h9 : a9.IsWhole) (a10 : Memref sig .tc .vmem S1x128 .f32) (h10 : a10.IsWhole) (a11 : Memref sig .tc .vmem S1x512 .f32) (h11 : a11.IsWhole) (a12 : Memref sig .tc .vmem S128x512 .f32) (h12 : a12.IsWhole) (a13 : Memref sig .tc .vmem S1x3x1024 .f32) (h13 : a13.IsWhole) (a14 : Memref sig .tc .vmem S1x8x64x128 .f32) (h14 : a14.IsWhole) (a15 : Memref sig .tc .vmem S136x1024 .f32) (h15 : a15.IsWhole) (a16 : Memref sig .tc .vmem S512x128 .f32) (h16 : a16.IsWhole) (a17 : Memref sig .tc .vmem S128x128 .f32) (h17 : a17.IsWhole) (hf : ¬ isFirst i) (hl : ¬ isLast i)
    (x2 : Vec F S128x512 .f32) (x3 : Vec F S128x1024 .f32) (x4 : Vec F S128x128 .f32) (x5 : Vec F S1x3x1024 .f32) (x6 : Vec F S1x8x64x128 .f32) (x7 : Vec F S4x1024 .f32) (x8 : Vec F S1x1024 .f32) (x9 : Vec F S1x128 .f32) (x10 : Vec F S1x128 .f32) (x11 : Vec F S1x512 .f32) (x12 : Vec F S128x512 .f32) (x13 : Vec F S1x3x1024 .f32) (x14 : Vec F S1x8x64x128 .f32) (x15 : Vec F S136x1024 .f32) (x16 : Vec F S512x128 .f32) (E : Set ℕ) (K : _ → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ ((owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare (yPut (convOf (ext1 x15 x3) x3 x7 x8) x2 x4 x9 x10 x11 x16 x12) ∗ owns (c : Thread nD τ) a13 fullShare (k0_pay9 (lastRows x3)) ∗ owns (c : Thread nD τ) a14 fullShare x14 ∗ owns (c : Thread nD τ) a15 fullShare (VecWindow.put (s := S136x1024) (ext1 x15 x3) ![5, 0] S3x1024.size (k0_pay8 (lastRows x3))) ∗ owns (c : Thread nD τ) a16 fullShare (stOut (convOf (ext1 x15 x3) x3 x7 x8) x4 x9 x10 x16)) -∗ K ⟨⟩))
    ⊢ wp frame (wpE (defs₀ (F := F)) Variants.none c none) E (cc0_ssd i a2 h2 a3 h3 a4 h4 a5 h5 a6 h6 a7 h7 a8 h8 a9 h9 a10 h10 a11 h11 a12 h12 a13 h13 a14 h14 a15 h15 a16 h16 a17 h17) K := by
  rw [cc0_ssd_eq_skeleton]; unfold cc0_ssd_skel
  unfold yPut stOut w429 w416 w406 w405 stAfter8 yAfter8 w378 w370 w369 w368 w325 w318 w316 w315 w288 w280 w279 w278 w277 w276 stAfter6 yAfter6 w275 w274 yAfter5 w222 w221 w220 w193 w185 w184 w183 stAfter4 w174 w173 w123 w120 w117 w110 w103 w95 w94 w93 w92 w91 w89 w87 w85 w84 w82 w80 w79 w78 w75 w74 w73 w66 w62 w54
  iintro ⟨H2, H3, H4, H5, H6, H7, H8, H9, H10, H11, H12, H13, H14, H15, H16, Hk⟩
  rw [wp_bind]
  iapply (part1_next (hf := hf))
  isplitl [H3]; · iexact H3
  isplitl [H7]; · iexact H7
  isplitl [H8]; · iexact H8
  isplitl [H15]; · iexact H15
  iintro ⟨H3, H7, H8, H15⟩
  dsimp only
  rw [wp_bind]
  iapply (part2_run)
  isplitl [H4]; · iexact H4
  isplitl [H9]; · iexact H9
  isplitl [H10]; · iexact H10
  isplitl [H13]; · iexact H13
  isplitl [H15]; · iexact H15
  iintro ⟨H4, H9, H10, H13, H15⟩
  dsimp only
  rw [wp_bind]
  iapply (part3_run)
  isplitl [H2]; · iexact H2
  isplitl [H11]; · iexact H11
  iintro ⟨H2, H11⟩
  dsimp only
  rw [wp_bind]
  iapply (part4_run)
  isplitl [H16]; · iexact H16
  iintro ⟨H16⟩
  dsimp only
  rw [wp_bind]
  iapply (part5_run)
  isplitl [H12]; · iexact H12
  isplitl [H16]; · iexact H16
  iintro ⟨H12, H16⟩
  dsimp only
  rw [wp_bind]
  iapply (part6_run)
  isplitl [H12]; · iexact H12
  isplitl [H16]; · iexact H16
  iintro ⟨H12, H16⟩
  dsimp only
  rw [wp_bind]
  iapply (part7_run)
  isplitl [H16]; · iexact H16
  iintro ⟨H16⟩
  dsimp only
  rw [wp_bind]
  iapply (part8_run)
  isplitl [H12]; · iexact H12
  isplitl [H16]; · iexact H16
  iintro ⟨H12, H16⟩
  dsimp only
  rw [wp_bind]
  iapply (part9_run)
  isplitl [H16]; · iexact H16
  iintro ⟨H16⟩
  dsimp only
  unfold owns
  icases H12 with ⟨%f12, %hf12, H12⟩
  obtain rfl := h12.eq_unread hf12
  icases H16 with ⟨%f16, %hf16, H16⟩
  obtain rfl := h16.eq_unread hf16
  sl_exec (disch := sl_exact hl)
  sl_step
  simp only [readAt_win, Memref.IsWhole.read_unread]
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexists _
    isplitr
    swap
    · iexact H12
    · ipureintro
      simp only [read_put, View.writes_nil, Memref.IsWhole.read_unread]
  isplitl [H13]
  · iexact H13
  isplitl [H14]
  · iexact H14
  isplitl [H15]
  · iexact H15
  iexists _
  isplitr
  swap
  · iexact H16
  · ipureintro
    simp only [read_put, View.writes_nil, Memref.IsWhole.read_unread]

set_option maxHeartbeats 4000000 in
/-- The whole body at the first chunk of a sequence: what every buffer holds after it. -/
theorem run_first (c : Dev nD) (i : grid0.Coords) (a2 : Memref sig .tc .vmem S128x512 .f32) (h2 : a2.IsWhole) (a3 : Memref sig .tc .vmem S128x1024 .f32) (h3 : a3.IsWhole) (a4 : Memref sig .tc .vmem S128x128 .f32) (h4 : a4.IsWhole) (a5 : Memref sig .tc .vmem S1x3x1024 .f32) (h5 : a5.IsWhole) (a6 : Memref sig .tc .vmem S1x8x64x128 .f32) (h6 : a6.IsWhole) (a7 : Memref sig .tc .vmem S4x1024 .f32) (h7 : a7.IsWhole) (a8 : Memref sig .tc .vmem S1x1024 .f32) (h8 : a8.IsWhole) (a9 : Memref sig .tc .vmem S1x128 .f32) (h9 : a9.IsWhole) (a10 : Memref sig .tc .vmem S1x128 .f32) (h10 : a10.IsWhole) (a11 : Memref sig .tc .vmem S1x512 .f32) (h11 : a11.IsWhole) (a12 : Memref sig .tc .vmem S128x512 .f32) (h12 : a12.IsWhole) (a13 : Memref sig .tc .vmem S1x3x1024 .f32) (h13 : a13.IsWhole) (a14 : Memref sig .tc .vmem S1x8x64x128 .f32) (h14 : a14.IsWhole) (a15 : Memref sig .tc .vmem S136x1024 .f32) (h15 : a15.IsWhole) (a16 : Memref sig .tc .vmem S512x128 .f32) (h16 : a16.IsWhole) (a17 : Memref sig .tc .vmem S128x128 .f32) (h17 : a17.IsWhole) (hf : isFirst i) (hl : ¬ isLast i)
    (x2 : Vec F S128x512 .f32) (x3 : Vec F S128x1024 .f32) (x4 : Vec F S128x128 .f32) (x5 : Vec F S1x3x1024 .f32) (x6 : Vec F S1x8x64x128 .f32) (x7 : Vec F S4x1024 .f32) (x8 : Vec F S1x1024 .f32) (x9 : Vec F S1x128 .f32) (x10 : Vec F S1x128 .f32) (x11 : Vec F S1x512 .f32) (x12 : Vec F S128x512 .f32) (x13 : Vec F S1x3x1024 .f32) (x14 : Vec F S1x8x64x128 .f32) (x15 : Vec F S136x1024 .f32) (x16 : Vec F S512x128 .f32) (E : Set ℕ) (K : _ → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ ((owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare (yPut (convOf (ext1 (VecWindow.put (s := S136x1024) x15 ![5, 0] S3x1024.size (k0_pay4 (VecWindow.window (s := S1x3x1024) x5 ![0, 0, 0] S1x3x1024.size inb_S1x3x1024_S1x3x1024_0_0_0))) x3) x3 x7 x8) x2 x4 x9 x10 x11 (k0_pay5 (VecWindow.window (s := S1x8x64x128) x6 ![0, 0, 0, 0] S1x8x64x128.size inb_S1x8x64x128_S1x8x64x128_0_0_0_0)) x12) ∗ owns (c : Thread nD τ) a13 fullShare (k0_pay9 (lastRows x3)) ∗ owns (c : Thread nD τ) a14 fullShare x14 ∗ owns (c : Thread nD τ) a15 fullShare (VecWindow.put (s := S136x1024) (ext1 (VecWindow.put (s := S136x1024) x15 ![5, 0] S3x1024.size (k0_pay4 (VecWindow.window (s := S1x3x1024) x5 ![0, 0, 0] S1x3x1024.size inb_S1x3x1024_S1x3x1024_0_0_0))) x3) ![5, 0] S3x1024.size (k0_pay8 (lastRows x3))) ∗ owns (c : Thread nD τ) a16 fullShare (stOut (convOf (ext1 (VecWindow.put (s := S136x1024) x15 ![5, 0] S3x1024.size (k0_pay4 (VecWindow.window (s := S1x3x1024) x5 ![0, 0, 0] S1x3x1024.size inb_S1x3x1024_S1x3x1024_0_0_0))) x3) x3 x7 x8) x4 x9 x10 (k0_pay5 (VecWindow.window (s := S1x8x64x128) x6 ![0, 0, 0, 0] S1x8x64x128.size inb_S1x8x64x128_S1x8x64x128_0_0_0_0)))) -∗ K ⟨⟩))
    ⊢ wp frame (wpE (defs₀ (F := F)) Variants.none c none) E (cc0_ssd i a2 h2 a3 h3 a4 h4 a5 h5 a6 h6 a7 h7 a8 h8 a9 h9 a10 h10 a11 h11 a12 h12 a13 h13 a14 h14 a15 h15 a16 h16 a17 h17) K := by
  rw [cc0_ssd_eq_skeleton]; unfold cc0_ssd_skel
  unfold yPut stOut w429 w416 w406 w405 stAfter8 yAfter8 w378 w370 w369 w368 w325 w318 w316 w315 w288 w280 w279 w278 w277 w276 stAfter6 yAfter6 w275 w274 yAfter5 w222 w221 w220 w193 w185 w184 w183 stAfter4 w174 w173 w123 w120 w117 w110 w103 w95 w94 w93 w92 w91 w89 w87 w85 w84 w82 w80 w79 w78 w75 w74 w73 w66 w62 w54
  iintro ⟨H2, H3, H4, H5, H6, H7, H8, H9, H10, H11, H12, H13, H14, H15, H16, Hk⟩
  rw [wp_bind]
  iapply (part1_first (hf := hf))
  isplitl [H3]; · iexact H3
  isplitl [H5]; · iexact H5
  isplitl [H6]; · iexact H6
  isplitl [H7]; · iexact H7
  isplitl [H8]; · iexact H8
  isplitl [H15]; · iexact H15
  isplitl [H16]; · iexact H16
  iintro ⟨H3, H5, H6, H7, H8, H15, H16⟩
  dsimp only
  rw [wp_bind]
  iapply (part2_run)
  isplitl [H4]; · iexact H4
  isplitl [H9]; · iexact H9
  isplitl [H10]; · iexact H10
  isplitl [H13]; · iexact H13
  isplitl [H15]; · iexact H15
  iintro ⟨H4, H9, H10, H13, H15⟩
  dsimp only
  rw [wp_bind]
  iapply (part3_run)
  isplitl [H2]; · iexact H2
  isplitl [H11]; · iexact H11
  iintro ⟨H2, H11⟩
  dsimp only
  rw [wp_bind]
  iapply (part4_run)
  isplitl [H16]; · iexact H16
  iintro ⟨H16⟩
  dsimp only
  rw [wp_bind]
  iapply (part5_run)
  isplitl [H12]; · iexact H12
  isplitl [H16]; · iexact H16
  iintro ⟨H12, H16⟩
  dsimp only
  rw [wp_bind]
  iapply (part6_run)
  isplitl [H12]; · iexact H12
  isplitl [H16]; · iexact H16
  iintro ⟨H12, H16⟩
  dsimp only
  rw [wp_bind]
  iapply (part7_run)
  isplitl [H16]; · iexact H16
  iintro ⟨H16⟩
  dsimp only
  rw [wp_bind]
  iapply (part8_run)
  isplitl [H12]; · iexact H12
  isplitl [H16]; · iexact H16
  iintro ⟨H12, H16⟩
  dsimp only
  rw [wp_bind]
  iapply (part9_run)
  isplitl [H16]; · iexact H16
  iintro ⟨H16⟩
  dsimp only
  unfold owns
  icases H12 with ⟨%f12, %hf12, H12⟩
  obtain rfl := h12.eq_unread hf12
  icases H16 with ⟨%f16, %hf16, H16⟩
  obtain rfl := h16.eq_unread hf16
  sl_exec (disch := sl_exact hl)
  sl_step
  simp only [readAt_win, Memref.IsWhole.read_unread]
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexists _
    isplitr
    swap
    · iexact H12
    · ipureintro
      simp only [read_put, View.writes_nil, Memref.IsWhole.read_unread]
  isplitl [H13]
  · iexact H13
  isplitl [H14]
  · iexact H14
  isplitl [H15]
  · iexact H15
  iexists _
  isplitr
  swap
  · iexact H16
  · ipureintro
    simp only [read_put, View.writes_nil, Memref.IsWhole.read_unread]

set_option maxHeartbeats 4000000 in
/-- The whole body at the last chunk of a sequence: what every buffer holds after it. -/
theorem run_last (c : Dev nD) (i : grid0.Coords) (a2 : Memref sig .tc .vmem S128x512 .f32) (h2 : a2.IsWhole) (a3 : Memref sig .tc .vmem S128x1024 .f32) (h3 : a3.IsWhole) (a4 : Memref sig .tc .vmem S128x128 .f32) (h4 : a4.IsWhole) (a5 : Memref sig .tc .vmem S1x3x1024 .f32) (h5 : a5.IsWhole) (a6 : Memref sig .tc .vmem S1x8x64x128 .f32) (h6 : a6.IsWhole) (a7 : Memref sig .tc .vmem S4x1024 .f32) (h7 : a7.IsWhole) (a8 : Memref sig .tc .vmem S1x1024 .f32) (h8 : a8.IsWhole) (a9 : Memref sig .tc .vmem S1x128 .f32) (h9 : a9.IsWhole) (a10 : Memref sig .tc .vmem S1x128 .f32) (h10 : a10.IsWhole) (a11 : Memref sig .tc .vmem S1x512 .f32) (h11 : a11.IsWhole) (a12 : Memref sig .tc .vmem S128x512 .f32) (h12 : a12.IsWhole) (a13 : Memref sig .tc .vmem S1x3x1024 .f32) (h13 : a13.IsWhole) (a14 : Memref sig .tc .vmem S1x8x64x128 .f32) (h14 : a14.IsWhole) (a15 : Memref sig .tc .vmem S136x1024 .f32) (h15 : a15.IsWhole) (a16 : Memref sig .tc .vmem S512x128 .f32) (h16 : a16.IsWhole) (a17 : Memref sig .tc .vmem S128x128 .f32) (h17 : a17.IsWhole) (hf : ¬ isFirst i) (hl : isLast i)
    (x2 : Vec F S128x512 .f32) (x3 : Vec F S128x1024 .f32) (x4 : Vec F S128x128 .f32) (x5 : Vec F S1x3x1024 .f32) (x6 : Vec F S1x8x64x128 .f32) (x7 : Vec F S4x1024 .f32) (x8 : Vec F S1x1024 .f32) (x9 : Vec F S1x128 .f32) (x10 : Vec F S1x128 .f32) (x11 : Vec F S1x512 .f32) (x12 : Vec F S128x512 .f32) (x13 : Vec F S1x3x1024 .f32) (x14 : Vec F S1x8x64x128 .f32) (x15 : Vec F S136x1024 .f32) (x16 : Vec F S512x128 .f32) (E : Set ℕ) (K : _ → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ ((owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare (yPut (convOf (ext1 x15 x3) x3 x7 x8) x2 x4 x9 x10 x11 x16 x12) ∗ owns (c : Thread nD τ) a13 fullShare (k0_pay9 (lastRows x3)) ∗ owns (c : Thread nD τ) a14 fullShare (k0_pay3 (stOut (convOf (ext1 x15 x3) x3 x7 x8) x4 x9 x10 x16)) ∗ owns (c : Thread nD τ) a15 fullShare (VecWindow.put (s := S136x1024) (ext1 x15 x3) ![5, 0] S3x1024.size (k0_pay8 (lastRows x3))) ∗ owns (c : Thread nD τ) a16 fullShare (stOut (convOf (ext1 x15 x3) x3 x7 x8) x4 x9 x10 x16)) -∗ K ⟨⟩))
    ⊢ wp frame (wpE (defs₀ (F := F)) Variants.none c none) E (cc0_ssd i a2 h2 a3 h3 a4 h4 a5 h5 a6 h6 a7 h7 a8 h8 a9 h9 a10 h10 a11 h11 a12 h12 a13 h13 a14 h14 a15 h15 a16 h16 a17 h17) K := by
  rw [cc0_ssd_eq_skeleton]; unfold cc0_ssd_skel
  unfold yPut stOut w429 w416 w406 w405 stAfter8 yAfter8 w378 w370 w369 w368 w325 w318 w316 w315 w288 w280 w279 w278 w277 w276 stAfter6 yAfter6 w275 w274 yAfter5 w222 w221 w220 w193 w185 w184 w183 stAfter4 w174 w173 w123 w120 w117 w110 w103 w95 w94 w93 w92 w91 w89 w87 w85 w84 w82 w80 w79 w78 w75 w74 w73 w66 w62 w54
  iintro ⟨H2, H3, H4, H5, H6, H7, H8, H9, H10, H11, H12, H13, H14, H15, H16, Hk⟩
  rw [wp_bind]
  iapply (part1_next (hf := hf))
  isplitl [H3]; · iexact H3
  isplitl [H7]; · iexact H7
  isplitl [H8]; · iexact H8
  isplitl [H15]; · iexact H15
  iintro ⟨H3, H7, H8, H15⟩
  dsimp only
  rw [wp_bind]
  iapply (part2_run)
  isplitl [H4]; · iexact H4
  isplitl [H9]; · iexact H9
  isplitl [H10]; · iexact H10
  isplitl [H13]; · iexact H13
  isplitl [H15]; · iexact H15
  iintro ⟨H4, H9, H10, H13, H15⟩
  dsimp only
  rw [wp_bind]
  iapply (part3_run)
  isplitl [H2]; · iexact H2
  isplitl [H11]; · iexact H11
  iintro ⟨H2, H11⟩
  dsimp only
  rw [wp_bind]
  iapply (part4_run)
  isplitl [H16]; · iexact H16
  iintro ⟨H16⟩
  dsimp only
  rw [wp_bind]
  iapply (part5_run)
  isplitl [H12]; · iexact H12
  isplitl [H16]; · iexact H16
  iintro ⟨H12, H16⟩
  dsimp only
  rw [wp_bind]
  iapply (part6_run)
  isplitl [H12]; · iexact H12
  isplitl [H16]; · iexact H16
  iintro ⟨H12, H16⟩
  dsimp only
  rw [wp_bind]
  iapply (part7_run)
  isplitl [H16]; · iexact H16
  iintro ⟨H16⟩
  dsimp only
  rw [wp_bind]
  iapply (part8_run)
  isplitl [H12]; · iexact H12
  isplitl [H16]; · iexact H16
  iintro ⟨H12, H16⟩
  dsimp only
  rw [wp_bind]
  iapply (part9_run)
  isplitl [H16]; · iexact H16
  iintro ⟨H16⟩
  dsimp only
  unfold owns
  icases H12 with ⟨%f12, %hf12, H12⟩
  obtain rfl := h12.eq_unread hf12
  icases H16 with ⟨%f16, %hf16, H16⟩
  obtain rfl := h16.eq_unread hf16
  icases H14 with ⟨%f14, %hf14, H14⟩
  obtain rfl := h14.eq_unread hf14
  sl_exec (disch := sl_exact hl)
  sl_step
  simp only [readAt_win, Memref.IsWhole.read_unread]
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexists _
    isplitr
    swap
    · iexact H12
    · ipureintro
      simp only [read_put, View.writes_nil, Memref.IsWhole.read_unread]
  isplitl [H13]
  · iexact H13
  isplitl [H14]
  · iexists _
    isplitr
    swap
    · iexact H14
    · ipureintro
      delta run_last.sl.v461; delta run_last.sl.H16_1; simp only [read_put, readAt_win, View.writes_nil, Memref.IsWhole.read_unread]
      exact (put_S1x8x64x128 _ _).trans (congrArg _ (win_S512x128 _ _))
  isplitl [H15]
  · iexact H15
  iexists _
  isplitr
  swap
  · iexact H16
  · ipureintro
    delta run_last.sl.H16_1
    simp only [read_put, View.writes_nil, Memref.IsWhole.read_unread]

end Cert.KernelIdeal.Hand
end
-- ==== Proof.SsdFrame.lean ====
module

public import proofs.«01_k».proof.Proof.SsdRun
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What of a buffer's old contents does not matter -/

/-- Putting back a window read off the same place changes nothing. -/
theorem put_window_self {α : Type} {s : Shape} (x : s.Idx → α) {off size : Fin s.rank → ℕ} (inb : ∀ a, off a + size a ≤ s.size a) :
    VecWindow.put x off size (VecWindow.window x off size inb) = x := by
  funext y
  unfold VecWindow.put VecWindow.window
  split_ifs with h
  · refine congrArg x (funext fun a => Fin.ext ?_)
    have e : ((Rect.unit off size inb).emb (Rect.unitLocal (s := s) (off := off) (size := size) y h) a).val = off a + 1 * (Rect.unitLocal (s := s) (off := off) (size := size) y h a).val := rfl
    rw [e, Rect.unitLocal_val]
    have := (h a).1
    omega
  · rfl

/-- The three rows the buffer of rows carries from one block to the next: its rows 5 to 7. -/
def carried (e : Vec F S136x1024 .f32) : Vec F S3x1024 .f32 :=
  VecWindow.window (s := S136x1024) e ![5, 0] S3x1024.size (by decide)

/-- Of the buffer of rows only the carried rows enter the convolved block. -/
theorem convOf_carried (e e' : Vec F S136x1024 .f32) (x3 : Vec F S128x1024 .f32) (x7 : Vec F S4x1024 .f32) (x8 : Vec F S1x1024 .f32)
    (h : carried e = carried e') : convOf (ext1 e x3) x3 x7 x8 = convOf (ext1 e' x3) x3 x7 x8 := by
  have he : e = VecWindow.put (s := S136x1024) e ![5, 0] ![3, 1024] (carried e) := (put_window_self (s := S136x1024) e _).symm
  have he' : e' = VecWindow.put (s := S136x1024) e' ![5, 0] ![3, 1024] (carried e) := by rw [h]; exact (put_window_self (s := S136x1024) e' _).symm
  unfold convOf
  have k : ∀ (o : ℕ) (ho : 5 ≤ o) (inb : ∀ a, (![o, 0] : Fin S136x1024.rank → ℕ) a + (![128, 1024] : Fin S136x1024.rank → ℕ) a ≤ S136x1024.size a),
      VecWindow.window (s := S136x1024) (ext1 e x3) ![o, 0] ![128, 1024] inb = VecWindow.window (s := S136x1024) (ext1 e' x3) ![o, 0] ![128, 1024] inb := by
    intro o ho inb
    rw [he, he']
    exact win_base e e' (carried e) _ o ho inb
  have k5 := k 5 (by decide) inb_S136x1024_S128x1024_5_0
  have k6 := k 6 (by decide) inb_S136x1024_S128x1024_6_0
  have k7 := k 7 (by decide) inb_S136x1024_S128x1024_7_0
  change k0_pay7 _ (VecWindow.window (s := S136x1024) (ext1 e x3) ![5, 0] ![128, 1024] _) (VecWindow.window (s := S136x1024) (ext1 e x3) ![6, 0] ![128, 1024] _) (VecWindow.window (s := S136x1024) (ext1 e x3) ![7, 0] ![128, 1024] _) _ _ = _
  rw [k5, k6, k7]

/-- The rows put at rows 5 to 7 are the carried ones. -/
theorem carried_put (e : Vec F S136x1024 .f32) (k : Vec F S3x1024 .f32) :
    carried (VecWindow.put (s := S136x1024) e ![5, 0] S3x1024.size k) = k :=
  VecWindow.window_put_same (s := S136x1024) e ![5, 0] S3x1024.size _ k

/-- Four puts of a block's four column groups leave nothing of what they were put over. -/
theorem put4_base (y y' : Vec F S128x512 .f32) (p0 p1 p2 p3 : Vec F S128x128 .f32) :
    VecWindow.put (s := S128x512) (VecWindow.put (s := S128x512) (VecWindow.put (s := S128x512) (VecWindow.put (s := S128x512) y ![0, 0] ![128, 128] p0) ![0, 128] ![128, 128] p1) ![0, 256] ![128, 128] p2) ![0, 384] ![128, 128] p3
      = VecWindow.put (s := S128x512) (VecWindow.put (s := S128x512) (VecWindow.put (s := S128x512) (VecWindow.put (s := S128x512) y' ![0, 0] ![128, 128] p0) ![0, 128] ![128, 128] p1) ![0, 256] ![128, 128] p2) ![0, 384] ![128, 128] p3 := by
  funext i
  have i0 := (i (0 : Fin 2)).isLt
  have i1 := (i (1 : Fin 2)).isLt
  change (i (0 : Fin 2)).val < 128 at i0
  change (i (1 : Fin 2)).val < 512 at i1
  have H : ∀ o : ℕ, o ≤ (i (1 : Fin 2)).val → (i (1 : Fin 2)).val < o + 128 →
      ∀ a : Fin S128x512.rank, (![0, o] : Fin S128x512.rank → ℕ) a ≤ (i a).val ∧ (i a).val < (![0, o] : Fin S128x512.rank → ℕ) a + (![128, 128] : Fin S128x512.rank → ℕ) a := by
    intro o h1 h2 a
    fin_cases a
    · exact ⟨Nat.zero_le _, by show (i (0 : Fin 2)).val < 0 + 128; omega⟩
    · exact ⟨h1, h2⟩
  unfold VecWindow.put
  by_cases c3 : 384 ≤ (i (1 : Fin 2)).val
  · rw [dif_pos (H 384 c3 (by omega)), dif_pos (H 384 c3 (by omega))]
  split_ifs with h3 h2 h1 h0
  all_goals first | rfl | skip
  exfalso
  by_cases c2 : 256 ≤ (i (1 : Fin 2)).val
  · exact h2 (H 256 c2 (by omega))
  by_cases c1 : 128 ≤ (i (1 : Fin 2)).val
  · exact h1 (H 128 c1 (by omega))
  · exact h0 (H 0 (by omega) (by omega))

/-- What the block of results held before does not matter to what the body leaves in it. -/
theorem yPut_base (u : FVec F S128x1024 .f32) (x2 : Vec F S128x512 .f32) (x4 : Vec F S128x128 .f32) (x9 : Vec F S1x128 .f32) (x10 : Vec F S1x128 .f32) (x11 : Vec F S1x512 .f32) (s : Vec F S512x128 .f32) (y y' : Vec F S128x512 .f32) :
    yPut u x2 x4 x9 x10 x11 s y = yPut u x2 x4 x9 x10 x11 s y' :=
  put4_base y y' _ _ _ _

/-! ## The conditions over the grid, and the memrefs the body runs on -/

/-- The first conditional is taken at the first chunk of each sequence. -/
theorem first_iff : ∀ t : Fin cfg0.N, isFirst (grid0.coords t) ↔ t.val % 32 = 0 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [isFirst, e0, e1]
    word_cmp
   : ∀ t : Fin grid0.N, isFirst (grid0.coords t) ↔ t.val % 32 = 0)

/-- The second conditional is taken at the last chunk of each sequence. -/
theorem last_iff : ∀ t : Fin cfg0.N, isLast (grid0.coords t) ↔ t.val % 32 = 31 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [isLast, k0_cond2, e0, e1]
    word_cmp
   : ∀ t : Fin grid0.N, isLast (grid0.coords t) ↔ t.val % 32 = 31)

/-- Window 0's current staging memref at a point. -/
abbrev mem0 (t : Fin cfg0.N) : Memref sig .tc .vmem S128x512 .f32 := win0_0.stage (cfg0.slots t 0)
/-- Window 1's current staging memref at a point. -/
abbrev mem1 (t : Fin cfg0.N) : Memref sig .tc .vmem S128x1024 .f32 := win0_1.stage (cfg0.slots t 1)
/-- Window 2's current staging memref at a point. -/
abbrev mem2 (t : Fin cfg0.N) : Memref sig .tc .vmem S128x128 .f32 := win0_2.stage (cfg0.slots t 2)
/-- Window 3's current staging memref at a point. -/
abbrev mem3 (t : Fin cfg0.N) : Memref sig .tc .vmem S1x3x1024 .f32 := win0_3.stage (cfg0.slots t 3)
/-- Window 4's current staging memref at a point. -/
abbrev mem4 (t : Fin cfg0.N) : Memref sig .tc .vmem S1x8x64x128 .f32 := win0_4.stage (cfg0.slots t 4)
/-- Window 5's current staging memref at a point. -/
abbrev mem5 (t : Fin cfg0.N) : Memref sig .tc .vmem S4x1024 .f32 := win0_5.stage (cfg0.slots t 5)
/-- Window 6's current staging memref at a point. -/
abbrev mem6 (t : Fin cfg0.N) : Memref sig .tc .vmem S1x1024 .f32 := win0_6.stage (cfg0.slots t 6)
/-- Window 7's current staging memref at a point. -/
abbrev mem7 (t : Fin cfg0.N) : Memref sig .tc .vmem S1x128 .f32 := win0_7.stage (cfg0.slots t 7)
/-- Window 8's current staging memref at a point. -/
abbrev mem8 (t : Fin cfg0.N) : Memref sig .tc .vmem S1x128 .f32 := win0_8.stage (cfg0.slots t 8)
/-- Window 9's current staging memref at a point. -/
abbrev mem9 (t : Fin cfg0.N) : Memref sig .tc .vmem S1x512 .f32 := win0_9.stage (cfg0.slots t 9)
/-- Window 10's current staging memref at a point. -/
abbrev mem10 (t : Fin cfg0.N) : Memref sig .tc .vmem S128x512 .f32 := win0_10.stage (cfg0.slots t 10)
/-- Window 11's current staging memref at a point. -/
abbrev mem11 (t : Fin cfg0.N) : Memref sig .tc .vmem S1x3x1024 .f32 := win0_11.stage (cfg0.slots t 11)
/-- Window 12's current staging memref at a point. -/
abbrev mem12 (t : Fin cfg0.N) : Memref sig .tc .vmem S1x8x64x128 .f32 := win0_12.stage (cfg0.slots t 12)
/-- Scratch 0 as a memref. -/
abbrev scr0 : Memref sig .tc .vmem S136x1024 .f32 := Memref.whole cc0_scratch0
/-- Scratch 1 as a memref. -/
abbrev scr1 : Memref sig .tc .vmem S512x128 .f32 := Memref.whole cc0_scratch1
/-- Scratch 2 as a memref. -/
abbrev scr2 : Memref sig .tc .vmem S128x128 .f32 := Memref.whole cc0_scratch2
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl
theorem live10 : ∀ t : Fin cfg0.N, cfg0.idle 10 (grid0.coords t) = false := fun _ => rfl
theorem live11 : ∀ t : Fin cfg0.N, cfg0.idle 11 (grid0.coords t) = false := fun _ => rfl
/-- The final state is stored at a sequence's last chunk alone, and elsewhere its block is not written back. -/
theorem idle12 : ∀ t : Fin cfg0.N, ¬ isLast (grid0.coords t) → cfg0.idle 12 (grid0.coords t) = true := by decide +kernel
theorem noFlush12 : ∀ t : Fin cfg0.N, ¬ isLast (grid0.coords t) → (cfg0.win 12).flush t = false := by decide +kernel
theorem live12 : ∀ t : Fin cfg0.N, isLast (grid0.coords t) → cfg0.idle 12 (grid0.coords t) = false := by decide +kernel

/-- The scoped rest with the scratch operands as memrefs owned at some contents. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

variable (m : (ℓ : Loc nD τ sig) → Buf (Elt F) ℓ) (ρ : Dev nD → PrngReg)

/-! ## What every buffer holds, point by point -/

/-- The grid's point at a position. -/
def pt (n : ℕ) : Fin cfg0.N := ⟨n % 64, by rw [show cfg0.N = 64 from N_0]; exact Nat.mod_lt _ (by decide)⟩

theorem pt_val (t : Fin cfg0.N) : pt t.val = t :=
  Fin.ext (Nat.mod_eq_of_lt (lt_of_lt_of_eq t.isLt (show cfg0.N = 64 from N_0)))

/-- The block of the gate at position `n`. -/
def zB (c : Dev nD) (n : ℕ) : Vec F S128x512 .f32 := X0_0 m c (pt n)
/-- The block of the channels to convolve at position `n`. -/
def xB (c : Dev nD) (n : ℕ) : Vec F S128x1024 .f32 := X0_1 m c (pt n)
/-- The block of the step sizes at position `n`. -/
def tB (c : Dev nD) (n : ℕ) : Vec F S128x128 .f32 := iblk m c 2 (pt n)
/-- The block of the rows before the sequence at position `n`. -/
def preB (c : Dev nD) (n : ℕ) : Vec F S1x3x1024 .f32 := iblk m c 3 (pt n)
/-- The block of the state before the sequence at position `n`. -/
def h0B (c : Dev nD) (n : ℕ) : Vec F S1x8x64x128 .f32 := iblk m c 4 (pt n)
/-- The block of the taps at position `n`. -/
def cwB (c : Dev nD) (n : ℕ) : Vec F S4x1024 .f32 := iblk m c 5 (pt n)
/-- The block of the convolution bias at position `n`. -/
def cbB (c : Dev nD) (n : ℕ) : Vec F S1x1024 .f32 := iblk m c 6 (pt n)
/-- The block of the step bias at position `n`. -/
def dtbB (c : Dev nD) (n : ℕ) : Vec F S1x128 .f32 := iblk m c 7 (pt n)
/-- The block of the decay logarithms at position `n`. -/
def alB (c : Dev nD) (n : ℕ) : Vec F S1x128 .f32 := iblk m c 8 (pt n)
/-- The block of the skip weights at position `n`. -/
def dskB (c : Dev nD) (n : ℕ) : Vec F S1x512 .f32 := iblk m c 9 (pt n)

/-- The three rows before the block at position `n`. -/
def carryAt (c : Dev nD) (n : ℕ) : Vec F S3x1024 .f32 :=
  if n % 32 = 0 then k0_pay4 (VecWindow.window (s := S1x3x1024) (preB m c n) ![0, 0, 0] S1x3x1024.size inb_S1x3x1024_S1x3x1024_0_0_0)
  else k0_pay8 (lastRows (xB m c (n - 1)))

/-- A buffer of rows carrying `k`; its other rows do not matter. -/
def extOf (k : Vec F S3x1024 .f32) : Vec F S136x1024 .f32 :=
  VecWindow.put (s := S136x1024) (constant S136x1024 .f32 0x00000000#32) ![5, 0] S3x1024.size k

/-- The convolved block at position `n`. -/
def uAt (c : Dev nD) (n : ℕ) : Vec F S128x1024 .f32 :=
  convOf (ext1 (extOf (carryAt m c n)) (xB m c n)) (xB m c n) (cwB m c n) (cbB m c n)

/-- The state a sequence starts from, as the scratch holds it. -/
def startAt (c : Dev nD) (n : ℕ) : Vec F S512x128 .f32 :=
  k0_pay5 (VecWindow.window (s := S1x8x64x128) (h0B m c n) ![0, 0, 0, 0] S1x8x64x128.size inb_S1x8x64x128_S1x8x64x128_0_0_0_0)

/-- The state the block at position `n` starts from. -/
def stAt (c : Dev nD) : ℕ → Vec F S512x128 .f32
  | 0 => startAt m c 0
  | n + 1 => if (n + 1) % 32 = 0 then startAt m c (n + 1)
      else stOut (uAt m c n) (tB m c n) (dtbB m c n) (alB m c n) (stAt c n)

/-- The state the block at position `n` leaves. -/
def stNext (c : Dev nD) (n : ℕ) : Vec F S512x128 .f32 :=
  stOut (uAt m c n) (tB m c n) (dtbB m c n) (alB m c n) (stAt m c n)

/-- The block of results at position `n`. -/
def yAt (c : Dev nD) (n : ℕ) : Vec F S128x512 .f32 :=
  yPut (uAt m c n) (zB m c n) (tB m c n) (dtbB m c n) (alB m c n) (dskB m c n) (stAt m c n) (zB m c n)

theorem stAt_first (c : Dev nD) (n : ℕ) (h : n % 32 = 0) : stAt m c n = startAt m c n := by
  cases n with
  | zero => rfl
  | succ n => exact if_pos h

theorem stAt_succ (c : Dev nD) (n : ℕ) (h : ¬ (n + 1) % 32 = 0) : stAt m c (n + 1) = stNext m c n := if_neg h

theorem carryAt_first (c : Dev nD) (n : ℕ) (h : n % 32 = 0) :
    carryAt m c n = k0_pay4 (VecWindow.window (s := S1x3x1024) (preB m c n) ![0, 0, 0] S1x3x1024.size inb_S1x3x1024_S1x3x1024_0_0_0) := if_pos h

theorem carryAt_succ (c : Dev nD) (n : ℕ) (h : ¬ (n + 1) % 32 = 0) : carryAt m c (n + 1) = k0_pay8 (lastRows (xB m c n)) := if_neg h

/-- The convolved block from any buffer of rows that carries the right ones. -/
theorem conv_eq_uAt (c : Dev nD) (n : ℕ) (e : Vec F S136x1024 .f32) (h : carried e = carryAt m c n) :
    convOf (ext1 e (xB m c n)) (xB m c n) (cwB m c n) (cbB m c n) = uAt m c n :=
  convOf_carried e _ _ _ _ (h.trans (carried_put _ _).symm)

/-- The invariant before position `n`: inside a sequence the scratch carries the last block's rows and the state. -/
def PhiS (c : Dev nD) (n : ℕ) (_ : n ≤ cfg0.N) : sProp 𝕄 :=
  iprop(iprop(∃ e : Vec F S136x1024 .f32, ∃ s : Vec F S512x128 .f32, ⌜¬ n % 32 = 0 → carried e = carryAt m c n ∧ s = stAt m c n⌝
    ∗ owns (c : Thread nD τ) scr0 fullShare e ∗ owns (c : Thread nD τ) scr1 fullShare s ∗ (∃ d, owns (c : Thread nD τ) scr2 fullShare d)) ∗ (∃ r, prngReg c r))

/-- The proof data of the pipeline: the arrays as the region finds them, each input's buffer at its block, the outputs'
    at the blocks named above. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => yAt m c t.val
    | ⟨11, _⟩ => k0_pay9 (lastRows (xB m c t.val))
    | ⟨12, _⟩ => k0_pay3 (stNext m c t.val)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = X0_0 m c t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = yAt m c t.val := by dsimp only [dats]
theorem after_11 (c : Dev nD) (t : Fin cfg0.N) : (dats m 0 c).after 11 t = k0_pay9 (lastRows (xB m c t.val)) := by dsimp only [dats]
theorem after_12 (c : Dev nD) (t : Fin cfg0.N) : (dats m 0 c).after 12 t = k0_pay3 (stNext m c t.val) := by dsimp only [dats]

theorem block_0 (c : Dev nD) (t : Fin cfg0.N) : X0_0 m c t = zB m c t.val := by unfold zB; rw [pt_val]
theorem before_0 (c : Dev nD) (t : Fin cfg0.N) (d) : (dats m 0 c).before 0 t d = zB m c t.val :=
  (before0_0_of m (dats m 0 c) (A_eq m c 0) (after_0 m c) t d).trans (block_0 m c t)
theorem leaves_0 (c : Dev nD) (t : Fin cfg0.N) : (dats m 0 c).leavesExact 0 t = owns (c : Thread nD τ) (mem0 t) fullShare (zB m c t.val) := by
  rw [← block_0, ← after_0]
theorem block_1 (c : Dev nD) (t : Fin cfg0.N) : X0_1 m c t = xB m c t.val := by unfold xB; rw [pt_val]
theorem before_1 (c : Dev nD) (t : Fin cfg0.N) (d) : (dats m 0 c).before 1 t d = xB m c t.val :=
  (before0_1_of m (dats m 0 c) (A_eq m c 1) (after_1 m c) t d).trans (block_1 m c t)
theorem leaves_1 (c : Dev nD) (t : Fin cfg0.N) : (dats m 0 c).leavesExact 1 t = owns (c : Thread nD τ) (mem1 t) fullShare (xB m c t.val) := by
  rw [← block_1, ← after_1]
theorem block_2 (c : Dev nD) (t : Fin cfg0.N) : iblk m c 2 t = tB m c t.val := by unfold tB; rw [pt_val]
theorem before_2 (c : Dev nD) (t : Fin cfg0.N) (d) : (dats m 0 c).before 2 t d = tB m c t.val :=
  (before0_2_of m (dats m 0 c) (A_eq m c 2) (after_2 m c) t d).trans (block_2 m c t)
theorem leaves_2 (c : Dev nD) (t : Fin cfg0.N) : (dats m 0 c).leavesExact 2 t = owns (c : Thread nD τ) (mem2 t) fullShare (tB m c t.val) := by
  rw [← block_2, ← after_2]
theorem block_3 (c : Dev nD) (t : Fin cfg0.N) : iblk m c 3 t = preB m c t.val := by unfold preB; rw [pt_val]
theorem before_3 (c : Dev nD) (t : Fin cfg0.N) (d) : (dats m 0 c).before 3 t d = preB m c t.val :=
  (before0_3_of m (dats m 0 c) (A_eq m c 3) (after_3 m c) t d).trans (block_3 m c t)
theorem leaves_3 (c : Dev nD) (t : Fin cfg0.N) : (dats m 0 c).leavesExact 3 t = owns (c : Thread nD τ) (mem3 t) fullShare (preB m c t.val) := by
  rw [← block_3, ← after_3]
theorem block_4 (c : Dev nD) (t : Fin cfg0.N) : iblk m c 4 t = h0B m c t.val := by unfold h0B; rw [pt_val]
theorem before_4 (c : Dev nD) (t : Fin cfg0.N) (d) : (dats m 0 c).before 4 t d = h0B m c t.val :=
  (before0_4_of m (dats m 0 c) (A_eq m c 4) (after_4 m c) t d).trans (block_4 m c t)
theorem leaves_4 (c : Dev nD) (t : Fin cfg0.N) : (dats m 0 c).leavesExact 4 t = owns (c : Thread nD τ) (mem4 t) fullShare (h0B m c t.val) := by
  rw [← block_4, ← after_4]
theorem block_5 (c : Dev nD) (t : Fin cfg0.N) : iblk m c 5 t = cwB m c t.val := by unfold cwB; rw [pt_val]
theorem before_5 (c : Dev nD) (t : Fin cfg0.N) (d) : (dats m 0 c).before 5 t d = cwB m c t.val :=
  (before0_5_of m (dats m 0 c) (A_eq m c 5) (after_5 m c) t d).trans (block_5 m c t)
theorem leaves_5 (c : Dev nD) (t : Fin cfg0.N) : (dats m 0 c).leavesExact 5 t = owns (c : Thread nD τ) (mem5 t) fullShare (cwB m c t.val) := by
  rw [← block_5, ← after_5]
theorem block_6 (c : Dev nD) (t : Fin cfg0.N) : iblk m c 6 t = cbB m c t.val := by unfold cbB; rw [pt_val]
theorem before_6 (c : Dev nD) (t : Fin cfg0.N) (d) : (dats m 0 c).before 6 t d = cbB m c t.val :=
  (before0_6_of m (dats m 0 c) (A_eq m c 6) (after_6 m c) t d).trans (block_6 m c t)
theorem leaves_6 (c : Dev nD) (t : Fin cfg0.N) : (dats m 0 c).leavesExact 6 t = owns (c : Thread nD τ) (mem6 t) fullShare (cbB m c t.val) := by
  rw [← block_6, ← after_6]
theorem block_7 (c : Dev nD) (t : Fin cfg0.N) : iblk m c 7 t = dtbB m c t.val := by unfold dtbB; rw [pt_val]
theorem before_7 (c : Dev nD) (t : Fin cfg0.N) (d) : (dats m 0 c).before 7 t d = dtbB m c t.val :=
  (before0_7_of m (dats m 0 c) (A_eq m c 7) (after_7 m c) t d).trans (block_7 m c t)
theorem leaves_7 (c : Dev nD) (t : Fin cfg0.N) : (dats m 0 c).leavesExact 7 t = owns (c : Thread nD τ) (mem7 t) fullShare (dtbB m c t.val) := by
  rw [← block_7, ← after_7]
theorem block_8 (c : Dev nD) (t : Fin cfg0.N) : iblk m c 8 t = alB m c t.val := by unfold alB; rw [pt_val]
theorem before_8 (c : Dev nD) (t : Fin cfg0.N) (d) : (dats m 0 c).before 8 t d = alB m c t.val :=
  (before0_8_of m (dats m 0 c) (A_eq m c 8) (after_8 m c) t d).trans (block_8 m c t)
theorem leaves_8 (c : Dev nD) (t : Fin cfg0.N) : (dats m 0 c).leavesExact 8 t = owns (c : Thread nD τ) (mem8 t) fullShare (alB m c t.val) := by
  rw [← block_8, ← after_8]
theorem block_9 (c : Dev nD) (t : Fin cfg0.N) : iblk m c 9 t = dskB m c t.val := by unfold dskB; rw [pt_val]
theorem before_9 (c : Dev nD) (t : Fin cfg0.N) (d) : (dats m 0 c).before 9 t d = dskB m c t.val :=
  (before0_9_of m (dats m 0 c) (A_eq m c 9) (after_9 m c) t d).trans (block_9 m c t)
theorem leaves_9 (c : Dev nD) (t : Fin cfg0.N) : (dats m 0 c).leavesExact 9 t = owns (c : Thread nD τ) (mem9 t) fullShare (dskB m c t.val) := by
  rw [← block_9, ← after_9]
theorem leaves_10 (c : Dev nD) (t : Fin cfg0.N) : (dats m 0 c).leavesExact 10 t = owns (c : Thread nD τ) (mem10 t) fullShare (yAt m c t.val) := by
  rw [← after_10]
theorem leaves_11 (c : Dev nD) (t : Fin cfg0.N) : (dats m 0 c).leavesExact 11 t = owns (c : Thread nD τ) (mem11 t) fullShare (k0_pay9 (lastRows (xB m c t.val))) := by
  rw [← after_11]
theorem leaves_12 (c : Dev nD) (t : Fin cfg0.N) (h : isLast (grid0.coords t)) :
    (dats m 0 c).leavesExact 12 t = owns (c : Thread nD τ) (mem12 t) fullShare (k0_pay3 (stNext m c t.val)) := by
  rw [← after_12]; unfold Dat.leavesExact; rw [live12 t h]

/-! ## The body obligation -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d))
    ∗ (∃ d, owns (c : Thread nD τ) (mem9 t) fullShare ((dats m 0 c).before 9 t d))
    ∗ (∃ d, owns (c : Thread nD τ) (mem10 t) fullShare ((dats m 0 c).before 10 t d))
    ∗ (∃ d, owns (c : Thread nD τ) (mem11 t) fullShare ((dats m 0 c).before 11 t d))
    ∗ (∃ d, owns (c : Thread nD τ) (mem12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl,
    show (dats m 0 c).Φ t.succ = PhiS m c (t.val + 1) t.isLt from rfl, PhiS_castSucc m c t,
    leaves_0, leaves_1, leaves_2, leaves_3, leaves_4, leaves_5, leaves_6, leaves_7, leaves_8, leaves_9, leaves_10, leaves_11]
  unfold PhiS
  by_cases h0 : t.val % 32 = 0
  · have hf := (first_iff t).mpr h0
    have hl : ¬ isLast (grid0.coords t) := fun h => by have := (last_iff t).mp h; omega
    rw [Dat.leavesExact_idle (dats m 0 c) 12 t (idle12 t hl) (noFlush12 t hl)]
    iintro ⟨⟨⟨%e, %s, %hes, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hk := (carried_put (F := F) e (k0_pay4 (VecWindow.window (s := S1x3x1024) (preB m c t.val) ![0, 0, 0] S1x3x1024.size inb_S1x3x1024_S1x3x1024_0_0_0))).trans (carryAt_first m c t.val h0).symm
    have hu := conv_eq_uAt m c t.val _ hk
    have hs := stAt_first m c t.val h0
    unfold startAt at hs
    iapply (run_first (F := F) c (grid0.coords t) _ _ _ _ _ _ _ _ _ _ _ _ _ _ _ _ _ _ _ _ _ _ _ _ _ _ _ _ _ _ _ _ hf hl)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    iintro ⟨H0, H1, H2, H3, H4, H5, H6, H7, H8, H9, H10, H11, H12, HS0, HS1⟩
    rw [hu, ← hs, yPut_base _ _ _ _ _ _ _ _ (zB m c t.val)]
    isplitl [HS0 HS1 HS2 Hg]
    · isplitl [HS0 HS1 HS2]
      · iexists _; iexists _; isplitr
        swap
        · isplitl [HS0]; · iexact HS0
          isplitl [HS1]; · iexact HS1
          iexact HS2
        · ipureintro; exact fun hn => ⟨(carried_put _ _).trans (carryAt_succ m c t.val hn).symm, (stAt_succ m c t.val hn).symm⟩
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12
  · have hf : ¬ isFirst (grid0.coords t) := fun h => h0 ((first_iff t).mp h)
    by_cases hl : isLast (grid0.coords t)
    · rw [leaves_12 m c t hl]
      iintro ⟨⟨⟨%e, %s, %hes, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      obtain ⟨hk, hs⟩ := hes h0
      subst hs
      have hu := conv_eq_uAt m c t.val e hk
      iapply (run_last (F := F) c (grid0.coords t) _ _ _ _ _ _ _ _ _ _ _ _ _ _ _ _ _ _ _ _ _ _ _ _ _ _ _ _ _ _ _ _ hf hl)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, HS0, HS1⟩
      rw [hu, yPut_base _ _ _ _ _ _ _ _ (zB m c t.val)]
      isplitl [HS0 HS1 HS2 Hg]
      · isplitl [HS0 HS1 HS2]
        · iexists _; iexists _; isplitr
          swap
          · isplitl [HS0]; · iexact HS0
            isplitl [HS1]; · iexact HS1
            iexact HS2
          · ipureintro; exact fun hn => ⟨(carried_put _ _).trans (carryAt_succ m c t.val hn).symm, (stAt_succ m c t.val hn).symm⟩
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [Dat.leavesExact_idle (dats m 0 c) 12 t (idle12 t hl) (noFlush12 t hl)]
      iintro ⟨⟨⟨%e, %s, %hes, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      obtain ⟨hk, hs⟩ := hes h0
      subst hs
      have hu := conv_eq_uAt m c t.val e hk
      iapply (run_mid (F := F) c (grid0.coords t) _ _ _ _ _ _ _ _ _ _ _ _ _ _ _ _ _ _ _ _ _ _ _ _ _ _ _ _ _ _ _ _ hf hl)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, HS0, HS1⟩
      rw [hu, yPut_base _ _ _ _ _ _ _ _ (zB m c t.val)]
      isplitl [HS0 HS1 HS2 Hg]
      · isplitl [HS0 HS1 HS2]
        · iexists _; iexists _; isplitr
          swap
          · isplitl [HS0]; · iexact HS0
            isplitl [HS1]; · iexact HS1
            iexact HS2
          · ipureintro; exact fun hn => ⟨(carried_put _ _).trans (carryAt_succ m c t.val hn).symm, (stAt_succ m c t.val hn).symm⟩
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%e, H0⟩, ⟨%s, H1⟩, H2⟩, Hg⟩
  isplitl [H0 H1 H2]
  · iexists _; iexists _; isplitr
    swap
    · isplitl [H0]; · iexact H0
      isplitl [H1]; · iexact H1
      iexact H2
    · ipureintro; exact fun h => absurd rfl h
  iexact Hg

/-- After the last point the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%e, %s, %h, H0, H1, H2⟩, Hg⟩
  isplitl [H0 H1 H2]
  · isplitl [H0]; · iexists _; iexact H0
    isplitl [H1]; · iexists _; iexact H1
    iexact H2
  iexact Hg

/-! ## The run and the frame -/

set_option backward.isDefEq.respectTransparency.types false in
/-- The launch: every fair execution ends, every array at what the proof data give, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were launched and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Hand
end
-- ==== Proof.SsdPure.lean ====
module

public import proofs.«01_k».proof.Proof.SsdRun
public import Idealize.ShloMosaic.Lib.Pointwise

@[expose] public section

set_option maxRecDepth 16384

noncomputable section

namespace Cert.KernelIdeal.Hand

open Cert.KernelIdeal Cert.KernelIdeal.Gen
open Idealize.ShloMosaic

/-! ## The mathematics of one chunk, on tables indexed by natural numbers -/

/-- A matrix as a table, zero outside. -/
def rd2 {n0 n1 : ℕ} (x : (⟨2, ![n0, n1]⟩ : Shape).Idx → EReal) (a b : ℕ) : EReal :=
  if h : a < n0 ∧ b < n1 then x (ix2 ⟨a, h.1⟩ ⟨b, h.2⟩) else 0

theorem rd2_eq {n0 n1 : ℕ} (x : (⟨2, ![n0, n1]⟩ : Shape).Idx → EReal) (a : Fin n0) (b : Fin n1) : x (ix2 a b) = rd2 x a.val b.val := by
  unfold rd2
  rw [dif_pos ⟨a.isLt, b.isLt⟩]

/-- The step size from its input. -/
def sp (x : EReal) : EReal := max x 0 + Ideal.log1p (Ideal.exp (0 - max x (-x)))

/-- The literal that masks the non-causal places. -/
def neg : EReal := Ideal.ofBits FTy.f32 0xF149F2CA#32

/-- The product of a query row and a key row of group `g`. -/
def grm (u : ℕ → ℕ → EReal) (g l k : ℕ) : EReal := ∑ n : Fin 128, u l (768 + 128 * g + n.val) * u k (512 + 128 * g + n.val)

/-- The chunk's gated result at row `l`, channel `q`. -/
def yS (u dt cum st z : ℕ → ℕ → EReal) (dsk : ℕ → EReal) (l q : ℕ) : EReal :=
  ((∑ k : Fin 128, (grm u (q / 256) l k.val * Ideal.exp (if k.val ≤ l then cum l (q / 64) - cum k.val (q / 64) else neg)) * (u k.val q * dt k.val (q / 64)))
    + (∑ n : Fin 128, u l (768 + 128 * (q / 256) + n.val) * st q n.val) * Ideal.exp (cum l (q / 64)) + dsk q * u l q) * (z l q * Ideal.logistic (z l q))

/-- The state after the chunk at channel `q`, state column `n`. -/
def stS (u dt cum st : ℕ → ℕ → EReal) (q n : ℕ) : EReal :=
  st q n * Ideal.exp (cum 127 (q / 64))
    + ∑ l : Fin 128, ((u l.val q * dt l.val (q / 64)) * Ideal.exp (cum 127 (q / 64) - cum l.val (q / 64))) * u l.val (512 + 128 * (q / 256) + n)

/-! ## Reading windows, puts and masks at an index -/

/-- A window of a matrix read at an index. -/
theorem window2 {α : Type} {n0 n1 k0 k1 : ℕ} (x : (⟨2, ![n0, n1]⟩ : Shape).Idx → α) (o0 o1 : ℕ)
    (inb : ∀ a, (![o0, o1] : Fin 2 → ℕ) a + (![k0, k1] : Fin 2 → ℕ) a ≤ (⟨2, ![n0, n1]⟩ : Shape).size a) (a : Fin k0) (b : Fin k1) :
    VecWindow.window (s := ⟨2, ![n0, n1]⟩) x ![o0, o1] ![k0, k1] inb (ix2 a b)
      = x (ix2 ⟨o0 + a.val, lt_of_lt_of_le (Nat.add_lt_add_left a.isLt _) (inb 0)⟩ ⟨o1 + b.val, lt_of_lt_of_le (Nat.add_lt_add_left b.isLt _) (inb 1)⟩) := by
  unfold VecWindow.window
  refine congrArg x (funext fun d => Fin.ext ?_)
  match d with
  | ⟨0, _⟩ => show o0 + 1 * a.val = o0 + a.val; omega
  | ⟨1, _⟩ => show o1 + 1 * b.val = o1 + b.val; omega

/-- A put read inside the window. -/
theorem put2_in {α : Type} {n0 n1 k0 k1 : ℕ} (x : (⟨2, ![n0, n1]⟩ : Shape).Idx → α) (o0 o1 : ℕ) (w : (⟨2, ![k0, k1]⟩ : Shape).Idx → α)
    (a : Fin n0) (b : Fin n1) (a' : Fin k0) (b' : Fin k1) (ha : a.val = o0 + a'.val) (hb : b.val = o1 + b'.val) :
    VecWindow.put (s := ⟨2, ![n0, n1]⟩) x ![o0, o1] ![k0, k1] w (ix2 a b) = w (ix2 a' b') := by
  have h : ∀ d : Fin 2, (![o0, o1] : Fin 2 → ℕ) d ≤ ((ix2 a b : (⟨2, ![n0, n1]⟩ : Shape).Idx) d).val ∧ ((ix2 a b : (⟨2, ![n0, n1]⟩ : Shape).Idx) d).val < (![o0, o1] : Fin 2 → ℕ) d + (![k0, k1] : Fin 2 → ℕ) d := by
    intro d
    match d with
    | ⟨0, _⟩ => exact ⟨by show o0 ≤ a.val; omega, by show a.val < o0 + k0; have := a'.isLt; omega⟩
    | ⟨1, _⟩ => exact ⟨by show o1 ≤ b.val; omega, by show b.val < o1 + k1; have := b'.isLt; omega⟩
  unfold VecWindow.put
  rw [dif_pos h]
  refine congrArg w (funext fun d => Fin.ext ?_)
  match d with
  | ⟨0, _⟩ => show a.val - o0 = a'.val; omega
  | ⟨1, _⟩ => show b.val - o1 = b'.val; omega

/-- A put read at a row outside the window. -/
theorem put2_row {α : Type} {n0 n1 k0 k1 : ℕ} (x : (⟨2, ![n0, n1]⟩ : Shape).Idx → α) (o0 o1 : ℕ) (w : (⟨2, ![k0, k1]⟩ : Shape).Idx → α)
    (a : Fin n0) (b : Fin n1) (ha : ¬ (o0 ≤ a.val ∧ a.val < o0 + k0)) :
    VecWindow.put (s := ⟨2, ![n0, n1]⟩) x ![o0, o1] ![k0, k1] w (ix2 a b) = x (ix2 a b) := by
  unfold VecWindow.put
  rw [dif_neg]
  intro h
  exact ha (h 0)

/-- A put read at a column outside the window. -/
theorem put2_col {α : Type} {n0 n1 k0 k1 : ℕ} (x : (⟨2, ![n0, n1]⟩ : Shape).Idx → α) (o0 o1 : ℕ) (w : (⟨2, ![k0, k1]⟩ : Shape).Idx → α)
    (a : Fin n0) (b : Fin n1) (hb : ¬ (o1 ≤ b.val ∧ b.val < o1 + k1)) :
    VecWindow.put (s := ⟨2, ![n0, n1]⟩) x ![o0, o1] ![k0, k1] w (ix2 a b) = x (ix2 a b) := by
  unfold VecWindow.put
  rw [dif_neg]
  intro h
  exact hb (h 1)

theorem sge_eq : ∀ l k : Fin 128, IntOp.cmpi CmpIPredicate.sge (BitVec.ofNat 32 l.val) (BitVec.ofNat 32 k.val) = if k.val ≤ l.val then 1#1 else 0#1 := by
  decide +kernel

theorem slt_eq : ∀ l : Fin 128, IntOp.cmpi CmpIPredicate.slt (BitVec.ofNat 32 l.val) 64#32 = if l.val < 64 then 1#1 else 0#1 := by
  decide +kernel

/-- The causal mask as a case. -/
theorem sel_sge {α : Type} (l k : Fin 128) (a b : α) :
    Scalar.select (IntOp.cmpi CmpIPredicate.sge (BitVec.ofNat 32 l.val) (BitVec.ofNat 32 k.val)) a b = if k.val ≤ l.val then a else b := by
  rw [sge_eq]
  split_ifs <;> rfl

/-- The half mask as a case. -/
theorem sel_slt {α : Type} (l : Fin 128) (a b : α) :
    Scalar.select (IntOp.cmpi CmpIPredicate.slt (BitVec.ofNat 32 l.val) 64#32) a b = if l.val < 64 then a else b := by
  rw [slt_eq]
  split_ifs <;> rfl

/-! ## Step sizes and their running sums -/

theorem log1p_nonneg (x : EReal) (h : 0 ≤ x) : 0 ≤ Ideal.log1p x := by
  unfold Ideal.log1p
  induction x with
  | bot => simp at h
  | top =>
    rw [show (1 : EReal) + ⊤ = ⊤ from rfl]
    exact le_top
  | coe r =>
    have hr : (0 : ℝ) ≤ r := by exact_mod_cast h
    have e : (1 : EReal) + (r : EReal) = ((1 + r : ℝ) : EReal) := by push_cast; rfl
    rw [e]
    show (0 : EReal) ≤ if 1 + r ≤ 0 then ⊥ else (Real.log (1 + r) : EReal)
    rw [if_neg (by linarith)]
    exact_mod_cast Real.log_nonneg (by linarith)

theorem exp_nonneg (x : EReal) : 0 ≤ Ideal.exp x := by
  induction x with
  | bot => exact le_refl _
  | top => exact le_top
  | coe r =>
    show (0 : EReal) ≤ (Real.exp r : EReal)
    exact_mod_cast (Real.exp_pos r).le

/-- A step size is not negative. -/
theorem sp_nonneg (x : EReal) : 0 ≤ sp x :=
  add_nonneg (le_max_right _ _) (log1p_nonneg _ (exp_nonneg _))

/-- A step's decay exponent is not positive. -/
theorem decay_nonpos (x a : EReal) : sp x * (0 - Ideal.exp a) ≤ 0 := by
  have h : 0 - Ideal.exp a ≤ 0 := by
    rw [zero_sub]
    exact EReal.neg_le_zero.2 (exp_nonneg a)
  exact mul_nonpos_of_nonneg_of_nonpos (sp_nonneg x) h

/-- The three parts of a split number add up to it. -/
theorem split_sum (a : EReal) (h : a ≤ 0) : a + (a - a) + (a - a - (a - a)) = a := by
  induction a with
  | bot => rfl
  | top => simp at h
  | coe r =>
    have e : (r : EReal) - (r : EReal) = 0 := by rw [← EReal.coe_sub, sub_self]; rfl
    rw [e]
    simp

theorem pay10_apply (x4 : Vec Ideal S128x128 .f32) (x9 : Vec Ideal S1x128 .f32) (l h : Fin 128) :
    k0_pay10 (F := Ideal) x4 x9 (ix2 l h) = sp (x4 (ix2 l h) + x9 (ix2 0 h)) := by
  pointwise [k0_pay10, sp]
  rfl

theorem pay11_apply (x4 : Vec Ideal S128x128 .f32) (x9 x10 : Vec Ideal S1x128 .f32) (l h : Fin 128) :
    k0_pay11 (F := Ideal) x4 x9 x10 (ix2 l h) = sp (x4 (ix2 l h) + x9 (ix2 0 h)) * (0 - Ideal.exp (x10 (ix2 0 h))) := by
  pointwise [k0_pay11, pay10_apply]

/-- The running sums of the decay exponents over a chunk's rows. -/
theorem pay20_apply (x4 : Vec Ideal S128x128 .f32) (x9 x10 : Vec Ideal S1x128 .f32) (l h : Fin 128) :
    k0_pay20 (F := Ideal) k0_pay13 (k0_pay17 x4 x9 x10) (k0_pay18 x4 x9 x10) (k0_pay19 x4 x9 x10) (ix2 l h)
      = ∑ k : Fin 128, if k.val ≤ l.val then sp (x4 (ix2 k h) + x9 (ix2 0 h)) * (0 - Ideal.exp (x10 (ix2 0 h))) else 0 := by
  pointwise [k0_pay20, k0_pay17, k0_pay18, k0_pay19, k0_pay16, k0_pay15, k0_pay14, k0_pay13, k0_pay12]
  rw [← Finset.sum_add_distrib, ← Finset.sum_add_distrib]
  refine Finset.sum_congr rfl fun k _ => ?_
  simp only [sel_sge, pay11_apply]
  split_ifs
  · exact split_sum _ (decay_nonpos _ _)
  · simp

theorem w54_apply (x4 : Vec Ideal S128x128 .f32) (x9 : Vec Ideal S1x128 .f32) (l h : Fin 128) :
    w54 (F := Ideal) x4 x9 (ix2 l h) = sp (x4 (ix2 l h) + x9 (ix2 0 h)) := by
  unfold w54
  erw [win_S128x128, win_S1x128]
  exact pay10_apply _ _ _ _

theorem w78_apply (x4 : Vec Ideal S128x128 .f32) (x9 x10 : Vec Ideal S1x128 .f32) (l h : Fin 128) :
    w78 (F := Ideal) x4 x9 x10 (ix2 l h)
      = ∑ k : Fin 128, if k.val ≤ l.val then sp (x4 (ix2 k h) + x9 (ix2 0 h)) * (0 - Ideal.exp (x10 (ix2 0 h))) else 0 := by
  unfold w78 w66 w73 w74 w75
  erw [win_S128x128, win_S1x128, win_S1x128]
  exact pay20_apply _ _ _ _ _

theorem cum_fold (x4 : Vec Ideal S128x128 .f32) (x9 x10 : Vec Ideal S1x128 .f32) :
    k0_pay20 (F := Ideal) w66 (w73 x4 x9 x10) (w74 x4 x9 x10) (w75 x4 x9 x10) = w78 x4 x9 x10 := rfl

theorem w85_eq (x2 : Vec Ideal S128x512 .f32) : w85 (F := Ideal) x2 = x2 := win_S128x512 x2 _
theorem w87_apply (x11 : Vec Ideal S1x512 .f32) (a : Fin 1) (b : Fin 512) : w87 (F := Ideal) x11 (ix2 a b) = x11 (ix2 0 b) := by
  unfold w87
  erw [win_S1x512]
  rw [Subsingleton.elim a 0]
  pointwise [k0_pay25]

/-! ## The state rows a later group reads are those the chunk started from -/

theorem w221_apply (u : FVec Ideal S128x1024 .f32) (x4 : Vec Ideal S128x128 .f32) (x9 x10 : Vec Ideal S1x128 .f32) (s : Vec Ideal S512x128 .f32) (a b : Fin 128) :
    w221 (F := Ideal) u x4 x9 x10 s (ix2 a b) = s (ix2 ⟨128 + a.val, by omega⟩ b) := by
  unfold w221 stAfter4
  refine (window2 _ 128 0 _ a b).trans ((put2_row _ _ _ _ _ _ (by show ¬ (0 ≤ 128 + a.val ∧ 128 + a.val < 0 + 128); omega)).trans ?_)
  exact congrArg s (congrArg (ix2 _) (Fin.ext (Nat.zero_add _)))

theorem w316_apply (u : FVec Ideal S128x1024 .f32) (x4 : Vec Ideal S128x128 .f32) (x9 x10 : Vec Ideal S1x128 .f32) (s : Vec Ideal S512x128 .f32) (a b : Fin 128) :
    w316 (F := Ideal) u x4 x9 x10 s (ix2 a b) = s (ix2 ⟨256 + a.val, by omega⟩ b) := by
  unfold w316 stAfter6 stAfter4
  refine (window2 _ 256 0 _ a b).trans ((put2_row _ _ _ _ _ _ (by show ¬ (128 ≤ 256 + a.val ∧ 256 + a.val < 128 + 128); omega)).trans ((put2_row _ _ _ _ _ _ (by show ¬ (0 ≤ 256 + a.val ∧ 256 + a.val < 0 + 128); omega)).trans ?_))
  exact congrArg s (congrArg (ix2 _) (Fin.ext (Nat.zero_add _)))

theorem w406_apply (u : FVec Ideal S128x1024 .f32) (x4 : Vec Ideal S128x128 .f32) (x9 x10 : Vec Ideal S1x128 .f32) (s : Vec Ideal S512x128 .f32) (a b : Fin 128) :
    w406 (F := Ideal) u x4 x9 x10 s (ix2 a b) = s (ix2 ⟨384 + a.val, by omega⟩ b) := by
  unfold w406 stAfter8 stAfter6 stAfter4
  refine (window2 _ 384 0 _ a b).trans ((put2_row _ _ _ _ _ _ (by show ¬ (256 ≤ 384 + a.val ∧ 384 + a.val < 256 + 128); omega)).trans ((put2_row _ _ _ _ _ _ (by show ¬ (128 ≤ 384 + a.val ∧ 384 + a.val < 128 + 128); omega)).trans ((put2_row _ _ _ _ _ _ (by show ¬ (0 ≤ 384 + a.val ∧ 384 + a.val < 0 + 128); omega)).trans ?_)))
  exact congrArg s (congrArg (ix2 _) (Fin.ext (Nat.zero_add _)))

theorem s0_apply (s : Vec Ideal S512x128 .f32) (a b : Fin 128) :
    VecWindow.window (s := S512x128) s ![0, 0] S128x128.size inb_S512x128_S128x128_0_0 (ix2 a b) = s (ix2 ⟨a.val, by omega⟩ b) :=
  (window2 (n0 := 512) (n1 := 128) (k0 := 128) (k1 := 128) s 0 0 inb_S512x128_S128x128_0_0 a b).trans (congrArg s (congrArg₂ ix2 (Fin.ext (Nat.zero_add _)) (Fin.ext (Nat.zero_add _))))

/-! ## The four column groups of the result and of the state -/

theorem y_q0 (u : FVec Ideal S128x1024 .f32) (x2 : Vec Ideal S128x512 .f32) (x4 : Vec Ideal S128x128 .f32) (x9 x10 : Vec Ideal S1x128 .f32) (x11 : Vec Ideal S1x512 .f32) (s : Vec Ideal S512x128 .f32) (l j : Fin 128) :
    k0_pay40 (F := Ideal) (w85 x2) (w93 u) (w173 u x4 x9 x10 s) (w174 x11) (ix2 l j)
      = yS (rd2 u) (rd2 (w54 x4 x9)) (rd2 (w78 x4 x9 x10)) (rd2 s) (rd2 x2) (rd2 x11 0) l.val (0 + j.val) := by
  unfold w173
  have hw := s0_apply s
  generalize VecWindow.window (s := S512x128) s ![0, 0] S128x128.size inb_S512x128_S128x128_0_0 = w at hw ⊢
  pointwise [cum_fold, w93, w173, w174, w82, w84, w80, w79, w91, w92, w94, w95, w103, w110, w117, w120, w123, w62, w89, w183, w184, w185, w193, w220, w222, w274, w275, w276, w277, w278, w279, w280, w288, w315, w318, w325, w368, w369, w370, w378, w405, w416, w429, k0_pay1, k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay12]
  simp only [w85_eq, w87_apply]
  simp only [hw, sel_sge, sel_slt]
  simp only [rd2_eq u, rd2_eq x2, rd2_eq x11, rd2_eq s, rd2_eq (w54 x4 x9), rd2_eq (w78 x4 x9 x10)]
  unfold yS grm
  have hg : j.val / 256 = 0 := by omega
  by_cases hj : j.val < 64
  · have hh : j.val / 64 = 0 := by omega
    simp only [hj, if_true, hg, hh, Finset.sum_const_zero, add_zero, zero_add, neg]
    rfl
  · have hh : j.val / 64 = 1 := by omega
    simp only [hj, if_false, hg, hh, Finset.sum_const_zero, add_zero, zero_add, neg]
    rfl

theorem st_q0 (u : FVec Ideal S128x1024 .f32) (x4 : Vec Ideal S128x128 .f32) (x9 x10 : Vec Ideal S1x128 .f32) (s : Vec Ideal S512x128 .f32) (j n : Fin 128) :
    k0_pay37 (F := Ideal) (w80 x4 x9 x10) (w82 ) (w84 ) (w89 u) (w94 x4 x9 x10) (w95 x4 x9 x10) (w103 u x4 x9) (VecWindow.window (s := S512x128) s ![0, 0] S128x128.size inb_S512x128_S128x128_0_0) (ix2 j n)
      = stS (rd2 u) (rd2 (w54 x4 x9)) (rd2 (w78 x4 x9 x10)) (rd2 s) (0 + j.val) n.val := by
  have hw := s0_apply s
  generalize VecWindow.window (s := S512x128) s ![0, 0] S128x128.size inb_S512x128_S128x128_0_0 = w at hw ⊢
  pointwise [cum_fold, w93, w173, w174, w82, w84, w80, w79, w91, w92, w94, w95, w103, w110, w117, w120, w123, w62, w89, w183, w184, w185, w193, w220, w222, w274, w275, w276, w277, w278, w279, w280, w288, w315, w318, w325, w368, w369, w370, w378, w405, w416, w429, k0_pay1, k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay12]
  simp only [hw, sel_sge, sel_slt]
  simp only [rd2_eq u, rd2_eq s, rd2_eq (w54 x4 x9), rd2_eq (w78 x4 x9 x10)]
  unfold stS
  have hg : j.val / 256 = 0 := by omega
  by_cases hj : j.val < 64
  · have hh : j.val / 64 = 0 := by omega
    simp only [hj, if_true, hg, hh, zero_add]
    rfl
  · have hh : j.val / 64 = 1 := by omega
    simp only [hj, if_false, hg, hh, zero_add]
    rfl

theorem y_q1 (u : FVec Ideal S128x1024 .f32) (x2 : Vec Ideal S128x512 .f32) (x4 : Vec Ideal S128x128 .f32) (x9 x10 : Vec Ideal S1x128 .f32) (x11 : Vec Ideal S1x512 .f32) (s : Vec Ideal S512x128 .f32) (l j : Fin 128) :
    k0_pay48 (F := Ideal) (w82 ) (w85 x2) (w87 x11) (w91 u) (w183 u) (w184 x4 x9 x10) (w185 x4 x9 x10) (w220 u x4 x9 x10) (w222 u x4 x9 x10 s) (constant S128x128 .f32 0x00000000#32) (ix2 l j)
      = yS (rd2 u) (rd2 (w54 x4 x9)) (rd2 (w78 x4 x9 x10)) (rd2 s) (rd2 x2) (rd2 x11 0) l.val (128 + j.val) := by
  unfold w222
  change _ = _
  rw [show (VecWindow.window (s := S512x128) ((stAfter4 u x4 x9 x10 s)) ![128, 0] S128x128.size inb_S512x128_S128x128_128_0) = w221 u x4 x9 x10 s from rfl]
  pointwise [cum_fold, w93, w173, w174, w82, w84, w80, w79, w91, w92, w94, w95, w103, w110, w117, w120, w123, w62, w89, w183, w184, w185, w193, w220, w222, w274, w275, w276, w277, w278, w279, w280, w288, w315, w318, w325, w368, w369, w370, w378, w405, w416, w429, k0_pay1, k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay12]
  simp only [w85_eq, w87_apply]
  simp only [w221_apply, sel_sge, sel_slt]
  simp only [rd2_eq u, rd2_eq x2, rd2_eq x11, rd2_eq s, rd2_eq (w54 x4 x9), rd2_eq (w78 x4 x9 x10)]
  unfold yS grm
  have hg : (128 + j.val) / 256 = 0 := by omega
  by_cases hj : j.val < 64
  · have hh : (128 + j.val) / 64 = 2 := by omega
    simp only [hj, if_true, hg, hh, Finset.sum_const_zero, add_zero, zero_add, neg]
    rfl
  · have hh : (128 + j.val) / 64 = 3 := by omega
    simp only [hj, if_false, hg, hh, Finset.sum_const_zero, add_zero, zero_add, neg]
    rfl

theorem st_q1 (u : FVec Ideal S128x1024 .f32) (x4 : Vec Ideal S128x128 .f32) (x9 x10 : Vec Ideal S1x128 .f32) (s : Vec Ideal S512x128 .f32) (j n : Fin 128) :
    k0_pay47 (F := Ideal) (w80 x4 x9 x10) (w82 ) (w84 ) (w89 u) (w184 x4 x9 x10) (w185 x4 x9 x10) (w193 u x4 x9) (w221 u x4 x9 x10 s) (ix2 j n)
      = stS (rd2 u) (rd2 (w54 x4 x9)) (rd2 (w78 x4 x9 x10)) (rd2 s) (128 + j.val) n.val := by
  pointwise [cum_fold, w93, w173, w174, w82, w84, w80, w79, w91, w92, w94, w95, w103, w110, w117, w120, w123, w62, w89, w183, w184, w185, w193, w220, w222, w274, w275, w276, w277, w278, w279, w280, w288, w315, w318, w325, w368, w369, w370, w378, w405, w416, w429, k0_pay1, k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay12]
  simp only [w221_apply, sel_sge, sel_slt]
  simp only [rd2_eq u, rd2_eq s, rd2_eq (w54 x4 x9), rd2_eq (w78 x4 x9 x10)]
  unfold stS
  have hg : (128 + j.val) / 256 = 0 := by omega
  by_cases hj : j.val < 64
  · have hh : (128 + j.val) / 64 = 2 := by omega
    simp only [hj, if_true, hg, hh, zero_add]
    rfl
  · have hh : (128 + j.val) / 64 = 3 := by omega
    simp only [hj, if_false, hg, hh, zero_add]
    rfl

theorem y_q2 (u : FVec Ideal S128x1024 .f32) (x2 : Vec Ideal S128x512 .f32) (x4 : Vec Ideal S128x128 .f32) (x9 x10 : Vec Ideal S1x128 .f32) (x11 : Vec Ideal S1x512 .f32) (s : Vec Ideal S512x128 .f32) (l j : Fin 128) :
    k0_pay61 (F := Ideal) (w85 x2) (w87 x11) (w278 u) (w315 u x4 x9 x10) (w318 u x4 x9 x10 s) (w325 x4 x9 x10) (ix2 l j)
      = yS (rd2 u) (rd2 (w54 x4 x9)) (rd2 (w78 x4 x9 x10)) (rd2 s) (rd2 x2) (rd2 x11 0) l.val (256 + j.val) := by
  unfold w318
  change _ = _
  rw [show (VecWindow.window (s := S512x128) ((stAfter6 u x4 x9 x10 s)) ![256, 0] S128x128.size inb_S512x128_S128x128_256_0) = w316 u x4 x9 x10 s from rfl]
  pointwise [cum_fold, w93, w173, w174, w82, w84, w80, w79, w91, w92, w94, w95, w103, w110, w117, w120, w123, w62, w89, w183, w184, w185, w193, w220, w222, w274, w275, w276, w277, w278, w279, w280, w288, w315, w318, w325, w368, w369, w370, w378, w405, w416, w429, k0_pay1, k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay12]
  simp only [w85_eq, w87_apply]
  simp only [w316_apply, sel_sge, sel_slt]
  simp only [rd2_eq u, rd2_eq x2, rd2_eq x11, rd2_eq s, rd2_eq (w54 x4 x9), rd2_eq (w78 x4 x9 x10)]
  unfold yS grm
  have hg : (256 + j.val) / 256 = 1 := by omega
  by_cases hj : j.val < 64
  · have hh : (256 + j.val) / 64 = 4 := by omega
    simp only [hj, if_true, hg, hh, Finset.sum_const_zero, add_zero, zero_add, neg]
    rfl
  · have hh : (256 + j.val) / 64 = 5 := by omega
    simp only [hj, if_false, hg, hh, Finset.sum_const_zero, add_zero, zero_add, neg]
    rfl

theorem st_q2 (u : FVec Ideal S128x1024 .f32) (x4 : Vec Ideal S128x128 .f32) (x9 x10 : Vec Ideal S1x128 .f32) (s : Vec Ideal S512x128 .f32) (j n : Fin 128) :
    k0_pay60 (F := Ideal) (w80 x4 x9 x10) (w82 ) (w84 ) (w274 u) (w279 x4 x9 x10) (w280 x4 x9 x10) (w288 u x4 x9) (w316 u x4 x9 x10 s) (ix2 j n)
      = stS (rd2 u) (rd2 (w54 x4 x9)) (rd2 (w78 x4 x9 x10)) (rd2 s) (256 + j.val) n.val := by
  pointwise [cum_fold, w93, w173, w174, w82, w84, w80, w79, w91, w92, w94, w95, w103, w110, w117, w120, w123, w62, w89, w183, w184, w185, w193, w220, w222, w274, w275, w276, w277, w278, w279, w280, w288, w315, w318, w325, w368, w369, w370, w378, w405, w416, w429, k0_pay1, k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay12]
  simp only [w316_apply, sel_sge, sel_slt]
  simp only [rd2_eq u, rd2_eq s, rd2_eq (w54 x4 x9), rd2_eq (w78 x4 x9 x10)]
  unfold stS
  have hg : (256 + j.val) / 256 = 1 := by omega
  by_cases hj : j.val < 64
  · have hh : (256 + j.val) / 64 = 4 := by omega
    simp only [hj, if_true, hg, hh, zero_add]
    rfl
  · have hh : (256 + j.val) / 64 = 5 := by omega
    simp only [hj, if_false, hg, hh, zero_add]
    rfl

theorem y_q3 (u : FVec Ideal S128x1024 .f32) (x2 : Vec Ideal S128x512 .f32) (x4 : Vec Ideal S128x128 .f32) (x9 x10 : Vec Ideal S1x128 .f32) (x11 : Vec Ideal S1x512 .f32) (s : Vec Ideal S512x128 .f32) (l j : Fin 128) :
    k0_pay2 (F := Ideal) (w85 x2) (w87 x11) (w368 u) (w405 u x4 x9 x10) (w416 u x4 x9 x10 s) (ix2 l j)
      = yS (rd2 u) (rd2 (w54 x4 x9)) (rd2 (w78 x4 x9 x10)) (rd2 s) (rd2 x2) (rd2 x11 0) l.val (384 + j.val) := by
  unfold w416
  change _ = _
  rw [show (VecWindow.window (s := S512x128) ((stAfter8 u x4 x9 x10 s)) ![384, 0] S128x128.size inb_S512x128_S128x128_384_0) = w406 u x4 x9 x10 s from rfl]
  pointwise [cum_fold, w93, w173, w174, w82, w84, w80, w79, w91, w92, w94, w95, w103, w110, w117, w120, w123, w62, w89, w183, w184, w185, w193, w220, w222, w274, w275, w276, w277, w278, w279, w280, w288, w315, w318, w325, w368, w369, w370, w378, w405, w416, w429, k0_pay1, k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay12]
  simp only [w85_eq, w87_apply]
  simp only [w406_apply, sel_sge, sel_slt]
  simp only [rd2_eq u, rd2_eq x2, rd2_eq x11, rd2_eq s, rd2_eq (w54 x4 x9), rd2_eq (w78 x4 x9 x10)]
  unfold yS grm
  have hg : (384 + j.val) / 256 = 1 := by omega
  by_cases hj : j.val < 64
  · have hh : (384 + j.val) / 64 = 6 := by omega
    simp only [hj, if_true, hg, hh, Finset.sum_const_zero, add_zero, zero_add, neg]
    rfl
  · have hh : (384 + j.val) / 64 = 7 := by omega
    simp only [hj, if_false, hg, hh, Finset.sum_const_zero, add_zero, zero_add, neg]
    rfl

theorem st_q3 (u : FVec Ideal S128x1024 .f32) (x4 : Vec Ideal S128x128 .f32) (x9 x10 : Vec Ideal S1x128 .f32) (s : Vec Ideal S512x128 .f32) (j n : Fin 128) :
    k0_pay1 (F := Ideal) (w80 x4 x9 x10) (w84 ) (w274 u) (w378 u x4 x9) (w406 u x4 x9 x10 s) (w429 x4 x9 x10) (ix2 j n)
      = stS (rd2 u) (rd2 (w54 x4 x9)) (rd2 (w78 x4 x9 x10)) (rd2 s) (384 + j.val) n.val := by
  pointwise [cum_fold, w93, w173, w174, w82, w84, w80, w79, w91, w92, w94, w95, w103, w110, w117, w120, w123, w62, w89, w183, w184, w185, w193, w220, w222, w274, w275, w276, w277, w278, w279, w280, w288, w315, w318, w325, w368, w369, w370, w378, w405, w416, w429, k0_pay1, k0_pay2, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay12]
  simp only [w406_apply, sel_sge, sel_slt]
  simp only [rd2_eq u, rd2_eq s, rd2_eq (w54 x4 x9), rd2_eq (w78 x4 x9 x10)]
  unfold stS
  have hg : (384 + j.val) / 256 = 1 := by omega
  by_cases hj : j.val < 64
  · have hh : (384 + j.val) / 64 = 6 := by omega
    simp only [hj, if_true, hg, hh, zero_add]
    rfl
  · have hh : (384 + j.val) / 64 = 7 := by omega
    simp only [hj, if_false, hg, hh, zero_add]
    rfl

/-- A chunk's result block, element by element. -/
theorem yPut_apply (u : FVec Ideal S128x1024 .f32) (x2 : Vec Ideal S128x512 .f32) (x4 : Vec Ideal S128x128 .f32) (x9 x10 : Vec Ideal S1x128 .f32) (x11 : Vec Ideal S1x512 .f32) (s : Vec Ideal S512x128 .f32) (y : Vec Ideal S128x512 .f32) (l : Fin 128) (q : Fin 512) :
    yPut (F := Ideal) u x2 x4 x9 x10 x11 s y (ix2 l q)
      = yS (rd2 u) (rd2 (w54 x4 x9)) (rd2 (w78 x4 x9 x10)) (rd2 s) (rd2 x2) (rd2 x11 0) l.val q.val := by
  unfold yPut yAfter8 yAfter6 yAfter5
  have hq := q.isLt
  by_cases c3 : 384 ≤ q.val
  · refine (put2_in _ 0 384 _ _ _ l ⟨q.val - 384, by omega⟩ (by omega) (by show q.val = 384 + (q.val - 384); omega)).trans ?_
    refine (y_q3 u x2 x4 x9 x10 x11 s l ⟨q.val - 384, by omega⟩).trans ?_
    exact congrArg _ (by show 384 + (q.val - 384) = q.val; omega)
  by_cases c2 : 256 ≤ q.val
  · refine (put2_col _ _ _ _ _ _ (by omega)).trans ?_
    refine (put2_in _ 0 256 _ _ _ l ⟨q.val - 256, by omega⟩ (by omega) (by show q.val = 256 + (q.val - 256); omega)).trans ?_
    refine (y_q2 u x2 x4 x9 x10 x11 s l ⟨q.val - 256, by omega⟩).trans ?_
    exact congrArg _ (by show 256 + (q.val - 256) = q.val; omega)
  by_cases c1 : 128 ≤ q.val
  · refine (put2_col _ _ _ _ _ _ (by omega)).trans ?_
    refine (put2_col _ _ _ _ _ _ (by omega)).trans ?_
    refine (put2_in _ 0 128 _ _ _ l ⟨q.val - 128, by omega⟩ (by omega) (by show q.val = 128 + (q.val - 128); omega)).trans ?_
    refine (y_q1 u x2 x4 x9 x10 x11 s l ⟨q.val - 128, by omega⟩).trans ?_
    exact congrArg _ (by show 128 + (q.val - 128) = q.val; omega)
  by_cases c0 : 0 ≤ q.val
  · refine (put2_col _ _ _ _ _ _ (by omega)).trans ?_
    refine (put2_col _ _ _ _ _ _ (by omega)).trans ?_
    refine (put2_col _ _ _ _ _ _ (by omega)).trans ?_
    refine (put2_in _ 0 0 _ _ _ l ⟨q.val - 0, by omega⟩ (by omega) (by show q.val = 0 + (q.val - 0); omega)).trans ?_
    refine (y_q0 u x2 x4 x9 x10 x11 s l ⟨q.val - 0, by omega⟩).trans ?_
    exact congrArg _ (by show 0 + (q.val - 0) = q.val; omega)
  exact absurd (Nat.zero_le _) c0

/-- The state after a chunk, element by element. -/
theorem stOut_apply (u : FVec Ideal S128x1024 .f32) (x4 : Vec Ideal S128x128 .f32) (x9 x10 : Vec Ideal S1x128 .f32) (s : Vec Ideal S512x128 .f32) (q : Fin 512) (n : Fin 128) :
    stOut (F := Ideal) u x4 x9 x10 s (ix2 q n)
      = stS (rd2 u) (rd2 (w54 x4 x9)) (rd2 (w78 x4 x9 x10)) (rd2 s) q.val n.val := by
  unfold stOut stAfter8 stAfter6 stAfter4
  have hq := q.isLt
  by_cases c3 : 384 ≤ q.val
  · refine (put2_in _ 384 0 _ _ _ ⟨q.val - 384, by omega⟩ n (by show q.val = 384 + (q.val - 384); omega) (by omega)).trans ?_
    refine (st_q3 u x4 x9 x10 s ⟨q.val - 384, by omega⟩ n).trans ?_
    exact congrArg (fun a => stS _ _ _ _ a n.val) (by show 384 + (q.val - 384) = q.val; omega)
  by_cases c2 : 256 ≤ q.val
  · refine (put2_row _ _ _ _ _ _ (by omega)).trans ?_
    refine (put2_in _ 256 0 _ _ _ ⟨q.val - 256, by omega⟩ n (by show q.val = 256 + (q.val - 256); omega) (by omega)).trans ?_
    refine (st_q2 u x4 x9 x10 s ⟨q.val - 256, by omega⟩ n).trans ?_
    exact congrArg (fun a => stS _ _ _ _ a n.val) (by show 256 + (q.val - 256) = q.val; omega)
  by_cases c1 : 128 ≤ q.val
  · refine (put2_row _ _ _ _ _ _ (by omega)).trans ?_
    refine (put2_row _ _ _ _ _ _ (by omega)).trans ?_
    refine (put2_in _ 128 0 _ _ _ ⟨q.val - 128, by omega⟩ n (by show q.val = 128 + (q.val - 128); omega) (by omega)).trans ?_
    refine (st_q1 u x4 x9 x10 s ⟨q.val - 128, by omega⟩ n).trans ?_
    exact congrArg (fun a => stS _ _ _ _ a n.val) (by show 128 + (q.val - 128) = q.val; omega)
  by_cases c0 : 0 ≤ q.val
  · refine (put2_row _ _ _ _ _ _ (by omega)).trans ?_
    refine (put2_row _ _ _ _ _ _ (by omega)).trans ?_
    refine (put2_row _ _ _ _ _ _ (by omega)).trans ?_
    refine (put2_in _ 0 0 _ _ _ ⟨q.val - 0, by omega⟩ n (by show q.val = 0 + (q.val - 0); omega) (by omega)).trans ?_
    refine (st_q0 u x4 x9 x10 s ⟨q.val - 0, by omega⟩ n).trans ?_
    exact congrArg (fun a => stS _ _ _ _ a n.val) (by show 0 + (q.val - 0) = q.val; omega)
  exact absurd (Nat.zero_le _) c0

/-! ## The convolution -/

/-- The buffer of rows: the three carried rows, then the chunk's. -/
theorem conv_apply (k : Vec Ideal S3x1024 .f32) (b : Vec Ideal S136x1024 .f32) (x3 : Vec Ideal S128x1024 .f32) (x7 : Vec Ideal S4x1024 .f32) (x8 : Vec Ideal S1x1024 .f32) (l : Fin 128) (ch : Fin 1024) :
    convOf (F := Ideal) (ext1 (VecWindow.put (s := S136x1024) b ![5, 0] S3x1024.size k) x3) x3 x7 x8 (ix2 l ch)
      = (fun (e : ℕ → EReal) => (fun a : EReal => a * Ideal.logistic a) (e 0 * x7 (ix2 0 ch) + e 1 * x7 (ix2 1 ch) + e 2 * x7 (ix2 2 ch) + e 3 * x7 (ix2 3 ch) + x8 (ix2 0 ch)))
          (fun i => if l.val + i < 3 then rd2 k (l.val + i) ch.val else rd2 x3 (l.val + i - 3) ch.val) := by
  have hl := l.isLt
  have e : ∀ (i : ℕ) (hi : i < 4) (h : 5 + i + l.val < 136), ext1 (F := Ideal) (VecWindow.put (s := S136x1024) b ![5, 0] S3x1024.size k) x3 (ix2 ⟨5 + i + l.val, h⟩ ch)
      = if l.val + i < 3 then rd2 k (l.val + i) ch.val else rd2 x3 (l.val + i - 3) ch.val := by
    intro i hi h
    unfold ext1
    split_ifs with c
    · refine (put2_row _ _ _ _ _ _ (by show ¬ (8 ≤ 5 + i + l.val ∧ 5 + i + l.val < 8 + 128); omega)).trans ?_
      refine (put2_in _ 5 0 _ _ _ ⟨l.val + i, c⟩ ch (by show 5 + i + l.val = 5 + (l.val + i); omega) (by omega)).trans ?_
      exact rd2_eq k _ _
    · refine (put2_in _ 8 0 _ _ _ ⟨l.val + i - 3, by omega⟩ ch (by show 5 + i + l.val = 8 + (l.val + i - 3); omega) (by omega)).trans ?_
      erw [win_S128x1024]
      have : k0_pay6 (F := Ideal) x3 = x3 := by
        funext j
        pointwise [k0_pay6]
      rw [this]
      exact rd2_eq x3 _ _
  unfold convOf
  erw [win_S4x1024, win_S1x1024, win_S128x1024]
  have h6 : k0_pay6 (F := Ideal) x3 = x3 := by
    funext j
    pointwise [k0_pay6]
  rw [h6]
  pointwise [k0_pay7]
  have w5 := (window2 (n0 := 136) (n1 := 1024) (k0 := 128) (k1 := 1024) (ext1 (F := Ideal) (VecWindow.put (s := S136x1024) b ![5, 0] S3x1024.size k) x3) 5 0 inb_S136x1024_S128x1024_5_0 l ch).trans (Eq.trans (congrArg _ (congrArg₂ ix2 (Fin.ext rfl) (Fin.ext (Nat.zero_add _)))) (e 0 (by omega) (by omega)))
  have w6 := (window2 (n0 := 136) (n1 := 1024) (k0 := 128) (k1 := 1024) (ext1 (F := Ideal) (VecWindow.put (s := S136x1024) b ![5, 0] S3x1024.size k) x3) 6 0 inb_S136x1024_S128x1024_6_0 l ch).trans (Eq.trans (congrArg _ (congrArg₂ ix2 (Fin.ext rfl) (Fin.ext (Nat.zero_add _)))) (e 1 (by omega) (by omega)))
  have w7 := (window2 (n0 := 136) (n1 := 1024) (k0 := 128) (k1 := 1024) (ext1 (F := Ideal) (VecWindow.put (s := S136x1024) b ![5, 0] S3x1024.size k) x3) 7 0 inb_S136x1024_S128x1024_7_0 l ch).trans (Eq.trans (congrArg _ (congrArg₂ ix2 (Fin.ext rfl) (Fin.ext (Nat.zero_add _)))) (e 2 (by omega) (by omega)))
  have w8 : x3 (ix2 l ch) = if l.val + 3 < 3 then rd2 k (l.val + 3) ch.val else rd2 x3 (l.val + 3 - 3) ch.val := by
    rw [if_neg (by omega), Nat.add_sub_cancel]
    exact rd2_eq x3 _ _
  erw [w5, w6, w7, w8]
  rfl

end Cert.KernelIdeal.Hand
-- ==== Proof.SsdSpec.lean ====
module

public import proofs.«01_k».proof.Proof.SsdPure

@[expose] public section

set_option maxRecDepth 16384

noncomputable section

namespace Cert.KernelIdeal.Hand

open Idealize.ShloMosaic

/-! ## The layer's mathematics over whole sequences, on tables indexed by natural numbers -/

/-- A vector as a table, zero outside. -/
def rd1 {n0 : ℕ} (x : (⟨1, ![n0]⟩ : Shape).Idx → EReal) (a : ℕ) : EReal :=
  if h : a < n0 then x (ix1 ⟨a, h⟩) else 0

/-- An array of rank three as a table, zero outside. -/
def rd3 {n0 n1 n2 : ℕ} (x : (⟨3, ![n0, n1, n2]⟩ : Shape).Idx → EReal) (a b c : ℕ) : EReal :=
  if h : a < n0 ∧ b < n1 ∧ c < n2 then x (ix3 ⟨a, h.1⟩ ⟨b, h.2.1⟩ ⟨c, h.2.2⟩) else 0

/-- An array of rank four as a table, zero outside. -/
def rd4 {n0 n1 n2 n3 : ℕ} (x : (⟨4, ![n0, n1, n2, n3]⟩ : Shape).Idx → EReal) (a b c d : ℕ) : EReal :=
  if h : a < n0 ∧ b < n1 ∧ c < n2 ∧ d < n3 then x (ix4 ⟨a, h.1⟩ ⟨b, h.2.1⟩ ⟨c, h.2.2.1⟩ ⟨d, h.2.2.2⟩) else 0

theorem rd1_eq {n0 : ℕ} (x : (⟨1, ![n0]⟩ : Shape).Idx → EReal) (a : Fin n0) : x (ix1 a) = rd1 x a.val := by
  unfold rd1
  rw [dif_pos a.isLt]

theorem rd3_eq {n0 n1 n2 : ℕ} (x : (⟨3, ![n0, n1, n2]⟩ : Shape).Idx → EReal) (a : Fin n0) (b : Fin n1) (c : Fin n2) :
    x (ix3 a b c) = rd3 x a.val b.val c.val := by
  unfold rd3
  rw [dif_pos ⟨a.isLt, b.isLt, c.isLt⟩]

theorem rd4_eq {n0 n1 n2 n3 : ℕ} (x : (⟨4, ![n0, n1, n2, n3]⟩ : Shape).Idx → EReal) (a : Fin n0) (b : Fin n1) (c : Fin n2) (d : Fin n3) :
    x (ix4 a b c d) = rd4 x a.val b.val c.val d.val := by
  unfold rd4
  rw [dif_pos ⟨a.isLt, b.isLt, c.isLt, d.isLt⟩]

/-- The arguments of the call as tables. -/
structure Tab where
  /-- the projected rows -/
  u : ℕ → ℕ → EReal
  /-- the last inputs of the convolution before the sequence -/
  pre : ℕ → ℕ → ℕ → EReal
  /-- the states before the sequence -/
  h0 : ℕ → ℕ → ℕ → ℕ → EReal
  /-- the taps -/
  cw : ℕ → ℕ → EReal
  /-- the convolution's bias -/
  cb : ℕ → EReal
  /-- the step size's bias -/
  dtb : ℕ → EReal
  /-- the logarithm of the decay rate -/
  al : ℕ → EReal
  /-- the skip weight -/
  dsk : ℕ → EReal

namespace Tab

variable (T : Tab)

/-- The convolution's input of sequence `b` with the three rows before it in front. -/
def ext (b r ch : ℕ) : EReal := if r < 3 then T.pre b r ch else T.u (b * 4096 + (r - 3)) (3072 + ch)

/-- The convolution with its activation. -/
def cv (b t ch : ℕ) : EReal :=
  (fun a => a * Ideal.logistic a)
    (T.ext b t ch * T.cw 0 ch + T.ext b (t + 1) ch * T.cw 1 ch + T.ext b (t + 2) ch * T.cw 2 ch + T.ext b (t + 3) ch * T.cw 3 ch + T.cb ch)

/-- The step size. -/
def dt (b t h : ℕ) : EReal := sp (T.u (b * 4096 + t) (5632 + h) + T.dtb h)

/-- The running sum of the logarithms of the decay within chunk `c`. -/
def cum (b c l h : ℕ) : EReal := ∑ k : Fin 128, if k.val ≤ l then T.dt b (c * 128 + k.val) h * (0 - Ideal.exp (T.al h)) else 0

/-- The rows of chunk `c` after the convolution. -/
def uC (b c l ch : ℕ) : EReal := T.cv b (c * 128 + l) ch

/-- The step sizes of chunk `c`. -/
def dtC (b c l h : ℕ) : EReal := T.dt b (c * 128 + l) h

/-- The gates of chunk `c`. -/
def zC (b c l q : ℕ) : EReal := T.u (b * 4096 + (c * 128 + l)) (5120 + q)

/-- The skip weight of a channel. -/
def dskC (q : ℕ) : EReal := T.dsk (q / 64)

/-- The state before chunk `c`. -/
def st (b : ℕ) : ℕ → ℕ → ℕ → EReal
  | 0 => fun q n => T.h0 b (q / 64) (q % 64) n
  | c + 1 => stS (T.uC b c) (T.dtC b c) (T.cum b c) (st b c)

/-- The result at row `l` of chunk `c`. -/
def yC (b c l q : ℕ) : EReal := yS (T.uC b c) (T.dtC b c) (T.cum b c) (T.st b c) (T.zC b c) T.dskC l q

end Tab

end Cert.KernelIdeal.Hand
-- ==== Proof.SsdBlocks.lean ====
module

public import proofs.«01_k».proof.Proof.SsdFrame
public import proofs.«01_k».proof.Proof.SsdSpec
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-! ## What the host operations leave before the kernel -/

/-- The convolution's bias as a row. -/
theorem V_v0 (c : Dev nD) (ch : Fin 1024) : (V m c main_v0 : S1x1024.Idx → EReal) (ix2 0 ch) = (m ((c : Thread nD τ).loc main_arg4) : S1024.Idx → EReal) (ix1 ch) := by
  unfold V
  after_reads_at

/-- The step bias as a row, padded. -/
theorem V_v2 (c : Dev nD) (h : Fin 128) (hh : h.val < 8) :
    (V m c main_v2 : S1x128.Idx → EReal) (ix2 0 h) = (m ((c : Thread nD τ).loc main_arg5) : S8.Idx → EReal) (ix1 ⟨h.val, hh⟩) := by
  unfold V
  after_reads_at
  rw [dif_pos (by omega)]

/-- The decay logarithms as a row, padded. -/
theorem V_v4 (c : Dev nD) (h : Fin 128) (hh : h.val < 8) :
    (V m c main_v4 : S1x128.Idx → EReal) (ix2 0 h) = (m ((c : Thread nD τ).loc main_arg6) : S8.Idx → EReal) (ix1 ⟨h.val, hh⟩) := by
  unfold V
  after_reads_at
  rw [dif_pos (by omega)]

/-- The skip weights as a row, one per channel. -/
theorem V_v7 (c : Dev nD) (q : Fin 512) :
    (V m c main_v7 : S1x512.Idx → EReal) (ix2 0 q) = (m ((c : Thread nD τ).loc main_arg7) : S8.Idx → EReal) (ix1 ⟨q.val / 64, by omega⟩) := by
  unfold V
  after_reads_at

/-! ## The blocks of the arguments -/

theorem idx0 : ∀ t : Fin cfg0.N, win0_0.index t (0 : Fin 2) = t.val ∧ win0_0.index t (1 : Fin 2) = 10 := (by decide +kernel : ∀ t : Fin grid0.N, _)
theorem idx1 : ∀ t : Fin cfg0.N, win0_1.index t (0 : Fin 2) = t.val ∧ win0_1.index t (1 : Fin 2) = 3 := (by decide +kernel : ∀ t : Fin grid0.N, _)
theorem idx2 : ∀ t : Fin cfg0.N, win0_2.index t (0 : Fin 2) = t.val ∧ win0_2.index t (1 : Fin 2) = 44 := (by decide +kernel : ∀ t : Fin grid0.N, _)
theorem idx3 : ∀ t : Fin cfg0.N, win0_3.index t (0 : Fin 3) = t.val / 32 ∧ win0_3.index t (1 : Fin 3) = 0 ∧ win0_3.index t (2 : Fin 3) = 0 := (by decide +kernel : ∀ t : Fin grid0.N, _)
theorem idx4 : ∀ t : Fin cfg0.N, win0_4.index t (0 : Fin 4) = t.val / 32 ∧ win0_4.index t (1 : Fin 4) = 0 ∧ win0_4.index t (2 : Fin 4) = 0 ∧ win0_4.index t (3 : Fin 4) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)

/-- The call's arguments as tables. -/
def T (c : Dev nD) : Tab :=
  ⟨rd2 (n0 := 8192) (n1 := 5760) (m ((c : Thread nD τ).loc main_arg0)), rd3 (n0 := 2) (n1 := 3) (n2 := 1024) (m ((c : Thread nD τ).loc main_arg1)),
   rd4 (n0 := 2) (n1 := 8) (n2 := 64) (n3 := 128) (m ((c : Thread nD τ).loc main_arg2)), rd2 (n0 := 4) (n1 := 1024) (m ((c : Thread nD τ).loc main_arg3)),
   rd1 (n0 := 1024) (m ((c : Thread nD τ).loc main_arg4)), rd1 (n0 := 8) (m ((c : Thread nD τ).loc main_arg5)),
   rd1 (n0 := 8) (m ((c : Thread nD τ).loc main_arg6)), rd1 (n0 := 8) (m ((c : Thread nD τ).loc main_arg7))⟩

/-- The position of a point. -/
theorem pt_lt (n : ℕ) (hn : n < 64) : (pt n).val = n := Nat.mod_eq_of_lt hn

/-- The gate's block. -/
theorem zB_apply (c : Dev nD) (n : ℕ) (hn : n < 64) (l : Fin 128) (q : Fin 512) : zB m c n (ix2 l q) = (T m c).u (n * 128 + l.val) (5120 + q.val) := by
  obtain ⟨e0, e1⟩ := idx0 (pt n)
  rw [pt_lt n hn] at e0
  show X0_0 m c (pt n) _ = _
  unfold X0_0 Pipeline.Window.fill
  rw [dif_pos (moved0_0 (pt n) _)]
  unfold iblk
  refine (congrArg (V m c main_arg0) (?_ : _ = ix2 (⟨n * 128 + l.val, by omega⟩ : Fin 8192) (⟨5120 + q.val, by omega⟩ : Fin 5760))).trans ?_
  · funext a
    match a with
    | ⟨0, _⟩ => refine Fin.ext ?_; show win0_0.index (pt n) (0 : Fin 2) * 128 + 1 * l.val = n * 128 + l.val; omega
    | ⟨1, _⟩ => refine Fin.ext ?_; show win0_0.index (pt n) (1 : Fin 2) * 512 + 1 * q.val = 5120 + q.val; omega
  · rw [V_main_arg0]
    exact rd2_eq _ _ _

/-- The block of the channels to convolve. -/
theorem xB_apply (c : Dev nD) (n : ℕ) (hn : n < 64) (l : Fin 128) (q : Fin 1024) : xB m c n (ix2 l q) = (T m c).u (n * 128 + l.val) (3072 + q.val) := by
  obtain ⟨e0, e1⟩ := idx1 (pt n)
  rw [pt_lt n hn] at e0
  show X0_1 m c (pt n) _ = _
  unfold X0_1 Pipeline.Window.fill
  rw [dif_pos (moved0_1 (pt n) _)]
  unfold iblk
  refine (congrArg (V m c main_arg0) (?_ : _ = ix2 (⟨n * 128 + l.val, by omega⟩ : Fin 8192) (⟨3072 + q.val, by omega⟩ : Fin 5760))).trans ?_
  · funext a
    match a with
    | ⟨0, _⟩ => refine Fin.ext ?_; show win0_1.index (pt n) (0 : Fin 2) * 128 + 1 * l.val = n * 128 + l.val; omega
    | ⟨1, _⟩ => refine Fin.ext ?_; show win0_1.index (pt n) (1 : Fin 2) * 1024 + 1 * q.val = 3072 + q.val; omega
  · rw [V_main_arg0]
    exact rd2_eq _ _ _

/-- The block of the step sizes. -/
theorem tB_apply (c : Dev nD) (n : ℕ) (hn : n < 64) (l : Fin 128) (q : Fin 128) : tB m c n (ix2 l q) = (T m c).u (n * 128 + l.val) (5632 + q.val) := by
  obtain ⟨e0, e1⟩ := idx2 (pt n)
  rw [pt_lt n hn] at e0
  show iblk m c 2 (pt n) _ = _
  unfold iblk
  refine (congrArg (V m c main_arg0) (?_ : _ = ix2 (⟨n * 128 + l.val, by omega⟩ : Fin 8192) (⟨5632 + q.val, by omega⟩ : Fin 5760))).trans ?_
  · funext a
    match a with
    | ⟨0, _⟩ => refine Fin.ext ?_; show win0_2.index (pt n) (0 : Fin 2) * 128 + 1 * l.val = n * 128 + l.val; omega
    | ⟨1, _⟩ => refine Fin.ext ?_; show win0_2.index (pt n) (1 : Fin 2) * 128 + 1 * q.val = 5632 + q.val; omega
  · rw [V_main_arg0]
    exact rd2_eq _ _ _

/-- The block of the rows before the sequence. -/
theorem preB_apply (c : Dev nD) (n : ℕ) (hn : n < 64) (i : Fin 3) (ch : Fin 1024) : preB m c n (ix3 0 i ch) = (T m c).pre (n / 32) i.val ch.val := by
  obtain ⟨e0, e1, e2⟩ := idx3 (pt n)
  rw [pt_lt n hn] at e0
  show iblk m c 3 (pt n) _ = _
  unfold iblk
  refine (congrArg (V m c main_arg1) (?_ : _ = ix3 (⟨n / 32, by omega⟩ : Fin 2) i ch)).trans ?_
  · funext a
    match a with
    | ⟨0, _⟩ => refine Fin.ext ?_; show win0_3.index (pt n) (0 : Fin 3) * 1 + 1 * 0 = n / 32; omega
    | ⟨1, _⟩ => refine Fin.ext ?_; show win0_3.index (pt n) (1 : Fin 3) * 3 + 1 * i.val = i.val; omega
    | ⟨2, _⟩ => refine Fin.ext ?_; show win0_3.index (pt n) (2 : Fin 3) * 1024 + 1 * ch.val = ch.val; omega
  · rw [V_main_arg1]
    exact rd3_eq _ _ _ _

/-- The block of the state before the sequence. -/
theorem h0B_apply (c : Dev nD) (n : ℕ) (hn : n < 64) (h : Fin 8) (p : Fin 64) (k : Fin 128) : h0B m c n (ix4 0 h p k) = (T m c).h0 (n / 32) h.val p.val k.val := by
  obtain ⟨e0, e1, e2, e3⟩ := idx4 (pt n)
  rw [pt_lt n hn] at e0
  show iblk m c 4 (pt n) _ = _
  unfold iblk
  refine (congrArg (V m c main_arg2) (?_ : _ = ix4 (⟨n / 32, by omega⟩ : Fin 2) h p k)).trans ?_
  · funext a
    match a with
    | ⟨0, _⟩ => refine Fin.ext ?_; show win0_4.index (pt n) (0 : Fin 4) * 1 + 1 * 0 = n / 32; omega
    | ⟨1, _⟩ => refine Fin.ext ?_; show win0_4.index (pt n) (1 : Fin 4) * 8 + 1 * h.val = h.val; omega
    | ⟨2, _⟩ => refine Fin.ext ?_; show win0_4.index (pt n) (2 : Fin 4) * 64 + 1 * p.val = p.val; omega
    | ⟨3, _⟩ => refine Fin.ext ?_; show win0_4.index (pt n) (3 : Fin 4) * 128 + 1 * k.val = k.val; omega
  · rw [V_main_arg2]
    exact rd4_eq _ _ _ _ _

/-- The block of the taps. -/
theorem cwB_apply (c : Dev nD) (n : ℕ) (i : Fin 4) (ch : Fin 1024) : cwB m c n (ix2 i ch) = (T m c).cw i.val ch.val := by
  obtain ⟨e0, e1⟩ := idx5 (pt n)
  show iblk m c 5 (pt n) _ = _
  unfold iblk
  refine (congrArg (V m c main_arg3) (?_ : _ = ix2 i ch)).trans ?_
  · funext a
    match a with
    | ⟨0, _⟩ => refine Fin.ext ?_; show win0_5.index (pt n) (0 : Fin 2) * 4 + 1 * i.val = i.val; omega
    | ⟨1, _⟩ => refine Fin.ext ?_; show win0_5.index (pt n) (1 : Fin 2) * 1024 + 1 * ch.val = ch.val; omega
  · rw [V_main_arg3]
    exact rd2_eq _ _ _

/-- The block of the convolution's bias. -/
theorem cbB_apply (c : Dev nD) (n : ℕ) (ch : Fin 1024) : cbB m c n (ix2 0 ch) = (T m c).cb ch.val := by
  obtain ⟨e0, e1⟩ := idx6 (pt n)
  show iblk m c 6 (pt n) _ = _
  unfold iblk
  refine (congrArg (V m c main_v0) (?_ : _ = ix2 (0 : Fin 1) ch)).trans ?_
  · funext a
    match a with
    | ⟨0, _⟩ => refine Fin.ext ?_; show win0_6.index (pt n) (0 : Fin 2) * 1 + 1 * 0 = 0; omega
    | ⟨1, _⟩ => refine Fin.ext ?_; show win0_6.index (pt n) (1 : Fin 2) * 1024 + 1 * ch.val = ch.val; omega
  · exact (V_v0 m c ch).trans (rd1_eq _ _)

/-- The block of the step bias. -/
theorem dtbB_apply (c : Dev nD) (n : ℕ) (h : Fin 128) (hh : h.val < 8) : dtbB m c n (ix2 0 h) = (T m c).dtb h.val := by
  obtain ⟨e0, e1⟩ := idx7 (pt n)
  show iblk m c 7 (pt n) _ = _
  unfold iblk
  refine (congrArg (V m c main_v2) (?_ : _ = ix2 (0 : Fin 1) h)).trans ?_
  · funext a
    match a with
    | ⟨0, _⟩ => refine Fin.ext ?_; show win0_7.index (pt n) (0 : Fin 2) * 1 + 1 * 0 = 0; omega
    | ⟨1, _⟩ => refine Fin.ext ?_; show win0_7.index (pt n) (1 : Fin 2) * 128 + 1 * h.val = h.val; omega
  · exact (V_v2 m c h hh).trans (rd1_eq _ _)

/-- The block of the decay logarithms. -/
theorem alB_apply (c : Dev nD) (n : ℕ) (h : Fin 128) (hh : h.val < 8) : alB m c n (ix2 0 h) = (T m c).al h.val := by
  obtain ⟨e0, e1⟩ := idx8 (pt n)
  show iblk m c 8 (pt n) _ = _
  unfold iblk
  refine (congrArg (V m c main_v4) (?_ : _ = ix2 (0 : Fin 1) h)).trans ?_
  · funext a
    match a with
    | ⟨0, _⟩ => refine Fin.ext ?_; show win0_8.index (pt n) (0 : Fin 2) * 1 + 1 * 0 = 0; omega
    | ⟨1, _⟩ => refine Fin.ext ?_; show win0_8.index (pt n) (1 : Fin 2) * 128 + 1 * h.val = h.val; omega
  · exact (V_v4 m c h hh).trans (rd1_eq _ _)

/-- The block of the skip weights. -/
theorem dskB_apply (c : Dev nD) (n : ℕ) (q : Fin 512) : dskB m c n (ix2 0 q) = (T m c).dskC q.val := by
  obtain ⟨e0, e1⟩ := idx9 (pt n)
  show iblk m c 9 (pt n) _ = _
  unfold iblk
  refine (congrArg (V m c main_v7) (?_ : _ = ix2 (0 : Fin 1) q)).trans ?_
  · funext a
    match a with
    | ⟨0, _⟩ => refine Fin.ext ?_; show win0_9.index (pt n) (0 : Fin 2) * 1 + 1 * 0 = 0; omega
    | ⟨1, _⟩ => refine Fin.ext ?_; show win0_9.index (pt n) (1 : Fin 2) * 512 + 1 * q.val = q.val; omega
  · exact (V_v7 m c q).trans (rd1_eq _ _)

end Cert.KernelIdeal.Hand
-- ==== Proof.SsdValue.lean ====
module

public import proofs.«01_k».proof.Proof.SsdBlocks
public import Idealize.ShloMosaic.Lib.Pointwise
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-! ## The small layout payloads -/

/-- A table read inside its range. -/
theorem rd2_of {n0 n1 : ℕ} (x : (⟨2, ![n0, n1]⟩ : Shape).Idx → EReal) (a b : ℕ) (ha : a < n0) (hb : b < n1) : rd2 x a b = x (ix2 ⟨a, ha⟩ ⟨b, hb⟩) :=
  (rd2_eq x ⟨a, ha⟩ ⟨b, hb⟩).symm

theorem pay3_apply (x : Vec Ideal S512x128 .f32) (h : Fin 8) (p : Fin 64) (n : Fin 128) :
    k0_pay3 (F := Ideal) x (ix4 0 h p n) = x (ix2 ⟨h.val * 64 + p.val, by omega⟩ n) := by
  pointwise [k0_pay3]

theorem pay4_apply (x : Vec Ideal S1x3x1024 .f32) (i : Fin 3) (ch : Fin 1024) : k0_pay4 (F := Ideal) x (ix2 i ch) = x (ix3 0 i ch) := by
  pointwise [k0_pay4]

theorem pay5_apply (x : Vec Ideal S1x8x64x128 .f32) (q : Fin 512) (n : Fin 128) :
    k0_pay5 (F := Ideal) x (ix2 q n) = x (ix4 0 ⟨q.val / 64, by omega⟩ ⟨q.val % 64, by omega⟩ n) := by
  pointwise [k0_pay5]

theorem pay6_apply (x : Vec Ideal S128x1024 .f32) (i : Fin 128) (ch : Fin 1024) : k0_pay6 (F := Ideal) x (ix2 i ch) = x (ix2 i ch) := by
  pointwise [k0_pay6]

theorem pay8_apply (x : Vec Ideal S3x1024 .f32) (i : Fin 3) (ch : Fin 1024) : k0_pay8 (F := Ideal) x (ix2 i ch) = x (ix2 i ch) := by
  pointwise [k0_pay8]

theorem pay9_apply (x : Vec Ideal S3x1024 .f32) (i : Fin 3) (ch : Fin 1024) : k0_pay9 (F := Ideal) x (ix3 0 i ch) = x (ix2 i ch) := by
  pointwise [k0_pay9]

/-- The window of a whole block is the block. -/
theorem winPre (x : Vec Ideal S1x3x1024 .f32) (inb) : VecWindow.window (s := S1x3x1024) x ![0, 0, 0] S1x3x1024.size inb = x := by
  funext y
  unfold VecWindow.window
  refine congrArg x (funext fun d => Fin.ext ?_)
  match d with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem winH0 (x : Vec Ideal S1x8x64x128 .f32) (inb) : VecWindow.window (s := S1x8x64x128) x ![0, 0, 0, 0] S1x8x64x128.size inb = x := by
  funext y
  unfold VecWindow.window
  refine congrArg x (funext fun d => Fin.ext ?_)
  match d with
  | ⟨0, _⟩ => show 0 + 1 * (y 0).val = (y 0).val; omega
  | ⟨1, _⟩ => show 0 + 1 * (y 1).val = (y 1).val; omega
  | ⟨2, _⟩ => show 0 + 1 * (y 2).val = (y 2).val; omega
  | ⟨3, _⟩ => show 0 + 1 * (y 3).val = (y 3).val; omega

/-- The last three rows of a block. -/
theorem lastRows_apply (x : Vec Ideal S128x1024 .f32) (i : Fin 3) (ch : Fin 1024) :
    lastRows (F := Ideal) x (ix2 i ch) = x (ix2 ⟨125 + i.val, by omega⟩ ch) := by
  unfold lastRows
  refine (window2 _ 125 0 _ i ch).trans ?_
  refine (pay6_apply _ _ _).trans ?_
  refine (window2 x 0 0 _ _ _).trans ?_
  exact congrArg₂ (fun a b => x (ix2 a b)) (Fin.ext (by show 0 + (125 + i.val) = 125 + i.val; omega)) (Fin.ext (by show 0 + (0 + ch.val) = ch.val; omega))

/-! ## The chunk formulas depend on the values in range only -/

theorem yS_congr {u u' dt dt' cum cum' st st' z z' : ℕ → ℕ → EReal} {dsk dsk' : ℕ → EReal}
    (hu : ∀ l < 128, ∀ ch < 1024, u l ch = u' l ch) (hd : ∀ l < 128, ∀ h < 8, dt l h = dt' l h) (hc : ∀ l < 128, ∀ h < 8, cum l h = cum' l h)
    (hs : ∀ q < 512, ∀ n < 128, st q n = st' q n) (hz : ∀ l < 128, ∀ q < 512, z l q = z' l q) (hk : ∀ q < 512, dsk q = dsk' q)
    (l q : ℕ) (hl : l < 128) (hq : q < 512) : yS u dt cum st z dsk l q = yS u' dt' cum' st' z' dsk' l q := by
  have e1 : ∀ k : Fin 128, grm u (q / 256) l k.val = grm u' (q / 256) l k.val := fun k => by
    unfold grm
    refine Finset.sum_congr rfl fun n _ => ?_
    have := n.isLt
    rw [hu l hl _ (by omega), hu k.val k.isLt _ (by omega)]
  unfold yS
  rw [hc l hl _ (by omega), hk q hq, hu l hl q (by omega), hz l hl q hq]
  refine congrArg₂ (· * ·) (congrArg₂ (· + ·) (congrArg₂ (· + ·) ?_ (congrArg₂ (· * ·) ?_ rfl)) rfl) rfl
  · refine Finset.sum_congr rfl fun k _ => ?_
    rw [e1 k, hc k.val k.isLt _ (by omega), hu k.val k.isLt _ (by omega), hd k.val k.isLt _ (by omega)]
  · refine Finset.sum_congr rfl fun n _ => ?_
    have := n.isLt
    rw [hu l hl _ (by omega), hs q hq _ n.isLt]

theorem stS_congr {u u' dt dt' cum cum' st st' : ℕ → ℕ → EReal}
    (hu : ∀ l < 128, ∀ ch < 1024, u l ch = u' l ch) (hd : ∀ l < 128, ∀ h < 8, dt l h = dt' l h) (hc : ∀ l < 128, ∀ h < 8, cum l h = cum' l h)
    (hs : ∀ q < 512, ∀ n < 128, st q n = st' q n)
    (q n : ℕ) (hq : q < 512) (hn : n < 128) : stS u dt cum st q n = stS u' dt' cum' st' q n := by
  unfold stS
  rw [hc 127 (by omega) _ (by omega), hs q hq n hn]
  refine congrArg₂ (· + ·) rfl ?_
  refine Finset.sum_congr rfl fun l _ => ?_
  rw [hu l.val l.isLt q (by omega), hd l.val l.isLt _ (by omega), hc l.val l.isLt _ (by omega), hu l.val l.isLt _ (by omega)]

/-! ## The blocks of one point against the tables -/

variable (m : (ℓ : Loc nD τ sig) → Buf (Elt Ideal) ℓ)

/-- The row a position's block starts at. -/
theorem row_eq (n l : ℕ) : n * 128 + l = n / 32 * 4096 + (n % 32 * 128 + l) := by omega

/-- The last three rows of the block before, as the convolution's input. -/
theorem last_eq (c : Dev nD) (n : ℕ) (hn : n < 64) (i : Fin 3) (ch : Fin 1024) :
    lastRows (F := Ideal) (xB m c n) (ix2 i ch) = (T m c).ext (n / 32) ((n % 32 + 1) * 128 + i.val) ch.val := by
  have hi := i.isLt
  rw [lastRows_apply, xB_apply m c n hn]
  unfold Tab.ext
  rw [if_neg (by omega)]
  exact congrArg (fun a => (T m c).u a _) (by show n * 128 + (125 + i.val) = n / 32 * 4096 + ((n % 32 + 1) * 128 + i.val - 3); omega)

/-- What is carried into a block are the three rows before it. -/
theorem carry_eq (c : Dev nD) (n : ℕ) (hn : n < 64) (i : ℕ) (hi : i < 3) (ch : Fin 1024) :
    rd2 (carryAt m c n) i ch.val = (T m c).ext (n / 32) (n % 32 * 128 + i) ch.val := by
  rw [rd2_of _ i ch.val hi ch.isLt]
  by_cases h : n % 32 = 0
  · rw [carryAt_first m c n h, winPre]
    refine (pay4_apply _ _ _).trans ((preB_apply m c n hn _ _).trans ?_)
    unfold Tab.ext
    rw [h, if_pos (by omega)]
    exact congrArg (fun a => (T m c).pre _ a _) (by show i = 0 * 128 + i; omega)
  · obtain ⟨k, rfl⟩ : ∃ k, n = k + 1 := ⟨n - 1, by omega⟩
    rw [carryAt_succ m c k h]
    refine (pay8_apply _ _ _).trans ((last_eq m c k (by omega) _ _).trans ?_)
    have e1 : k / 32 = (k + 1) / 32 := by omega
    have e2 : k % 32 + 1 = (k + 1) % 32 := by omega
    rw [e1, e2]

/-- The convolved block. -/
theorem u_eq (c : Dev nD) (n : ℕ) (hn : n < 64) (l : ℕ) (hl : l < 128) (ch : ℕ) (hch : ch < 1024) :
    rd2 (uAt m c n) l ch = (T m c).uC (n / 32) (n % 32) l ch := by
  rw [rd2_of _ l ch hl hch]
  unfold uAt extOf
  refine (conv_apply _ _ _ _ _ ⟨l, hl⟩ ⟨ch, hch⟩).trans ?_
  have e : ∀ i : ℕ, i < 4 → (if l + i < 3 then rd2 (carryAt m c n) (l + i) ch else rd2 (xB m c n) (l + i - 3) ch) = (T m c).ext (n / 32) (n % 32 * 128 + l + i) ch := by
    intro i hi
    by_cases h : l + i < 3
    · rw [if_pos h]
      refine (carry_eq m c n hn (l + i) h ⟨ch, hch⟩).trans ?_
      exact congrArg (fun a => (T m c).ext _ a _) (by omega)
    · rw [if_neg h, rd2_of _ _ _ (by omega : l + i - 3 < 128) hch, xB_apply m c n hn]
      unfold Tab.ext
      rw [if_neg (by omega)]
      exact congrArg (fun a => (T m c).u a _) (by show n * 128 + (l + i - 3) = n / 32 * 4096 + (n % 32 * 128 + l + i - 3); omega)
  dsimp only
  rw [e 0 (by omega), e 1 (by omega), e 2 (by omega), e 3 (by omega), cwB_apply, cwB_apply, cwB_apply, cwB_apply, cbB_apply]
  rfl

/-- The block's step sizes. -/
theorem dt_eq (c : Dev nD) (n : ℕ) (hn : n < 64) (l : ℕ) (hl : l < 128) (h : ℕ) (hh : h < 8) :
    rd2 (w54 (F := Ideal) (tB m c n) (dtbB m c n)) l h = (T m c).dtC (n / 32) (n % 32) l h := by
  rw [rd2_of _ l h hl (by omega)]
  refine (w54_apply _ _ _ _).trans ?_
  rw [tB_apply m c n hn, dtbB_apply m c n _ hh]
  show sp ((T m c).u (n * 128 + l) (5632 + h) + (T m c).dtb h) = sp ((T m c).u (n / 32 * 4096 + (n % 32 * 128 + l)) (5632 + h) + (T m c).dtb h)
  rw [row_eq]

/-- The block's running sums. -/
theorem cum_eq (c : Dev nD) (n : ℕ) (hn : n < 64) (l : ℕ) (hl : l < 128) (h : ℕ) (hh : h < 8) :
    rd2 (w78 (F := Ideal) (tB m c n) (dtbB m c n) (alB m c n)) l h = (T m c).cum (n / 32) (n % 32) l h := by
  rw [rd2_of _ l h hl (by omega)]
  refine (w78_apply _ _ _ _ _).trans ?_
  unfold Tab.cum
  refine Finset.sum_congr rfl fun k _ => ?_
  rw [tB_apply m c n hn, dtbB_apply m c n _ hh, alB_apply m c n _ hh]
  show (if k.val ≤ l then sp ((T m c).u (n * 128 + k.val) (5632 + h) + (T m c).dtb h) * (0 - Ideal.exp ((T m c).al h)) else 0)
    = if k.val ≤ l then sp ((T m c).u (n / 32 * 4096 + (n % 32 * 128 + k.val)) (5632 + h) + (T m c).dtb h) * (0 - Ideal.exp ((T m c).al h)) else 0
  rw [row_eq n k.val]

/-- The block's gates. -/
theorem z_eq (c : Dev nD) (n : ℕ) (hn : n < 64) (l : ℕ) (hl : l < 128) (q : ℕ) (hq : q < 512) :
    rd2 (zB m c n) l q = (T m c).zC (n / 32) (n % 32) l q := by
  rw [rd2_of _ l q hl hq, zB_apply m c n hn]
  exact congrArg (fun a => (T m c).u a _) (row_eq n l)

/-- The skip weights. -/
theorem dsk_eq (c : Dev nD) (n : ℕ) (q : ℕ) (hq : q < 512) : rd2 (dskB m c n) 0 q = (T m c).dskC q := by
  rw [rd2_of _ 0 q (by omega) hq]
  exact dskB_apply m c n ⟨q, hq⟩

/-- The state a sequence starts from. -/
theorem start_eq (c : Dev nD) (n : ℕ) (hn : n < 64) (q : ℕ) (hq : q < 512) (k : ℕ) (hk : k < 128) :
    rd2 (startAt m c n) q k = (T m c).st (n / 32) 0 q k := by
  rw [rd2_of _ q k hq hk]
  unfold startAt
  rw [winH0]
  exact (pay5_apply _ _ _).trans (h0B_apply m c n hn _ _ _)

/-- One step of the state. -/
theorem next_of (c : Dev nD) (n : ℕ) (hn : n < 64)
    (hs : ∀ q < 512, ∀ k < 128, rd2 (stAt m c n) q k = (T m c).st (n / 32) (n % 32) q k) (q : ℕ) (hq : q < 512) (k : ℕ) (hk : k < 128) :
    rd2 (stNext m c n) q k = (T m c).st (n / 32) (n % 32 + 1) q k := by
  rw [rd2_of _ q k hq hk]
  unfold stNext
  refine (stOut_apply _ _ _ _ _ ⟨q, hq⟩ ⟨k, hk⟩).trans ?_
  exact stS_congr (u_eq m c n hn) (dt_eq m c n hn) (cum_eq m c n hn) hs q k hq hk

/-- The state before every block. -/
theorem st_eq (c : Dev nD) (n : ℕ) (hn : n < 64) : ∀ q < 512, ∀ k < 128, rd2 (stAt m c n) q k = (T m c).st (n / 32) (n % 32) q k := by
  induction n with
  | zero => exact start_eq m c 0 hn
  | succ n ih =>
    intro q hq k hk
    by_cases h : (n + 1) % 32 = 0
    · rw [stAt_first m c _ h, h]
      exact start_eq m c _ hn q hq k hk
    · rw [stAt_succ m c n h, next_of m c n (by omega) (ih (by omega)) q hq k hk]
      have e1 : n / 32 = (n + 1) / 32 := by omega
      have e2 : n % 32 + 1 = (n + 1) % 32 := by omega
      rw [e1, e2]

/-- The block of results. -/
theorem y_eq (c : Dev nD) (n : ℕ) (hn : n < 64) (l : Fin 128) (q : Fin 512) :
    yAt m c n (ix2 l q) = (T m c).yC (n / 32) (n % 32) l.val q.val := by
  unfold yAt
  refine (yPut_apply _ _ _ _ _ _ _ _ l q).trans ?_
  exact yS_congr (u_eq m c n hn) (dt_eq m c n hn) (cum_eq m c n hn) (st_eq m c n hn) (z_eq m c n hn) (dsk_eq m c n) _ _ l.isLt q.isLt

/-! ## The arrays the call leaves -/

/-- The array of results. -/
def G10 (c : Dev nD) : S8192x512.Idx → EReal := fun i =>
  (T m c).yC ((i 0).val / 4096) ((i 0).val % 4096 / 128) ((i 0).val % 128) (i 1).val

/-- The rows carried out of the sequences. -/
def G11 (c : Dev nD) : S2x3x1024.Idx → EReal := fun i => (T m c).ext (i 0).val (4096 + (i 1).val) (i 2).val

/-- The states the sequences end in. -/
def G12 (c : Dev nD) : S2x8x64x128.Idx → EReal := fun i => (T m c).st (i 0).val 32 ((i 1).val * 64 + (i 2).val) (i 3).val

theorem idx10 : ∀ t : Fin cfg0.N, win0_10.index t (0 : Fin 2) = t.val ∧ win0_10.index t (1 : Fin 2) = 0 := (by decide +kernel : ∀ t : Fin grid0.N, _)
theorem idx11 : ∀ t : Fin cfg0.N, win0_11.index t (0 : Fin 3) = t.val / 32 ∧ win0_11.index t (1 : Fin 3) = 0 ∧ win0_11.index t (2 : Fin 3) = 0 := (by decide +kernel : ∀ t : Fin grid0.N, _)
theorem idx12 : ∀ t : Fin cfg0.N, win0_12.index t (0 : Fin 4) = t.val / 32 ∧ win0_12.index t (1 : Fin 4) = 0 ∧ win0_12.index t (2 : Fin 4) = 0 ∧ win0_12.index t (3 : Fin 4) = 0 := (by decide +kernel : ∀ t : Fin grid0.N, _)
theorem flush11 : ∀ t : Fin cfg0.N, (cfg0.win 11).flush t = true → t.val % 32 = 31 := (by decide +kernel : ∀ t : Fin grid0.N, _)
theorem flush12 : ∀ t : Fin cfg0.N, (cfg0.win 12).flush t = true → t.val % 32 = 31 := (by decide +kernel : ∀ t : Fin grid0.N, _)

/-- A point's position is below 64. -/
theorem val_lt (t : Fin cfg0.N) : t.val < 64 := lt_of_lt_of_eq t.isLt N_0

theorem arr10 (c : Dev nD) : (dats m 0 c).arrAt 10 cfg0.N = G10 m c := by
  refine (dats m 0 c).arrAt_eq_of_covers 10 _ (by decide +kernel) fun t hf y => ?_
  obtain ⟨e0, e1⟩ := idx10 t
  have ht := val_lt t
  rw [after_10]
  show yAt m c t.val y = _
  obtain ⟨l, q, rfl⟩ : ∃ (l : Fin 128) (q : Fin 512), y = ix2 l q := ⟨y 0, y 1, by funext a; match a with | ⟨0, _⟩ => rfl | ⟨1, _⟩ => rfl⟩
  rw [y_eq m c t.val ht]
  have f0 : ((((cfg0.win 10).blk t).view.emb (ix2 l q)) (0 : Fin 2)).val = t.val * 128 + l.val := by
    show win0_10.index t (0 : Fin 2) * 128 + 1 * l.val = _
    omega
  have f1 : ((((cfg0.win 10).blk t).view.emb (ix2 l q)) (1 : Fin 2)).val = q.val := by
    show win0_10.index t (1 : Fin 2) * 512 + 1 * q.val = _
    omega
  unfold G10
  rw [f0, f1]
  have g0 : (t.val * 128 + l.val) / 4096 = t.val / 32 := by omega
  have g1 : (t.val * 128 + l.val) % 4096 / 128 = t.val % 32 := by omega
  have g2 : (t.val * 128 + l.val) % 128 = l.val := by omega
  rw [g0, g1, g2]

theorem arr11 (c : Dev nD) : (dats m 0 c).arrAt 11 cfg0.N = G11 m c := by
  refine (dats m 0 c).arrAt_eq_of_covers 11 _ (by decide +kernel) fun t hf y => ?_
  obtain ⟨e0, e1, e2⟩ := idx11 t
  have ht := val_lt t
  have hl := flush11 t hf
  rw [after_11]
  show k0_pay9 (F := Ideal) (lastRows (xB m c t.val)) y = _
  obtain ⟨i, ch, rfl⟩ : ∃ (i : Fin 3) (ch : Fin 1024), y = ix3 0 i ch :=
    ⟨y 1, y 2, by funext a; match a with | ⟨0, _⟩ => exact Fin.ext (by have := (y 0).isLt; show (y 0).val = 0; change (y 0).val < 1 at this; omega) | ⟨1, _⟩ => rfl | ⟨2, _⟩ => rfl⟩
  rw [pay9_apply, last_eq m c t.val ht]
  have f0 : ((((cfg0.win 11).blk t).view.emb (ix3 0 i ch)) (0 : Fin 3)).val = t.val / 32 := by
    show win0_11.index t (0 : Fin 3) * 1 + 1 * 0 = _
    omega
  have f1 : ((((cfg0.win 11).blk t).view.emb (ix3 0 i ch)) (1 : Fin 3)).val = i.val := by
    show win0_11.index t (1 : Fin 3) * 3 + 1 * i.val = _
    omega
  have f2 : ((((cfg0.win 11).blk t).view.emb (ix3 0 i ch)) (2 : Fin 3)).val = ch.val := by
    show win0_11.index t (2 : Fin 3) * 1024 + 1 * ch.val = _
    omega
  unfold G11
  rw [f0, f1, f2, hl]

theorem arr12 (c : Dev nD) : (dats m 0 c).arrAt 12 cfg0.N = G12 m c := by
  refine (dats m 0 c).arrAt_eq_of_covers 12 _ (by decide +kernel) fun t hf y => ?_
  obtain ⟨e0, e1, e2, e3⟩ := idx12 t
  have ht := val_lt t
  have hl := flush12 t hf
  rw [after_12]
  show k0_pay3 (F := Ideal) (stNext m c t.val) y = _
  obtain ⟨h, p, n, rfl⟩ : ∃ (h : Fin 8) (p : Fin 64) (n : Fin 128), y = ix4 0 h p n :=
    ⟨y 1, y 2, y 3, by funext a; match a with | ⟨0, _⟩ => exact Fin.ext (by have := (y 0).isLt; show (y 0).val = 0; change (y 0).val < 1 at this; omega) | ⟨1, _⟩ => rfl | ⟨2, _⟩ => rfl | ⟨3, _⟩ => rfl⟩
  have hq : h.val * 64 + p.val < 512 := by omega
  refine (pay3_apply _ _ _ _).trans ((rd2_eq _ (⟨h.val * 64 + p.val, hq⟩ : Fin 512) n).trans ((next_of m c t.val ht (st_eq m c t.val ht) _ hq _ n.isLt).trans ?_))
  have f0 : ((((cfg0.win 12).blk t).view.emb (ix4 0 h p n)) (0 : Fin 4)).val = t.val / 32 := by
    show win0_12.index t (0 : Fin 4) * 1 + 1 * 0 = _
    omega
  have f1 : ((((cfg0.win 12).blk t).view.emb (ix4 0 h p n)) (1 : Fin 4)).val = h.val := by
    show win0_12.index t (1 : Fin 4) * 8 + 1 * h.val = _
    omega
  have f2 : ((((cfg0.win 12).blk t).view.emb (ix4 0 h p n)) (2 : Fin 4)).val = p.val := by
    show win0_12.index t (2 : Fin 4) * 64 + 1 * p.val = _
    omega
  have f3 : ((((cfg0.win 12).blk t).view.emb (ix4 0 h p n)) (3 : Fin 4)).val = n.val := by
    show win0_12.index t (3 : Fin 4) * 128 + 1 * n.val = _
    omega
  unfold G12
  rw [f0, f1, f2, f3, hl]

end Cert.KernelIdeal.Hand
-- ==== Proof.SsdRef.lean ====
module

public import proofs.«01_k».proof.Proof.SsdSpec
public import proofs.«01_k».proof.Proof.Gen.ReferenceIdeal.Read

@[expose] public section

set_option maxRecDepth 16384

noncomputable section

namespace Cert.ReferenceIdeal.Hand

open Cert.ReferenceIdeal Cert.ReferenceIdeal.Read
open Idealize.ShloMosaic
open Cert.KernelIdeal.Hand

/-! ## A running sum along the third axis -/

/-- A fold that adds is the sum of a list. -/
theorem foldl_add {ι : Type} (g : ι → EReal) (l : List ι) (a : EReal) : l.foldl (fun r n => r + g n) a = a + (l.map g).sum := by
  induction l generalizing a with
  | nil => simp
  | cons b l ih => rw [List.foldl_cons, ih, List.map_cons, List.sum_cons, add_assoc]

/-- A sum over the positions of a window that is long in its third axis alone. -/
theorem sum_column (g : (⟨4, ![1, 1, 128, 1]⟩ : Shape).Idx → EReal) : ∑ i, g i = ∑ k : Fin 128, g (ix4 0 0 k 0) := by
  refine Fintype.sum_equiv (κ := Fin 128) (Equiv.mk (α := (⟨4, ![1, 1, 128, 1]⟩ : Shape).Idx) (β := Fin 128) (fun i => i 2) (fun k => ix4 0 0 k 0) (fun i => ?_) (fun k => rfl)) _ _ fun i => ?_
  · funext a
    match a with
    | ⟨0, _⟩ => exact (Subsingleton.elim (α := Fin 1) _ _)
    | ⟨1, _⟩ => exact (Subsingleton.elim (α := Fin 1) _ _)
    | ⟨2, _⟩ => rfl
    | ⟨3, _⟩ => exact (Subsingleton.elim (α := Fin 1) _ _)
  · refine congrArg g ?_
    funext a
    match a with
    | ⟨0, _⟩ => exact (Subsingleton.elim (α := Fin 1) _ _)
    | ⟨1, _⟩ => exact (Subsingleton.elim (α := Fin 1) _ _)
    | ⟨2, _⟩ => rfl
    | ⟨3, _⟩ => exact (Subsingleton.elim (α := Fin 1) _ _)

/-- A sum over the last `l + 1` places of a window is the sum over the first `l + 1` rows. -/
theorem sum_shift (f : ℕ → EReal) (l : Fin 128) :
    (∑ w : Fin 128, if 127 ≤ l.val + w.val then f (l.val + w.val - 127) else 0) = ∑ k : Fin 128, if k.val ≤ l.val then f k.val else 0 := by
  have hl := l.isLt
  rw [← Finset.sum_filter, ← Finset.sum_filter]
  refine Finset.sum_bij' (fun w _ => ⟨l.val + w.val - 127, by omega⟩) (fun k hk => ⟨(k.val + 127 - l.val) % 128, Nat.mod_lt _ (by omega)⟩) ?_ ?_ ?_ ?_ ?_
  · intro w hw
    simp only [Finset.mem_filter, Finset.mem_univ, true_and] at hw ⊢
    have := w.isLt
    omega
  · intro k hk
    simp only [Finset.mem_filter, Finset.mem_univ, true_and] at hk ⊢
    have := k.isLt
    omega
  · intro w hw
    simp only [Finset.mem_filter, Finset.mem_univ, true_and] at hw
    have := w.isLt
    refine Fin.ext ?_
    show (l.val + w.val - 127 + 127 - l.val) % 128 = w.val
    omega
  · intro k hk
    simp only [Finset.mem_filter, Finset.mem_univ, true_and] at hk
    have := k.isLt
    refine Fin.ext ?_
    show l.val + (k.val + 127 - l.val) % 128 - 127 = k.val
    omega
  · intro w hw
    rfl

/-- The running sum along the third axis, read at an index. -/
theorem cumsum_apply (x : S2x32x128x8.Idx → EReal) (init : S_.Idx → EReal)
    (hw : S2x32x128x8.ReduceWindows ![1, 1, 128, 1] ![1, 1, 1, 1] ![0, 0, 127, 0] ![0, 0, 0, 0] S2x32x128x8) (hu : 0 < S_.numel)
    (h0 : init (Shape.Idx.first hu) = 0) (b : Fin 2) (c : Fin 32) (l : Fin 128) (h : Fin 8) :
    Host.reduceWindowAdd (F := Ideal) (φ := .f32) ![1, 1, 128, 1] ![1, 1, 1, 1] ![0, 0, 127, 0] ![0, 0, 0, 0] x init hw hu (ix4 b c l h)
      = ∑ k : Fin 128, if k.val ≤ l.val then x (ix4 b c k h) else 0 := by
  have hl := l.isLt
  have hb := b.isLt
  have hc := c.isLt
  have hh := h.isLt
  have e := sum_shift (fun n => if hn : n < 128 then x (ix4 b c ⟨n, hn⟩ h) else 0) l
  refine Eq.trans ?_ (e.trans (Finset.sum_congr rfl fun k _ => by rw [dif_pos k.isLt]))
  show Host.reduceWindow (s := S2x32x128x8) (· + ·) ![1, 1, 128, 1] ![1, 1, 1, 1] ![0, 0, 127, 0] ![0, 0, 0, 0] x (fun _ : S_.Idx => init (Shape.Idx.first hu)) hw hu (ix4 b c l h) = _
  unfold Host.reduceWindow
  simp only [h0]
  refine (foldl_add _ _ 0).trans ?_
  rw [zero_add, ← Fin.sum_univ_def]
  refine (Equiv.sum_comp (⟨4, ![1, 1, 128, 1]⟩ : Shape).rowMajor.symm (fun i =>
    if hin : ∀ a, (![0, 0, 127, 0] : Fin 4 → ℕ) a ≤ ((ix4 b c l h : S2x32x128x8.Idx) a).val * (![1, 1, 1, 1] : Fin 4 → ℕ) a + (i a).val
        ∧ ((ix4 b c l h : S2x32x128x8.Idx) a).val * (![1, 1, 1, 1] : Fin 4 → ℕ) a + (i a).val - (![0, 0, 127, 0] : Fin 4 → ℕ) a < S2x32x128x8.size a then
      x (fun a => ⟨((ix4 b c l h : S2x32x128x8.Idx) a).val * (![1, 1, 1, 1] : Fin 4 → ℕ) a + (i a).val - (![0, 0, 127, 0] : Fin 4 → ℕ) a, (hin a).2⟩) else 0)).trans ?_
  rw [sum_column]
  refine Finset.sum_congr rfl fun w _ => ?_
  have hw' := w.isLt
  split
  · next hin =>
    have h2 := (hin 2).1
    change 127 ≤ l.val * 1 + w.val at h2
    rw [if_pos (by omega), dif_pos (by omega)]
    refine congrArg x (funext fun a => Fin.ext ?_)
    match a with
    | ⟨0, _⟩ => show b.val * 1 + 0 - 0 = b.val; omega
    | ⟨1, _⟩ => show c.val * 1 + 0 - 0 = c.val; omega
    | ⟨2, _⟩ => show l.val * 1 + w.val - 127 = l.val + w.val - 127; omega
    | ⟨3, _⟩ => show h.val * 1 + 0 - 0 = h.val; omega
  · next hin =>
    rw [if_neg]
    intro hle
    refine hin fun a => ?_
    match a with
    | ⟨0, _⟩ => show 0 ≤ b.val * 1 + 0 ∧ b.val * 1 + 0 - 0 < 2; omega
    | ⟨1, _⟩ => show 0 ≤ c.val * 1 + 0 ∧ c.val * 1 + 0 - 0 < 32; omega
    | ⟨2, _⟩ => show 127 ≤ l.val * 1 + w.val ∧ l.val * 1 + w.val - 127 < 128; omega
    | ⟨3, _⟩ => show 0 ≤ h.val * 1 + 0 ∧ h.val * 1 + 0 - 0 < 8; omega

end Cert.ReferenceIdeal.Hand
-- ==== Proof.SsdRefA.lean ====
module

public import proofs.«01_k».proof.Proof.SsdRef

@[expose] public section

set_option maxRecDepth 16384

noncomputable section

namespace Cert.ReferenceIdeal.Hand

open Cert.ReferenceIdeal Cert.ReferenceIdeal.Gen Cert.ReferenceIdeal.Read
open Idealize.ShloMosaic
open Cert.KernelIdeal.Hand

variable (x0 : FVec Ideal S8192x5760 .f32) (x1 : FVec Ideal S2x3x1024 .f32) (x2 : FVec Ideal S2x8x64x128 .f32) (x3 : FVec Ideal S4x1024 .f32)
  (x4 : FVec Ideal S1024 .f32) (x5 x6 x7 : FVec Ideal S8 .f32)

/-- The arguments of the reference as tables. -/
def tabs : Tab := ⟨rd2 x0, rd3 x1, rd4 x2, rd2 x3, rd1 x4, rd1 x5, rd1 x6, rd1 x7⟩

/-- The convolution's input with its front rows. -/
theorem v4_apply (b : Fin 2) (r : Fin 4099) (ch : Fin 1024) : val_main_v4 (F := Ideal) x0 x1 (ix3 b r ch) = (tabs x0 x1 x2 x3 x4 x5 x6 x7).ext b.val r.val ch.val := by
  have hr := r.isLt
  pointwise [val_main_v4, val_main_v2, val_main_v0]
  unfold Tab.ext tabs
  dsimp only
  split_ifs
  · exact rd3_eq x1 _ _ _
  · exact rd2_eq x0 _ _
  · exact rd2_eq x0 _ _

/-- The convolution with its activation. -/
theorem v36_apply (b : Fin 2) (t : Fin 4096) (ch : Fin 1024) : val_main_v36 (F := Ideal) x0 x1 x3 x4 (ix3 b t ch) = (tabs x0 x1 x2 x3 x4 x5 x6 x7).cv b.val t.val ch.val := by
  pointwise [val_main_v36, val_main_call0_v0, val_main_call0_v1, val_main_call0_cst, val_main_call0_v2, val_main_call0_v3, val_main_call0_cst_0, val_main_call0_v4, val_main_call0_v5]
  pointwise [val_main_v35, val_main_v34, val_main_v33, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5]
  simp only [v4_apply x0 x1 x2 x3 x4 x5 x6 x7, rd2_eq x3, rd1_eq x4]
  rw [add_comm 1 t.val, add_comm 2 t.val, add_comm 3 t.val]
  rfl

/-- The step size. -/
theorem v50_apply (b : Fin 2) (t : Fin 4096) (h : Fin 8) : val_main_v50 (F := Ideal) x0 x5 (ix3 b t h) = (tabs x0 x1 x2 x3 x4 x5 x6 x7).dt b.val t.val h.val := by
  pointwise [val_main_v50, val_main_v49, val_main_v48, val_main_v47, val_main_v3, val_main_v0, val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11]
  rw [if_neg (fun h => h rfl), rd2_eq x0, rd1_eq x5]
  show max _ _ + Ideal.log1p (Ideal.exp (-(max _ _))) = max _ _ + Ideal.log1p (Ideal.exp (0 - max _ _))
  rw [sub_eq_add_neg 0, zero_add]
  rfl

/-- The step times the decay rate. -/
theorem v55_apply (b : Fin 2) (t : Fin 4096) (h : Fin 8) :
    val_main_v55 (F := Ideal) x0 x5 x6 (ix3 b t h) = (tabs x0 x1 x2 x3 x4 x5 x6 x7).dt b.val t.val h.val * (0 - Ideal.exp (rd1 x6 h.val)) := by
  pointwise [val_main_v55, val_main_v54, val_main_v53, val_main_v52, val_main_v51]
  rw [v50_apply x0 x1 x2 x3 x4 x5 x6 x7, rd1_eq x6, sub_eq_add_neg 0, zero_add]

/-- The running sum of a chunk. -/
theorem v63_apply (b : Fin 2) (c : Fin 32) (l : Fin 128) (h : Fin 8) :
    val_main_v63 (F := Ideal) x0 x5 x6 (ix4 b c l h) = (tabs x0 x1 x2 x3 x4 x5 x6 x7).cum b.val c.val l.val h.val := by
  unfold val_main_v63
  refine (cumsum_apply _ _ _ _ ?_ b c l h).trans (Finset.sum_congr rfl fun k _ => ?_)
  · unfold val_main_call2_call0_v0 val_main_call2_call0_cst
    exact Ideal.ofBits_zero_f32
  · split
    · pointwise [val_main_v62]
      exact v55_apply x0 x1 x2 x3 x4 x5 x6 x7 _ _ _
    · rfl

/-- The value channels. -/
theorem v40_apply (b : Fin 2) (t : Fin 4096) (h : Fin 8) (p : Fin 64) :
    val_main_v40 (F := Ideal) x0 x1 x3 x4 (ix4 b t h p) = (tabs x0 x1 x2 x3 x4 x5 x6 x7).cv b.val t.val (h.val * 64 + p.val) := by
  pointwise [val_main_v40, val_main_v37]
  rw [v36_apply x0 x1 x2 x3 x4 x5 x6 x7]

/-- The key channels, one group per head. -/
theorem v43_apply (b : Fin 2) (t : Fin 4096) (h : Fin 8) (n : Fin 128) :
    val_main_v43 (F := Ideal) x0 x1 x3 x4 (ix4 b t h n) = (tabs x0 x1 x2 x3 x4 x5 x6 x7).cv b.val t.val (512 + (h.val / 4 * 128 + n.val)) := by
  pointwise [val_main_v43, val_main_v42, val_main_v41, val_main_v38]
  rw [v36_apply x0 x1 x2 x3 x4 x5 x6 x7]

/-- The query channels, one group per head. -/
theorem v46_apply (b : Fin 2) (t : Fin 4096) (h : Fin 8) (n : Fin 128) :
    val_main_v46 (F := Ideal) x0 x1 x3 x4 (ix4 b t h n) = (tabs x0 x1 x2 x3 x4 x5 x6 x7).cv b.val t.val (768 + (h.val / 4 * 128 + n.val)) := by
  pointwise [val_main_v46, val_main_v45, val_main_v44, val_main_v39]
  rw [v36_apply x0 x1 x2 x3 x4 x5 x6 x7]

/-- The key channels of a chunk. -/
theorem v60_apply (b : Fin 2) (c : Fin 32) (l : Fin 128) (h : Fin 8) (n : Fin 128) :
    val_main_v60 (F := Ideal) x0 x1 x3 x4 (ix5 b c l h n) = (tabs x0 x1 x2 x3 x4 x5 x6 x7).uC b.val c.val l.val (512 + (h.val / 4 * 128 + n.val)) := by
  pointwise [val_main_v60]
  exact v43_apply x0 x1 x2 x3 x4 x5 x6 x7 _ _ _ _

/-- The query channels of a chunk. -/
theorem v61_apply (b : Fin 2) (c : Fin 32) (l : Fin 128) (h : Fin 8) (n : Fin 128) :
    val_main_v61 (F := Ideal) x0 x1 x3 x4 (ix5 b c l h n) = (tabs x0 x1 x2 x3 x4 x5 x6 x7).uC b.val c.val l.val (768 + (h.val / 4 * 128 + n.val)) := by
  pointwise [val_main_v61]
  exact v46_apply x0 x1 x2 x3 x4 x5 x6 x7 _ _ _ _

/-- The value channels of a chunk times the step. -/
theorem v59_apply (b : Fin 2) (c : Fin 32) (l : Fin 128) (h : Fin 8) (p : Fin 64) :
    val_main_v59 (F := Ideal) x0 x1 x3 x4 x5 (ix5 b c l h p) = (tabs x0 x1 x2 x3 x4 x5 x6 x7).uC b.val c.val l.val (h.val * 64 + p.val) * (tabs x0 x1 x2 x3 x4 x5 x6 x7).dtC b.val c.val l.val h.val := by
  pointwise [val_main_v59, val_main_v58, val_main_v57, val_main_v56]
  rw [v40_apply x0 x1 x2 x3 x4 x5 x6 x7, v50_apply x0 x1 x2 x3 x4 x5 x6 x7]
  rfl

/-- The decay between two rows of a chunk. -/
theorem v73_apply (b : Fin 2) (c : Fin 32) (l s : Fin 128) (h : Fin 8) :
    val_main_v73 (F := Ideal) x0 x5 x6 (ix5 b c l s h)
      = Ideal.exp (if s.val ≤ l.val then (tabs x0 x1 x2 x3 x4 x5 x6 x7).cum b.val c.val l.val h.val - (tabs x0 x1 x2 x3 x4 x5 x6 x7).cum b.val c.val s.val h.val else neg) := by
  pointwise [val_main_v73, val_main_v72, val_main_v71, val_main_v70, val_main_v69, val_main_v68, val_main_v67, val_main_v66, val_main_v65, val_main_v64, val_main_c, val_main_cst, val_main_call3_v0, val_main_call3_c, val_main_call3_v1, val_main_call3_v2, val_main_call3_v3, val_main_call3_v4, val_main_call3_c_0, val_main_call3_v5, val_main_call4_v0, val_main_call4_v1, val_main_call4_v2]
  rw [v63_apply x0 x1 x2 x3 x4 x5 x6 x7, v63_apply x0 x1 x2 x3 x4 x5 x6 x7]
  have e : Scalar.select (IntOp.cmpi CmpIPredicate.sge (IntOp.addi (BitVec.ofNat 32 l.val) 0#32) (BitVec.ofNat 32 s.val)) 1#1 0#1 = if s.val ≤ l.val then 1#1 else 0#1 := by
    have := sel_sge l s (1#1) (0#1)
    simpa [IntOp.addi] using this
  rw [e]
  by_cases hh : s.val ≤ l.val
  · rw [if_pos hh, if_pos hh]
    rfl
  · rw [if_neg hh, if_neg hh]
    rfl

/-- The product of operation 74 read at an index. -/
theorem v74_sum (b : Fin 2) (c : Fin 32) (h : Fin 8) (s l : Fin 128) :
    val_main_v74 (F := Ideal) x0 x1 x3 x4 (ix5 b c h s l) = ∑ k : Fin 128, val_main_v60 (F := Ideal) x0 x1 x3 x4 (ix5 b c s h k) * val_main_v61 (F := Ideal) x0 x1 x3 x4 (ix5 b c l h k) := by
  rw [val_main_v74_apply]
  refine Finset.sum_congr rfl fun k _ => congrArg₂ (· * ·) (congrArg _ (funext fun a => ?_)) (congrArg _ (funext fun a => ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl

/-- The product of operation 77 read at an index. -/
theorem v77_sum (b : Fin 2) (c : Fin 32) (h : Fin 8) (p : Fin 64) (l : Fin 128) :
    val_main_v77 (F := Ideal) x0 x1 x3 x4 x5 x6 (ix5 b c h p l) = ∑ k : Fin 128, val_main_v59 (F := Ideal) x0 x1 x3 x4 x5 (ix5 b c k h p) * val_main_v76 (F := Ideal) x0 x1 x3 x4 x5 x6 (ix5 b c l k h) := by
  rw [val_main_v77_apply]
  refine Finset.sum_congr rfl fun k _ => congrArg₂ (· * ·) (congrArg _ (funext fun a => ?_)) (congrArg _ (funext fun a => ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl

/-- The product of operation 86 read at an index. -/
theorem v86_sum (b : Fin 2) (c : Fin 32) (h : Fin 8) (p : Fin 64) (l : Fin 128) :
    val_main_v86 (F := Ideal) x0 x1 x3 x4 x5 x6 (ix5 b c h p l) = ∑ k : Fin 128, val_main_v85 (F := Ideal) x0 x1 x3 x4 x5 x6 (ix5 b c k h p) * val_main_v60 (F := Ideal) x0 x1 x3 x4 (ix5 b c k h l) := by
  rw [val_main_v86_apply]
  refine Finset.sum_congr rfl fun k _ => congrArg₂ (· * ·) (congrArg _ (funext fun a => ?_)) (congrArg _ (funext fun a => ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl

/-- The product of operation 381 read at an index. -/
theorem v381_sum (b : Fin 2) (c : Fin 32) (h : Fin 8) (p : Fin 64) (l : Fin 128) :
    val_main_v381 (F := Ideal) x0 x1 x2 x3 x4 x5 x6 (ix5 b c h p l) = ∑ k : Fin 128, val_main_v380 (F := Ideal) x0 x1 x2 x3 x4 x5 x6 (ix5 b c h p k) * val_main_v61 (F := Ideal) x0 x1 x3 x4 (ix5 b c l h k) := by
  rw [val_main_v381_apply]
  refine Finset.sum_congr rfl fun k _ => congrArg₂ (· * ·) (congrArg _ (funext fun a => ?_)) (congrArg _ (funext fun a => ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl

end Cert.ReferenceIdeal.Hand
-- ==== Proof.SsdRefB.lean ====
module

public import proofs.«01_k».proof.Proof.SsdRefA

@[expose] public section

set_option maxRecDepth 16384

noncomputable section

namespace Cert.ReferenceIdeal.Hand

open Cert.ReferenceIdeal Cert.ReferenceIdeal.Gen Cert.ReferenceIdeal.Read
open Idealize.ShloMosaic
open Cert.KernelIdeal.Hand

variable (x0 : FVec Ideal S8192x5760 .f32) (x1 : FVec Ideal S2x3x1024 .f32) (x2 : FVec Ideal S2x8x64x128 .f32) (x3 : FVec Ideal S4x1024 .f32)
  (x4 : FVec Ideal S1024 .f32) (x5 x6 x7 : FVec Ideal S8 .f32)

/-- The result within the chunk, read at an index. -/
theorem v78_apply (b : Fin 2) (c : Fin 32) (l : Fin 128) (h : Fin 8) (p : Fin 64) :
    val_main_v78 (F := Ideal) x0 x1 x3 x4 x5 x6 (ix5 b c l h p)
      = ∑ s : Fin 128, ((tabs x0 x1 x2 x3 x4 x5 x6 x7).uC b.val c.val s.val (h.val * 64 + p.val) * (tabs x0 x1 x2 x3 x4 x5 x6 x7).dtC b.val c.val s.val h.val)
        * ((∑ n : Fin 128, (tabs x0 x1 x2 x3 x4 x5 x6 x7).uC b.val c.val s.val (512 + (h.val / 4 * 128 + n.val)) * (tabs x0 x1 x2 x3 x4 x5 x6 x7).uC b.val c.val l.val (768 + (h.val / 4 * 128 + n.val)))
          * Ideal.exp (if s.val ≤ l.val then (tabs x0 x1 x2 x3 x4 x5 x6 x7).cum b.val c.val l.val h.val - (tabs x0 x1 x2 x3 x4 x5 x6 x7).cum b.val c.val s.val h.val else neg)) := by
  have e : idx_main_v78 (ix5 b c l h p) = ix5 b c h p l := funext fun a => match a with | ⟨0, _⟩ => rfl | ⟨1, _⟩ => rfl | ⟨2, _⟩ => rfl | ⟨3, _⟩ => rfl | ⟨4, _⟩ => rfl
  rw [val_main_v78_apply, e, v77_sum]
  refine Finset.sum_congr rfl fun s _ => ?_
  rw [v59_apply x0 x1 x2 x3 x4 x5 x6 x7]
  refine congrArg₂ (· * ·) rfl ?_
  have e' : idx_main_v75 (ix5 b c l s h) = ix5 b c h s l := funext fun a => match a with | ⟨0, _⟩ => rfl | ⟨1, _⟩ => rfl | ⟨2, _⟩ => rfl | ⟨3, _⟩ => rfl | ⟨4, _⟩ => rfl
  rw [val_main_v76_apply, val_main_v75_apply, e']
  show val_main_v74 (F := Ideal) x0 x1 x3 x4 _ * val_main_v73 (F := Ideal) x0 x5 x6 _ = _
  rw [v74_sum, v73_apply x0 x1 x2 x3 x4 x5 x6 x7]
  refine congrArg₂ (· * ·) (Finset.sum_congr rfl fun n _ => ?_) rfl
  rw [v60_apply x0 x1 x2 x3 x4 x5 x6 x7, v61_apply x0 x1 x2 x3 x4 x5 x6 x7]

/-- What a chunk adds to the state. -/
theorem v86_apply (b : Fin 2) (c : Fin 32) (h : Fin 8) (p : Fin 64) (n : Fin 128) :
    val_main_v86 (F := Ideal) x0 x1 x3 x4 x5 x6 (ix5 b c h p n)
      = ∑ l : Fin 128, (Ideal.exp ((tabs x0 x1 x2 x3 x4 x5 x6 x7).cum b.val c.val 127 h.val - (tabs x0 x1 x2 x3 x4 x5 x6 x7).cum b.val c.val l.val h.val)
          * ((tabs x0 x1 x2 x3 x4 x5 x6 x7).uC b.val c.val l.val (h.val * 64 + p.val) * (tabs x0 x1 x2 x3 x4 x5 x6 x7).dtC b.val c.val l.val h.val)) * (tabs x0 x1 x2 x3 x4 x5 x6 x7).uC b.val c.val l.val (512 + (h.val / 4 * 128 + n.val)) := by
  rw [v86_sum]
  refine Finset.sum_congr rfl fun l _ => ?_
  rw [v60_apply x0 x1 x2 x3 x4 x5 x6 x7]
  refine congrArg₂ (· * ·) ?_ rfl
  pointwise [val_main_v85, val_main_v84, val_main_v83, val_main_v82, val_main_v81, val_main_v80, val_main_v79]
  rw [v63_apply x0 x1 x2 x3 x4 x5 x6 x7, v63_apply x0 x1 x2 x3 x4 x5 x6 x7, v59_apply x0 x1 x2 x3 x4 x5 x6 x7]
  rfl

/-- The decay of a chunk. -/
theorem v89_apply (b : Fin 2) (c : Fin 32) (h : Fin 8) :
    val_main_v89 (F := Ideal) x0 x5 x6 (ix3 b c h) = Ideal.exp ((tabs x0 x1 x2 x3 x4 x5 x6 x7).cum b.val c.val 127 h.val) := by
  pointwise [val_main_v89, val_main_v88, val_main_v87]
  rw [v63_apply x0 x1 x2 x3 x4 x5 x6 x7]
  rfl

/-- One step of the recurrence in the reference's form. -/
theorem step_eq (b c : ℕ) (hb : b < 2) (hc : c < 32) (h : Fin 8) (p : Fin 64) (n : Fin 128) :
    (tabs x0 x1 x2 x3 x4 x5 x6 x7).st b c (h.val * 64 + p.val) n.val * val_main_v89 (F := Ideal) x0 x5 x6 (ix3 ⟨b, hb⟩ ⟨c, hc⟩ h)
        + val_main_v86 (F := Ideal) x0 x1 x3 x4 x5 x6 (ix5 ⟨b, hb⟩ ⟨c, hc⟩ h p n)
      = (tabs x0 x1 x2 x3 x4 x5 x6 x7).st b (c + 1) (h.val * 64 + p.val) n.val := by
  have hp := p.isLt
  rw [v89_apply x0 x1 x2 x3 x4 x5 x6 x7, v86_apply x0 x1 x2 x3 x4 x5 x6 x7]
  show _ = stS _ _ _ _ _ _
  unfold stS
  have h1 : (h.val * 64 + p.val) / 64 = h.val := by omega
  have h2 : (h.val * 64 + p.val) / 256 = h.val / 4 := by omega
  rw [h1, h2]
  refine congrArg₂ (· + ·) rfl (Finset.sum_congr rfl fun l _ => ?_)
  rw [mul_comm (Ideal.exp _), Nat.mul_comm 128, Nat.add_assoc]

/-- The state before the sequence, as the reference stacks it. -/
theorem st0_apply (b : Fin 2) (h : Fin 8) (p : Fin 64) (n : Fin 128) : x2 (ix4 b h p n) = (tabs x0 x1 x2 x3 x4 x5 x6 x7).st b.val 0 (h.val * 64 + p.val) n.val := by
  have hp := p.isLt
  rw [rd4_eq x2]
  show rd4 x2 _ _ _ _ = rd4 x2 _ ((h.val * 64 + p.val) / 64) ((h.val * 64 + p.val) % 64) _
  rw [show (h.val * 64 + p.val) / 64 = h.val from by omega, show (h.val * 64 + p.val) % 64 = p.val from by omega]

/-- The state after chunk 0. -/
theorem v97_apply (b : Fin 2) (h : Fin 8) (p : Fin 64) (n : Fin 128) :
    val_main_v97 (F := Ideal) x0 x1 x2 x3 x4 x5 x6 (ix4 b h p n) = (tabs x0 x1 x2 x3 x4 x5 x6 x7).st b.val 1 (h.val * 64 + p.val) n.val := by
  pointwise [val_main_v97, val_main_v96, val_main_v95, val_main_v94, val_main_v93, val_main_v92, val_main_v91, val_main_v90]
  rw [st0_apply x0 x1 x2 x3 x4 x5 x6 x7]
  exact step_eq x0 x1 x2 x3 x4 x5 x6 x7 b.val 0 b.isLt (by decide) h p n

/-- The state after chunk 1. -/
theorem v105_apply (b : Fin 2) (h : Fin 8) (p : Fin 64) (n : Fin 128) :
    val_main_v105 (F := Ideal) x0 x1 x2 x3 x4 x5 x6 (ix4 b h p n) = (tabs x0 x1 x2 x3 x4 x5 x6 x7).st b.val 2 (h.val * 64 + p.val) n.val := by
  pointwise [val_main_v105, val_main_v104, val_main_v103, val_main_v102, val_main_v101, val_main_v100, val_main_v99, val_main_v98]
  rw [v97_apply x0 x1 x2 x3 x4 x5 x6 x7]
  exact step_eq x0 x1 x2 x3 x4 x5 x6 x7 b.val 1 b.isLt (by decide) h p n

/-- The state after chunk 2. -/
theorem v113_apply (b : Fin 2) (h : Fin 8) (p : Fin 64) (n : Fin 128) :
    val_main_v113 (F := Ideal) x0 x1 x2 x3 x4 x5 x6 (ix4 b h p n) = (tabs x0 x1 x2 x3 x4 x5 x6 x7).st b.val 3 (h.val * 64 + p.val) n.val := by
  pointwise [val_main_v113, val_main_v112, val_main_v111, val_main_v110, val_main_v109, val_main_v108, val_main_v107, val_main_v106]
  rw [v105_apply x0 x1 x2 x3 x4 x5 x6 x7]
  exact step_eq x0 x1 x2 x3 x4 x5 x6 x7 b.val 2 b.isLt (by decide) h p n

/-- The state after chunk 3. -/
theorem v121_apply (b : Fin 2) (h : Fin 8) (p : Fin 64) (n : Fin 128) :
    val_main_v121 (F := Ideal) x0 x1 x2 x3 x4 x5 x6 (ix4 b h p n) = (tabs x0 x1 x2 x3 x4 x5 x6 x7).st b.val 4 (h.val * 64 + p.val) n.val := by
  pointwise [val_main_v121, val_main_v120, val_main_v119, val_main_v118, val_main_v117, val_main_v116, val_main_v115, val_main_v114]
  rw [v113_apply x0 x1 x2 x3 x4 x5 x6 x7]
  exact step_eq x0 x1 x2 x3 x4 x5 x6 x7 b.val 3 b.isLt (by decide) h p n

/-- The state after chunk 4. -/
theorem v129_apply (b : Fin 2) (h : Fin 8) (p : Fin 64) (n : Fin 128) :
    val_main_v129 (F := Ideal) x0 x1 x2 x3 x4 x5 x6 (ix4 b h p n) = (tabs x0 x1 x2 x3 x4 x5 x6 x7).st b.val 5 (h.val * 64 + p.val) n.val := by
  pointwise [val_main_v129, val_main_v128, val_main_v127, val_main_v126, val_main_v125, val_main_v124, val_main_v123, val_main_v122]
  rw [v121_apply x0 x1 x2 x3 x4 x5 x6 x7]
  exact step_eq x0 x1 x2 x3 x4 x5 x6 x7 b.val 4 b.isLt (by decide) h p n

/-- The state after chunk 5. -/
theorem v137_apply (b : Fin 2) (h : Fin 8) (p : Fin 64) (n : Fin 128) :
    val_main_v137 (F := Ideal) x0 x1 x2 x3 x4 x5 x6 (ix4 b h p n) = (tabs x0 x1 x2 x3 x4 x5 x6 x7).st b.val 6 (h.val * 64 + p.val) n.val := by
  pointwise [val_main_v137, val_main_v136, val_main_v135, val_main_v134, val_main_v133, val_main_v132, val_main_v131, val_main_v130]
  rw [v129_apply x0 x1 x2 x3 x4 x5 x6 x7]
  exact step_eq x0 x1 x2 x3 x4 x5 x6 x7 b.val 5 b.isLt (by decide) h p n

/-- The state after chunk 6. -/
theorem v145_apply (b : Fin 2) (h : Fin 8) (p : Fin 64) (n : Fin 128) :
    val_main_v145 (F := Ideal) x0 x1 x2 x3 x4 x5 x6 (ix4 b h p n) = (tabs x0 x1 x2 x3 x4 x5 x6 x7).st b.val 7 (h.val * 64 + p.val) n.val := by
  pointwise [val_main_v145, val_main_v144, val_main_v143, val_main_v142, val_main_v141, val_main_v140, val_main_v139, val_main_v138]
  rw [v137_apply x0 x1 x2 x3 x4 x5 x6 x7]
  exact step_eq x0 x1 x2 x3 x4 x5 x6 x7 b.val 6 b.isLt (by decide) h p n

/-- The state after chunk 7. -/
theorem v153_apply (b : Fin 2) (h : Fin 8) (p : Fin 64) (n : Fin 128) :
    val_main_v153 (F := Ideal) x0 x1 x2 x3 x4 x5 x6 (ix4 b h p n) = (tabs x0 x1 x2 x3 x4 x5 x6 x7).st b.val 8 (h.val * 64 + p.val) n.val := by
  pointwise [val_main_v153, val_main_v152, val_main_v151, val_main_v150, val_main_v149, val_main_v148, val_main_v147, val_main_v146]
  rw [v145_apply x0 x1 x2 x3 x4 x5 x6 x7]
  exact step_eq x0 x1 x2 x3 x4 x5 x6 x7 b.val 7 b.isLt (by decide) h p n

/-- The state after chunk 8. -/
theorem v161_apply (b : Fin 2) (h : Fin 8) (p : Fin 64) (n : Fin 128) :
    val_main_v161 (F := Ideal) x0 x1 x2 x3 x4 x5 x6 (ix4 b h p n) = (tabs x0 x1 x2 x3 x4 x5 x6 x7).st b.val 9 (h.val * 64 + p.val) n.val := by
  pointwise [val_main_v161, val_main_v160, val_main_v159, val_main_v158, val_main_v157, val_main_v156, val_main_v155, val_main_v154]
  rw [v153_apply x0 x1 x2 x3 x4 x5 x6 x7]
  exact step_eq x0 x1 x2 x3 x4 x5 x6 x7 b.val 8 b.isLt (by decide) h p n

/-- The state after chunk 9. -/
theorem v169_apply (b : Fin 2) (h : Fin 8) (p : Fin 64) (n : Fin 128) :
    val_main_v169 (F := Ideal) x0 x1 x2 x3 x4 x5 x6 (ix4 b h p n) = (tabs x0 x1 x2 x3 x4 x5 x6 x7).st b.val 10 (h.val * 64 + p.val) n.val := by
  pointwise [val_main_v169, val_main_v168, val_main_v167, val_main_v166, val_main_v165, val_main_v164, val_main_v163, val_main_v162]
  rw [v161_apply x0 x1 x2 x3 x4 x5 x6 x7]
  exact step_eq x0 x1 x2 x3 x4 x5 x6 x7 b.val 9 b.isLt (by decide) h p n

/-- The state after chunk 10. -/
theorem v177_apply (b : Fin 2) (h : Fin 8) (p : Fin 64) (n : Fin 128) :
    val_main_v177 (F := Ideal) x0 x1 x2 x3 x4 x5 x6 (ix4 b h p n) = (tabs x0 x1 x2 x3 x4 x5 x6 x7).st b.val 11 (h.val * 64 + p.val) n.val := by
  pointwise [val_main_v177, val_main_v176, val_main_v175, val_main_v174, val_main_v173, val_main_v172, val_main_v171, val_main_v170]
  rw [v169_apply x0 x1 x2 x3 x4 x5 x6 x7]
  exact step_eq x0 x1 x2 x3 x4 x5 x6 x7 b.val 10 b.isLt (by decide) h p n

/-- The state after chunk 11. -/
theorem v185_apply (b : Fin 2) (h : Fin 8) (p : Fin 64) (n : Fin 128) :
    val_main_v185 (F := Ideal) x0 x1 x2 x3 x4 x5 x6 (ix4 b h p n) = (tabs x0 x1 x2 x3 x4 x5 x6 x7).st b.val 12 (h.val * 64 + p.val) n.val := by
  pointwise [val_main_v185, val_main_v184, val_main_v183, val_main_v182, val_main_v181, val_main_v180, val_main_v179, val_main_v178]
  rw [v177_apply x0 x1 x2 x3 x4 x5 x6 x7]
  exact step_eq x0 x1 x2 x3 x4 x5 x6 x7 b.val 11 b.isLt (by decide) h p n

/-- The state after chunk 12. -/
theorem v193_apply (b : Fin 2) (h : Fin 8) (p : Fin 64) (n : Fin 128) :
    val_main_v193 (F := Ideal) x0 x1 x2 x3 x4 x5 x6 (ix4 b h p n) = (tabs x0 x1 x2 x3 x4 x5 x6 x7).st b.val 13 (h.val * 64 + p.val) n.val := by
  pointwise [val_main_v193, val_main_v192, val_main_v191, val_main_v190, val_main_v189, val_main_v188, val_main_v187, val_main_v186]
  rw [v185_apply x0 x1 x2 x3 x4 x5 x6 x7]
  exact step_eq x0 x1 x2 x3 x4 x5 x6 x7 b.val 12 b.isLt (by decide) h p n

/-- The state after chunk 13. -/
theorem v201_apply (b : Fin 2) (h : Fin 8) (p : Fin 64) (n : Fin 128) :
    val_main_v201 (F := Ideal) x0 x1 x2 x3 x4 x5 x6 (ix4 b h p n) = (tabs x0 x1 x2 x3 x4 x5 x6 x7).st b.val 14 (h.val * 64 + p.val) n.val := by
  pointwise [val_main_v201, val_main_v200, val_main_v199, val_main_v198, val_main_v197, val_main_v196, val_main_v195, val_main_v194]
  rw [v193_apply x0 x1 x2 x3 x4 x5 x6 x7]
  exact step_eq x0 x1 x2 x3 x4 x5 x6 x7 b.val 13 b.isLt (by decide) h p n

/-- The state after chunk 14. -/
theorem v209_apply (b : Fin 2) (h : Fin 8) (p : Fin 64) (n : Fin 128) :
    val_main_v209 (F := Ideal) x0 x1 x2 x3 x4 x5 x6 (ix4 b h p n) = (tabs x0 x1 x2 x3 x4 x5 x6 x7).st b.val 15 (h.val * 64 + p.val) n.val := by
  pointwise [val_main_v209, val_main_v208, val_main_v207, val_main_v206, val_main_v205, val_main_v204, val_main_v203, val_main_v202]
  rw [v201_apply x0 x1 x2 x3 x4 x5 x6 x7]
  exact step_eq x0 x1 x2 x3 x4 x5 x6 x7 b.val 14 b.isLt (by decide) h p n

/-- The state after chunk 15. -/
theorem v217_apply (b : Fin 2) (h : Fin 8) (p : Fin 64) (n : Fin 128) :
    val_main_v217 (F := Ideal) x0 x1 x2 x3 x4 x5 x6 (ix4 b h p n) = (tabs x0 x1 x2 x3 x4 x5 x6 x7).st b.val 16 (h.val * 64 + p.val) n.val := by
  pointwise [val_main_v217, val_main_v216, val_main_v215, val_main_v214, val_main_v213, val_main_v212, val_main_v211, val_main_v210]
  rw [v209_apply x0 x1 x2 x3 x4 x5 x6 x7]
  exact step_eq x0 x1 x2 x3 x4 x5 x6 x7 b.val 15 b.isLt (by decide) h p n

/-- The state after chunk 16. -/
theorem v225_apply (b : Fin 2) (h : Fin 8) (p : Fin 64) (n : Fin 128) :
    val_main_v225 (F := Ideal) x0 x1 x2 x3 x4 x5 x6 (ix4 b h p n) = (tabs x0 x1 x2 x3 x4 x5 x6 x7).st b.val 17 (h.val * 64 + p.val) n.val := by
  pointwise [val_main_v225, val_main_v224, val_main_v223, val_main_v222, val_main_v221, val_main_v220, val_main_v219, val_main_v218]
  rw [v217_apply x0 x1 x2 x3 x4 x5 x6 x7]
  exact step_eq x0 x1 x2 x3 x4 x5 x6 x7 b.val 16 b.isLt (by decide) h p n

/-- The state after chunk 17. -/
theorem v233_apply (b : Fin 2) (h : Fin 8) (p : Fin 64) (n : Fin 128) :
    val_main_v233 (F := Ideal) x0 x1 x2 x3 x4 x5 x6 (ix4 b h p n) = (tabs x0 x1 x2 x3 x4 x5 x6 x7).st b.val 18 (h.val * 64 + p.val) n.val := by
  pointwise [val_main_v233, val_main_v232, val_main_v231, val_main_v230, val_main_v229, val_main_v228, val_main_v227, val_main_v226]
  rw [v225_apply x0 x1 x2 x3 x4 x5 x6 x7]
  exact step_eq x0 x1 x2 x3 x4 x5 x6 x7 b.val 17 b.isLt (by decide) h p n

/-- The state after chunk 18. -/
theorem v241_apply (b : Fin 2) (h : Fin 8) (p : Fin 64) (n : Fin 128) :
    val_main_v241 (F := Ideal) x0 x1 x2 x3 x4 x5 x6 (ix4 b h p n) = (tabs x0 x1 x2 x3 x4 x5 x6 x7).st b.val 19 (h.val * 64 + p.val) n.val := by
  pointwise [val_main_v241, val_main_v240, val_main_v239, val_main_v238, val_main_v237, val_main_v236, val_main_v235, val_main_v234]
  rw [v233_apply x0 x1 x2 x3 x4 x5 x6 x7]
  exact step_eq x0 x1 x2 x3 x4 x5 x6 x7 b.val 18 b.isLt (by decide) h p n

/-- The state after chunk 19. -/
theorem v249_apply (b : Fin 2) (h : Fin 8) (p : Fin 64) (n : Fin 128) :
    val_main_v249 (F := Ideal) x0 x1 x2 x3 x4 x5 x6 (ix4 b h p n) = (tabs x0 x1 x2 x3 x4 x5 x6 x7).st b.val 20 (h.val * 64 + p.val) n.val := by
  pointwise [val_main_v249, val_main_v248, val_main_v247, val_main_v246, val_main_v245, val_main_v244, val_main_v243, val_main_v242]
  rw [v241_apply x0 x1 x2 x3 x4 x5 x6 x7]
  exact step_eq x0 x1 x2 x3 x4 x5 x6 x7 b.val 19 b.isLt (by decide) h p n

/-- The state after chunk 20. -/
theorem v257_apply (b : Fin 2) (h : Fin 8) (p : Fin 64) (n : Fin 128) :
    val_main_v257 (F := Ideal) x0 x1 x2 x3 x4 x5 x6 (ix4 b h p n) = (tabs x0 x1 x2 x3 x4 x5 x6 x7).st b.val 21 (h.val * 64 + p.val) n.val := by
  pointwise [val_main_v257, val_main_v256, val_main_v255, val_main_v254, val_main_v253, val_main_v252, val_main_v251, val_main_v250]
  rw [v249_apply x0 x1 x2 x3 x4 x5 x6 x7]
  exact step_eq x0 x1 x2 x3 x4 x5 x6 x7 b.val 20 b.isLt (by decide) h p n

/-- The state after chunk 21. -/
theorem v265_apply (b : Fin 2) (h : Fin 8) (p : Fin 64) (n : Fin 128) :
    val_main_v265 (F := Ideal) x0 x1 x2 x3 x4 x5 x6 (ix4 b h p n) = (tabs x0 x1 x2 x3 x4 x5 x6 x7).st b.val 22 (h.val * 64 + p.val) n.val := by
  pointwise [val_main_v265, val_main_v264, val_main_v263, val_main_v262, val_main_v261, val_main_v260, val_main_v259, val_main_v258]
  rw [v257_apply x0 x1 x2 x3 x4 x5 x6 x7]
  exact step_eq x0 x1 x2 x3 x4 x5 x6 x7 b.val 21 b.isLt (by decide) h p n

/-- The state after chunk 22. -/
theorem v273_apply (b : Fin 2) (h : Fin 8) (p : Fin 64) (n : Fin 128) :
    val_main_v273 (F := Ideal) x0 x1 x2 x3 x4 x5 x6 (ix4 b h p n) = (tabs x0 x1 x2 x3 x4 x5 x6 x7).st b.val 23 (h.val * 64 + p.val) n.val := by
  pointwise [val_main_v273, val_main_v272, val_main_v271, val_main_v270, val_main_v269, val_main_v268, val_main_v267, val_main_v266]
  rw [v265_apply x0 x1 x2 x3 x4 x5 x6 x7]
  exact step_eq x0 x1 x2 x3 x4 x5 x6 x7 b.val 22 b.isLt (by decide) h p n

/-- The state after chunk 23. -/
theorem v281_apply (b : Fin 2) (h : Fin 8) (p : Fin 64) (n : Fin 128) :
    val_main_v281 (F := Ideal) x0 x1 x2 x3 x4 x5 x6 (ix4 b h p n) = (tabs x0 x1 x2 x3 x4 x5 x6 x7).st b.val 24 (h.val * 64 + p.val) n.val := by
  pointwise [val_main_v281, val_main_v280, val_main_v279, val_main_v278, val_main_v277, val_main_v276, val_main_v275, val_main_v274]
  rw [v273_apply x0 x1 x2 x3 x4 x5 x6 x7]
  exact step_eq x0 x1 x2 x3 x4 x5 x6 x7 b.val 23 b.isLt (by decide) h p n

/-- The state after chunk 24. -/
theorem v289_apply (b : Fin 2) (h : Fin 8) (p : Fin 64) (n : Fin 128) :
    val_main_v289 (F := Ideal) x0 x1 x2 x3 x4 x5 x6 (ix4 b h p n) = (tabs x0 x1 x2 x3 x4 x5 x6 x7).st b.val 25 (h.val * 64 + p.val) n.val := by
  pointwise [val_main_v289, val_main_v288, val_main_v287, val_main_v286, val_main_v285, val_main_v284, val_main_v283, val_main_v282]
  rw [v281_apply x0 x1 x2 x3 x4 x5 x6 x7]
  exact step_eq x0 x1 x2 x3 x4 x5 x6 x7 b.val 24 b.isLt (by decide) h p n

/-- The state after chunk 25. -/
theorem v297_apply (b : Fin 2) (h : Fin 8) (p : Fin 64) (n : Fin 128) :
    val_main_v297 (F := Ideal) x0 x1 x2 x3 x4 x5 x6 (ix4 b h p n) = (tabs x0 x1 x2 x3 x4 x5 x6 x7).st b.val 26 (h.val * 64 + p.val) n.val := by
  pointwise [val_main_v297, val_main_v296, val_main_v295, val_main_v294, val_main_v293, val_main_v292, val_main_v291, val_main_v290]
  rw [v289_apply x0 x1 x2 x3 x4 x5 x6 x7]
  exact step_eq x0 x1 x2 x3 x4 x5 x6 x7 b.val 25 b.isLt (by decide) h p n

/-- The state after chunk 26. -/
theorem v305_apply (b : Fin 2) (h : Fin 8) (p : Fin 64) (n : Fin 128) :
    val_main_v305 (F := Ideal) x0 x1 x2 x3 x4 x5 x6 (ix4 b h p n) = (tabs x0 x1 x2 x3 x4 x5 x6 x7).st b.val 27 (h.val * 64 + p.val) n.val := by
  pointwise [val_main_v305, val_main_v304, val_main_v303, val_main_v302, val_main_v301, val_main_v300, val_main_v299, val_main_v298]
  rw [v297_apply x0 x1 x2 x3 x4 x5 x6 x7]
  exact step_eq x0 x1 x2 x3 x4 x5 x6 x7 b.val 26 b.isLt (by decide) h p n

/-- The state after chunk 27. -/
theorem v313_apply (b : Fin 2) (h : Fin 8) (p : Fin 64) (n : Fin 128) :
    val_main_v313 (F := Ideal) x0 x1 x2 x3 x4 x5 x6 (ix4 b h p n) = (tabs x0 x1 x2 x3 x4 x5 x6 x7).st b.val 28 (h.val * 64 + p.val) n.val := by
  pointwise [val_main_v313, val_main_v312, val_main_v311, val_main_v310, val_main_v309, val_main_v308, val_main_v307, val_main_v306]
  rw [v305_apply x0 x1 x2 x3 x4 x5 x6 x7]
  exact step_eq x0 x1 x2 x3 x4 x5 x6 x7 b.val 27 b.isLt (by decide) h p n

/-- The state after chunk 28. -/
theorem v321_apply (b : Fin 2) (h : Fin 8) (p : Fin 64) (n : Fin 128) :
    val_main_v321 (F := Ideal) x0 x1 x2 x3 x4 x5 x6 (ix4 b h p n) = (tabs x0 x1 x2 x3 x4 x5 x6 x7).st b.val 29 (h.val * 64 + p.val) n.val := by
  pointwise [val_main_v321, val_main_v320, val_main_v319, val_main_v318, val_main_v317, val_main_v316, val_main_v315, val_main_v314]
  rw [v313_apply x0 x1 x2 x3 x4 x5 x6 x7]
  exact step_eq x0 x1 x2 x3 x4 x5 x6 x7 b.val 28 b.isLt (by decide) h p n

/-- The state after chunk 29. -/
theorem v329_apply (b : Fin 2) (h : Fin 8) (p : Fin 64) (n : Fin 128) :
    val_main_v329 (F := Ideal) x0 x1 x2 x3 x4 x5 x6 (ix4 b h p n) = (tabs x0 x1 x2 x3 x4 x5 x6 x7).st b.val 30 (h.val * 64 + p.val) n.val := by
  pointwise [val_main_v329, val_main_v328, val_main_v327, val_main_v326, val_main_v325, val_main_v324, val_main_v323, val_main_v322]
  rw [v321_apply x0 x1 x2 x3 x4 x5 x6 x7]
  exact step_eq x0 x1 x2 x3 x4 x5 x6 x7 b.val 29 b.isLt (by decide) h p n

/-- The state after chunk 30. -/
theorem v337_apply (b : Fin 2) (h : Fin 8) (p : Fin 64) (n : Fin 128) :
    val_main_v337 (F := Ideal) x0 x1 x2 x3 x4 x5 x6 (ix4 b h p n) = (tabs x0 x1 x2 x3 x4 x5 x6 x7).st b.val 31 (h.val * 64 + p.val) n.val := by
  pointwise [val_main_v337, val_main_v336, val_main_v335, val_main_v334, val_main_v333, val_main_v332, val_main_v331, val_main_v330]
  rw [v329_apply x0 x1 x2 x3 x4 x5 x6 x7]
  exact step_eq x0 x1 x2 x3 x4 x5 x6 x7 b.val 30 b.isLt (by decide) h p n

/-- The state after chunk 31. -/
theorem v345_apply (b : Fin 2) (h : Fin 8) (p : Fin 64) (n : Fin 128) :
    val_main_v345 (F := Ideal) x0 x1 x2 x3 x4 x5 x6 (ix4 b h p n) = (tabs x0 x1 x2 x3 x4 x5 x6 x7).st b.val 32 (h.val * 64 + p.val) n.val := by
  pointwise [val_main_v345, val_main_v344, val_main_v343, val_main_v342, val_main_v341, val_main_v340, val_main_v339, val_main_v338]
  rw [v337_apply x0 x1 x2 x3 x4 x5 x6 x7]
  exact step_eq x0 x1 x2 x3 x4 x5 x6 x7 b.val 31 b.isLt (by decide) h p n

end Cert.ReferenceIdeal.Hand
-- ==== Proof.SsdRefC.lean ====
module

public import proofs.«01_k».proof.Proof.SsdRefB
public import Idealize.ShloMosaic.Lib.Pipeline.ValueKit.Tiles

@[expose] public section

set_option maxRecDepth 16384

noncomputable section

namespace Cert.ReferenceIdeal.Hand

open Cert.ReferenceIdeal Cert.ReferenceIdeal.Gen Cert.ReferenceIdeal.Read
open Idealize.ShloMosaic
open Cert.KernelIdeal.Hand

variable (x0 : FVec Ideal S8192x5760 .f32) (x1 : FVec Ideal S2x3x1024 .f32) (x2 : FVec Ideal S2x8x64x128 .f32) (x3 : FVec Ideal S4x1024 .f32)
  (x4 : FVec Ideal S1024 .f32) (x5 x6 x7 : FVec Ideal S8 .f32)

/-- The stacked states, 0 to 15. -/
theorem v378_apply (b : Fin 2) (c : Fin 16) (h : Fin 8) (p : Fin 64) (n : Fin 128) :
    val_main_v378 (F := Ideal) x0 x1 x2 x3 x4 x5 x6 (ix5 b c h p n) = (tabs x0 x1 x2 x3 x4 x5 x6 x7).st b.val (0 + c.val) (h.val * 64 + p.val) n.val := by
  unfold val_main_v378
  concat_tiles i hh
  · have e : idx_main_v346 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v346_apply, e, st0_apply x0 x1 x2 x3 x4 x5 x6 x7, show 0 + c.val = 0 from by have : c.val = 0 := hh; omega]
  · have e : idx_main_v347 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v347_apply, e, v97_apply x0 x1 x2 x3 x4 x5 x6 x7, show 0 + c.val = 1 from by have : c.val = 1 := hh; omega]
  · have e : idx_main_v348 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v348_apply, e, v105_apply x0 x1 x2 x3 x4 x5 x6 x7, show 0 + c.val = 2 from by have : c.val = 2 := hh; omega]
  · have e : idx_main_v349 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v349_apply, e, v113_apply x0 x1 x2 x3 x4 x5 x6 x7, show 0 + c.val = 3 from by have : c.val = 3 := hh; omega]
  · have e : idx_main_v350 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v350_apply, e, v121_apply x0 x1 x2 x3 x4 x5 x6 x7, show 0 + c.val = 4 from by have : c.val = 4 := hh; omega]
  · have e : idx_main_v351 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v351_apply, e, v129_apply x0 x1 x2 x3 x4 x5 x6 x7, show 0 + c.val = 5 from by have : c.val = 5 := hh; omega]
  · have e : idx_main_v352 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v352_apply, e, v137_apply x0 x1 x2 x3 x4 x5 x6 x7, show 0 + c.val = 6 from by have : c.val = 6 := hh; omega]
  · have e : idx_main_v353 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v353_apply, e, v145_apply x0 x1 x2 x3 x4 x5 x6 x7, show 0 + c.val = 7 from by have : c.val = 7 := hh; omega]
  · have e : idx_main_v354 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v354_apply, e, v153_apply x0 x1 x2 x3 x4 x5 x6 x7, show 0 + c.val = 8 from by have : c.val = 8 := hh; omega]
  · have e : idx_main_v355 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v355_apply, e, v161_apply x0 x1 x2 x3 x4 x5 x6 x7, show 0 + c.val = 9 from by have : c.val = 9 := hh; omega]
  · have e : idx_main_v356 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v356_apply, e, v169_apply x0 x1 x2 x3 x4 x5 x6 x7, show 0 + c.val = 10 from by have : c.val = 10 := hh; omega]
  · have e : idx_main_v357 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v357_apply, e, v177_apply x0 x1 x2 x3 x4 x5 x6 x7, show 0 + c.val = 11 from by have : c.val = 11 := hh; omega]
  · have e : idx_main_v358 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v358_apply, e, v185_apply x0 x1 x2 x3 x4 x5 x6 x7, show 0 + c.val = 12 from by have : c.val = 12 := hh; omega]
  · have e : idx_main_v359 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v359_apply, e, v193_apply x0 x1 x2 x3 x4 x5 x6 x7, show 0 + c.val = 13 from by have : c.val = 13 := hh; omega]
  · have e : idx_main_v360 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v360_apply, e, v201_apply x0 x1 x2 x3 x4 x5 x6 x7, show 0 + c.val = 14 from by have : c.val = 14 := hh; omega]
  · have e : idx_main_v361 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v361_apply, e, v209_apply x0 x1 x2 x3 x4 x5 x6 x7, show 0 + c.val = 15 from by have : c.val = 15 := hh; omega]

/-- The stacked states, 16 to 31. -/
theorem v379_apply (b : Fin 2) (c : Fin 16) (h : Fin 8) (p : Fin 64) (n : Fin 128) :
    val_main_v379 (F := Ideal) x0 x1 x2 x3 x4 x5 x6 (ix5 b c h p n) = (tabs x0 x1 x2 x3 x4 x5 x6 x7).st b.val (16 + c.val) (h.val * 64 + p.val) n.val := by
  unfold val_main_v379
  concat_tiles i hh
  · have e : idx_main_v362 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v362_apply, e, v217_apply x0 x1 x2 x3 x4 x5 x6 x7, show 16 + c.val = 16 from by have : c.val = 0 := hh; omega]
  · have e : idx_main_v363 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v363_apply, e, v225_apply x0 x1 x2 x3 x4 x5 x6 x7, show 16 + c.val = 17 from by have : c.val = 1 := hh; omega]
  · have e : idx_main_v364 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v364_apply, e, v233_apply x0 x1 x2 x3 x4 x5 x6 x7, show 16 + c.val = 18 from by have : c.val = 2 := hh; omega]
  · have e : idx_main_v365 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v365_apply, e, v241_apply x0 x1 x2 x3 x4 x5 x6 x7, show 16 + c.val = 19 from by have : c.val = 3 := hh; omega]
  · have e : idx_main_v366 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v366_apply, e, v249_apply x0 x1 x2 x3 x4 x5 x6 x7, show 16 + c.val = 20 from by have : c.val = 4 := hh; omega]
  · have e : idx_main_v367 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v367_apply, e, v257_apply x0 x1 x2 x3 x4 x5 x6 x7, show 16 + c.val = 21 from by have : c.val = 5 := hh; omega]
  · have e : idx_main_v368 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v368_apply, e, v265_apply x0 x1 x2 x3 x4 x5 x6 x7, show 16 + c.val = 22 from by have : c.val = 6 := hh; omega]
  · have e : idx_main_v369 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v369_apply, e, v273_apply x0 x1 x2 x3 x4 x5 x6 x7, show 16 + c.val = 23 from by have : c.val = 7 := hh; omega]
  · have e : idx_main_v370 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v370_apply, e, v281_apply x0 x1 x2 x3 x4 x5 x6 x7, show 16 + c.val = 24 from by have : c.val = 8 := hh; omega]
  · have e : idx_main_v371 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v371_apply, e, v289_apply x0 x1 x2 x3 x4 x5 x6 x7, show 16 + c.val = 25 from by have : c.val = 9 := hh; omega]
  · have e : idx_main_v372 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v372_apply, e, v297_apply x0 x1 x2 x3 x4 x5 x6 x7, show 16 + c.val = 26 from by have : c.val = 10 := hh; omega]
  · have e : idx_main_v373 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v373_apply, e, v305_apply x0 x1 x2 x3 x4 x5 x6 x7, show 16 + c.val = 27 from by have : c.val = 11 := hh; omega]
  · have e : idx_main_v374 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v374_apply, e, v313_apply x0 x1 x2 x3 x4 x5 x6 x7, show 16 + c.val = 28 from by have : c.val = 12 := hh; omega]
  · have e : idx_main_v375 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v375_apply, e, v321_apply x0 x1 x2 x3 x4 x5 x6 x7, show 16 + c.val = 29 from by have : c.val = 13 := hh; omega]
  · have e : idx_main_v376 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v376_apply, e, v329_apply x0 x1 x2 x3 x4 x5 x6 x7, show 16 + c.val = 30 from by have : c.val = 14 := hh; omega]
  · have e : idx_main_v377 i = ix4 b h p n := funext fun a => match a with
      | ⟨0, _⟩ => Fin.ext (by assumption)
      | ⟨1, _⟩ => Fin.ext (by assumption)
      | ⟨2, _⟩ => Fin.ext (by assumption)
      | ⟨3, _⟩ => Fin.ext (by assumption)
    rw [val_main_v377_apply, e, v337_apply x0 x1 x2 x3 x4 x5 x6 x7, show 16 + c.val = 31 from by have : c.val = 15 := hh; omega]

/-- The states before the chunks. -/
theorem v380_apply (b : Fin 2) (c : Fin 32) (h : Fin 8) (p : Fin 64) (n : Fin 128) :
    val_main_v380 (F := Ideal) x0 x1 x2 x3 x4 x5 x6 (ix5 b c h p n) = (tabs x0 x1 x2 x3 x4 x5 x6 x7).st b.val c.val (h.val * 64 + p.val) n.val := by
  have hc := c.isLt
  pointwise [val_main_v380]
  split_ifs with h1
  · rw [v378_apply x0 x1 x2 x3 x4 x5 x6 x7, Nat.zero_add]
  · rw [v379_apply x0 x1 x2 x3 x4 x5 x6 x7]
    exact congrArg (fun m => (tabs x0 x1 x2 x3 x4 x5 x6 x7).st b.val m (h.val * 64 + p.val) n.val) (Nat.add_sub_cancel' (by omega : 16 ≤ c.val))
  · rw [v379_apply x0 x1 x2 x3 x4 x5 x6 x7]
    exact congrArg (fun m => (tabs x0 x1 x2 x3 x4 x5 x6 x7).st b.val m (h.val * 64 + p.val) n.val) (Nat.add_sub_cancel' (by omega : 16 ≤ c.val))

/-- Both parts of the result before the skip. -/
theorem v387_apply (b : Fin 2) (c : Fin 32) (l : Fin 128) (h : Fin 8) (p : Fin 64) :
    val_main_v387 (F := Ideal) x0 x1 x2 x3 x4 x5 x6 (ix5 b c l h p)
      = (∑ k : Fin 128, (grm ((tabs x0 x1 x2 x3 x4 x5 x6 x7).uC b.val c.val) (h.val / 4) l.val k.val
            * Ideal.exp (if k.val ≤ l.val then (tabs x0 x1 x2 x3 x4 x5 x6 x7).cum b.val c.val l.val h.val - (tabs x0 x1 x2 x3 x4 x5 x6 x7).cum b.val c.val k.val h.val else neg))
          * ((tabs x0 x1 x2 x3 x4 x5 x6 x7).uC b.val c.val k.val (h.val * 64 + p.val) * (tabs x0 x1 x2 x3 x4 x5 x6 x7).dtC b.val c.val k.val h.val))
        + (∑ n : Fin 128, (tabs x0 x1 x2 x3 x4 x5 x6 x7).uC b.val c.val l.val (768 + 128 * (h.val / 4) + n.val) * (tabs x0 x1 x2 x3 x4 x5 x6 x7).st b.val c.val (h.val * 64 + p.val) n.val)
          * Ideal.exp ((tabs x0 x1 x2 x3 x4 x5 x6 x7).cum b.val c.val l.val h.val) := by
  have e : idx_main_v382 (ix5 b c l h p) = ix5 b c h p l := funext fun a => match a with | ⟨0, _⟩ => rfl | ⟨1, _⟩ => rfl | ⟨2, _⟩ => rfl | ⟨3, _⟩ => rfl | ⟨4, _⟩ => rfl
  have e2 : val_main_v385 (F := Ideal) x0 x5 x6 (ix5 b c l h p) = Ideal.exp ((tabs x0 x1 x2 x3 x4 x5 x6 x7).cum b.val c.val l.val h.val) := by
    pointwise [val_main_v385, val_main_v384, val_main_v383]
    rw [v63_apply x0 x1 x2 x3 x4 x5 x6 x7]
  rw [val_main_v387_apply, val_main_v386_apply, val_main_v382_apply, e, v381_sum, e2, v78_apply x0 x1 x2 x3 x4 x5 x6 x7]
  refine congrArg₂ (· + ·) (Finset.sum_congr rfl fun k _ => ?_) (congrArg₂ (· * ·) (Finset.sum_congr rfl fun n _ => ?_) rfl)
  · rw [mul_comm]
    refine congrArg₂ (· * ·) (congrArg₂ (· * ·) (Finset.sum_congr rfl fun n _ => ?_) rfl) rfl
    rw [mul_comm, Nat.mul_comm 128, Nat.add_assoc, Nat.add_assoc]
  · rw [v380_apply x0 x1 x2 x3 x4 x5 x6 x7, v61_apply x0 x1 x2 x3 x4 x5 x6 x7, mul_comm, Nat.mul_comm 128, Nat.add_assoc]

/-- The result with the skip, per head. -/
theorem v393_apply (b : Fin 2) (t : Fin 4096) (c : Fin 32) (l : Fin 128) (ht : t.val = c.val * 128 + l.val) (h : Fin 8) (p : Fin 64) :
    val_main_v393 (F := Ideal) x0 x1 x2 x3 x4 x5 x6 x7 (ix4 b t h p)
      = val_main_v387 (F := Ideal) x0 x1 x2 x3 x4 x5 x6 (ix5 b c l h p) + rd1 x7 h.val * (tabs x0 x1 x2 x3 x4 x5 x6 x7).uC b.val c.val l.val (h.val * 64 + p.val) := by
  have h0 := b.isLt
  have h1 := c.isLt
  have h2 := l.isLt
  have h3 := h.isLt
  have h4 := p.isLt
  have e : idx_main_v388 (ix4 b t h p) = ix5 b c l h p := funext fun a => Fin.ext (by
    match a with
    | ⟨0, _⟩ => show (((b.val * 4096 + t.val) * 8 + h.val) * 64 + p.val) / 2097152 = b.val; omega
    | ⟨1, _⟩ => show (((b.val * 4096 + t.val) * 8 + h.val) * 64 + p.val) / 65536 % 32 = c.val; omega
    | ⟨2, _⟩ => show (((b.val * 4096 + t.val) * 8 + h.val) * 64 + p.val) / 512 % 128 = l.val; omega
    | ⟨3, _⟩ => show (((b.val * 4096 + t.val) * 8 + h.val) * 64 + p.val) / 64 % 8 = h.val; omega
    | ⟨4, _⟩ => show (((b.val * 4096 + t.val) * 8 + h.val) * 64 + p.val) % 64 = p.val; omega)
  have e2 : val_main_v392 (F := Ideal) x0 x1 x3 x4 x7 (ix4 b t h p) = rd1 x7 h.val * (tabs x0 x1 x2 x3 x4 x5 x6 x7).uC b.val c.val l.val (h.val * 64 + p.val) := by
    pointwise [val_main_v392, val_main_v391, val_main_v390, val_main_v389]
    rw [v40_apply x0 x1 x2 x3 x4 x5 x6 x7, rd1_eq x7]
    unfold Tab.uC
    rw [← ht]
  rw [val_main_v393_apply, val_main_v388_apply, e, e2]
  rfl

/-- The gate. -/
theorem v395_apply (b : Fin 2) (t : Fin 4096) (q : Fin 512) :
    val_main_v395 (F := Ideal) x0 (ix3 b t q) = (fun a => a * Ideal.logistic a) (rd2 x0 (b.val * 4096 + t.val) (5120 + q.val)) := by
  pointwise [val_main_v395, val_main_call5_v0, val_main_call5_v1, val_main_call5_cst, val_main_call5_v2, val_main_call5_v3, val_main_call5_cst_0, val_main_call5_v4, val_main_call5_v5, val_main_v1, val_main_v0]
  rw [rd2_eq x0]
  rfl

/-- The result of the reference. -/
theorem v397_apply (b : Fin 2) (c : Fin 32) (l : Fin 128) (r : Fin 8192) (hr : r.val = b.val * 4096 + (c.val * 128 + l.val)) (q : Fin 512) :
    val_main_v397 (F := Ideal) x0 x1 x2 x3 x4 x5 x6 x7 (ix2 r q) = (tabs x0 x1 x2 x3 x4 x5 x6 x7).yC b.val c.val l.val q.val := by
  have h0 := b.isLt
  have h1 := c.isLt
  have h2 := l.isLt
  have hq := q.isLt
  have ht : c.val * 128 + l.val < 4096 := by omega
  have e : idx_main_v397 (ix2 r q) = ix3 b ⟨c.val * 128 + l.val, ht⟩ q := funext fun a => Fin.ext (by
    match a with
    | ⟨0, _⟩ => show (r.val * 512 + q.val) / 2097152 = b.val; omega
    | ⟨1, _⟩ => show (r.val * 512 + q.val) / 512 % 4096 = c.val * 128 + l.val; omega
    | ⟨2, _⟩ => show (r.val * 512 + q.val) % 512 = q.val; omega)
  have e2 : idx_main_v394 (ix3 b ⟨c.val * 128 + l.val, ht⟩ q) = ix4 b ⟨c.val * 128 + l.val, ht⟩ ⟨q.val / 64, by omega⟩ ⟨q.val % 64, by omega⟩ :=
    funext fun a => Fin.ext (by
    match a with
    | ⟨0, _⟩ => show ((b.val * 4096 + (c.val * 128 + l.val)) * 512 + q.val) / 2097152 = b.val; omega
    | ⟨1, _⟩ => show ((b.val * 4096 + (c.val * 128 + l.val)) * 512 + q.val) / 512 % 4096 = c.val * 128 + l.val; omega
    | ⟨2, _⟩ => show ((b.val * 4096 + (c.val * 128 + l.val)) * 512 + q.val) / 64 % 8 = q.val / 64; omega
    | ⟨3, _⟩ => show ((b.val * 4096 + (c.val * 128 + l.val)) * 512 + q.val) % 64 = q.val % 64; omega)
  have hqq : q.val / 64 * 64 + q.val % 64 = q.val := by omega
  rw [val_main_v397_apply, e, val_main_v396_apply, val_main_v394_apply, e2, v395_apply,
    v393_apply x0 x1 x2 x3 x4 x5 x6 x7 b _ c l rfl, v387_apply x0 x1 x2 x3 x4 x5 x6 x7]
  dsimp only
  rw [hqq, show q.val / 64 / 4 = q.val / 256 from by omega]
  rfl

/-- The new front rows. -/
theorem v32_apply (b : Fin 2) (i : Fin 3) (ch : Fin 1024) : val_main_v32 (F := Ideal) x0 x1 (ix3 b i ch) = (tabs x0 x1 x2 x3 x4 x5 x6 x7).ext b.val (4096 + i.val) ch.val := by
  pointwise [val_main_v32]
  rw [v4_apply x0 x1 x2 x3 x4 x5 x6 x7]

end Cert.ReferenceIdeal.Hand
-- ==== Proof.SsdClaim.lean ====
module

public import proofs.«01_k».proof.Defs
public import proofs.«01_k».proof.Proof.SsdValue
public import proofs.«01_k».proof.Proof.SsdFrameBits
public import proofs.«01_k».proof.Proof.SsdRefC
public import proofs.«01_k».proof.Proof.Gen.ReferenceIdeal.Run
public import proofs.«01_k».proof.Proof.Gen.ReferenceIdeal.Read

@[expose] public section

set_option maxRecDepth 16384

noncomputable section

namespace Cert.Proof.Ssd

open Idealize.ShloMosaic Idealize.ShloMosaic.TcCoe Idealize.SL.Sem
open Cert.KernelIdeal.Hand (Tab G10 G11 G12)

/-- The array a run of the kernel leaves in each result's buffer. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v8_0) = G10 m c
      ∧ r.2.mem ((c.tc : Thread Cert.KernelIdeal.nD Cert.KernelIdeal.τ).loc Cert.KernelIdeal.main_v8_1) = G11 m c
      ∧ r.2.mem ((c.tc : Thread Cert.KernelIdeal.nD Cert.KernelIdeal.τ).loc Cert.KernelIdeal.main_v8_2) = G12 m c) :=
  (θ_run _ _ _).mono (fun r h c => ⟨((h c).1 10).trans (Cert.KernelIdeal.Hand.arr10 m c), ((h c).1 11).trans (Cert.KernelIdeal.Hand.arr11 m c), ((h c).1 12).trans (Cert.KernelIdeal.Hand.arr12 m c)⟩)
    (Cert.KernelIdeal.Hand.run_main (F := Ideal) m g)

/-- The reference's rows are the table's. -/
theorem ref_y (m : (ℓ : Loc Cert.KernelIdeal.nD Cert.KernelIdeal.τ Cert.KernelIdeal.sig) → Buf (Elt Ideal) ℓ) (c : Dev Cert.KernelIdeal.nD)
    (x0 x1 x2 x3 x4 x5 x6 x7) (h : Cert.ReferenceIdeal.Hand.tabs x0 x1 x2 x3 x4 x5 x6 x7 = Cert.KernelIdeal.Hand.T m c) :
    Cert.ReferenceIdeal.Read.val_main_v397 (F := Ideal) x0 x1 x2 x3 x4 x5 x6 x7 = G10 m c := by
  funext i
  obtain ⟨r, q, rfl⟩ : ∃ (r : Fin 8192) (q : Fin 512), i = ix2 r q := ⟨i 0, i 1, by funext a; match a with | ⟨0, _⟩ => rfl | ⟨1, _⟩ => rfl⟩
  have hr := r.isLt
  rw [Cert.ReferenceIdeal.Hand.v397_apply x0 x1 x2 x3 x4 x5 x6 x7 ⟨r.val / 4096, by omega⟩ ⟨r.val % 4096 / 128, by omega⟩ ⟨r.val % 128, by omega⟩ r
    (by show r.val = r.val / 4096 * 4096 + (r.val % 4096 / 128 * 128 + r.val % 128); omega) q, h]
  rfl

/-- The reference's carried rows are the table's. -/
theorem ref_c (m : (ℓ : Loc Cert.KernelIdeal.nD Cert.KernelIdeal.τ Cert.KernelIdeal.sig) → Buf (Elt Ideal) ℓ) (c : Dev Cert.KernelIdeal.nD)
    (x0 x1 x2 x3 x4 x5 x6 x7) (h : Cert.ReferenceIdeal.Hand.tabs x0 x1 x2 x3 x4 x5 x6 x7 = Cert.KernelIdeal.Hand.T m c) :
    Cert.ReferenceIdeal.Read.val_main_v32 (F := Ideal) x0 x1 = G11 m c := by
  funext i
  obtain ⟨b, r, q, rfl⟩ : ∃ (b : Fin 2) (r : Fin 3) (q : Fin 1024), i = ix3 b r q := ⟨i 0, i 1, i 2, by funext a; match a with | ⟨0, _⟩ => rfl | ⟨1, _⟩ => rfl | ⟨2, _⟩ => rfl⟩
  rw [Cert.ReferenceIdeal.Hand.v32_apply x0 x1 x2 x3 x4 x5 x6 x7 b r q, h]
  rfl

/-- The reference's states are the table's. -/
theorem ref_s (m : (ℓ : Loc Cert.KernelIdeal.nD Cert.KernelIdeal.τ Cert.KernelIdeal.sig) → Buf (Elt Ideal) ℓ) (c : Dev Cert.KernelIdeal.nD)
    (x0 x1 x2 x3 x4 x5 x6 x7) (h : Cert.ReferenceIdeal.Hand.tabs x0 x1 x2 x3 x4 x5 x6 x7 = Cert.KernelIdeal.Hand.T m c) :
    Cert.ReferenceIdeal.Read.val_main_v345 (F := Ideal) x0 x1 x2 x3 x4 x5 x6 = G12 m c := by
  funext i
  obtain ⟨b, r, p, q, rfl⟩ : ∃ (b : Fin 2) (r : Fin 8) (p : Fin 64) (q : Fin 128), i = ix4 b r p q :=
    ⟨i 0, i 1, i 2, i 3, by funext a; match a with | ⟨0, _⟩ => rfl | ⟨1, _⟩ => rfl | ⟨2, _⟩ => rfl | ⟨3, _⟩ => rfl⟩
  rw [Cert.ReferenceIdeal.Hand.v345_apply x0 x1 x2 x3 x4 x5 x6 x7 b r p q, h]
  rfl

/-- The kernel's frame on words. -/
theorem frame_k : Cert.quiescent_Kernel := fun m ρ _ => Cert.Kernel.Hand.frame m ρ

/-- The kernel's frame on real numbers. -/
theorem frame_ki : Cert.quiescent_KernelIdeal := fun m ρ _ => Cert.KernelIdeal.Hand.frame m ρ

/-- The reference's frame. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Over the reals the kernel and the reference leave the same three arrays. -/
theorem algebraic : Cert.algebraic_KernelIdeal_ReferenceIdeal := by
  intro m g m' g' _ hag
  refine ⟨fun c => G10 m c, fun c => G11 m c, fun c => G12 m c, ?_, ?_⟩
  · refine (θ_run _ _ _).mono (fun r h c => ?_) (θ_run_and (kernel_run m g) (Cert.KernelIdeal.Hand.frame (F := Ideal) m g))
    exact ⟨(h.1 c).1, (h.1 c).2.1, (h.1 c).2.2, h.2.1 c⟩
  · refine (θ_run _ _ _).mono (fun r h c => ?_) (Cert.ReferenceIdeal.Value.run (F := Ideal) m' g')
    obtain ⟨a0, a1, a2, a3, a4, a5, a6, a7⟩ := hag c
    have ht : Cert.ReferenceIdeal.Hand.tabs (m' ((c.tc : Thread _ _).loc Cert.ReferenceIdeal.main_arg0)) (m' ((c.tc : Thread _ _).loc Cert.ReferenceIdeal.main_arg1))
        (m' ((c.tc : Thread _ _).loc Cert.ReferenceIdeal.main_arg2)) (m' ((c.tc : Thread _ _).loc Cert.ReferenceIdeal.main_arg3))
        (m' ((c.tc : Thread _ _).loc Cert.ReferenceIdeal.main_arg4)) (m' ((c.tc : Thread _ _).loc Cert.ReferenceIdeal.main_arg5))
        (m' ((c.tc : Thread _ _).loc Cert.ReferenceIdeal.main_arg6)) (m' ((c.tc : Thread _ _).loc Cert.ReferenceIdeal.main_arg7)) = Cert.KernelIdeal.Hand.T m c := by
      rw [a0, a1, a2, a3, a4, a5, a6, a7]
      rfl
    obtain ⟨h0, h1, h2, hk⟩ := h c
    exact ⟨h0.trans ((Cert.ReferenceIdeal.Read.val_main_v397_eq _).trans (ref_y m c _ _ _ _ _ _ _ _ ht)),
      h1.trans ((Cert.ReferenceIdeal.Read.val_main_v32_eq _).trans (ref_c m c _ _ _ _ _ _ _ _ ht)),
      h2.trans ((Cert.ReferenceIdeal.Read.val_main_v345_eq _).trans (ref_s m c _ _ _ _ _ _ _ _ ht)), hk⟩

end Cert.Proof.Ssd

end
-- ==== Proof.ConvFrame.lean ====
module

public import proofs.«01_k».proof.Proof.Gen.ConvIdeal.Frame
public import proofs.«01_k».proof.Proof.Gen.ConvIdeal.Skeleton
public import Idealize.ShloMosaic.Lib.VecWindow
public import Idealize.ShloMosaic.Lib.Claim

@[expose] public section

set_option maxRecDepth 16384

noncomputable section

namespace Cert.ConvIdeal.Hand

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's conditional is taken: the point is the first block of its sequence. -/
abbrev isFirst (i : grid0.Coords) : Prop := (Scalar.cmpi .ne (Scalar.extui (Scalar.cmpi .eq (BitVec.ofNat 32 (i 1).val) 0#32)) 0#32) = 1#1

/-- A load of a sub-rectangle reads a window of what the buffer holds. -/
theorem readAt_win {κ : Kind} {sp : Space} {s : Shape} {e : EltTy} (v : View sig κ sp s e) (f : v.ty.Contents (Elt F))
    {off size : Fin s.rank → ℕ} (inb : ∀ a, off a + size a ≤ s.size a) :
    v.readAt (Elt F) (Rect.unit off size inb).toLoadRect f = VecWindow.window (v.read (Elt F) f) off size inb := rfl

/-- A store to a sub-rectangle puts its payload over a window of what the buffer held. -/
theorem read_put {κ : Kind} {sp : Space} {s : Shape} {e : EltTy} (v : View sig κ sp s e) (f : v.ty.Contents (Elt F))
    {off size : Fin s.rank → ℕ} (inb : ∀ a, off a + size a ≤ s.size a) (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

/-- What the executor names for a load that earlier stores cover is a window of what they left. -/
theorem readCov_win {κ : Kind} {sp : Space} {s : Shape} {e : EltTy} (v : View sig κ sp s e) (L : List (View.Piece (Elt F) s e))
    {off size : Fin s.rank → ℕ} (inb : ∀ a, off a + size a ≤ s.size a) :
    v.readCov L (Rect.unit off size inb).toLoadRect = VecWindow.window (v.read (Elt F) (v.writes (Elt F) v.junk L)) off size inb := rfl

/-- A window of the shape's own sizes is the whole. -/
theorem win_full {α : Type} {s : Shape} (x : s.Idx → α) {off : Fin s.rank → ℕ} (inb : ∀ a, off a + s.size a ≤ s.size a) :
    VecWindow.window x off s.size inb = x := by
  funext y
  exact congrArg x (Rect.emb_unit_full inb y)

/-- A put of the shape's own sizes leaves the payload. -/
theorem put_full {α : Type} {s : Shape} (x w : s.Idx → α) {off : Fin s.rank → ℕ} (inb : ∀ a, off a + s.size a ≤ s.size a) :
    VecWindow.put x off s.size w = w := by
  funext y
  have h : ∀ a, off a ≤ (y a).val ∧ (y a).val < off a + s.size a := fun a => by have := inb a; have := (y a).isLt; omega
  have e : VecWindow.put x off s.size w y = w (Rect.unitLocal (s := s) (off := off) (size := s.size) y h) := dif_pos h
  rw [e]
  exact congrArg w (funext fun a => Fin.ext (by rw [Rect.unitLocal_val]; have := inb a; omega))

/-- Putting back a window read off the same place changes nothing. -/
theorem put_window_self {α : Type} {s : Shape} (x : s.Idx → α) {off size : Fin s.rank → ℕ} (inb : ∀ a, off a + size a ≤ s.size a) :
    VecWindow.put x off size (VecWindow.window x off size inb) = x := by
  funext y
  unfold VecWindow.put VecWindow.window
  split_ifs with h
  · refine congrArg x (funext fun a => Fin.ext ?_)
    have e : ((Rect.unit off size inb).emb (Rect.unitLocal (s := s) (off := off) (size := size) y h) a).val = off a + 1 * (Rect.unitLocal (s := s) (off := off) (size := size) y h a).val := rfl
    rw [e, Rect.unitLocal_val]
    have := (h a).1
    omega
  · rfl

theorem win_S1x2x512 (x : Vec F S1x2x512 .f32) (inb : ∀ a, (![0, 0, 0] : Fin S1x2x512.rank → ℕ) a + (![1, 2, 512] : Fin S1x2x512.rank → ℕ) a ≤ S1x2x512.size a) :
    VecWindow.window (s := S1x2x512) x ![0, 0, 0] ![1, 2, 512] inb = x := win_full x inb

theorem win_S512x1536 (x : Vec F S512x1536 .f32) (inb : ∀ a, (![0, 0] : Fin S512x1536.rank → ℕ) a + (![512, 1536] : Fin S512x1536.rank → ℕ) a ≤ S512x1536.size a) :
    VecWindow.window (s := S512x1536) x ![0, 0] ![512, 1536] inb = x := win_full x inb

theorem win_S3x512 (x : Vec F S3x512 .f32) (inb : ∀ a, (![0, 0] : Fin S3x512.rank → ℕ) a + (![3, 512] : Fin S3x512.rank → ℕ) a ≤ S3x512.size a) :
    VecWindow.window (s := S3x512) x ![0, 0] ![3, 512] inb = x := win_full x inb

theorem put_S1x2x512 (x w : Vec F S1x2x512 .f32) : VecWindow.put (s := S1x2x512) x ![0, 0, 0] ![1, 2, 512] w = w := by
  have h : ∀ a, (![0, 0, 0] : Fin S1x2x512.rank → ℕ) a + S1x2x512.size a ≤ S1x2x512.size a := by decide
  exact put_full x w h

theorem put_S512x512 (x w : Vec F S512x512 .f32) : VecWindow.put (s := S512x512) x ![0, 0] ![512, 512] w = w := by
  have h : ∀ a, (![0, 0] : Fin S512x512.rank → ℕ) a + S512x512.size a ≤ S512x512.size a := by decide
  exact put_full x w h

/-- The last two of the rows 8 to 519, after these were put. -/
theorem win_tail (b : Vec F S520x512 .f32) (w : Vec F S512x512 .f32) (inb : ∀ a, (![518, 0] : Fin S520x512.rank → ℕ) a + (![2, 512] : Fin S520x512.rank → ℕ) a ≤ S520x512.size a) :
    VecWindow.window (s := S520x512) (VecWindow.put (s := S520x512) b ![8, 0] ![512, 512] w) ![518, 0] ![2, 512] inb
      = VecWindow.window (s := S512x512) w ![510, 0] S2x512.size (by decide) :=
  (VecWindow.window_put_of_inside b ![8, 0] ![512, 512] ![518, 0] ![2, 512] inb w (by decide)).trans
    (funext fun y => congrArg w (funext fun a => by fin_cases a <;> rfl))

/-- From row 6 on, what rows 6 and 7 and rows 8 to 519 were put over does not matter. -/
theorem win_base (b b' : Vec F S520x512 .f32) (k : Vec F S2x512 .f32) (w : Vec F S512x512 .f32) (o : ℕ) (ho : 6 ≤ o)
    (inb : ∀ a, (![o, 0] : Fin S520x512.rank → ℕ) a + (![512, 512] : Fin S520x512.rank → ℕ) a ≤ S520x512.size a) :
    VecWindow.window (s := S520x512) (VecWindow.put (s := S520x512) (VecWindow.put (s := S520x512) b ![6, 0] ![2, 512] k) ![8, 0] ![512, 512] w) ![o, 0] ![512, 512] inb
      = VecWindow.window (s := S520x512) (VecWindow.put (s := S520x512) (VecWindow.put (s := S520x512) b' ![6, 0] ![2, 512] k) ![8, 0] ![512, 512] w) ![o, 0] ![512, 512] inb := by
  funext y
  unfold VecWindow.window VecWindow.put
  split_ifs with h1 h2
  · rfl
  · rfl
  · exfalso
    have y0 := (y (0 : Fin 2)).isLt
    have y1 := (y (1 : Fin 2)).isLt
    have e0 : ((Rect.unit (s := S520x512) ![o, 0] ![512, 512] inb).emb y (0 : Fin 2)).val = o + 1 * (y (0 : Fin 2)).val := rfl
    have e1 : ((Rect.unit (s := S520x512) ![o, 0] ![512, 512] inb).emb y (1 : Fin 2)).val = 0 + 1 * (y (1 : Fin 2)).val := rfl
    have hi : o + 512 ≤ 520 := inb (0 : Fin 2)
    change (y (0 : Fin 2)).val < 512 at y0
    change (y (1 : Fin 2)).val < 512 at y1
    by_cases h8 : 8 ≤ o + (y (0 : Fin 2)).val
    · refine h1 fun a => ?_
      fin_cases a
      · show 8 ≤ ((Rect.unit (s := S520x512) ![o, 0] ![512, 512] inb).emb y (0 : Fin 2)).val ∧ ((Rect.unit (s := S520x512) ![o, 0] ![512, 512] inb).emb y (0 : Fin 2)).val < 8 + 512
        omega
      · show 0 ≤ ((Rect.unit (s := S520x512) ![o, 0] ![512, 512] inb).emb y (1 : Fin 2)).val ∧ ((Rect.unit (s := S520x512) ![o, 0] ![512, 512] inb).emb y (1 : Fin 2)).val < 0 + 512
        omega
    · refine h2 fun a => ?_
      fin_cases a
      · show 6 ≤ ((Rect.unit (s := S520x512) ![o, 0] ![512, 512] inb).emb y (0 : Fin 2)).val ∧ ((Rect.unit (s := S520x512) ![o, 0] ![512, 512] inb).emb y (0 : Fin 2)).val < 6 + 2
        omega
      · show 0 ≤ ((Rect.unit (s := S520x512) ![o, 0] ![512, 512] inb).emb y (1 : Fin 2)).val ∧ ((Rect.unit (s := S520x512) ![o, 0] ![512, 512] inb).emb y (1 : Fin 2)).val < 0 + 512
        omega

/-- The buffer of rows with the block's gated rows put at rows 8 to 519. -/
def ext1 (e : Vec F S520x512 .f32) (x2 : Vec F S512x1536 .f32) : Vec F S520x512 .f32 :=
  VecWindow.put (s := S520x512) e ![8, 0] S512x512.size (k0_pay4 (VecWindow.window (s := S512x1536) x2 ![0, 0] S512x1536.size inb_S512x1536_S512x1536_0_0))

/-- The last two gated rows of the block. -/
def lastRows (x2 : Vec F S512x1536 .f32) : Vec F S2x512 .f32 :=
  VecWindow.window (s := S512x512) (k0_pay4 (VecWindow.window (s := S512x1536) x2 ![0, 0] S512x1536.size inb_S512x1536_S512x1536_0_0)) ![510, 0] S2x512.size (by decide)

/-- The block of results, from the buffer of rows. -/
def yOf (e1 : Vec F S520x512 .f32) (x2 : Vec F S512x1536 .f32) (x4 : Vec F S3x512 .f32) : FVec F S512x512 .f32 :=
  k0_pay5 (VecWindow.window (s := S512x1536) x2 ![0, 0] S512x1536.size inb_S512x1536_S512x1536_0_0)
    (VecWindow.window (s := S3x512) x4 ![0, 0] S3x512.size inb_S3x512_S3x512_0_0)
    (VecWindow.window (s := S520x512) e1 ![6, 0] S512x512.size inb_S520x512_S512x512_6_0)
    (VecWindow.window (s := S520x512) e1 ![7, 0] S512x512.size inb_S520x512_S512x512_7_0)

/-- The buffer of rows after the body: the block's last two rows put at rows 6 and 7. -/
def ext2 (e1 : Vec F S520x512 .f32) (x2 : Vec F S512x1536 .f32) : Vec F S520x512 .f32 :=
  VecWindow.put (s := S520x512) e1 ![6, 0] S2x512.size (k0_pay6 (lastRows x2))

/-- The rows before the sequence as the body puts them. -/
def preRows (x3 : Vec F S1x2x512 .f32) : Vec F S2x512 .f32 :=
  k0_pay2 (VecWindow.window (s := S1x2x512) x3 ![0, 0, 0] S1x2x512.size inb_S1x2x512_S1x2x512_0_0_0)

set_option maxHeartbeats 4000000 in
/-- What the body's part 1 does at the first block of a sequence. -/
theorem part1_first (c : Dev nD) (i : grid0.Coords) (a2 : Memref sig .tc .vmem S512x1536 .f32) (h2 : a2.IsWhole) (a3 : Memref sig .tc .vmem S1x2x512 .f32) (h3 : a3.IsWhole) (a4 : Memref sig .tc .vmem S3x512 .f32) (h4 : a4.IsWhole) (a5 : Memref sig .tc .vmem S512x512 .f32) (h5 : a5.IsWhole) (a6 : Memref sig .tc .vmem S1x2x512 .f32) (h6 : a6.IsWhole) (a7 : Memref sig .tc .vmem S520x512 .f32) (h7 : a7.IsWhole) (hf : isFirst i)
    (x2 : Vec F S512x1536 .f32) (x3 : Vec F S1x2x512 .f32) (x4 : Vec F S3x512 .f32) (x5 : Vec F S512x512 .f32) (x6 : Vec F S1x2x512 .f32) (x7 : Vec F S520x512 .f32) (E : Set ℕ) (K : _ → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ ((owns (c : Thread nD τ) a2 fullShare x2 ∗ owns (c : Thread nD τ) a3 fullShare x3 ∗ owns (c : Thread nD τ) a4 fullShare x4 ∗ owns (c : Thread nD τ) a5 fullShare (yOf (ext1 (VecWindow.put (s := S520x512) x7 ![6, 0] S2x512.size (preRows x3)) x2) x2 x4) ∗ owns (c : Thread nD τ) a6 fullShare x6 ∗ owns (c : Thread nD τ) a7 fullShare (ext2 (ext1 (VecWindow.put (s := S520x512) x7 ![6, 0] S2x512.size (preRows x3)) x2) x2)) -∗ K (lastRows x2)))
    ⊢ wp frame (wpE (defs₀ (F := F)) Variants.none c none) E (k0_part1 i a2 h2 a3 h3 a4 h4 a5 h5 a6 h6 a7 h7) K := by
  rw [k0_part1_eq_skeleton]; unfold k0_part1_skel; unfold ext2 yOf lastRows ext1 preRows
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7
  sl_exec (disch := sl_exact hf)
  sl_step
  simp only [readAt_win, Memref.IsWhole.read_unread]
  delta part1_first.sl.v11 part1_first.sl.v15 part1_first.sl.v27; delta part1_first.sl.H7_2
  simp only [readCov_win, readAt_win, read_put, View.writes_nil, Memref.IsWhole.read_unread]
  rw [win_tail, win_base (View.read (Elt F) a7.view a7.view.junk) x7 _ _ 6 (by decide), win_base (View.read (Elt F) a7.view a7.view.junk) x7 _ _ 7 (by decide)]
  iapply Hk
  isplitl [H2]
  · iexists _
    isplitr
    swap
    · iexact H2
    · ipureintro
      exact h2.read_unread _
  isplitl [H3]
  · iexists _
    isplitr
    swap
    · iexact H3
    · ipureintro
      exact h3.read_unread _
  isplitl [H4]
  · iexists _
    isplitr
    swap
    · iexact H4
    · ipureintro
      exact h4.read_unread _
  isplitl [H5]
  · iexists _
    isplitr
    swap
    · iexact H5
    · ipureintro
      simp only [read_put, View.writes_nil, Memref.IsWhole.read_unread]; exact put_S512x512 _ _
  isplitl [H6]
  · iexists _
    isplitr
    swap
    · iexact H6
    · ipureintro
      exact h6.read_unread _
  iexists _
  isplitr
  swap
  · iexact H7
  · ipureintro
    simp only [read_put, View.writes_nil, Memref.IsWhole.read_unread]

set_option maxHeartbeats 4000000 in
/-- What the body's part 1 does at a later block of a sequence. -/
theorem part1_next (c : Dev nD) (i : grid0.Coords) (a2 : Memref sig .tc .vmem S512x1536 .f32) (h2 : a2.IsWhole) (a3 : Memref sig .tc .vmem S1x2x512 .f32) (h3 : a3.IsWhole) (a4 : Memref sig .tc .vmem S3x512 .f32) (h4 : a4.IsWhole) (a5 : Memref sig .tc .vmem S512x512 .f32) (h5 : a5.IsWhole) (a6 : Memref sig .tc .vmem S1x2x512 .f32) (h6 : a6.IsWhole) (a7 : Memref sig .tc .vmem S520x512 .f32) (h7 : a7.IsWhole) (hf : ¬ isFirst i)
    (x2 : Vec F S512x1536 .f32) (x3 : Vec F S1x2x512 .f32) (x4 : Vec F S3x512 .f32) (x5 : Vec F S512x512 .f32) (x6 : Vec F S1x2x512 .f32) (x7 : Vec F S520x512 .f32) (E : Set ℕ) (K : _ → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ ((owns (c : Thread nD τ) a2 fullShare x2 ∗ owns (c : Thread nD τ) a3 fullShare x3 ∗ owns (c : Thread nD τ) a4 fullShare x4 ∗ owns (c : Thread nD τ) a5 fullShare (yOf (ext1 x7 x2) x2 x4) ∗ owns (c : Thread nD τ) a6 fullShare x6 ∗ owns (c : Thread nD τ) a7 fullShare (ext2 (ext1 x7 x2) x2)) -∗ K (lastRows x2)))
    ⊢ wp frame (wpE (defs₀ (F := F)) Variants.none c none) E (k0_part1 i a2 h2 a3 h3 a4 h4 a5 h5 a6 h6 a7 h7) K := by
  rw [k0_part1_eq_skeleton]; unfold k0_part1_skel; unfold ext2 yOf lastRows ext1
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7
  sl_exec (disch := sl_exact hf)
  sl_step
  simp only [readAt_win, Memref.IsWhole.read_unread]
  delta part1_next.sl.v27 part1_next.sl.H7_1
  simp only [readCov_win, readAt_win, read_put, View.writes_nil, Memref.IsWhole.read_unread]
  rw [win_tail]
  iapply Hk
  isplitl [H2]
  · iexists _
    isplitr
    swap
    · iexact H2
    · ipureintro
      exact h2.read_unread _
  isplitl [H3]
  · iexists _
    isplitr
    swap
    · iexact H3
    · ipureintro
      exact h3.read_unread _
  isplitl [H4]
  · iexists _
    isplitr
    swap
    · iexact H4
    · ipureintro
      exact h4.read_unread _
  isplitl [H5]
  · iexists _
    isplitr
    swap
    · iexact H5
    · ipureintro
      simp only [read_put, View.writes_nil, Memref.IsWhole.read_unread]; exact put_S512x512 _ _
  isplitl [H6]
  · iexists _
    isplitr
    swap
    · iexact H6
    · ipureintro
      exact h6.read_unread _
  iexists _
  isplitr
  swap
  · iexact H7
  · ipureintro
    simp only [read_put, View.writes_nil, Memref.IsWhole.read_unread]

set_option maxHeartbeats 4000000 in
/-- The whole body at the first block of a sequence: what every buffer holds after it. -/
theorem run_first (c : Dev nD) (i : grid0.Coords) (a2 : Memref sig .tc .vmem S512x1536 .f32) (h2 : a2.IsWhole) (a3 : Memref sig .tc .vmem S1x2x512 .f32) (h3 : a3.IsWhole) (a4 : Memref sig .tc .vmem S3x512 .f32) (h4 : a4.IsWhole) (a5 : Memref sig .tc .vmem S512x512 .f32) (h5 : a5.IsWhole) (a6 : Memref sig .tc .vmem S1x2x512 .f32) (h6 : a6.IsWhole) (a7 : Memref sig .tc .vmem S520x512 .f32) (h7 : a7.IsWhole) (hf : isFirst i)
    (x2 : Vec F S512x1536 .f32) (x3 : Vec F S1x2x512 .f32) (x4 : Vec F S3x512 .f32) (x5 : Vec F S512x512 .f32) (x6 : Vec F S1x2x512 .f32) (x7 : Vec F S520x512 .f32) (E : Set ℕ) (K : _ → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ ((owns (c : Thread nD τ) a2 fullShare x2 ∗ owns (c : Thread nD τ) a3 fullShare x3 ∗ owns (c : Thread nD τ) a4 fullShare x4 ∗ owns (c : Thread nD τ) a5 fullShare (yOf (ext1 (VecWindow.put (s := S520x512) x7 ![6, 0] S2x512.size (preRows x3)) x2) x2 x4) ∗ owns (c : Thread nD τ) a6 fullShare (k0_pay1 (lastRows x2)) ∗ owns (c : Thread nD τ) a7 fullShare (ext2 (ext1 (VecWindow.put (s := S520x512) x7 ![6, 0] S2x512.size (preRows x3)) x2) x2)) -∗ K ⟨⟩))
    ⊢ wp frame (wpE (defs₀ (F := F)) Variants.none c none) E (cc0_mixer_a i a2 h2 a3 h3 a4 h4 a5 h5 a6 h6 a7 h7) K := by
  rw [cc0_mixer_a_eq_skeleton]; unfold cc0_mixer_a_skel
  iintro ⟨H2, H3, H4, H5, H6, H7, Hk⟩
  rw [wp_bind]
  iapply (part1_first (hf := hf))
  isplitl [H2]; · iexact H2
  isplitl [H3]; · iexact H3
  isplitl [H4]; · iexact H4
  isplitl [H5]; · iexact H5
  isplitl [H6]; · iexact H6
  isplitl [H7]; · iexact H7
  iintro ⟨H2, H3, H4, H5, H6, H7⟩
  dsimp only
  unfold owns
  icases H6 with ⟨%f6, %hf6, H6⟩
  obtain rfl := h6.eq_unread hf6
  sl_exec
  sl_step
  iapply Hk
  isplitl [H2]; · iexact H2
  isplitl [H3]; · iexact H3
  isplitl [H4]; · iexact H4
  isplitl [H5]; · iexact H5
  isplitl [H6]
  · iexists _
    isplitr
    swap
    · iexact H6
    · ipureintro
      simp only [read_put, View.writes_nil, Memref.IsWhole.read_unread]; exact put_S1x2x512 _ _
  iexact H7

set_option maxHeartbeats 4000000 in
/-- The whole body at a later block of a sequence. -/
theorem run_next (c : Dev nD) (i : grid0.Coords) (a2 : Memref sig .tc .vmem S512x1536 .f32) (h2 : a2.IsWhole) (a3 : Memref sig .tc .vmem S1x2x512 .f32) (h3 : a3.IsWhole) (a4 : Memref sig .tc .vmem S3x512 .f32) (h4 : a4.IsWhole) (a5 : Memref sig .tc .vmem S512x512 .f32) (h5 : a5.IsWhole) (a6 : Memref sig .tc .vmem S1x2x512 .f32) (h6 : a6.IsWhole) (a7 : Memref sig .tc .vmem S520x512 .f32) (h7 : a7.IsWhole) (hf : ¬ isFirst i)
    (x2 : Vec F S512x1536 .f32) (x3 : Vec F S1x2x512 .f32) (x4 : Vec F S3x512 .f32) (x5 : Vec F S512x512 .f32) (x6 : Vec F S1x2x512 .f32) (x7 : Vec F S520x512 .f32) (E : Set ℕ) (K : _ → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ ((owns (c : Thread nD τ) a2 fullShare x2 ∗ owns (c : Thread nD τ) a3 fullShare x3 ∗ owns (c : Thread nD τ) a4 fullShare x4 ∗ owns (c : Thread nD τ) a5 fullShare (yOf (ext1 x7 x2) x2 x4) ∗ owns (c : Thread nD τ) a6 fullShare (k0_pay1 (lastRows x2)) ∗ owns (c : Thread nD τ) a7 fullShare (ext2 (ext1 x7 x2) x2)) -∗ K ⟨⟩))
    ⊢ wp frame (wpE (defs₀ (F := F)) Variants.none c none) E (cc0_mixer_a i a2 h2 a3 h3 a4 h4 a5 h5 a6 h6 a7 h7) K := by
  rw [cc0_mixer_a_eq_skeleton]; unfold cc0_mixer_a_skel
  iintro ⟨H2, H3, H4, H5, H6, H7, Hk⟩
  rw [wp_bind]
  iapply (part1_next (hf := hf))
  isplitl [H2]; · iexact H2
  isplitl [H3]; · iexact H3
  isplitl [H4]; · iexact H4
  isplitl [H5]; · iexact H5
  isplitl [H6]; · iexact H6
  isplitl [H7]; · iexact H7
  iintro ⟨H2, H3, H4, H5, H6, H7⟩
  dsimp only
  unfold owns
  icases H6 with ⟨%f6, %hf6, H6⟩
  obtain rfl := h6.eq_unread hf6
  sl_exec
  sl_step
  iapply Hk
  isplitl [H2]; · iexact H2
  isplitl [H3]; · iexact H3
  isplitl [H4]; · iexact H4
  isplitl [H5]; · iexact H5
  isplitl [H6]
  · iexists _
    isplitr
    swap
    · iexact H6
    · ipureintro
      simp only [read_put, View.writes_nil, Memref.IsWhole.read_unread]; exact put_S1x2x512 _ _
  iexact H7

/-! ## What of the buffer of rows matters -/

/-- The two rows the buffer of rows carries from one block to the next: its rows 6 and 7. -/
def carried (e : Vec F S520x512 .f32) : Vec F S2x512 .f32 :=
  VecWindow.window (s := S520x512) e ![6, 0] S2x512.size (by decide)

/-- Of the buffer of rows only the carried rows enter the block of results. -/
theorem yOf_carried (e e' : Vec F S520x512 .f32) (x2 : Vec F S512x1536 .f32) (x4 : Vec F S3x512 .f32)
    (h : carried e = carried e') : yOf (ext1 e x2) x2 x4 = yOf (ext1 e' x2) x2 x4 := by
  have he : e = VecWindow.put (s := S520x512) e ![6, 0] ![2, 512] (carried e) := (put_window_self (s := S520x512) e _).symm
  have he' : e' = VecWindow.put (s := S520x512) e' ![6, 0] ![2, 512] (carried e) := by rw [h]; exact (put_window_self (s := S520x512) e' _).symm
  unfold yOf
  have k : ∀ (o : ℕ) (ho : 6 ≤ o) (inb : ∀ a, (![o, 0] : Fin S520x512.rank → ℕ) a + (![512, 512] : Fin S520x512.rank → ℕ) a ≤ S520x512.size a),
      VecWindow.window (s := S520x512) (ext1 e x2) ![o, 0] ![512, 512] inb = VecWindow.window (s := S520x512) (ext1 e' x2) ![o, 0] ![512, 512] inb := by
    intro o ho inb
    rw [he, he']
    exact win_base e e' (carried e) _ o ho inb
  have k6 := k 6 (by decide) inb_S520x512_S512x512_6_0
  have k7 := k 7 (by decide) inb_S520x512_S512x512_7_0
  change k0_pay5 _ _ (VecWindow.window (s := S520x512) (ext1 e x2) ![6, 0] ![512, 512] _) (VecWindow.window (s := S520x512) (ext1 e x2) ![7, 0] ![512, 512] _) = _
  rw [k6, k7]

/-- The rows put at rows 6 and 7 are the carried ones. -/
theorem carried_put (e : Vec F S520x512 .f32) (k : Vec F S2x512 .f32) :
    carried (VecWindow.put (s := S520x512) e ![6, 0] S2x512.size k) = k :=
  VecWindow.window_put_same (s := S520x512) e ![6, 0] S2x512.size _ k

/-! ## The condition over the grid, and the memrefs the body runs on -/

/-- The conditional is taken at the first block of each sequence. -/
theorem first_iff : ∀ t : Fin cfg0.N, isFirst (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [isFirst, e0, e1]
    word_cmp
   : ∀ t : Fin grid0.N, isFirst (grid0.coords t) ↔ t.val % 8 = 0)

/-- Window 0's current staging memref at a point. -/
abbrev mem0 (t : Fin cfg0.N) : Memref sig .tc .vmem S512x1536 .f32 := win0_0.stage (cfg0.slots t 0)
/-- Window 1's current staging memref at a point. -/
abbrev mem1 (t : Fin cfg0.N) : Memref sig .tc .vmem S1x2x512 .f32 := win0_1.stage (cfg0.slots t 1)
/-- Window 2's current staging memref at a point. -/
abbrev mem2 (t : Fin cfg0.N) : Memref sig .tc .vmem S3x512 .f32 := win0_2.stage (cfg0.slots t 2)
/-- Window 3's current staging memref at a point. -/
abbrev mem3 (t : Fin cfg0.N) : Memref sig .tc .vmem S512x512 .f32 := win0_3.stage (cfg0.slots t 3)
/-- Window 4's current staging memref at a point. -/
abbrev mem4 (t : Fin cfg0.N) : Memref sig .tc .vmem S1x2x512 .f32 := win0_4.stage (cfg0.slots t 4)
/-- The scratch as a memref. -/
abbrev scr0 : Memref sig .tc .vmem S520x512 .f32 := Memref.whole cc0_scratch0

/-- The scoped rest with the scratch operand as a memref owned at some contents. -/
theorem PhiA_eq (c : Dev nD) :
    (Pipeline.ΦA spec0 c : sProp 𝕄)
      = iprop((∃ d, owns (c : Thread nD τ) scr0 fullShare d) ∗ (∃ r, prngReg c r)) := by
  unfold Pipeline.ΦA; rw [scopedRest0_eq]; simp only [scr0, owns_whole]; try rfl

variable (m : (ℓ : Loc nD τ sig) → Buf (Elt F) ℓ) (ρ : Dev nD → PrngReg)

/-! ## What every buffer holds, point by point -/

/-- The grid's point at a position. -/
def pt (n : ℕ) : Fin cfg0.N := ⟨n % 16, by rw [show cfg0.N = 16 from N_0]; exact Nat.mod_lt _ (by decide)⟩

theorem pt_val (t : Fin cfg0.N) : pt t.val = t :=
  Fin.ext (Nat.mod_eq_of_lt (lt_of_lt_of_eq t.isLt (show cfg0.N = 16 from N_0)))

/-- The block of projected rows at position `n`. -/
def uB (c : Dev nD) (n : ℕ) : Vec F S512x1536 .f32 := X0_0 m c (pt n)
/-- The block of the rows before the sequence at position `n`. -/
def preB (c : Dev nD) (n : ℕ) : Vec F S1x2x512 .f32 := iblk m c 1 (pt n)
/-- The block of the taps at position `n`. -/
def wB (c : Dev nD) (n : ℕ) : Vec F S3x512 .f32 := iblk m c 2 (pt n)

/-- The two rows before the block at position `n`. -/
def carryAt (c : Dev nD) (n : ℕ) : Vec F S2x512 .f32 :=
  if n % 8 = 0 then preRows (preB m c n) else k0_pay6 (lastRows (uB m c (n - 1)))

/-- A buffer of rows carrying `k`; its other rows do not matter. -/
def extOf (k : Vec F S2x512 .f32) : Vec F S520x512 .f32 :=
  VecWindow.put (s := S520x512) (constant S520x512 .f32 0x00000000#32) ![6, 0] S2x512.size k

/-- The block of results at position `n`. -/
def yAt (c : Dev nD) (n : ℕ) : Vec F S512x512 .f32 :=
  yOf (ext1 (extOf (carryAt m c n)) (uB m c n)) (uB m c n) (wB m c n)

theorem carryAt_first (c : Dev nD) (n : ℕ) (h : n % 8 = 0) : carryAt m c n = preRows (preB m c n) := if_pos h

theorem carryAt_succ (c : Dev nD) (n : ℕ) (h : ¬ (n + 1) % 8 = 0) : carryAt m c (n + 1) = k0_pay6 (lastRows (uB m c n)) := if_neg h

/-- The block of results from any buffer of rows that carries the right ones. -/
theorem y_eq_yAt (c : Dev nD) (n : ℕ) (e : Vec F S520x512 .f32) (h : carried e = carryAt m c n) :
    yOf (ext1 e (uB m c n)) (uB m c n) (wB m c n) = yAt m c n :=
  yOf_carried e _ _ _ (h.trans (carried_put _ _).symm)

/-- The invariant before position `n`: inside a sequence the scratch carries the last block's rows. -/
def PhiS (c : Dev nD) (n : ℕ) (_ : n ≤ cfg0.N) : sProp 𝕄 :=
  iprop((∃ e : Vec F S520x512 .f32, ⌜¬ n % 8 = 0 → carried e = carryAt m c n⌝ ∗ owns (c : Thread nD τ) scr0 fullShare e) ∗ (∃ r, prngReg c r))

/-- The proof data of the pipeline: the arrays as the region finds them, each input's buffer at its block, the outputs'
    at the blocks named above. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => yAt m c t.val
    | ⟨4, _⟩ => k0_pay1 (lastRows (uB m c t.val))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = yAt m c t.val := by dsimp only [dats]
theorem after_4 (c : Dev nD) (t : Fin cfg0.N) : (dats m 0 c).after 4 t = k0_pay1 (lastRows (uB m c t.val)) := by dsimp only [dats]

theorem block_0 (c : Dev nD) (t : Fin cfg0.N) : X0_0 m c t = uB m c t.val := by unfold uB; rw [pt_val]
theorem before_0 (c : Dev nD) (t : Fin cfg0.N) (d) : (dats m 0 c).before 0 t d = uB m c t.val :=
  (before0_0_of m (dats m 0 c) (A_eq m c 0) (after_0 m c) t d).trans (block_0 m c t)
theorem leaves_0 (c : Dev nD) (t : Fin cfg0.N) : (dats m 0 c).leavesExact 0 t = owns (c : Thread nD τ) (mem0 t) fullShare (uB m c t.val) := by
  rw [← block_0, ← after_0]
theorem block_1 (c : Dev nD) (t : Fin cfg0.N) : iblk m c 1 t = preB m c t.val := by unfold preB; rw [pt_val]
theorem before_1 (c : Dev nD) (t : Fin cfg0.N) (d) : (dats m 0 c).before 1 t d = preB m c t.val :=
  (before0_1_of m (dats m 0 c) (A_eq m c 1) (after_1 m c) t d).trans (block_1 m c t)
theorem leaves_1 (c : Dev nD) (t : Fin cfg0.N) : (dats m 0 c).leavesExact 1 t = owns (c : Thread nD τ) (mem1 t) fullShare (preB m c t.val) := by
  rw [← block_1, ← after_1]
theorem block_2 (c : Dev nD) (t : Fin cfg0.N) : iblk m c 2 t = wB m c t.val := by unfold wB; rw [pt_val]
theorem before_2 (c : Dev nD) (t : Fin cfg0.N) (d) : (dats m 0 c).before 2 t d = wB m c t.val :=
  (before0_2_of m (dats m 0 c) (A_eq m c 2) (after_2 m c) t d).trans (block_2 m c t)
theorem leaves_2 (c : Dev nD) (t : Fin cfg0.N) : (dats m 0 c).leavesExact 2 t = owns (c : Thread nD τ) (mem2 t) fullShare (wB m c t.val) := by
  rw [← block_2, ← after_2]
theorem leaves_3 (c : Dev nD) (t : Fin cfg0.N) : (dats m 0 c).leavesExact 3 t = owns (c : Thread nD τ) (mem3 t) fullShare (yAt m c t.val) := by
  rw [← after_3]
theorem leaves_4 (c : Dev nD) (t : Fin cfg0.N) : (dats m 0 c).leavesExact 4 t = owns (c : Thread nD τ) (mem4 t) fullShare (k0_pay1 (lastRows (uB m c t.val))) := by
  rw [← after_4]

/-! ## The body obligation -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = PhiS m c (t.val + 1) t.isLt from rfl, PhiS_castSucc m c t,
    leaves_0, leaves_1, leaves_2, leaves_3, leaves_4]
  unfold PhiS
  by_cases h0 : t.val % 8 = 0
  · have hf := (first_iff t).mpr h0
    iintro ⟨⟨⟨%e, %hes, HS0⟩, Hg⟩, Ho, ⟨%d0, H0⟩, ⟨%d1, H1⟩, ⟨%d2, H2⟩, ⟨%d3, H3⟩, ⟨%d4, H4⟩⟩
    have hk := (carried_put (F := F) e (preRows (preB m c t.val))).trans (carryAt_first m c t.val h0).symm
    have hu := y_eq_yAt m c t.val _ hk
    iapply (run_first (F := F) c (grid0.coords t) _ _ _ _ _ _ _ _ _ _ _ _ hf)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    rw [hu]
    isplitl [HS0 Hg]
    · isplitl [HS0]
      · iexists _; isplitr
        swap
        · iexact HS0
        · ipureintro; exact fun hn => (carried_put _ _).trans (carryAt_succ m c t.val hn).symm
      iexact Hg
    isplitl [Ho]; · iexact Ho
    isplitl [H0]; · iexact H0
    isplitl [H1]; · iexact H1
    isplitl [H2]; · iexact H2
    isplitl [H3]; · iexact H3
    iexact H4
  · have hf : ¬ isFirst (grid0.coords t) := fun h => h0 ((first_iff t).mp h)
    iintro ⟨⟨⟨%e, %hes, HS0⟩, Hg⟩, Ho, ⟨%d0, H0⟩, ⟨%d1, H1⟩, ⟨%d2, H2⟩, ⟨%d3, H3⟩, ⟨%d4, H4⟩⟩
    have hk := hes h0
    have hu := y_eq_yAt m c t.val _ hk
    iapply (run_next (F := F) c (grid0.coords t) _ _ _ _ _ _ _ _ _ _ _ _ hf)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    rw [hu]
    isplitl [HS0 Hg]
    · isplitl [HS0]
      · iexists _; isplitr
        swap
        · iexact HS0
        · ipureintro; exact fun hn => (carried_put _ _).trans (carryAt_succ m c t.val hn).symm
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨%e, H0⟩, Hg⟩
  isplitl [H0]
  · iexists _; isplitr
    swap
    · iexact H0
    · ipureintro; exact fun h => absurd rfl h
  iexact Hg

/-- After the last point the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%e, %h, H0⟩, Hg⟩
  isplitl [H0]
  · iexists _; iexact H0
  iexact Hg

/-! ## The run and the frame -/

set_option backward.isDefEq.respectTransparency.types false in
/-- The launch: every fair execution ends, every array at what the proof data give, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were launched and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.ConvIdeal.Hand
end
-- ==== Proof.ConvSpec.lean ====
module

public import proofs.«01_k».proof.Proof.SsdSpec

@[expose] public section

set_option maxRecDepth 16384

noncomputable section

namespace Cert.Proof.ConvSpec

/-! ## The gated short convolution over whole sequences, on tables indexed by natural numbers -/

/-- A row's gated entry: the product of two of its three column groups. -/
def gate (u : ℕ → ℕ → EReal) (R q : ℕ) : EReal := u R (2048 + q) * u R (2560 + q)

/-- The gated rows of sequence `b` with the two carried rows in front. -/
def ext (u : ℕ → ℕ → EReal) (p : ℕ → ℕ → ℕ → EReal) (b i q : ℕ) : EReal :=
  if i < 2 then p b i q else gate u (b * 4096 + (i - 2)) q

/-- The result at row `t` of sequence `b`: the gate times the three taps' sum. -/
def row (u : ℕ → ℕ → EReal) (p : ℕ → ℕ → ℕ → EReal) (w : ℕ → ℕ → EReal) (b t q : ℕ) : EReal :=
  u (b * 4096 + t) (1536 + q) * (ext u p b t q * w 0 q + ext u p b (t + 1) q * w 1 q + ext u p b (t + 2) q * w 2 q)

end Cert.Proof.ConvSpec

end
-- ==== Proof.ConvValue.lean ====
module

public import proofs.«01_k».proof.Proof.ConvFrame
public import proofs.«01_k».proof.Proof.ConvSpec
public import Idealize.ShloMosaic.Lib.Pointwise
public import Idealize.ShloMosaic.Lib.Pipeline.ValueKit.Geometry

@[expose] public section

set_option maxRecDepth 16384

noncomputable section

namespace Cert.ConvIdeal.Hand

open Cert.ConvIdeal Cert.ConvIdeal.Gen Cert.Proof.ConvSpec
open Idealize.ShloMosaic Idealize.ShloMosaic.TcCoe Idealize.SL.Sem
open Idealize.ShloMosaic.Pipeline (Dat)
open Cert.KernelIdeal.Hand (rd2 rd2_eq rd3 rd3_eq window2 put2_in put2_row)

/-! ## The payloads at an index -/

theorem pay1_apply (x : Vec Ideal S2x512 .f32) (i : Fin 2) (q : Fin 512) : k0_pay1 (F := Ideal) x (ix3 0 i q) = x (ix2 i q) := by
  pointwise [k0_pay1]

theorem pay2_apply (x : Vec Ideal S1x2x512 .f32) (i : Fin 2) (q : Fin 512) : k0_pay2 (F := Ideal) x (ix2 i q) = x (ix3 0 i q) := by
  pointwise [k0_pay2]

theorem pay6_apply (x : Vec Ideal S2x512 .f32) (i : Fin 2) (q : Fin 512) : k0_pay6 (F := Ideal) x (ix2 i q) = x (ix2 i q) := by
  pointwise [k0_pay6]

/-- The gated block. -/
theorem pay4_apply (x : Vec Ideal S512x1536 .f32) (l : Fin 512) (q : Fin 512) :
    k0_pay4 (F := Ideal) x (ix2 l q) = rd2 x l.val (512 + q.val) * rd2 x l.val (1024 + q.val) := by
  pointwise [k0_pay4, k0_pay3]
  simp only [rd2_eq x]

/-- The block of results, of the rows shifted by two and by one. -/
theorem pay5_apply (x : Vec Ideal S512x1536 .f32) (w : Vec Ideal S3x512 .f32) (a b : Vec Ideal S512x512 .f32) (l : Fin 512) (q : Fin 512) :
    k0_pay5 (F := Ideal) x w a b (ix2 l q) = rd2 x l.val q.val * (a (ix2 l q) * rd2 w 0 q.val + b (ix2 l q) * rd2 w 1 q.val + (rd2 x l.val (512 + q.val) * rd2 x l.val (1024 + q.val)) * rd2 w 2 q.val) := by
  pointwise [k0_pay5, k0_pay3]
  simp only [rd2_eq x, rd2_eq w]
  rfl

/-- The last two gated rows. -/
theorem last_apply (x : Vec Ideal S512x1536 .f32) (i : Fin 2) (q : Fin 512) :
    lastRows (F := Ideal) x (ix2 i q) = rd2 x (510 + i.val) (512 + q.val) * rd2 x (510 + i.val) (1024 + q.val) := by
  unfold lastRows
  erw [win_S512x1536]
  refine (window2 (n0 := 512) (n1 := 512) (k0 := 2) (k1 := 512) (k0_pay4 (F := Ideal) x) 510 0 _ i q).trans ?_
  refine (congrArg (k0_pay4 (F := Ideal) x) (congrArg (ix2 _) (Fin.ext (Nat.zero_add _)))).trans ?_
  exact pay4_apply x ⟨510 + i.val, by omega⟩ q

/-- The rows before the sequence. -/
theorem pre_apply (x : Vec Ideal S1x2x512 .f32) (i : Fin 2) (q : Fin 512) : preRows (F := Ideal) x (ix2 i q) = x (ix3 0 i q) := by
  unfold preRows
  erw [win_S1x2x512]
  exact pay2_apply x i q

/-- The block of results: the two carried rows in front of the block's gated rows, three taps. -/
theorem y_apply (k : Vec Ideal S2x512 .f32) (b : Vec Ideal S520x512 .f32) (x2 : Vec Ideal S512x1536 .f32) (x4 : Vec Ideal S3x512 .f32) (l : Fin 512) (q : Fin 512) :
    yOf (F := Ideal) (ext1 (VecWindow.put (s := S520x512) b ![6, 0] S2x512.size k) x2) x2 x4 (ix2 l q)
      = (fun (e : ℕ → EReal) => rd2 x2 l.val q.val * (e 0 * rd2 x4 0 q.val + e 1 * rd2 x4 1 q.val + e 2 * rd2 x4 2 q.val))
          (fun i => if l.val + i < 2 then rd2 k (l.val + i) q.val else rd2 x2 (l.val + i - 2) (512 + q.val) * rd2 x2 (l.val + i - 2) (1024 + q.val)) := by
  have hl := l.isLt
  have e : ∀ (i : ℕ) (hi : i < 2) (h : 6 + i + l.val < 520), ext1 (F := Ideal) (VecWindow.put (s := S520x512) b ![6, 0] S2x512.size k) x2 (ix2 ⟨6 + i + l.val, h⟩ q)
      = if l.val + i < 2 then rd2 k (l.val + i) q.val else rd2 x2 (l.val + i - 2) (512 + q.val) * rd2 x2 (l.val + i - 2) (1024 + q.val) := by
    intro i hi h
    unfold ext1
    split_ifs with c
    · refine (put2_row _ _ _ _ _ _ (by show ¬ (8 ≤ 6 + i + l.val ∧ 6 + i + l.val < 8 + 512); omega)).trans ?_
      refine (put2_in _ 6 0 _ _ _ ⟨l.val + i, c⟩ q (by show 6 + i + l.val = 6 + (l.val + i); omega) (by omega)).trans ?_
      exact rd2_eq k _ _
    · refine (put2_in _ 8 0 _ _ _ ⟨l.val + i - 2, by omega⟩ q (by show 6 + i + l.val = 8 + (l.val + i - 2); omega) (by omega)).trans ?_
      erw [win_S512x1536]
      exact pay4_apply x2 _ q
  unfold yOf
  erw [win_S3x512, win_S512x1536]
  refine (pay5_apply _ _ _ _ l q).trans ?_
  have w6 := (window2 (n0 := 520) (n1 := 512) (k0 := 512) (k1 := 512) (ext1 (F := Ideal) (VecWindow.put (s := S520x512) b ![6, 0] S2x512.size k) x2) 6 0 inb_S520x512_S512x512_6_0 l q).trans (Eq.trans (congrArg _ (congrArg₂ ix2 (Fin.ext rfl) (Fin.ext (Nat.zero_add _)))) (e 0 (by omega) (by omega)))
  have w7 := (window2 (n0 := 520) (n1 := 512) (k0 := 512) (k1 := 512) (ext1 (F := Ideal) (VecWindow.put (s := S520x512) b ![6, 0] S2x512.size k) x2) 7 0 inb_S520x512_S512x512_7_0 l q).trans (Eq.trans (congrArg _ (congrArg₂ ix2 (Fin.ext rfl) (Fin.ext (Nat.zero_add _)))) (e 1 (by omega) (by omega)))
  erw [w6, w7]
  beta_reduce
  rw [if_neg (show ¬ l.val + 2 < 2 by omega), Nat.add_sub_cancel]

variable (m : (ℓ : Loc nD τ sig) → Buf (Elt Ideal) ℓ)

/-! ## The blocks of the arguments -/

theorem idx0 : ∀ t : Fin cfg0.N, win0_0.index t (0 : Fin 2) = t.val ∧ win0_0.index t (1 : Fin 2) = 1 := (by decide +kernel : ∀ t : Fin grid0.N, _)
theorem idx1 : ∀ t : Fin cfg0.N, win0_1.index t (0 : Fin 3) = t.val / 8 ∧ win0_1.index t (1 : Fin 3) = 0 ∧ win0_1.index t (2 : Fin 3) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 3) = t.val / 8 ∧ win0_4.index t (1 : Fin 3) = 0 ∧ win0_4.index t (2 : Fin 3) = 0 := (by decide +kernel : ∀ t : Fin grid0.N, _)

/-- The projected rows. -/
def uT (c : Dev nD) : ℕ → ℕ → EReal := rd2 (n0 := 8192) (n1 := 5760) (m ((c : Thread nD τ).loc main_arg0))
/-- The carried rows. -/
def pT (c : Dev nD) : ℕ → ℕ → ℕ → EReal := rd3 (n0 := 2) (n1 := 2) (n2 := 512) (m ((c : Thread nD τ).loc main_arg1))
/-- The taps. -/
def wT (c : Dev nD) : ℕ → ℕ → EReal := rd2 (n0 := 3) (n1 := 512) (m ((c : Thread nD τ).loc main_arg2))

/-- The position of a point. -/
theorem pt_lt (n : ℕ) (hn : n < 16) : (pt n).val = n := Nat.mod_eq_of_lt hn

/-- The block of projected rows. -/
theorem uB_apply (c : Dev nD) (n : ℕ) (hn : n < 16) (l : ℕ) (hl : l < 512) (q : ℕ) (hq : q < 1536) : rd2 (n0 := 512) (n1 := 1536) (uB m c n) l q = uT m c (n * 512 + l) (1536 + q) := by
  refine (rd2_eq (n0 := 512) (n1 := 1536) (uB m c n) ⟨l, hl⟩ ⟨q, hq⟩).symm.trans ?_
  obtain ⟨e0, e1⟩ := idx0 (pt n)
  rw [pt_lt n hn] at e0
  show X0_0 m c (pt n) _ = _
  unfold X0_0 Pipeline.Window.fill
  rw [dif_pos (moved0_0 (pt n) _)]
  unfold iblk
  refine (congrArg (V m c main_arg0) (?_ : _ = ix2 (⟨n * 512 + l, by omega⟩ : Fin 8192) (⟨1536 + q, by omega⟩ : Fin 5760))).trans ?_
  · funext a
    match a with
    | ⟨0, _⟩ => refine Fin.ext ?_; show win0_0.index (pt n) (0 : Fin 2) * 512 + 1 * l = n * 512 + l; omega
    | ⟨1, _⟩ => refine Fin.ext ?_; show win0_0.index (pt n) (1 : Fin 2) * 1536 + 1 * q = 1536 + q; omega
  · rw [V_main_arg0]
    exact rd2_eq _ _ _

/-- The block of the rows before the sequence. -/
theorem preB_apply (c : Dev nD) (n : ℕ) (hn : n < 16) (i : Fin 2) (q : Fin 512) : preB m c n (ix3 0 i q) = pT m c (n / 8) i.val q.val := by
  obtain ⟨e0, e1, e2⟩ := idx1 (pt n)
  rw [pt_lt n hn] at e0
  show iblk m c 1 (pt n) _ = _
  unfold iblk
  refine (congrArg (V m c main_arg1) (?_ : _ = ix3 (⟨n / 8, by omega⟩ : Fin 2) i q)).trans ?_
  · funext a
    match a with
    | ⟨0, _⟩ => refine Fin.ext ?_; show win0_1.index (pt n) (0 : Fin 3) * 1 + 1 * 0 = n / 8; omega
    | ⟨1, _⟩ => refine Fin.ext ?_; show win0_1.index (pt n) (1 : Fin 3) * 2 + 1 * i.val = i.val; omega
    | ⟨2, _⟩ => refine Fin.ext ?_; show win0_1.index (pt n) (2 : Fin 3) * 512 + 1 * q.val = q.val; omega
  · rw [V_main_arg1]
    exact rd3_eq _ _ _ _

/-- The block of the taps. -/
theorem wB_apply (c : Dev nD) (n : ℕ) (i : ℕ) (hi : i < 3) (q : Fin 512) : rd2 (n0 := 3) (n1 := 512) (wB m c n) i q.val = wT m c i q.val := by
  refine (rd2_eq (n0 := 3) (n1 := 512) (wB m c n) ⟨i, hi⟩ q).symm.trans ?_
  obtain ⟨e0, e1⟩ := idx2 (pt n)
  show iblk m c 2 (pt n) _ = _
  unfold iblk
  refine (congrArg (V m c main_arg2) (?_ : _ = ix2 (⟨i, hi⟩ : Fin 3) q)).trans ?_
  · funext a
    match a with
    | ⟨0, _⟩ => refine Fin.ext ?_; show win0_2.index (pt n) (0 : Fin 2) * 3 + 1 * i = i; omega
    | ⟨1, _⟩ => refine Fin.ext ?_; show win0_2.index (pt n) (1 : Fin 2) * 512 + 1 * q.val = q.val; omega
  · rw [V_main_arg2]
    exact rd2_eq _ _ _

/-! ## What each point leaves -/

/-- The block's gated entries. -/
theorem gate_eq (c : Dev nD) (n : ℕ) (hn : n < 16) (l : ℕ) (hl : l < 512) (q : Fin 512) :
    rd2 (n0 := 512) (n1 := 1536) (uB m c n) l (512 + q.val) * rd2 (n0 := 512) (n1 := 1536) (uB m c n) l (1024 + q.val) = gate (uT m c) (n * 512 + l) q.val := by
  rw [uB_apply m c n hn l hl _ (by omega), uB_apply m c n hn l hl _ (by omega)]
  unfold gate
  rw [show 1536 + (512 + q.val) = 2048 + q.val by omega, show 1536 + (1024 + q.val) = 2560 + q.val by omega]

/-- The last two gated rows of a block. -/
theorem last_eq (c : Dev nD) (n : ℕ) (hn : n < 16) (i : Fin 2) (q : Fin 512) :
    lastRows (F := Ideal) (uB m c n) (ix2 i q) = ext (uT m c) (pT m c) (n / 8) (n % 8 * 512 + 512 + i.val) q.val := by
  rw [last_apply, gate_eq m c n hn _ (by omega) q]
  unfold ext
  rw [if_neg (by omega)]
  exact congrArg (fun R => gate (uT m c) R q.val) (by omega)

/-- The two rows before a block. -/
theorem carry_eq (c : Dev nD) (n : ℕ) (hn : n < 16) (i : Fin 2) (q : Fin 512) :
    carryAt m c n (ix2 i q) = ext (uT m c) (pT m c) (n / 8) (n % 8 * 512 + i.val) q.val := by
  have hi := i.isLt
  by_cases h : n % 8 = 0
  · rw [carryAt_first m c n h, pre_apply, preB_apply m c n hn]
    unfold ext
    rw [h, Nat.zero_mul, Nat.zero_add, if_pos hi]
  · obtain ⟨k, rfl⟩ : ∃ k, n = k + 1 := ⟨n - 1, by omega⟩
    rw [carryAt_succ m c k h, pay6_apply, last_eq m c k (by omega)]
    exact congrArg₂ (fun a b => ext (uT m c) (pT m c) a b q.val) (by omega) (by omega)

/-- The block of results at a position. -/
theorem y_eq (c : Dev nD) (n : ℕ) (hn : n < 16) (l : Fin 512) (q : Fin 512) :
    yAt m c n (ix2 l q) = row (uT m c) (pT m c) (wT m c) (n / 8) (n % 8 * 512 + l.val) q.val := by
  have hl := l.isLt
  unfold yAt extOf
  rw [y_apply]
  beta_reduce
  have e : ∀ i : ℕ, i < 3 → (if l.val + i < 2 then rd2 (carryAt m c n) (l.val + i) q.val else rd2 (n0 := 512) (n1 := 1536) (uB m c n) (l.val + i - 2) (512 + q.val) * rd2 (n0 := 512) (n1 := 1536) (uB m c n) (l.val + i - 2) (1024 + q.val))
      = ext (uT m c) (pT m c) (n / 8) (n % 8 * 512 + l.val + i) q.val := by
    intro i hi
    split_ifs with h
    · refine (rd2_eq (carryAt m c n) ⟨l.val + i, h⟩ q).symm.trans ((carry_eq m c n hn _ q).trans ?_)
      exact congrArg (fun a => ext (uT m c) (pT m c) (n / 8) a q.val) (by show n % 8 * 512 + (l.val + i) = _; omega)
    · rw [gate_eq m c n hn _ (by omega) q]
      unfold ext
      rw [if_neg (by omega)]
      exact congrArg (fun R => gate (uT m c) R q.val) (by omega)
  rw [e 0 (by omega), e 1 (by omega), e 2 (by omega), wB_apply m c n 0 (by omega), wB_apply m c n 1 (by omega), wB_apply m c n 2 (by omega), uB_apply m c n hn _ hl _ (by omega)]
  unfold row
  rw [show n / 8 * 4096 + (n % 8 * 512 + l.val) = n * 512 + l.val by omega]
  rfl

/-! ## The arrays the kernel leaves -/

/-- The array of results. -/
def G3 (c : Dev nD) : S8192x512.Idx → EReal := fun i => row (uT m c) (pT m c) (wT m c) ((i 0).val / 4096) ((i 0).val % 4096) (i 1).val
/-- The array of rows carried on. -/
def G4 (c : Dev nD) : S2x2x512.Idx → EReal := fun i => ext (uT m c) (pT m c) (i 0).val (4096 + (i 1).val) (i 2).val

theorem val_lt (t : Fin cfg0.N) : t.val < 16 := lt_of_lt_of_eq t.isLt N_0

theorem arr3 (c : Dev nD) : (dats m 0 c).arrAt 3 cfg0.N = G3 m c := by
  refine (dats m 0 c).arrAt_eq_of_covers 3 _ (by decide +kernel) fun t hf y => ?_
  obtain ⟨e0, e1⟩ := idx3 t
  have ht := val_lt t
  rw [after_3]
  have hw := y_eq m c t.val ht
  generalize yAt m c t.val = o at hw ⊢
  show o y = _
  obtain ⟨l, q, rfl⟩ : ∃ (l : Fin 512) (q : Fin 512), y = ix2 l q := ⟨y 0, y 1, by funext a; match a with | ⟨0, _⟩ => rfl | ⟨1, _⟩ => rfl⟩
  rw [hw l q]
  have f0 : ((((cfg0.win 3).blk t).view.emb (ix2 l q)) (0 : Fin 2)).val = t.val * 512 + l.val := by
    show win0_3.index t (0 : Fin 2) * 512 + 1 * l.val = _
    omega
  have f1 : ((((cfg0.win 3).blk t).view.emb (ix2 l q)) (1 : Fin 2)).val = q.val := by
    show win0_3.index t (1 : Fin 2) * 512 + 1 * q.val = _
    omega
  unfold G3
  rw [f0, f1]
  exact congrArg₂ (fun a b => row (uT m c) (pT m c) (wT m c) a b q.val) (by omega) (by omega)

theorem arr4 (c : Dev nD) : (dats m 0 c).arrAt 4 cfg0.N = G4 m c := by
  refine (dats m 0 c).arrAt_eq_of_covers 4 _ (by decide +kernel) fun t hf y => ?_
  obtain ⟨e0, e1, e2⟩ := idx4 t
  have ht := val_lt t
  have hl := (flush0_4 t).mp hf
  rw [after_4]
  show k0_pay1 (F := Ideal) (lastRows (uB m c t.val)) y = _
  obtain ⟨i, q, rfl⟩ : ∃ (i : Fin 2) (q : Fin 512), y = ix3 0 i q :=
    ⟨y 1, y 2, by funext a; match a with | ⟨0, _⟩ => exact Fin.ext (by have := (y 0).isLt; show (y 0).val = 0; change (y 0).val < 1 at this; omega) | ⟨1, _⟩ => rfl | ⟨2, _⟩ => rfl⟩
  rw [pay1_apply, last_eq m c t.val ht]
  have f0 : ((((cfg0.win 4).blk t).view.emb (ix3 0 i q)) (0 : Fin 3)).val = t.val / 8 := by
    show win0_4.index t (0 : Fin 3) * 1 + 1 * 0 = _
    omega
  have f1 : ((((cfg0.win 4).blk t).view.emb (ix3 0 i q)) (1 : Fin 3)).val = i.val := by
    show win0_4.index t (1 : Fin 3) * 2 + 1 * i.val = _
    omega
  have f2 : ((((cfg0.win 4).blk t).view.emb (ix3 0 i q)) (2 : Fin 3)).val = q.val := by
    show win0_4.index t (2 : Fin 3) * 512 + 1 * q.val = _
    omega
  unfold G4
  rw [f0, f1, f2, hl]

end Cert.ConvIdeal.Hand

end
-- ==== Proof.ConvRef.lean ====
module

public import proofs.«01_k».proof.Proof.ConvSpec
public import proofs.«01_k».proof.Proof.Gen.ConvRefIdeal.Read

@[expose] public section

set_option maxRecDepth 16384

noncomputable section

namespace Cert.ConvRefIdeal.Hand

open Cert.ConvRefIdeal Cert.ConvRefIdeal.Read Cert.Proof.ConvSpec
open Idealize.ShloMosaic
open Cert.KernelIdeal.Hand (rd2 rd2_eq rd3 rd3_eq)

variable (x0 : FVec Ideal S8192x5760 .f32) (x1 : FVec Ideal S2x2x512 .f32) (x2 : FVec Ideal S3x512 .f32)

/-- The gated rows. -/
theorem v5_apply (b : Fin 2) (t : Fin 4096) (q : Fin 512) : val_main_v5 (F := Ideal) x0 (ix3 b t q) = gate (rd2 x0) (b.val * 4096 + t.val) q.val := by
  pointwise [val_main_v5, val_main_v4, val_main_v3, val_main_v1, val_main_v0]
  rw [rd2_eq x0, rd2_eq x0]
  unfold gate
  exact congrArg₂ (fun i j => rd2 x0 _ i * rd2 x0 _ j) (by show 1536 + (512 + q.val) = 2048 + q.val; omega) (by show 1536 + (1024 + q.val) = 2560 + q.val; omega)

/-- The gated rows with the carried rows in front. -/
theorem v6_apply (b : Fin 2) (r : Fin 4098) (q : Fin 512) : val_main_v6 (F := Ideal) x0 x1 (ix3 b r q) = ext (rd2 x0) (rd3 x1) b.val r.val q.val := by
  have hr := r.isLt
  have h5 := v5_apply x0
  unfold val_main_v6
  generalize val_main_v5 (F := Ideal) x0 = g at h5 ⊢
  pointwise
  unfold ext
  split_ifs
  all_goals first | exact rd3_eq x1 _ _ _ | exact h5 _ _ _ | contradiction

/-- The result's rows. -/
theorem v28_apply (b : Fin 2) (t : Fin 4096) (q : Fin 512) : val_main_v28 (F := Ideal) x0 x1 x2 (ix3 b t q) = row (rd2 x0) (rd3 x1) (rd2 x2) b.val t.val q.val := by
  pointwise [val_main_v28, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v2, val_main_v1, val_main_v0]
  simp only [v6_apply x0 x1, rd2_eq x0, rd2_eq x2]
  rw [add_comm 1 t.val, add_comm 2 t.val]
  rfl

/-- The result as one array. -/
theorem v29_apply (r : Fin 8192) (q : Fin 512) : val_main_v29 (F := Ideal) x0 x1 x2 (ix2 r q) = row (rd2 x0) (rd3 x1) (rd2 x2) (r.val / 4096) (r.val % 4096) q.val := by
  pointwise [val_main_v29]
  exact v28_apply x0 x1 x2 _ _ _

/-- The rows carried on. -/
theorem v27_apply (b : Fin 2) (i : Fin 2) (q : Fin 512) : val_main_v27 (F := Ideal) x0 x1 (ix3 b i q) = ext (rd2 x0) (rd3 x1) b.val (4096 + i.val) q.val := by
  pointwise [val_main_v27]
  exact v6_apply x0 x1 _ _ _

end Cert.ConvRefIdeal.Hand

end
-- ==== Proof.ConvClaim.lean ====
module

public import proofs.«01_k».proof.Defs
public import proofs.«01_k».proof.Proof.ConvValue
public import proofs.«01_k».proof.Proof.ConvFrameBits
public import proofs.«01_k».proof.Proof.ConvRef
public import proofs.«01_k».proof.Proof.Gen.ConvRefIdeal.Run

@[expose] public section

set_option maxRecDepth 16384

noncomputable section

namespace Cert.Proof.Conv

open Idealize.ShloMosaic Idealize.ShloMosaic.TcCoe Idealize.SL.Sem
open Cert.ConvIdeal.Hand (G3 G4)

/-- The array a run of the kernel leaves in each result's buffer. -/
theorem kernel_run (m : (ℓ : Loc Cert.ConvIdeal.nD Cert.ConvIdeal.τ Cert.ConvIdeal.sig) → Buf (Elt Ideal) ℓ) (g : Dev Cert.ConvIdeal.nD → PrngReg) :
    θ_run (Cert.ConvIdeal.defs (F := Ideal)) (onTc (τ := Cert.ConvIdeal.τ) (Cert.ConvIdeal.main (F := Ideal))) ⟨m, fun _ => 0, g⟩ (fun r => ∀ c : Dev Cert.ConvIdeal.nD,
      r.2.mem ((c.tc : Thread Cert.ConvIdeal.nD Cert.ConvIdeal.τ).loc Cert.ConvIdeal.main_v0_0) = G3 m c
      ∧ r.2.mem ((c.tc : Thread Cert.ConvIdeal.nD Cert.ConvIdeal.τ).loc Cert.ConvIdeal.main_v0_1) = G4 m c) :=
  (θ_run _ _ _).mono (fun r h c => ⟨((h c).1 3).trans (Cert.ConvIdeal.Hand.arr3 m c), ((h c).1 4).trans (Cert.ConvIdeal.Hand.arr4 m c)⟩)
    (Cert.ConvIdeal.Hand.run_main (F := Ideal) m g)

/-- The reference's rows are the kernel's, on the same arguments. -/
theorem ref_y (m : (ℓ : Loc Cert.ConvIdeal.nD Cert.ConvIdeal.τ Cert.ConvIdeal.sig) → Buf (Elt Ideal) ℓ) (c : Dev Cert.ConvIdeal.nD) :
    Cert.ConvRefIdeal.Read.val_main_v29 (F := Ideal) (m ((c.tc : Thread _ _).loc Cert.ConvIdeal.main_arg0)) (m ((c.tc : Thread _ _).loc Cert.ConvIdeal.main_arg1))
      (m ((c.tc : Thread _ _).loc Cert.ConvIdeal.main_arg2)) = G3 m c := by
  funext i
  obtain ⟨r, q, rfl⟩ : ∃ (r : Fin 8192) (q : Fin 512), i = ix2 r q := ⟨i 0, i 1, by funext a; match a with | ⟨0, _⟩ => rfl | ⟨1, _⟩ => rfl⟩
  rw [Cert.ConvRefIdeal.Hand.v29_apply]
  rfl

/-- The reference's carried rows are the kernel's, on the same arguments. -/
theorem ref_c (m : (ℓ : Loc Cert.ConvIdeal.nD Cert.ConvIdeal.τ Cert.ConvIdeal.sig) → Buf (Elt Ideal) ℓ) (c : Dev Cert.ConvIdeal.nD) :
    Cert.ConvRefIdeal.Read.val_main_v27 (F := Ideal) (m ((c.tc : Thread _ _).loc Cert.ConvIdeal.main_arg0)) (m ((c.tc : Thread _ _).loc Cert.ConvIdeal.main_arg1)) = G4 m c := by
  funext i
  obtain ⟨b, r, q, rfl⟩ : ∃ (b : Fin 2) (r : Fin 2) (q : Fin 512), i = ix3 b r q := ⟨i 0, i 1, i 2, by funext a; match a with | ⟨0, _⟩ => rfl | ⟨1, _⟩ => rfl | ⟨2, _⟩ => rfl⟩
  rw [Cert.ConvRefIdeal.Hand.v27_apply]
  rfl

/-- The kernel's frame on words. -/
theorem frame_k : Cert.quiescent_Conv := fun m ρ _ => Cert.Conv.Hand.frame m ρ

/-- The kernel's frame on real numbers. -/
theorem frame_ki : Cert.quiescent_ConvIdeal := fun m ρ _ => Cert.ConvIdeal.Hand.frame m ρ

/-- The reference's frame. -/
theorem frame_ri : Cert.quiescent_ConvRefIdeal := fun m ρ _ =>
  (θ_run Cert.ConvRefIdeal.defs _ _).mono (fun r h => ⟨fun c => (h c).2.2,
      Idealize.ShloMosaic.sem_eq_zero_of_no_sems (by decide) r.2⟩)
    (Cert.ConvRefIdeal.Value.run (F := Ideal) m ρ)

/-- Over the reals the kernel and the reference leave the same two arrays. -/
theorem algebraic : Cert.algebraic_ConvIdeal_ConvRefIdeal := by
  intro m g m' g' _ hag
  refine ⟨fun c => G3 m c, fun c => G4 m c, ?_, ?_⟩
  · refine (θ_run _ _ _).mono (fun r h c => ?_) (θ_run_and (kernel_run m g) (Cert.ConvIdeal.Hand.frame (F := Ideal) m g))
    exact ⟨(h.1 c).1, (h.1 c).2, h.2.1 c⟩
  · refine (θ_run _ _ _).mono (fun r h c => ?_) (Cert.ConvRefIdeal.Value.run (F := Ideal) m' g')
    obtain ⟨a0, a1, a2⟩ := hag c
    obtain ⟨h0, h1, hk⟩ := h c
    refine ⟨h0.trans ((Cert.ConvRefIdeal.Read.val_main_v29_eq _ _ _).trans (?_ : _ = G3 m c)), h1.trans ((Cert.ConvRefIdeal.Read.val_main_v27_eq _ _).trans (?_ : _ = G4 m c)), hk⟩
    · rw [a0, a1, a2]
      exact ref_y m c
    · rw [a0, a1]
      exact ref_c m c

end Cert.Proof.Conv

end
-- ==== Proof.Tables.lean ====
module

public import Idealize.ShloMosaic.Lib.Pointwise

@[expose] public section

noncomputable section

namespace Cert.Proof.Tables

open Idealize.ShloMosaic

/-- A matrix as a table on the natural numbers, zero outside. -/
def tb {n0 n1 : ℕ} (x : (⟨2, ![n0, n1]⟩ : Shape).Idx → EReal) (a b : ℕ) : EReal :=
  if h : a < n0 ∧ b < n1 then x (ix2 ⟨a, h.1⟩ ⟨b, h.2⟩) else 0

/-- A matrix read at an index is its table's entry. -/
theorem tb_eq {n0 n1 : ℕ} (x : (⟨2, ![n0, n1]⟩ : Shape).Idx → EReal) (a : Fin n0) (b : Fin n1) : x (ix2 a b) = tb x a.val b.val := by
  unfold tb
  rw [dif_pos ⟨a.isLt, b.isLt⟩]

/-- A vector as a table on the natural numbers, zero outside. -/
def tv {n0 : ℕ} (x : (⟨1, ![n0]⟩ : Shape).Idx → EReal) (a : ℕ) : EReal :=
  if h : a < n0 then x (ix1 ⟨a, h⟩) else 0

/-- A vector read at an index is its table's entry. -/
theorem tv_eq {n0 : ℕ} (x : (⟨1, ![n0]⟩ : Shape).Idx → EReal) (a : Fin n0) : x (ix1 a) = tv x a.val := by
  unfold tv
  rw [dif_pos a.isLt]

/-- The literal added to a row's mean square. -/
def eps : EReal := Ideal.ofBits FTy.f32 0x358637BD#32

/-- A row of `n` numbers divided by the root of its mean square, times a gain; `cnt` is the literal the sum of squares is divided by. -/
def nrm (n : ℕ) (cnt : EReal) (x : ℕ → EReal) (g : ℕ → EReal) (k : ℕ) : EReal :=
  x k * Ideal.rsqrt (Ideal.div (∑ j : Fin n, x j.val * x j.val) cnt + eps) * g k

/-- The gated product of two projections. -/
def glu (a b : EReal) : EReal := a * Ideal.logistic a * b

/-- A norm depends on its row and its gain alone. -/
theorem nrm_congr {n : ℕ} {cnt : EReal} {x x' g g' : ℕ → EReal} (hx : ∀ j : Fin n, x j.val = x' j.val) (hg : ∀ j : Fin n, g j.val = g' j.val) (k : Fin n) :
    nrm n cnt x g k.val = nrm n cnt x' g' k.val := by
  unfold nrm
  rw [hx k, hg k, Finset.sum_congr rfl fun (j : Fin n) _ => by rw [hx j]]

/-- A loaded window of a matrix read at an index. -/
theorem ld2 {e : EltTy} {n0 n1 k0 k1 : ℕ} (x : Vec Ideal ⟨2, ![n0, n1]⟩ e) (o0 o1 : ℕ)
    (inb : ∀ a, (![o0, o1] : Fin 2 → ℕ) a + (![k0, k1] : Fin 2 → ℕ) a ≤ (⟨2, ![n0, n1]⟩ : Shape).size a) (a : Fin k0) (b : Fin k1) (A : Fin n0) (B : Fin n1)
    (hA : A.val = o0 + a.val) (hB : B.val = o1 + b.val) :
    View.ld x (Rect.unit (s := ⟨2, ![n0, n1]⟩) ![o0, o1] ![k0, k1] inb) (ix2 a b) = x (ix2 A B) := by
  refine congrArg x (funext fun d => Fin.ext ?_)
  match d with
  | ⟨0, _⟩ => show o0 + 1 * a.val = A.val; omega
  | ⟨1, _⟩ => show o1 + 1 * b.val = B.val; omega

end Cert.Proof.Tables

end
-- ==== Proof.InProjValue.lean ====
module

public import proofs.«01_k».proof.Proof.Gen.InProjIdeal.Value
public import proofs.«01_k».proof.Proof.Tables
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.InProjIdeal.Hand

open Cert.InProjIdeal Cert.InProjIdeal.Gen Cert.Proof.Tables
open Idealize.ShloMosaic Idealize.ShloMosaic.TcCoe Idealize.SL.Sem
open Idealize.ShloMosaic.Pipeline (Dat)

variable (m : (ℓ : Loc nD τ sig) → Buf (Elt Ideal) ℓ)

/-! ## The body's values at an index -/

/-- The normalised block. -/
theorem pay1_apply (x : Vec Ideal S1024x2048 .f32) (g : Vec Ideal S1x2048 .f32) (r : Fin 1024) (k : Fin 2048) :
    k0_pay1 (F := Ideal) x g (ix2 r k) = nrm 2048 (Ideal.ofBits FTy.f32 0x45000000#32) (tb x r.val) (tb g 0) k.val := by
  pointwise [k0_pay1]
  simp only [tb_eq x, tb_eq g]
  rfl

/-- The product of a block of rows and a block of columns. -/
theorem pay2_apply (h : Vec Ideal S1024x2048 .bf16) (w : Vec Ideal S2048x1152 .bf16) (r : Fin 1024) (j : Fin 1152) :
    k0_pay2 (F := Ideal) h w (ix2 r j) = ∑ k : Fin 2048, h (ix2 r k) * w (ix2 k j) := by
  pointwise [k0_pay2]

/-! ## The blocks of the arguments -/

/-- The gain as a row. -/
theorem V_v0 (c : Dev nD) (k : Fin 2048) : (V m c main_v0 : S1x2048.Idx → EReal) (ix2 0 k) = (m ((c : Thread nD τ).loc main_arg1) : S2048.Idx → EReal) (ix1 k) := by
  unfold V
  after_reads_at

/-- The weight. -/
theorem V_v1 (c : Dev nD) (k : Fin 2048) (j : Fin 5760) : (V m c main_v1 : S2048x5760.Idx → EReal) (ix2 k j) = (m ((c : Thread nD τ).loc main_arg2) : S2048x5760.Idx → EReal) (ix2 k j) := by
  unfold V
  after_reads_at

theorem idx0 : ∀ t : Fin cfg0.N, win0_0.index t (0 : Fin 2) = t.val / 5 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val % 5 := (by decide +kernel : ∀ t : Fin grid0.N, _)

/-- The rows. -/
def xT (c : Dev nD) : ℕ → ℕ → EReal := tb (n0 := 8192) (n1 := 2048) (m ((c : Thread nD τ).loc main_arg0))
/-- The gain. -/
def gT (c : Dev nD) : ℕ → EReal := tv (n0 := 2048) (m ((c : Thread nD τ).loc main_arg1))
/-- The weight. -/
def wT (c : Dev nD) : ℕ → ℕ → EReal := tb (n0 := 2048) (n1 := 5760) (m ((c : Thread nD τ).loc main_arg2))

theorem N_lt (t : Fin cfg0.N) : t.val < 40 := lt_of_lt_of_eq t.isLt (show cfg0.N = 40 from N_0)

theorem x_apply (c : Dev nD) (t : Fin cfg0.N) (r : Fin 1024) (k : Fin 2048) :
    (iblk m c 0 t : S1024x2048.Idx → EReal) (ix2 r k) = xT m c (t.val / 5 * 1024 + r.val) k.val := by
  obtain ⟨e0, e1⟩ := idx0 t
  have ht := N_lt t
  unfold iblk
  refine (congrArg (V m c main_arg0) (?_ : _ = ix2 (⟨t.val / 5 * 1024 + r.val, by omega⟩ : Fin 8192) k)).trans ?_
  · funext a
    match a with
    | ⟨0, _⟩ => refine Fin.ext ?_; show win0_0.index t (0 : Fin 2) * 1024 + 1 * r.val = t.val / 5 * 1024 + r.val; omega
    | ⟨1, _⟩ => refine Fin.ext ?_; show win0_0.index t (1 : Fin 2) * 2048 + 1 * k.val = k.val; omega
  · rw [V_main_arg0]
    exact tb_eq _ _ _

theorem g_apply (c : Dev nD) (t : Fin cfg0.N) (k : Fin 2048) : (iblk m c 1 t : S1x2048.Idx → EReal) (ix2 0 k) = gT m c k.val := by
  obtain ⟨e0, e1⟩ := idx1 t
  unfold iblk
  refine (congrArg (V m c main_v0) (?_ : _ = ix2 (0 : Fin 1) k)).trans ((V_v0 m c k).trans (tv_eq _ _))
  funext a
  match a with
  | ⟨0, _⟩ => refine Fin.ext ?_; show win0_1.index t (0 : Fin 2) * 1 + 1 * 0 = 0; omega
  | ⟨1, _⟩ => refine Fin.ext ?_; show win0_1.index t (1 : Fin 2) * 2048 + 1 * k.val = k.val; omega

theorem w_apply (c : Dev nD) (t : Fin cfg0.N) (k : Fin 2048) (j : Fin 1152) :
    (iblk m c 2 t : S2048x1152.Idx → EReal) (ix2 k j) = wT m c k.val (t.val % 5 * 1152 + j.val) := by
  obtain ⟨e0, e1⟩ := idx2 t
  have hm := Nat.mod_lt t.val (show 0 < 5 by decide)
  unfold iblk
  refine (congrArg (V m c main_v1) (?_ : _ = ix2 k (⟨t.val % 5 * 1152 + j.val, by omega⟩ : Fin 5760))).trans ((V_v1 m c _ _).trans (tb_eq _ _ _))
  funext a
  match a with
  | ⟨0, _⟩ => refine Fin.ext ?_; show win0_2.index t (0 : Fin 2) * 2048 + 1 * k.val = k.val; omega
  | ⟨1, _⟩ => refine Fin.ext ?_; show win0_2.index t (1 : Fin 2) * 1152 + 1 * j.val = t.val % 5 * 1152 + j.val; omega

/-! ## What each point leaves -/

/-- The normalised rows. -/
def hT (c : Dev nD) (R k : ℕ) : EReal := nrm 2048 (Ideal.ofBits FTy.f32 0x45000000#32) (xT m c R) (gT m c) k

theorem norm_apply (c : Dev nD) (t : Fin cfg0.N) (r : Fin 1024) (k : Fin 2048) :
    k0_pay1 (F := Ideal) (iblk m c 0 t) (iblk m c 1 t) (ix2 r k) = hT m c (t.val / 5 * 1024 + r.val) k.val := by
  rw [pay1_apply]
  exact nrm_congr (fun j => (tb_eq (iblk m c 0 t : S1024x2048.Idx → EReal) r j).symm.trans (x_apply m c t r j))
    (fun j => (tb_eq (iblk m c 1 t : S1x2048.Idx → EReal) (0 : Fin 1) j).symm.trans (g_apply m c t j)) k

theorem h_A (c : Dev nD) (t : Fin cfg0.N) (h0 : t.val % 5 = 0) :
    (outsAt0 m c t.val t.isLt).2 = k0_pay1 (F := Ideal) (iblk m c 0 t) (iblk m c 1 t) := by
  rw [outsAt0_A m c t h0]
  dsimp only
  frame_out

theorem o_A (c : Dev nD) (t : Fin cfg0.N) (h0 : t.val % 5 = 0) :
    (outsAt0 m c t.val t.isLt).1 = k0_pay2 (F := Ideal) (k0_pay1 (F := Ideal) (iblk m c 0 t) (iblk m c 1 t)) (iblk m c 2 t) := by
  rw [outsAt0_A m c t h0]
  dsimp only
  frame_out

theorem h_B (c : Dev nD) (t : Fin cfg0.N) (h0 : ¬t.val % 5 = 0) :
    (outsAt0 m c t.val t.isLt).2 = (outsAt0 m c (t.val - 1) (Nat.lt_of_le_of_lt (Nat.sub_le _ _) t.isLt)).2 := by
  rw [outsAt0_B m c t h0]
  dsimp only
  generalize (outsAt0 m c (t.val - 1) _).2 = h
  rfl

theorem o_B (c : Dev nD) (t : Fin cfg0.N) (h0 : ¬t.val % 5 = 0) :
    (outsAt0 m c t.val t.isLt).1 = k0_pay2 (F := Ideal) (outsAt0 m c (t.val - 1) (Nat.lt_of_le_of_lt (Nat.sub_le _ _) t.isLt)).2 (iblk m c 2 t) := by
  rw [outsAt0_B m c t h0]
  dsimp only
  generalize (outsAt0 m c (t.val - 1) _).2 = h
  frame_out
  simp only [read_unread_whole]

/-- The scratch holds the normalised rows of the point's row block. -/
theorem carried (c : Dev nD) : ∀ (n : ℕ) (hn : n < cfg0.N) (r : Fin 1024) (k : Fin 2048), (outsAt0 m c n hn).2 (ix2 r k) = hT m c (n / 5 * 1024 + r.val) k.val := by
  intro n
  induction n with
  | zero =>
    intro hn r k
    exact (congrFun (h_A m c ⟨0, hn⟩ (Nat.zero_mod _)) (ix2 r k)).trans (norm_apply m c ⟨0, hn⟩ r k)
  | succ n ih =>
    intro hn r k
    by_cases h0 : (n + 1) % 5 = 0
    · exact (congrFun (h_A m c ⟨n + 1, hn⟩ h0) (ix2 r k)).trans (norm_apply m c ⟨n + 1, hn⟩ r k)
    · refine (congrFun (h_B m c ⟨n + 1, hn⟩ h0) (ix2 r k)).trans ((ih (Nat.lt_of_succ_lt hn) r k).trans ?_)
      rw [show n / 5 = (n + 1) / 5 by omega]

/-- What a point writes. -/
theorem written (c : Dev nD) (t : Fin cfg0.N) (r : Fin 1024) (j : Fin 1152) :
    (outsAt0 m c t.val t.isLt).1 (ix2 r j) = ∑ k : Fin 2048, hT m c (t.val / 5 * 1024 + r.val) k.val * wT m c k.val (t.val % 5 * 1152 + j.val) := by
  by_cases h0 : t.val % 5 = 0
  · rw [o_A m c t h0, pay2_apply]
    exact Finset.sum_congr rfl fun k _ => congrArg₂ (fun a b : EReal => a * b) (norm_apply m c t r k) (w_apply m c t k j)
  · rw [o_B m c t h0, pay2_apply]
    refine Finset.sum_congr rfl fun k _ => congrArg₂ (fun a b : EReal => a * b) ?_ (w_apply m c t k j)
    rw [carried m c, show (t.val - 1) / 5 = t.val / 5 by omega]

/-- The array the kernel leaves. -/
def Gu (c : Dev nD) : S8192x5760.Idx → EReal := fun i => ∑ k : Fin 2048, hT m c (i 0).val k.val * wT m c k.val (i 1).val

/-- The generated array is it. -/
theorem G3_eq (c : Dev nD) : Cert.InProjIdeal.Value.G3 m c = Gu m c := by
  funext i
  have h0 : (i 0).val < 8192 := (i 0).isLt
  have h1 : (i 1).val < 5760 := (i 1).isLt
  have hN : Cert.InProjIdeal.Value.pt3Of i < cfg0.N := by
    rw [show cfg0.N = 40 from N_0]; show 5 * ((i 0).val / 1024 - 0) + 1 * ((i 1).val / 1152 - 0) < 40; omega
  unfold Cert.InProjIdeal.Value.G3
  rw [dif_pos hN]
  refine (congrFun (congrArg Prod.fst (Cert.InProjIdeal.Value.outsAt0_sweep m c _ hN).symm) _).trans ?_
  have hl : Cert.InProjIdeal.Value.loc3Of i = ix2 (⟨(i 0).val % 1024, Nat.mod_lt _ (by decide)⟩ : Fin 1024) (⟨(i 1).val % 1152, Nat.mod_lt _ (by decide)⟩ : Fin 1152) := by
    funext a; match a with | ⟨0, _⟩ => rfl | ⟨1, _⟩ => rfl
  rw [hl]
  refine (written m c ⟨_, hN⟩ _ _).trans ?_
  have e0 : (5 * ((i 0).val / 1024 - 0) + 1 * ((i 1).val / 1152 - 0)) / 5 * 1024 + (i 0).val % 1024 = (i 0).val := by omega
  have e1 : (5 * ((i 0).val / 1024 - 0) + 1 * ((i 1).val / 1152 - 0)) % 5 * 1152 + (i 1).val % 1152 = (i 1).val := by omega
  show ∑ k : Fin 2048, hT m c ((5 * ((i 0).val / 1024 - 0) + 1 * ((i 1).val / 1152 - 0)) / 5 * 1024 + (i 0).val % 1024) k.val
    * wT m c k.val ((5 * ((i 0).val / 1024 - 0) + 1 * ((i 1).val / 1152 - 0)) % 5 * 1152 + (i 1).val % 1152) = _
  rw [e0, e1]
  rfl

end Cert.InProjIdeal.Hand

end
-- ==== Proof.InProjRef.lean ====
module

public import proofs.«01_k».proof.Proof.Gen.InProjRefIdeal.Read
public import proofs.«01_k».proof.Proof.Tables

@[expose] public section

set_option maxRecDepth 16384

noncomputable section

namespace Cert.InProjRefIdeal.Hand

open Cert.InProjRefIdeal Cert.InProjRefIdeal.Gen Cert.InProjRefIdeal.Read Cert.Proof.Tables
open Idealize.ShloMosaic

variable (x0 : FVec Ideal S8192x2048 .f32) (x1 : FVec Ideal S2048 .f32) (x2 : FVec Ideal S2048x5760 .f32)

/-- The sum of a row's squares. -/
theorem v1_apply (r : Fin 8192) : val_main_v1 (F := Ideal) x0 (ix1 r) = ∑ j : Fin 2048, tb (n0 := 8192) (n1 := 2048) x0 r.val j.val * tb (n0 := 8192) (n1 := 2048) x0 r.val j.val := by
  refine (val_main_v1_apply x0 (ix1 r)).trans ?_
  rw [val_main_cst_apply]
  show Ideal.ofBits .f32 0x00000000#32 + _ = _
  rw [Ideal.ofBits_zero_f32, zero_add]
  refine Finset.sum_congr rfl fun k _ => ?_
  have hi : idx_main_v1 (ix1 r) k = ix2 r k := funext fun a => match a with | ⟨0, _⟩ => rfl | ⟨1, _⟩ => rfl
  rw [hi, val_main_v0_apply]
  exact congrArg₂ (fun a b : EReal => a * b) (tb_eq x0 r k) (tb_eq x0 r k)

/-- The normalised rows. -/
theorem v12_apply (r : Fin 8192) (k : Fin 2048) :
    val_main_v12 (F := Ideal) x0 x1 (ix2 r k) = nrm 2048 (Ideal.ofBits FTy.f32 0x45000000#32) (tb (n0 := 8192) (n1 := 2048) x0 r.val) (tv (n0 := 2048) x1) k.val := by
  have e8 : idx_main_v8 (ix2 r k) = ix2 r (0 : Fin 1) := funext fun a => match a with | ⟨0, _⟩ => rfl | ⟨1, _⟩ => rfl
  have e2 : idx_main_v2 (ix2 r (0 : Fin 1)) = ix1 r := funext fun a => match a with | ⟨0, _⟩ => rfl
  have e11 : idx_main_v11 (ix2 r k) = ix2 (0 : Fin 1) k := funext fun a => match a with | ⟨0, _⟩ => rfl | ⟨1, _⟩ => rfl
  have e10 : idx_main_v10 (ix2 (0 : Fin 1) k) = ix1 k := funext fun a => match a with | ⟨0, _⟩ => rfl
  rw [val_main_v12_apply, val_main_v9_apply, val_main_v8_apply, e8, val_main_v7_apply, val_main_v6_apply, val_main_v4_apply, val_main_v2_apply, e2, v1_apply,
    val_main_v3_apply, val_main_cst_0_apply, val_main_v5_apply, val_main_cst_1_apply, val_main_v11_apply, e11, val_main_v10_apply, e10, tb_eq x0 r k, tv_eq x1 k]
  rfl

/-- The projection. -/
theorem v13_apply (r : Fin 8192) (j : Fin 5760) :
    val_main_v13 (F := Ideal) x0 x1 x2 (ix2 r j) = ∑ k : Fin 2048, nrm 2048 (Ideal.ofBits FTy.f32 0x45000000#32) (tb (n0 := 8192) (n1 := 2048) x0 r.val) (tv (n0 := 2048) x1) k.val * tb (n0 := 2048) (n1 := 5760) x2 k.val j.val := by
  refine (val_main_v13_apply x0 x1 x2 (ix2 r j)).trans (Finset.sum_congr rfl fun k _ => ?_)
  have el : lidx_main_v13 (ix2 r j) k = ix2 r k := funext fun a => match a with | ⟨0, _⟩ => rfl | ⟨1, _⟩ => rfl
  have er : ridx_main_v13 (ix2 r j) k = ix2 k j := funext fun a => match a with | ⟨0, _⟩ => rfl | ⟨1, _⟩ => rfl
  rw [el, er, v12_apply]
  exact congrArg₂ (fun a b : EReal => a * b) rfl (tb_eq x2 k j)

end Cert.InProjRefIdeal.Hand

end
-- ==== Proof.InProjClaim.lean ====
module

public import proofs.«01_k».proof.Defs
public import proofs.«01_k».proof.Proof.InProjValue
public import proofs.«01_k».proof.Proof.InProjRef
public import proofs.«01_k».proof.Proof.Gen.InProjRefIdeal.Run

@[expose] public section

set_option maxRecDepth 16384

noncomputable section

namespace Cert.Proof.InProj

open Idealize.ShloMosaic Idealize.ShloMosaic.TcCoe Idealize.SL.Sem
open Cert.InProjIdeal.Hand (Gu)

/-- The reference's array is the one the kernel leaves, on the same arguments. -/
theorem ref_y (m : (ℓ : Loc Cert.InProjIdeal.nD Cert.InProjIdeal.τ Cert.InProjIdeal.sig) → Buf (Elt Ideal) ℓ) (c : Dev Cert.InProjIdeal.nD) :
    Cert.InProjRefIdeal.Read.val_main_v13 (F := Ideal) (m ((c.tc : Thread _ _).loc Cert.InProjIdeal.main_arg0)) (m ((c.tc : Thread _ _).loc Cert.InProjIdeal.main_arg1))
      (m ((c.tc : Thread _ _).loc Cert.InProjIdeal.main_arg2)) = Gu m c := by
  funext i
  obtain ⟨r, q, rfl⟩ : ∃ (r : Fin 8192) (q : Fin 5760), i = ix2 r q := ⟨i 0, i 1, by funext a; match a with | ⟨0, _⟩ => rfl | ⟨1, _⟩ => rfl⟩
  rw [Cert.InProjRefIdeal.Hand.v13_apply]
  rfl

/-- Over the reals the kernel and the reference leave the same array. -/
theorem algebraic : Cert.algebraic_InProjIdeal_InProjRefIdeal := by
  intro m g m' g' _ hag
  refine ⟨fun c => Gu m c, ?_, ?_⟩
  · refine (θ_run _ _ _).mono (fun r h c => ?_) (Cert.InProjIdeal.Value.run (F := Ideal) m g)
    exact ⟨(h c).1.trans (Cert.InProjIdeal.Hand.G3_eq m c), (h c).2⟩
  · refine (θ_run _ _ _).mono (fun r h c => ?_) (Cert.InProjRefIdeal.Value.run (F := Ideal) m' g')
    obtain ⟨a0, a1, a2⟩ := hag c
    obtain ⟨h0, hk⟩ := h c
    refine ⟨h0.trans ((Cert.InProjRefIdeal.Read.val_main_v13_eq _ _ _).trans (?_ : _ = Gu m c)), hk⟩
    rw [a0, a1, a2]
    exact ref_y m c

end Cert.Proof.InProj

end
-- ==== Proof.OutProjValue.lean ====
module

public import proofs.«01_k».proof.Proof.Gen.OutProjIdeal.Value
public import proofs.«01_k».proof.Proof.Tables
public import Idealize.ShloMosaic.Lib.Pipeline.ValueKit
public import Idealize.ShloMosaic.Lib.Pipeline.ValueKit.Geometry
public import Idealize.ShloMosaic.Lib.Pipeline.ReadBack
public import Idealize.ShloMosaic.Lib.StableHlo.ReadAt

@[expose] public section

set_option maxRecDepth 16384

noncomputable section

namespace Cert.OutProjIdeal.Hand

open Cert.OutProjIdeal Cert.OutProjIdeal.Gen Cert.Proof.Tables
open Idealize.ShloMosaic Idealize.ShloMosaic.TcCoe Idealize.SL.Sem
open Idealize.ShloMosaic.Pipeline (Dat)

variable (m : (ℓ : Loc nD τ sig) → Buf (Elt Ideal) ℓ)

/-! ## The body's values at an index -/

/-- The residual and the first part's product. -/
theorem pay2_apply (x : Vec Ideal S512x2048 .f32) (a : Vec Ideal S512x512 .f32) (g : Vec Ideal S1x512 .f32) (w : Vec Ideal S512x2048 .bf16) (r : Fin 512) (q : Fin 2048) :
    k0_pay2 (F := Ideal) x a g w (ix2 r q) = x (ix2 r q) + ∑ k : Fin 512, nrm 512 (Ideal.ofBits FTy.f32 0x44000000#32) (tb a r.val) (tb g 0) k.val * w (ix2 k q) := by
  pointwise [k0_pay2]
  simp only [tb_eq a, tb_eq g]
  rfl

/-- The second part normalised. -/
theorem pay3_apply (b : Vec Ideal S512x512 .f32) (g : Vec Ideal S1x512 .f32) (r : Fin 512) (k : Fin 512) :
    k0_pay3 (F := Ideal) b g (ix2 r k) = nrm 512 (Ideal.ofBits FTy.f32 0x44000000#32) (tb b r.val) (tb g 0) k.val := by
  pointwise [k0_pay3]
  simp only [tb_eq b, tb_eq g]
  rfl

/-- The second and the third part's products added. -/
theorem pay1_apply (v : FVec Ideal S512x2048 .f32) (h : FVec Ideal S512x512 .bf16) (w : Vec Ideal S512x2048 .bf16) (d : Vec Ideal S512x1024 .f32) (g : Vec Ideal S1x1024 .f32) (u : Vec Ideal S1024x2048 .bf16)
    (r : Fin 512) (q : Fin 2048) :
    k0_pay1 (F := Ideal) v h w d g u (ix2 r q) = (v (ix2 r q) + ∑ k : Fin 512, h (ix2 r k) * w (ix2 k q))
      + ∑ k : Fin 1024, nrm 1024 (Ideal.ofBits FTy.f32 0x44800000#32) (tb d r.val) (tb g 0) k.val * u (ix2 k q) := by
  pointwise [k0_pay1]
  simp only [tb_eq d, tb_eq g]
  rfl

/-- What the body stores, of its six blocks. -/
theorem out_eq (x0 : Vec Ideal S512x2048 .f32) (x1 : Vec Ideal S512x512 .f32) (x2 : Vec Ideal S512x512 .f32) (x3 : Vec Ideal S512x1024 .f32) (x4 : Vec Ideal S1x2048 .f32) (x5 : Vec Ideal S2048x2048 .bf16) :
    out0_6 (F := Ideal) x0 x1 x2 x3 x4 x5 = k0_pay1 (k0_pay2 x0 x1 (View.ld x4 r0_2) (View.ld x5 r0_3)) (k0_pay3 x2 (View.ld x4 r0_4)) (View.ld x5 r0_5) x3 (View.ld x4 r0_7) (View.ld x5 r0_8) := by
  unfold out0_6
  frame_out

/-! ## The blocks of the arguments -/

/-- The gain as a row. -/
theorem V_v0 (c : Dev nD) (k : Fin 2048) : (V m c main_v0 : S1x2048.Idx → EReal) (ix2 0 k) = (m ((c : Thread nD τ).loc main_arg4) : S2048.Idx → EReal) (ix1 k) := by
  unfold V
  after_reads_at

/-- The weight. -/
theorem V_v1 (c : Dev nD) (k : Fin 2048) (j : Fin 2048) : (V m c main_v1 : S2048x2048.Idx → EReal) (ix2 k j) = (m ((c : Thread nD τ).loc main_arg5) : S2048x2048.Idx → EReal) (ix2 k j) := by
  unfold V
  after_reads_at

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)

/-- The rows the products are added to. -/
def xT (c : Dev nD) : ℕ → ℕ → EReal := tb (n0 := 8192) (n1 := 2048) (m ((c : Thread nD τ).loc main_arg0))
/-- The first part's rows. -/
def aT (c : Dev nD) : ℕ → ℕ → EReal := tb (n0 := 8192) (n1 := 512) (m ((c : Thread nD τ).loc main_arg1))
/-- The second part's rows. -/
def bT (c : Dev nD) : ℕ → ℕ → EReal := tb (n0 := 8192) (n1 := 512) (m ((c : Thread nD τ).loc main_arg2))
/-- The third part's rows. -/
def dT (c : Dev nD) : ℕ → ℕ → EReal := tb (n0 := 8192) (n1 := 1024) (m ((c : Thread nD τ).loc main_arg3))
/-- The gain. -/
def gT (c : Dev nD) : ℕ → EReal := tv (n0 := 2048) (m ((c : Thread nD τ).loc main_arg4))
/-- The weight. -/
def wT (c : Dev nD) : ℕ → ℕ → EReal := tb (n0 := 2048) (n1 := 2048) (m ((c : Thread nD τ).loc main_arg5))

theorem N_lt (t : Fin cfg0.N) : t.val < 16 := lt_of_lt_of_eq t.isLt (show cfg0.N = 16 from N_0)

theorem x_apply (c : Dev nD) (t : Fin cfg0.N) (r : Fin 512) (k : Fin 2048) :
    (iblk m c 0 t : S512x2048.Idx → EReal) (ix2 r k) = xT m c (t.val * 512 + r.val) k.val := by
  obtain ⟨e0, e1⟩ := idx0 t
  have ht := N_lt t
  unfold iblk
  refine (congrArg (V m c main_arg0) (?_ : _ = ix2 (⟨t.val * 512 + r.val, by omega⟩ : Fin 8192) k)).trans ?_
  · funext a
    match a with
    | ⟨0, _⟩ => refine Fin.ext ?_; show win0_0.index t (0 : Fin 2) * 512 + 1 * r.val = t.val * 512 + r.val; omega
    | ⟨1, _⟩ => refine Fin.ext ?_; show win0_0.index t (1 : Fin 2) * 2048 + 1 * k.val = k.val; omega
  · rw [V_main_arg0]
    exact tb_eq _ _ _

theorem a_apply (c : Dev nD) (t : Fin cfg0.N) (r : Fin 512) (k : Fin 512) :
    (iblk m c 1 t : S512x512.Idx → EReal) (ix2 r k) = aT m c (t.val * 512 + r.val) k.val := by
  obtain ⟨e0, e1⟩ := idx1 t
  have ht := N_lt t
  unfold iblk
  refine (congrArg (V m c main_arg1) (?_ : _ = ix2 (⟨t.val * 512 + r.val, by omega⟩ : Fin 8192) k)).trans ?_
  · funext a
    match a with
    | ⟨0, _⟩ => refine Fin.ext ?_; show win0_1.index t (0 : Fin 2) * 512 + 1 * r.val = t.val * 512 + r.val; omega
    | ⟨1, _⟩ => refine Fin.ext ?_; show win0_1.index t (1 : Fin 2) * 512 + 1 * k.val = k.val; omega
  · rw [V_main_arg1]
    exact tb_eq _ _ _

theorem b_apply (c : Dev nD) (t : Fin cfg0.N) (r : Fin 512) (k : Fin 512) :
    (iblk m c 2 t : S512x512.Idx → EReal) (ix2 r k) = bT m c (t.val * 512 + r.val) k.val := by
  obtain ⟨e0, e1⟩ := idx2 t
  have ht := N_lt t
  unfold iblk
  refine (congrArg (V m c main_arg2) (?_ : _ = ix2 (⟨t.val * 512 + r.val, by omega⟩ : Fin 8192) k)).trans ?_
  · funext a
    match a with
    | ⟨0, _⟩ => refine Fin.ext ?_; show win0_2.index t (0 : Fin 2) * 512 + 1 * r.val = t.val * 512 + r.val; omega
    | ⟨1, _⟩ => refine Fin.ext ?_; show win0_2.index t (1 : Fin 2) * 512 + 1 * k.val = k.val; omega
  · rw [V_main_arg2]
    exact tb_eq _ _ _

theorem d_apply (c : Dev nD) (t : Fin cfg0.N) (r : Fin 512) (k : Fin 1024) :
    (iblk m c 3 t : S512x1024.Idx → EReal) (ix2 r k) = dT m c (t.val * 512 + r.val) k.val := by
  obtain ⟨e0, e1⟩ := idx3 t
  have ht := N_lt t
  unfold iblk
  refine (congrArg (V m c main_arg3) (?_ : _ = ix2 (⟨t.val * 512 + r.val, by omega⟩ : Fin 8192) k)).trans ?_
  · funext a
    match a with
    | ⟨0, _⟩ => refine Fin.ext ?_; show win0_3.index t (0 : Fin 2) * 512 + 1 * r.val = t.val * 512 + r.val; omega
    | ⟨1, _⟩ => refine Fin.ext ?_; show win0_3.index t (1 : Fin 2) * 1024 + 1 * k.val = k.val; omega
  · rw [V_main_arg3]
    exact tb_eq _ _ _

theorem g_apply (c : Dev nD) (t : Fin cfg0.N) (k : Fin 2048) : (iblk m c 4 t : S1x2048.Idx → EReal) (ix2 0 k) = gT m c k.val := by
  obtain ⟨e0, e1⟩ := idx4 t
  unfold iblk
  refine (congrArg (V m c main_v0) (?_ : _ = ix2 (0 : Fin 1) k)).trans ((V_v0 m c k).trans (tv_eq _ _))
  funext a
  match a with
  | ⟨0, _⟩ => refine Fin.ext ?_; show win0_4.index t (0 : Fin 2) * 1 + 1 * 0 = 0; omega
  | ⟨1, _⟩ => refine Fin.ext ?_; show win0_4.index t (1 : Fin 2) * 2048 + 1 * k.val = k.val; omega

theorem w_apply (c : Dev nD) (t : Fin cfg0.N) (k : Fin 2048) (j : Fin 2048) : (iblk m c 5 t : S2048x2048.Idx → EReal) (ix2 k j) = wT m c k.val j.val := by
  obtain ⟨e0, e1⟩ := idx5 t
  unfold iblk
  refine (congrArg (V m c main_v1) (?_ : _ = ix2 k j)).trans ((V_v1 m c _ _).trans (tb_eq _ _ _))
  funext a
  match a with
  | ⟨0, _⟩ => refine Fin.ext ?_; show win0_5.index t (0 : Fin 2) * 2048 + 1 * k.val = k.val; omega
  | ⟨1, _⟩ => refine Fin.ext ?_; show win0_5.index t (1 : Fin 2) * 2048 + 1 * j.val = j.val; omega

/-! ## The three windows of the gain and of the weight -/

theorem g0 (x : Vec Ideal S1x2048 .f32) (k : Fin 512) : View.ld x r0_2 (ix2 (0 : Fin 1) k) = x (ix2 (0 : Fin 1) (⟨k.val, by omega⟩ : Fin 2048)) :=
  ld2 x _ _ _ _ _ _ _ rfl (Nat.zero_add _).symm
theorem g1 (x : Vec Ideal S1x2048 .f32) (k : Fin 512) : View.ld x r0_4 (ix2 (0 : Fin 1) k) = x (ix2 (0 : Fin 1) (⟨512 + k.val, by omega⟩ : Fin 2048)) :=
  ld2 x _ _ _ _ _ _ _ rfl rfl
theorem g2 (x : Vec Ideal S1x2048 .f32) (k : Fin 1024) : View.ld x r0_7 (ix2 (0 : Fin 1) k) = x (ix2 (0 : Fin 1) (⟨1024 + k.val, by omega⟩ : Fin 2048)) :=
  ld2 x _ _ _ _ _ _ _ rfl rfl
theorem w0 (x : Vec Ideal S2048x2048 .bf16) (k : Fin 512) (q : Fin 2048) : View.ld x r0_3 (ix2 k q) = x (ix2 (⟨k.val, by omega⟩ : Fin 2048) q) :=
  ld2 x _ _ _ _ _ _ _ (Nat.zero_add _).symm (Nat.zero_add _).symm
theorem w1 (x : Vec Ideal S2048x2048 .bf16) (k : Fin 512) (q : Fin 2048) : View.ld x r0_5 (ix2 k q) = x (ix2 (⟨512 + k.val, by omega⟩ : Fin 2048) q) :=
  ld2 x _ _ _ _ _ _ _ rfl (Nat.zero_add _).symm
theorem w2 (x : Vec Ideal S2048x2048 .bf16) (k : Fin 1024) (q : Fin 2048) : View.ld x r0_8 (ix2 k q) = x (ix2 (⟨1024 + k.val, by omega⟩ : Fin 2048) q) :=
  ld2 x _ _ _ _ _ _ _ rfl (Nat.zero_add _).symm

/-! ## What the kernel leaves -/

/-- One entry of the result: the row's entry and the three parts' products, each part normalised by itself. -/
def ent (c : Dev nD) (R q : ℕ) : EReal :=
  ((xT m c R q + ∑ k : Fin 512, nrm 512 (Ideal.ofBits FTy.f32 0x44000000#32) (aT m c R) (gT m c) k.val * wT m c k.val q)
    + ∑ k : Fin 512, nrm 512 (Ideal.ofBits FTy.f32 0x44000000#32) (bT m c R) (fun j => gT m c (512 + j)) k.val * wT m c (512 + k.val) q)
    + ∑ k : Fin 1024, nrm 1024 (Ideal.ofBits FTy.f32 0x44800000#32) (dT m c R) (fun j => gT m c (1024 + j)) k.val * wT m c (1024 + k.val) q

/-- The block a point writes. -/
def oAt (c : Dev nD) (t : Fin cfg0.N) : Vec Ideal S512x2048 .f32 :=
  out0_6 (F := Ideal) (iblk m c 0 t) (iblk m c 1 t) (iblk m c 2 t) (iblk m c 3 t) (iblk m c 4 t) (iblk m c 5 t)

/-- What a point writes. -/
theorem written (c : Dev nD) (t : Fin cfg0.N) (r : Fin 512) (q : Fin 2048) : oAt m c t (ix2 r q) = ent m c (t.val * 512 + r.val) q.val := by
  unfold oAt
  rw [out_eq, pay1_apply, pay2_apply]
  unfold ent
  refine congrArg₂ (fun a b : EReal => a + b) (congrArg₂ (fun a b : EReal => a + b) (congrArg₂ (fun a b : EReal => a + b) (x_apply m c t r q) ?_) ?_) ?_
  · refine Finset.sum_congr rfl fun k _ => congrArg₂ (fun a b : EReal => a * b) ?_ ((w0 _ k q).trans (w_apply m c t _ q))
    exact nrm_congr (fun j => (tb_eq (iblk m c 1 t : S512x512.Idx → EReal) r j).symm.trans (a_apply m c t r j))
      (fun j => (tb_eq (View.ld (iblk m c 4 t : Vec Ideal S1x2048 .f32) r0_2 : S1x512.Idx → EReal) (0 : Fin 1) j).symm.trans ((g0 _ j).trans (g_apply m c t _))) k
  · refine Finset.sum_congr rfl fun k _ => congrArg₂ (fun a b : EReal => a * b) ?_ ((w1 _ k q).trans (w_apply m c t _ q))
    refine (pay3_apply _ _ r k).trans ?_
    exact nrm_congr (fun j => (tb_eq (iblk m c 2 t : S512x512.Idx → EReal) r j).symm.trans (b_apply m c t r j))
      (fun j => (tb_eq (View.ld (iblk m c 4 t : Vec Ideal S1x2048 .f32) r0_4 : S1x512.Idx → EReal) (0 : Fin 1) j).symm.trans ((g1 _ j).trans (g_apply m c t _))) k
  · refine Finset.sum_congr rfl fun k _ => congrArg₂ (fun a b : EReal => a * b) ?_ ((w2 _ k q).trans (w_apply m c t _ q))
    exact nrm_congr (fun j => (tb_eq (iblk m c 3 t : S512x1024.Idx → EReal) r j).symm.trans (d_apply m c t r j))
      (fun j => (tb_eq (View.ld (iblk m c 4 t : Vec Ideal S1x2048 .f32) r0_7 : S1x1024.Idx → EReal) (0 : Fin 1) j).symm.trans ((g2 _ j).trans (g_apply m c t _))) k

/-- The array the kernel leaves. -/
def Gm (c : Dev nD) : S8192x2048.Idx → EReal := fun i => ent m c (i 0).val (i 1).val

/-- The block a point leaves in the output window. -/
theorem after_6 (c : Dev nD) (t : Fin cfg0.N) : (dats m 0 c).after 6 t = oAt m c t := after0_6 m c t

/-- Where the output's block lies in the array. -/
theorem emb6 (t : Fin cfg0.N) (r : Fin 512) (q : Fin 2048) : ((((cfg0.win 6).blk t).view.emb (ix2 r q)) (0 : Fin 2)).val = t.val * 512 + r.val ∧ ((((cfg0.win 6).blk t).view.emb (ix2 r q)) (1 : Fin 2)).val = q.val := by
  obtain ⟨e0, e1⟩ := idx6 t
  have f0 : ((((cfg0.win 6).blk t).view.emb (ix2 r q)) (0 : Fin 2)).val = win0_6.index t (0 : Fin 2) * 512 + 1 * r.val := rfl
  have f1 : ((((cfg0.win 6).blk t).view.emb (ix2 r q)) (1 : Fin 2)).val = win0_6.index t (1 : Fin 2) * 2048 + 1 * q.val := rfl
  exact ⟨by omega, by omega⟩

/-- The output array after the last point. -/
theorem arr6 (c : Dev nD) : (dats m 0 c).arrAt 6 cfg0.N = Gm m c := by
  refine (dats m 0 c).arrAt_eq_of_covers 6 _ (by decide +kernel) fun t hf y => ?_
  rw [after_6]
  have hw := written m c t
  generalize oAt m c t = o at hw ⊢
  show o y = _
  obtain ⟨r, q, rfl⟩ : ∃ (r : Fin 512) (q : Fin 2048), y = ix2 r q := ⟨y 0, y 1, by funext a; match a with | ⟨0, _⟩ => rfl | ⟨1, _⟩ => rfl⟩
  obtain ⟨f0, f1⟩ := emb6 t r q
  rw [hw r q]
  unfold Gm
  rw [f0, f1]

end Cert.OutProjIdeal.Hand

end
-- ==== Proof.OutProjRef.lean ====
module

public import proofs.«01_k».proof.Proof.Gen.OutProjRefIdeal.Read
public import proofs.«01_k».proof.Proof.Tables

@[expose] public section

set_option maxRecDepth 16384

noncomputable section

namespace Cert.OutProjRefIdeal.Hand

open Cert.OutProjRefIdeal Cert.OutProjRefIdeal.Gen Cert.OutProjRefIdeal.Read Cert.Proof.Tables
open Idealize.ShloMosaic

variable (x0 : FVec Ideal S8192x2048 .f32) (x1 x2 : FVec Ideal S8192x512 .f32) (x3 : FVec Ideal S8192x1024 .f32) (x4 : FVec Ideal S2048 .f32) (x5 : FVec Ideal S2048x2048 .f32)

/-- The sum of the squares of a row of the first part. -/
theorem v2_apply (r : Fin 8192) : val_main_v2 (F := Ideal) x1 (ix1 r) = ∑ j : Fin 512, tb (n0 := 8192) (n1 := 512) x1 r.val j.val * tb (n0 := 8192) (n1 := 512) x1 r.val j.val := by
  refine (val_main_v2_apply x1 (ix1 r)).trans ?_
  rw [val_main_cst_apply]
  show Ideal.ofBits .f32 0x00000000#32 + _ = _
  rw [Ideal.ofBits_zero_f32, zero_add]
  refine Finset.sum_congr rfl fun k _ => ?_
  have hi : idx_main_v2 (ix1 r) k = ix2 r k := funext fun a => match a with | ⟨0, _⟩ => rfl | ⟨1, _⟩ => rfl
  rw [hi, val_main_v1_apply]
  exact congrArg₂ (fun a b : EReal => a * b) (tb_eq x1 r k) (tb_eq x1 r k)

/-- The first part normalised. -/
theorem v13_apply (r : Fin 8192) (k : Fin 512) :
    val_main_v13 (F := Ideal) x1 x4 (ix2 r k) = nrm 512 (Ideal.ofBits FTy.f32 0x44000000#32) (tb (n0 := 8192) (n1 := 512) x1 r.val) (tv (n0 := 2048) x4) k.val := by
  have e9 : idx_main_v9 (ix2 r k) = ix2 r (0 : Fin 1) := funext fun a => match a with | ⟨0, _⟩ => rfl | ⟨1, _⟩ => rfl
  have e3 : idx_main_v3 (ix2 r (0 : Fin 1)) = ix1 r := funext fun a => match a with | ⟨0, _⟩ => rfl
  have e12 : idx_main_v12 (ix2 r k) = ix2 (0 : Fin 1) k := funext fun a => match a with | ⟨0, _⟩ => rfl | ⟨1, _⟩ => rfl
  have e11 : idx_main_v11 (ix2 (0 : Fin 1) k) = ix1 k := funext fun a => match a with | ⟨0, _⟩ => rfl
  have e0 : idx_main_v0 (ix1 k) = ix1 (⟨k.val, by omega⟩ : Fin 2048) := funext fun a => match a with | ⟨0, _⟩ => rfl
  rw [val_main_v13_apply, val_main_v10_apply, val_main_v9_apply, e9, val_main_v8_apply, val_main_v7_apply, val_main_v5_apply, val_main_v3_apply, e3, v2_apply,
    val_main_v4_apply, val_main_cst_0_apply, val_main_v6_apply, val_main_cst_1_apply, val_main_v12_apply, e12, val_main_v11_apply, e11, val_main_v0_apply, e0, tb_eq x1 r k, tv_eq x4]
  rfl

/-- The sum of the squares of a row of the second part. -/
theorem v16_apply (r : Fin 8192) : val_main_v16 (F := Ideal) x2 (ix1 r) = ∑ j : Fin 512, tb (n0 := 8192) (n1 := 512) x2 r.val j.val * tb (n0 := 8192) (n1 := 512) x2 r.val j.val := by
  refine (val_main_v16_apply x2 (ix1 r)).trans ?_
  rw [val_main_cst_2_apply]
  show Ideal.ofBits .f32 0x00000000#32 + _ = _
  rw [Ideal.ofBits_zero_f32, zero_add]
  refine Finset.sum_congr rfl fun k _ => ?_
  have hi : idx_main_v16 (ix1 r) k = ix2 r k := funext fun a => match a with | ⟨0, _⟩ => rfl | ⟨1, _⟩ => rfl
  rw [hi, val_main_v15_apply]
  exact congrArg₂ (fun a b : EReal => a * b) (tb_eq x2 r k) (tb_eq x2 r k)

/-- The second part normalised. -/
theorem v27_apply (r : Fin 8192) (k : Fin 512) :
    val_main_v27 (F := Ideal) x2 x4 (ix2 r k) = nrm 512 (Ideal.ofBits FTy.f32 0x44000000#32) (tb (n0 := 8192) (n1 := 512) x2 r.val) (fun j => tv (n0 := 2048) x4 (512 + j)) k.val := by
  have e9 : idx_main_v23 (ix2 r k) = ix2 r (0 : Fin 1) := funext fun a => match a with | ⟨0, _⟩ => rfl | ⟨1, _⟩ => rfl
  have e3 : idx_main_v17 (ix2 r (0 : Fin 1)) = ix1 r := funext fun a => match a with | ⟨0, _⟩ => rfl
  have e12 : idx_main_v26 (ix2 r k) = ix2 (0 : Fin 1) k := funext fun a => match a with | ⟨0, _⟩ => rfl | ⟨1, _⟩ => rfl
  have e11 : idx_main_v25 (ix2 (0 : Fin 1) k) = ix1 k := funext fun a => match a with | ⟨0, _⟩ => rfl
  have e0 : idx_main_v14 (ix1 k) = ix1 (⟨512 + k.val, by omega⟩ : Fin 2048) := funext fun a => match a with | ⟨0, _⟩ => rfl
  rw [val_main_v27_apply, val_main_v24_apply, val_main_v23_apply, e9, val_main_v22_apply, val_main_v21_apply, val_main_v19_apply, val_main_v17_apply, e3, v16_apply,
    val_main_v18_apply, val_main_cst_3_apply, val_main_v20_apply, val_main_cst_4_apply, val_main_v26_apply, e12, val_main_v25_apply, e11, val_main_v14_apply, e0, tb_eq x2 r k, tv_eq x4]
  rfl

/-- The sum of the squares of a row of the third part. -/
theorem v30_apply (r : Fin 8192) : val_main_v30 (F := Ideal) x3 (ix1 r) = ∑ j : Fin 1024, tb (n0 := 8192) (n1 := 1024) x3 r.val j.val * tb (n0 := 8192) (n1 := 1024) x3 r.val j.val := by
  refine (val_main_v30_apply x3 (ix1 r)).trans ?_
  rw [val_main_cst_5_apply]
  show Ideal.ofBits .f32 0x00000000#32 + _ = _
  rw [Ideal.ofBits_zero_f32, zero_add]
  refine Finset.sum_congr rfl fun k _ => ?_
  have hi : idx_main_v30 (ix1 r) k = ix2 r k := funext fun a => match a with | ⟨0, _⟩ => rfl | ⟨1, _⟩ => rfl
  rw [hi, val_main_v29_apply]
  exact congrArg₂ (fun a b : EReal => a * b) (tb_eq x3 r k) (tb_eq x3 r k)

/-- The third part normalised. -/
theorem v41_apply (r : Fin 8192) (k : Fin 1024) :
    val_main_v41 (F := Ideal) x3 x4 (ix2 r k) = nrm 1024 (Ideal.ofBits FTy.f32 0x44800000#32) (tb (n0 := 8192) (n1 := 1024) x3 r.val) (fun j => tv (n0 := 2048) x4 (1024 + j)) k.val := by
  have e9 : idx_main_v37 (ix2 r k) = ix2 r (0 : Fin 1) := funext fun a => match a with | ⟨0, _⟩ => rfl | ⟨1, _⟩ => rfl
  have e3 : idx_main_v31 (ix2 r (0 : Fin 1)) = ix1 r := funext fun a => match a with | ⟨0, _⟩ => rfl
  have e12 : idx_main_v40 (ix2 r k) = ix2 (0 : Fin 1) k := funext fun a => match a with | ⟨0, _⟩ => rfl | ⟨1, _⟩ => rfl
  have e11 : idx_main_v39 (ix2 (0 : Fin 1) k) = ix1 k := funext fun a => match a with | ⟨0, _⟩ => rfl
  have e0 : idx_main_v28 (ix1 k) = ix1 (⟨1024 + k.val, by omega⟩ : Fin 2048) := funext fun a => match a with | ⟨0, _⟩ => rfl
  rw [val_main_v41_apply, val_main_v38_apply, val_main_v37_apply, e9, val_main_v36_apply, val_main_v35_apply, val_main_v33_apply, val_main_v31_apply, e3, v30_apply,
    val_main_v32_apply, val_main_cst_6_apply, val_main_v34_apply, val_main_cst_7_apply, val_main_v40_apply, e12, val_main_v39_apply, e11, val_main_v28_apply, e0, tb_eq x3 r k, tv_eq x4]
  rfl

/-- The three parts side by side. -/
theorem v42_apply (r : Fin 8192) (k : Fin 2048) :
    val_main_v42 (F := Ideal) x1 x2 x3 x4 (ix2 r k) = if k.val < 512 then tb (n0 := 8192) (n1 := 512) (val_main_v13 (F := Ideal) x1 x4) r.val k.val
      else if k.val - 512 < 512 then tb (n0 := 8192) (n1 := 512) (val_main_v27 (F := Ideal) x2 x4) r.val (k.val - 512)
      else tb (n0 := 8192) (n1 := 1024) (val_main_v41 (F := Ideal) x3 x4) r.val (k.val - 512 - 512) := by
  unfold val_main_v42
  generalize val_main_v13 (F := Ideal) x1 x4 = a
  generalize val_main_v27 (F := Ideal) x2 x4 = b
  generalize val_main_v41 (F := Ideal) x3 x4 = d
  pointwise
  simp only [tb_eq a, tb_eq b, tb_eq d, dite_eq_ite]

/-- A sum over the three parts' columns is the sum of the parts' sums. -/
theorem sum_parts (f : ℕ → EReal) :
    ∑ k : Fin 2048, f k.val = (∑ k : Fin 512, f k.val + ∑ k : Fin 512, f (512 + k.val)) + ∑ k : Fin 1024, f (1024 + k.val) := by
  have e0 : ∑ k : Fin 2048, f k.val = ∑ k ∈ Finset.range 2048, f k := (Finset.sum_range f).symm
  have e1 : ∑ k ∈ Finset.range 2048, f k = ∑ k ∈ Finset.range 1024, f k + ∑ k ∈ Finset.range 1024, f (1024 + k) := Finset.sum_range_add f 1024 1024
  have e2 : ∑ k ∈ Finset.range 1024, f k = ∑ k ∈ Finset.range 512, f k + ∑ k ∈ Finset.range 512, f (512 + k) := Finset.sum_range_add f 512 512
  rw [e0, e1, e2, Finset.sum_range, Finset.sum_range, Finset.sum_range]

/-- The result. -/
theorem v44_apply (r : Fin 8192) (q : Fin 2048) :
    val_main_v44 (F := Ideal) x0 x1 x2 x3 x4 x5 (ix2 r q) = ((tb (n0 := 8192) (n1 := 2048) x0 r.val q.val
      + ∑ k : Fin 512, nrm 512 (Ideal.ofBits FTy.f32 0x44000000#32) (tb (n0 := 8192) (n1 := 512) x1 r.val) (tv (n0 := 2048) x4) k.val * tb (n0 := 2048) (n1 := 2048) x5 k.val q.val)
      + ∑ k : Fin 512, nrm 512 (Ideal.ofBits FTy.f32 0x44000000#32) (tb (n0 := 8192) (n1 := 512) x2 r.val) (fun j => tv (n0 := 2048) x4 (512 + j)) k.val * tb (n0 := 2048) (n1 := 2048) x5 (512 + k.val) q.val)
      + ∑ k : Fin 1024, nrm 1024 (Ideal.ofBits FTy.f32 0x44800000#32) (tb (n0 := 8192) (n1 := 1024) x3 r.val) (fun j => tv (n0 := 2048) x4 (1024 + j)) k.val * tb (n0 := 2048) (n1 := 2048) x5 (1024 + k.val) q.val := by
  rw [val_main_v44_apply]
  have hs : val_main_v43 (F := Ideal) x1 x2 x3 x4 x5 (ix2 r q) = ∑ k : Fin 2048, (fun k : ℕ => (if k < 512 then tb (n0 := 8192) (n1 := 512) (val_main_v13 (F := Ideal) x1 x4) r.val k
      else if k - 512 < 512 then tb (n0 := 8192) (n1 := 512) (val_main_v27 (F := Ideal) x2 x4) r.val (k - 512)
      else tb (n0 := 8192) (n1 := 1024) (val_main_v41 (F := Ideal) x3 x4) r.val (k - 512 - 512)) * tb (n0 := 2048) (n1 := 2048) x5 k q.val) k.val := by
    refine (val_main_v43_apply x1 x2 x3 x4 x5 (ix2 r q)).trans (Finset.sum_congr rfl fun k _ => ?_)
    have el : lidx_main_v43 (ix2 r q) k = ix2 r k := funext fun a => match a with | ⟨0, _⟩ => rfl | ⟨1, _⟩ => rfl
    have er : ridx_main_v43 (ix2 r q) k = ix2 k q := funext fun a => match a with | ⟨0, _⟩ => rfl | ⟨1, _⟩ => rfl
    rw [el, er, v42_apply]
    exact congrArg₂ (fun a b : EReal => a * b) rfl (tb_eq x5 k q)
  have hp := hs.trans (sum_parts (fun k : ℕ => (if k < 512 then tb (n0 := 8192) (n1 := 512) (val_main_v13 (F := Ideal) x1 x4) r.val k
      else if k - 512 < 512 then tb (n0 := 8192) (n1 := 512) (val_main_v27 (F := Ideal) x2 x4) r.val (k - 512)
      else tb (n0 := 8192) (n1 := 1024) (val_main_v41 (F := Ideal) x3 x4) r.val (k - 512 - 512)) * tb (n0 := 2048) (n1 := 2048) x5 k q.val))
  beta_reduce at hp
  rw [hp]
  show x0 (ix2 r q) + _ = _
  rw [← add_assoc, ← add_assoc]
  refine congrArg₂ (fun a b : EReal => a + b) (congrArg₂ (fun a b : EReal => a + b) (congrArg₂ (fun a b : EReal => a + b) (tb_eq x0 r q) ?_) ?_) ?_
  · refine Finset.sum_congr rfl fun k _ => congrArg₂ (fun a b : EReal => a * b) ?_ rfl
    rw [if_pos k.isLt]
    exact (tb_eq (val_main_v13 (F := Ideal) x1 x4) r k).symm.trans (v13_apply x1 x4 r k)
  · refine Finset.sum_congr rfl fun k _ => congrArg₂ (fun a b : EReal => a * b) ?_ rfl
    rw [if_neg (by omega), if_pos (by omega), Nat.add_sub_cancel_left]
    exact (tb_eq (val_main_v27 (F := Ideal) x2 x4) r k).symm.trans (v27_apply x2 x4 r k)
  · refine Finset.sum_congr rfl fun k _ => congrArg₂ (fun a b : EReal => a * b) ?_ rfl
    rw [if_neg (by omega), if_neg (by omega), show 1024 + k.val - 512 - 512 = k.val by omega]
    exact (tb_eq (val_main_v41 (F := Ideal) x3 x4) r k).symm.trans (v41_apply x3 x4 r k)

end Cert.OutProjRefIdeal.Hand

end
-- ==== Proof.OutProjClaim.lean ====
module

public import proofs.«01_k».proof.Defs
public import proofs.«01_k».proof.Proof.OutProjValue
public import proofs.«01_k».proof.Proof.OutProjRef
public import proofs.«01_k».proof.Proof.Gen.OutProjRefIdeal.Run

@[expose] public section

set_option maxRecDepth 16384

noncomputable section

namespace Cert.Proof.OutProj

open Idealize.ShloMosaic Idealize.ShloMosaic.TcCoe Idealize.SL.Sem
open Cert.OutProjIdeal.Hand (Gm)

/-- The reference's array is the one the kernel leaves, on the same arguments. -/
theorem ref_y (m : (ℓ : Loc Cert.OutProjIdeal.nD Cert.OutProjIdeal.τ Cert.OutProjIdeal.sig) → Buf (Elt Ideal) ℓ) (c : Dev Cert.OutProjIdeal.nD) :
    Cert.OutProjRefIdeal.Read.val_main_v44 (F := Ideal) (m ((c.tc : Thread _ _).loc Cert.OutProjIdeal.main_arg0)) (m ((c.tc : Thread _ _).loc Cert.OutProjIdeal.main_arg1))
      (m ((c.tc : Thread _ _).loc Cert.OutProjIdeal.main_arg2)) (m ((c.tc : Thread _ _).loc Cert.OutProjIdeal.main_arg3))
      (m ((c.tc : Thread _ _).loc Cert.OutProjIdeal.main_arg4)) (m ((c.tc : Thread _ _).loc Cert.OutProjIdeal.main_arg5)) = Gm m c := by
  funext i
  obtain ⟨r, q, rfl⟩ : ∃ (r : Fin 8192) (q : Fin 2048), i = ix2 r q := ⟨i 0, i 1, by funext a; match a with | ⟨0, _⟩ => rfl | ⟨1, _⟩ => rfl⟩
  rw [Cert.OutProjRefIdeal.Hand.v44_apply]
  rfl

/-- Over the reals the kernel and the reference leave the same array. -/
theorem algebraic : Cert.algebraic_OutProjIdeal_OutProjRefIdeal := by
  intro m g m' g' _ hag
  refine ⟨fun c => Gm m c, ?_, ?_⟩
  · refine (θ_run _ _ _).mono (fun r h c => ?_) (Cert.OutProjIdeal.Value.run_blocks (F := Ideal) m g)
    exact ⟨(h c).1.trans (Cert.OutProjIdeal.Hand.arr6 m c), (h c).2⟩
  · refine (θ_run _ _ _).mono (fun r h c => ?_) (Cert.OutProjRefIdeal.Value.run (F := Ideal) m' g')
    obtain ⟨a0, a1, a2, a3, a4, a5⟩ := hag c
    obtain ⟨h0, hk⟩ := h c
    refine ⟨h0.trans ((Cert.OutProjRefIdeal.Read.val_main_v44_eq _ _ _ _ _ _).trans (?_ : _ = Gm m c)), hk⟩
    rw [a0, a1, a2, a3, a4, a5]
    exact ref_y m c

end Cert.Proof.OutProj

end
-- ==== Proof.FfnPure.lean ====
module

public import proofs.«01_k».proof.Proof.Gen.FfnIdeal.Skeleton
public import proofs.«01_k».proof.Proof.Tables

@[expose] public section

set_option maxRecDepth 16384

noncomputable section

namespace Cert.FfnIdeal.Hand

open Cert.FfnIdeal Cert.FfnIdeal.Gen Cert.Proof.Tables
open Idealize.ShloMosaic

theorem pay2_apply (x acc : Vec Ideal S512x2048 .f32) (r : Fin 512) (k : Fin 2048) : k0_pay2 (F := Ideal) x acc (ix2 r k) = x (ix2 r k) + acc (ix2 r k) := by
  pointwise [k0_pay2]

theorem pay1_apply (x : Vec Ideal S512x2048 .f32) (r : Fin 512) (k : Fin 2048) : k0_pay1 (F := Ideal) x (ix2 r k) = x (ix2 r k) := by
  pointwise [k0_pay1]

theorem pay4_apply (r : Fin 512) (k : Fin 2048) : k0_pay4 (F := Ideal) (ix2 r k) = 0 := by
  pointwise [k0_pay4]

/-- The normalised block. -/
theorem pay3_apply (x : Vec Ideal S512x2048 .f32) (g : Vec Ideal S1x2048 .f32) (r : Fin 512) (k : Fin 2048) :
    k0_pay3 (F := Ideal) x g (ix2 r k) = nrm 2048 (Ideal.ofBits FTy.f32 0x45000000#32) (tb x r.val) (tb g 0) k.val := by
  pointwise [k0_pay3]
  simp only [tb_eq x, tb_eq g]
  rfl

/-- The accumulator after a step: two halves of the step's columns are added. -/
theorem pay5_apply (h : Vec Ideal S512x2048 .bf16) (a b : Vec Ideal S2048x256 .bf16) (d : Vec Ideal S256x2048 .bf16)
    (a' b' : Vec Ideal S2048x256 .bf16) (d' : Vec Ideal S256x2048 .bf16) (acc : Vec Ideal S512x2048 .f32) (r : Fin 512) (q : Fin 2048) :
    k0_pay5 (F := Ideal) h a b d a' b' d' acc (ix2 r q) = acc (ix2 r q)
      + ((∑ j : Fin 256, glu (∑ k : Fin 2048, h (ix2 r k) * a (ix2 k j)) (∑ k : Fin 2048, h (ix2 r k) * b (ix2 k j)) * d (ix2 j q))
        + ∑ j : Fin 256, glu (∑ k : Fin 2048, h (ix2 r k) * a' (ix2 k j)) (∑ k : Fin 2048, h (ix2 r k) * b' (ix2 k j)) * d' (ix2 j q)) := by
  pointwise [k0_pay5, glu]

end Cert.FfnIdeal.Hand

end
-- ==== Proof.FfnBlocks.lean ====
module

public import proofs.«01_k».proof.Proof.Gen.FfnIdeal.Value
public import proofs.«01_k».proof.Proof.FfnPure
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.FfnIdeal.Hand

open Cert.FfnIdeal Cert.FfnIdeal.Gen Cert.Proof.Tables
open Idealize.ShloMosaic Idealize.ShloMosaic.TcCoe Idealize.SL.Sem
open Idealize.ShloMosaic.Pipeline (Dat)

variable (m : (ℓ : Loc nD τ sig) → Buf (Elt Ideal) ℓ)

/-! ## What the host operations leave before the kernel -/

/-- The gain as a row. -/
theorem V_v0 (c : Dev nD) (k : Fin 2048) : (V m c main_v0 : S1x2048.Idx → EReal) (ix2 0 k) = (m ((c : Thread nD τ).loc main_arg1) : S2048.Idx → EReal) (ix1 k) := by
  unfold V
  after_reads_at

/-- The gate's weight. -/
theorem V_v1 (c : Dev nD) (k : Fin 2048) (j : Fin 5632) : (V m c main_v1 : S2048x5632.Idx → EReal) (ix2 k j) = (m ((c : Thread nD τ).loc main_arg2) : S2048x5632.Idx → EReal) (ix2 k j) := by
  unfold V
  after_reads_at

/-- The other factor's weight. -/
theorem V_v2 (c : Dev nD) (k : Fin 2048) (j : Fin 5632) : (V m c main_v2 : S2048x5632.Idx → EReal) (ix2 k j) = (m ((c : Thread nD τ).loc main_arg3) : S2048x5632.Idx → EReal) (ix2 k j) := by
  unfold V
  after_reads_at

/-- The second layer's weight. -/
theorem V_v3 (c : Dev nD) (j : Fin 5632) (q : Fin 2048) : (V m c main_v3 : S5632x2048.Idx → EReal) (ix2 j q) = (m ((c : Thread nD τ).loc main_arg4) : S5632x2048.Idx → EReal) (ix2 j q) := by
  unfold V
  after_reads_at

/-! ## The blocks of the arguments -/

theorem idx0 : ∀ t : Fin cfg0.N, win0_0.index t (0 : Fin 2) = t.val / 11 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val % 11 := (by decide +kernel : ∀ t : Fin grid0.N, _)
theorem idx3 : ∀ t : Fin cfg0.N, win0_3.index t (0 : Fin 2) = 0 ∧ win0_3.index t (1 : Fin 2) = t.val % 11 := (by decide +kernel : ∀ t : Fin grid0.N, _)
theorem idx4 : ∀ t : Fin cfg0.N, win0_4.index t (0 : Fin 2) = t.val % 11 ∧ win0_4.index t (1 : Fin 2) = 0 := (by decide +kernel : ∀ t : Fin grid0.N, _)

/-- The rows. -/
def xT (c : Dev nD) : ℕ → ℕ → EReal := tb (n0 := 8192) (n1 := 2048) (m ((c : Thread nD τ).loc main_arg0))
/-- The gain. -/
def gT (c : Dev nD) : ℕ → EReal := tv (n0 := 2048) (m ((c : Thread nD τ).loc main_arg1))
/-- The gate's weight. -/
def wgT (c : Dev nD) : ℕ → ℕ → EReal := tb (n0 := 2048) (n1 := 5632) (m ((c : Thread nD τ).loc main_arg2))
/-- The other factor's weight. -/
def wuT (c : Dev nD) : ℕ → ℕ → EReal := tb (n0 := 2048) (n1 := 5632) (m ((c : Thread nD τ).loc main_arg3))
/-- The second layer's weight. -/
def wdT (c : Dev nD) : ℕ → ℕ → EReal := tb (n0 := 5632) (n1 := 2048) (m ((c : Thread nD τ).loc main_arg4))

theorem N_lt (t : Fin cfg0.N) : t.val < 176 := lt_of_lt_of_eq t.isLt (show cfg0.N = 176 from N_0)

theorem x_apply (c : Dev nD) (t : Fin cfg0.N) (r : Fin 512) (k : Fin 2048) :
    (iblk m c 0 t : S512x2048.Idx → EReal) (ix2 r k) = xT m c (t.val / 11 * 512 + r.val) k.val := by
  obtain ⟨e0, e1⟩ := idx0 t
  have ht := N_lt t
  unfold iblk
  refine (congrArg (V m c main_arg0) (?_ : _ = ix2 (⟨t.val / 11 * 512 + r.val, by omega⟩ : Fin 8192) k)).trans ?_
  · funext a
    match a with
    | ⟨0, _⟩ => refine Fin.ext ?_; show win0_0.index t (0 : Fin 2) * 512 + 1 * r.val = t.val / 11 * 512 + r.val; omega
    | ⟨1, _⟩ => refine Fin.ext ?_; show win0_0.index t (1 : Fin 2) * 2048 + 1 * k.val = k.val; omega
  · rw [V_main_arg0]
    exact tb_eq _ _ _

theorem g_apply (c : Dev nD) (t : Fin cfg0.N) (k : Fin 2048) : (iblk m c 1 t : S1x2048.Idx → EReal) (ix2 0 k) = gT m c k.val := by
  obtain ⟨e0, e1⟩ := idx1 t
  unfold iblk
  refine (congrArg (V m c main_v0) (?_ : _ = ix2 (0 : Fin 1) k)).trans ((V_v0 m c k).trans (tv_eq _ _))
  funext a
  match a with
  | ⟨0, _⟩ => refine Fin.ext ?_; show win0_1.index t (0 : Fin 2) * 1 + 1 * 0 = 0; omega
  | ⟨1, _⟩ => refine Fin.ext ?_; show win0_1.index t (1 : Fin 2) * 2048 + 1 * k.val = k.val; omega

theorem wg_apply (c : Dev nD) (t : Fin cfg0.N) (k : Fin 2048) (j : Fin 512) :
    (iblk m c 2 t : S2048x512.Idx → EReal) (ix2 k j) = wgT m c k.val (t.val % 11 * 512 + j.val) := by
  obtain ⟨e0, e1⟩ := idx2 t
  have hm := Nat.mod_lt t.val (show 0 < 11 by decide)
  unfold iblk
  refine (congrArg (V m c main_v1) (?_ : _ = ix2 k (⟨t.val % 11 * 512 + j.val, by omega⟩ : Fin 5632))).trans ((V_v1 m c _ _).trans (tb_eq _ _ _))
  funext a
  match a with
  | ⟨0, _⟩ => refine Fin.ext ?_; show win0_2.index t (0 : Fin 2) * 2048 + 1 * k.val = k.val; omega
  | ⟨1, _⟩ => refine Fin.ext ?_; show win0_2.index t (1 : Fin 2) * 512 + 1 * j.val = t.val % 11 * 512 + j.val; omega

theorem wu_apply (c : Dev nD) (t : Fin cfg0.N) (k : Fin 2048) (j : Fin 512) :
    (iblk m c 3 t : S2048x512.Idx → EReal) (ix2 k j) = wuT m c k.val (t.val % 11 * 512 + j.val) := by
  obtain ⟨e0, e1⟩ := idx3 t
  have hm := Nat.mod_lt t.val (show 0 < 11 by decide)
  unfold iblk
  refine (congrArg (V m c main_v2) (?_ : _ = ix2 k (⟨t.val % 11 * 512 + j.val, by omega⟩ : Fin 5632))).trans ((V_v2 m c _ _).trans (tb_eq _ _ _))
  funext a
  match a with
  | ⟨0, _⟩ => refine Fin.ext ?_; show win0_3.index t (0 : Fin 2) * 2048 + 1 * k.val = k.val; omega
  | ⟨1, _⟩ => refine Fin.ext ?_; show win0_3.index t (1 : Fin 2) * 512 + 1 * j.val = t.val % 11 * 512 + j.val; omega

theorem wd_apply (c : Dev nD) (t : Fin cfg0.N) (j : Fin 512) (q : Fin 2048) :
    (iblk m c 4 t : S512x2048.Idx → EReal) (ix2 j q) = wdT m c (t.val % 11 * 512 + j.val) q.val := by
  obtain ⟨e0, e1⟩ := idx4 t
  have hm := Nat.mod_lt t.val (show 0 < 11 by decide)
  unfold iblk
  refine (congrArg (V m c main_v3) (?_ : _ = ix2 (⟨t.val % 11 * 512 + j.val, by omega⟩ : Fin 5632) q)).trans ((V_v3 m c _ _).trans (tb_eq _ _ _))
  funext a
  match a with
  | ⟨0, _⟩ => refine Fin.ext ?_; show win0_4.index t (0 : Fin 2) * 512 + 1 * j.val = t.val % 11 * 512 + j.val; omega
  | ⟨1, _⟩ => refine Fin.ext ?_; show win0_4.index t (1 : Fin 2) * 2048 + 1 * q.val = q.val; omega

end Cert.FfnIdeal.Hand

end
-- ==== Proof.FfnValue.lean ====
module

public import proofs.«01_k».proof.Proof.FfnBlocks

@[expose] public section

set_option maxRecDepth 16384

noncomputable section

namespace Cert.FfnIdeal.Hand

open Cert.FfnIdeal Cert.FfnIdeal.Gen Cert.Proof.Tables
open Idealize.ShloMosaic Idealize.ShloMosaic.TcCoe Idealize.SL.Sem
open Idealize.ShloMosaic.Pipeline (Dat)

variable (m : (ℓ : Loc nD τ sig) → Buf (Elt Ideal) ℓ)

/-! ## The result as tables -/

/-- The normalised rows. -/
def hT (c : Dev nD) (R k : ℕ) : EReal := nrm 2048 (Ideal.ofBits FTy.f32 0x45000000#32) (xT m c R) (gT m c) k

/-- Column `j`'s part of the result. -/
def term (c : Dev nD) (R q j : ℕ) : EReal :=
  glu (∑ k : Fin 2048, hT m c R k.val * wgT m c k.val j) (∑ k : Fin 2048, hT m c R k.val * wuT m c k.val j) * wdT m c j q

/-- The normalised block at a point. -/
theorem norm_apply (c : Dev nD) (t : Fin cfg0.N) (r : Fin 512) (k : Fin 2048) :
    k0_pay3 (F := Ideal) (iblk m c 0 t) (iblk m c 1 t) (ix2 r k) = hT m c (t.val / 11 * 512 + r.val) k.val := by
  rw [pay3_apply]
  exact nrm_congr (fun j => (tb_eq (iblk m c 0 t : S512x2048.Idx → EReal) r j).symm.trans (x_apply m c t r j))
    (fun j => (tb_eq (iblk m c 1 t : S1x2048.Idx → EReal) (0 : Fin 1) j).symm.trans (g_apply m c t j)) k

/-- The accumulator after a point's step. -/
def acc' (c : Dev nD) (t : Fin cfg0.N) (h : Vec Ideal S512x2048 .bf16) (acc : Vec Ideal S512x2048 .f32) : Vec Ideal S512x2048 .f32 :=
  k0_pay1 (k0_pay5 h
        (View.ld (iblk m c 2 t) (Rect.unit ![0, 0] ![2048, 256] inb_S2048x512_S2048x256_0_0))
        (View.ld (iblk m c 3 t) (Rect.unit ![0, 0] ![2048, 256] inb_S2048x512_S2048x256_0_0))
        (View.ld (iblk m c 4 t) (Rect.unit ![0, 0] ![256, 2048] inb_S512x2048_S256x2048_0_0))
        (View.ld (iblk m c 2 t) (Rect.unit ![0, 256] ![2048, 256] inb_S2048x512_S2048x256_0_256))
        (View.ld (iblk m c 3 t) (Rect.unit ![0, 256] ![2048, 256] inb_S2048x512_S2048x256_0_256))
        (View.ld (iblk m c 4 t) (Rect.unit ![256, 0] ![256, 2048] inb_S512x2048_S256x2048_256_0)) acc)

/-- A step adds the parts of its 512 columns. -/
theorem acc'_apply (c : Dev nD) (t : Fin cfg0.N) (h : Vec Ideal S512x2048 .bf16) (acc : Vec Ideal S512x2048 .f32)
    (hh : ∀ (r : Fin 512) (k : Fin 2048), h (ix2 r k) = hT m c (t.val / 11 * 512 + r.val) k.val) (r : Fin 512) (q : Fin 2048) :
    acc' m c t h acc (ix2 r q) = acc (ix2 r q) + ∑ j ∈ Finset.range 512, term m c (t.val / 11 * 512 + r.val) q.val (t.val % 11 * 512 + j) := by
  unfold acc'
  rw [pay1_apply, pay5_apply]
  refine Eq.trans ?_ (congrArg₂ _ rfl (Finset.sum_range_add (fun j => term m c (t.val / 11 * 512 + r.val) q.val (t.val % 11 * 512 + j)) 256 256).symm)
  rw [Finset.sum_range, Finset.sum_range]
  refine congrArg₂ _ rfl (congrArg₂ _ (Finset.sum_congr rfl fun j _ => ?_) (Finset.sum_congr rfl fun j _ => ?_))
  · unfold term
    refine congrArg₂ _ (congrArg₂ glu (Finset.sum_congr rfl fun k _ => congrArg₂ _ (hh r k) ?_) (Finset.sum_congr rfl fun k _ => congrArg₂ _ (hh r k) ?_)) ?_
    · exact (ld2 (n0 := 2048) (n1 := 512) (k0 := 2048) (k1 := 256) (iblk m c 2 t) 0 0 _ k j k ⟨j.val, by omega⟩ (Nat.zero_add _).symm (Nat.zero_add _).symm).trans (wg_apply m c t k _)
    · exact (ld2 (n0 := 2048) (n1 := 512) (k0 := 2048) (k1 := 256) (iblk m c 3 t) 0 0 _ k j k ⟨j.val, by omega⟩ (Nat.zero_add _).symm (Nat.zero_add _).symm).trans (wu_apply m c t k _)
    · exact (ld2 (n0 := 512) (n1 := 2048) (k0 := 256) (k1 := 2048) (iblk m c 4 t) 0 0 _ j q ⟨j.val, by omega⟩ q (Nat.zero_add _).symm (Nat.zero_add _).symm).trans (wd_apply m c t _ q)
  · unfold term
    refine congrArg₂ _ (congrArg₂ glu (Finset.sum_congr rfl fun k _ => congrArg₂ _ (hh r k) ?_) (Finset.sum_congr rfl fun k _ => congrArg₂ _ (hh r k) ?_)) ?_
    · exact (ld2 (n0 := 2048) (n1 := 512) (k0 := 2048) (k1 := 256) (iblk m c 2 t) 0 256 _ k j k ⟨256 + j.val, by omega⟩ (Nat.zero_add _).symm rfl).trans (wg_apply m c t k _)
    · exact (ld2 (n0 := 2048) (n1 := 512) (k0 := 2048) (k1 := 256) (iblk m c 3 t) 0 256 _ k j k ⟨256 + j.val, by omega⟩ (Nat.zero_add _).symm rfl).trans (wu_apply m c t k _)
    · exact (ld2 (n0 := 512) (n1 := 2048) (k0 := 256) (k1 := 2048) (iblk m c 4 t) 256 0 _ j q ⟨256 + j.val, by omega⟩ q rfl (Nat.zero_add _).symm).trans (wd_apply m c t _ q)

/-! ## What each point leaves -/

theorem h_A (c : Dev nD) (t : Fin cfg0.N) (h0 : t.val % 11 = 0) (h1 : ¬t.val % 11 = 10) :
    (outsAt0 m c t.val t.isLt).2.1 = k0_pay3 (F := Ideal) (iblk m c 0 t) (iblk m c 1 t) := by
  rw [outsAt0_A m c t h0 h1]
  dsimp only
  frame_out

theorem acc_A (c : Dev nD) (t : Fin cfg0.N) (h0 : t.val % 11 = 0) (h1 : ¬t.val % 11 = 10) :
    (outsAt0 m c t.val t.isLt).2.2 = acc' m c t (k0_pay3 (F := Ideal) (iblk m c 0 t) (iblk m c 1 t)) (k0_pay4 (F := Ideal)) := by
  rw [outsAt0_A m c t h0 h1]
  dsimp only
  frame_out
  rfl

theorem h_B (c : Dev nD) (t : Fin cfg0.N) (h0 : ¬t.val % 11 = 0) (h1 : ¬t.val % 11 = 10) :
    (outsAt0 m c t.val t.isLt).2.1 = (outsAt0 m c (t.val - 1) (Nat.lt_of_le_of_lt (Nat.sub_le _ _) t.isLt)).2.1 := by
  rw [outsAt0_B m c t h0 h1]
  dsimp only
  generalize (outsAt0 m c (t.val - 1) _).2.1 = h, (outsAt0 m c (t.val - 1) _).2.2 = acc
  rfl

theorem acc_B (c : Dev nD) (t : Fin cfg0.N) (h0 : ¬t.val % 11 = 0) (h1 : ¬t.val % 11 = 10) :
    (outsAt0 m c t.val t.isLt).2.2 = acc' m c t (outsAt0 m c (t.val - 1) (Nat.lt_of_le_of_lt (Nat.sub_le _ _) t.isLt)).2.1 (outsAt0 m c (t.val - 1) (Nat.lt_of_le_of_lt (Nat.sub_le _ _) t.isLt)).2.2 := by
  rw [outsAt0_B m c t h0 h1]
  dsimp only
  generalize (outsAt0 m c (t.val - 1) _).2.1 = h, (outsAt0 m c (t.val - 1) _).2.2 = acc
  frame_out
  simp only [read_unread_whole]
  rfl

theorem out_C (c : Dev nD) (t : Fin cfg0.N) (h0 : ¬t.val % 11 = 0) (h1 : t.val % 11 = 10) :
    (outsAt0 m c t.val t.isLt).1 = k0_pay2 (iblk m c 0 t) (acc' m c t (outsAt0 m c (t.val - 1) (Nat.lt_of_le_of_lt (Nat.sub_le _ _) t.isLt)).2.1 (outsAt0 m c (t.val - 1) (Nat.lt_of_le_of_lt (Nat.sub_le _ _) t.isLt)).2.2) := by
  rw [outsAt0_C m c t h0 h1]
  dsimp only
  generalize (outsAt0 m c (t.val - 1) _).2.1 = h, (outsAt0 m c (t.val - 1) _).2.2 = acc
  frame_out
  simp only [read_unread_whole]
  rfl

/-- What is carried after the points that do not end a row block. -/
theorem carried (c : Dev nD) : ∀ (n : ℕ) (hn : n < cfg0.N), n % 11 ≠ 10 →
    (∀ (r : Fin 512) (k : Fin 2048), (outsAt0 m c n hn).2.1 (ix2 r k) = hT m c (n / 11 * 512 + r.val) k.val)
    ∧ ∀ (r : Fin 512) (q : Fin 2048), (outsAt0 m c n hn).2.2 (ix2 r q) = ∑ j ∈ Finset.range ((n % 11 + 1) * 512), term m c (n / 11 * 512 + r.val) q.val j := by
  intro n
  induction n with
  | zero =>
    intro hn h1
    have hA := acc_A m c ⟨0, hn⟩ (Nat.zero_mod _) (by show ¬(0 % 11 = 10); omega)
    have hH := h_A m c ⟨0, hn⟩ (Nat.zero_mod _) (by show ¬(0 % 11 = 10); omega)
    refine ⟨fun r k => (congrFun hH (ix2 r k)).trans (norm_apply m c ⟨0, hn⟩ r k), fun r q => (congrFun hA (ix2 r q)).trans ?_⟩
    rw [acc'_apply m c _ _ _ (fun r k => norm_apply m c ⟨0, hn⟩ r k), pay4_apply, zero_add]
    refine Finset.sum_congr rfl fun j _ => ?_
    show term m c (0 / 11 * 512 + r.val) q.val (0 % 11 * 512 + j) = _
    rw [Nat.zero_mod, Nat.zero_mul, Nat.zero_add, Nat.zero_add]
  | succ n ih =>
    intro hn h1
    by_cases h0 : (n + 1) % 11 = 0
    · have hA := acc_A m c ⟨n + 1, hn⟩ h0 h1
      have hH := h_A m c ⟨n + 1, hn⟩ h0 h1
      refine ⟨fun r k => (congrFun hH (ix2 r k)).trans (norm_apply m c ⟨n + 1, hn⟩ r k), fun r q => (congrFun hA (ix2 r q)).trans ?_⟩
      rw [acc'_apply m c _ _ _ (fun r k => norm_apply m c ⟨n + 1, hn⟩ r k), pay4_apply, zero_add]
      show ∑ j ∈ Finset.range 512, term m c ((n + 1) / 11 * 512 + r.val) q.val ((n + 1) % 11 * 512 + j) = _
      rw [h0]
      refine Finset.sum_congr rfl fun j _ => ?_
      rw [Nat.zero_mul, Nat.zero_add]
    · obtain ⟨i1, i2⟩ := ih (Nat.lt_of_succ_lt hn) (by omega)
      have hd : (n + 1) / 11 = n / 11 := by omega
      have hm : (n + 1) % 11 = n % 11 + 1 := by omega
      have hA := acc_B m c ⟨n + 1, hn⟩ h0 h1
      have hH := h_B m c ⟨n + 1, hn⟩ h0 h1
      have hk : ∀ (r : Fin 512) (k : Fin 2048), (outsAt0 m c n (Nat.lt_of_succ_lt hn)).2.1 (ix2 r k) = hT m c ((n + 1) / 11 * 512 + r.val) k.val := fun r k => by rw [hd]; exact i1 r k
      refine ⟨fun r k => (congrFun hH (ix2 r k)).trans (hk r k), fun r q => (congrFun hA (ix2 r q)).trans ?_⟩
      refine (acc'_apply m c ⟨n + 1, hn⟩ _ _ hk r q).trans ?_
      refine (congrArg₂ _ (i2 r q) rfl).trans ?_
      show _ + ∑ j ∈ Finset.range 512, term m c ((n + 1) / 11 * 512 + r.val) q.val ((n + 1) % 11 * 512 + j) = _
      rw [hd, hm, Nat.add_mul (n % 11 + 1) 1 512, Nat.one_mul, Finset.sum_range_add]

/-- What a point that ends a row block writes. -/
theorem written (c : Dev nD) (t : Fin cfg0.N) (h1 : t.val % 11 = 10) (r : Fin 512) (q : Fin 2048) :
    (outsAt0 m c t.val t.isLt).1 (ix2 r q) = xT m c (t.val / 11 * 512 + r.val) q.val + ∑ j ∈ Finset.range 5632, term m c (t.val / 11 * 512 + r.val) q.val j := by
  obtain ⟨n, hn⟩ := t
  obtain ⟨n, rfl⟩ : ∃ k, n = k + 1 := ⟨n - 1, by show n = n - 1 + 1; have : n % 11 = 10 := h1; omega⟩
  have h1' : (n + 1) % 11 = 10 := h1
  have hd : (n + 1) / 11 = n / 11 := by omega
  obtain ⟨i1, i2⟩ := carried m c n (Nat.lt_of_succ_lt hn) (by omega)
  rw [out_C m c ⟨n + 1, hn⟩ (by show ¬ (n + 1) % 11 = 0; omega) h1, pay2_apply, x_apply]
  have hk : ∀ (r : Fin 512) (k : Fin 2048), (outsAt0 m c n (Nat.lt_of_succ_lt hn)).2.1 (ix2 r k) = hT m c ((n + 1) / 11 * 512 + r.val) k.val := fun r k => by rw [hd]; exact i1 r k
  refine congrArg₂ _ rfl ?_
  refine (acc'_apply m c ⟨n + 1, hn⟩ _ _ hk r q).trans ?_
  refine (congrArg₂ _ (i2 r q) rfl).trans ?_
  show _ + ∑ j ∈ Finset.range 512, term m c ((n + 1) / 11 * 512 + r.val) q.val ((n + 1) % 11 * 512 + j) = ∑ j ∈ Finset.range 5632, term m c ((n + 1) / 11 * 512 + r.val) q.val j
  rw [hd, h1', show n % 11 = 9 by omega, show (5632 : ℕ) = (9 + 1) * 512 + 512 from rfl, Finset.sum_range_add]

/-- The array the kernel leaves. -/
def Gy (c : Dev nD) : S8192x2048.Idx → EReal := fun i => xT m c (i 0).val (i 1).val + ∑ j ∈ Finset.range 5632, term m c (i 0).val (i 1).val j

/-- The generated array is it. -/
theorem G5_eq (c : Dev nD) : Cert.FfnIdeal.Value.G5 m c = Gy m c := by
  funext i
  have h0 : (i 0).val < 8192 := (i 0).isLt
  have h1 : (i 1).val < 2048 := (i 1).isLt
  have hp : 11 * (1 * ((i 0).val / 512 - 0) + 1 * ((i 1).val / 2048 - 0)) + 10 = 11 * ((i 0).val / 512) + 10 := by omega
  have hN : Cert.FfnIdeal.Value.pt5Of i < cfg0.N := by
    rw [show cfg0.N = 176 from N_0]; show 11 * (1 * ((i 0).val / 512 - 0) + 1 * ((i 1).val / 2048 - 0)) + 10 < 176; omega
  unfold Cert.FfnIdeal.Value.G5
  rw [dif_pos hN]
  refine (congrFun (congrArg Prod.fst (Cert.FfnIdeal.Value.outsAt0_sweep m c _ hN).symm) _).trans ?_
  have hl : Cert.FfnIdeal.Value.loc5Of i = ix2 (⟨(i 0).val % 512, Nat.mod_lt _ (by decide)⟩ : Fin 512) (⟨(i 1).val % 2048, Nat.mod_lt _ (by decide)⟩ : Fin 2048) := by
    funext a; match a with | ⟨0, _⟩ => rfl | ⟨1, _⟩ => rfl
  rw [hl]
  refine (written m c ⟨_, hN⟩ (by show (11 * (1 * ((i 0).val / 512 - 0) + 1 * ((i 1).val / 2048 - 0)) + 10) % 11 = 10; omega) _ _).trans ?_
  have e0 : (11 * (1 * ((i 0).val / 512 - 0) + 1 * ((i 1).val / 2048 - 0)) + 10) / 11 * 512 + (i 0).val % 512 = (i 0).val := by omega
  have e1 : (i 1).val % 2048 = (i 1).val := by omega
  show xT m c ((11 * (1 * ((i 0).val / 512 - 0) + 1 * ((i 1).val / 2048 - 0)) + 10) / 11 * 512 + (i 0).val % 512) ((i 1).val % 2048)
    + ∑ j ∈ Finset.range 5632, term m c ((11 * (1 * ((i 0).val / 512 - 0) + 1 * ((i 1).val / 2048 - 0)) + 10) / 11 * 512 + (i 0).val % 512) ((i 1).val % 2048) j = _
  rw [e0, e1]
  rfl

end Cert.FfnIdeal.Hand

end
-- ==== Proof.FfnRef.lean ====
module

public import proofs.«01_k».proof.Proof.Gen.FfnRefIdeal.Read
public import proofs.«01_k».proof.Proof.Tables

@[expose] public section

set_option maxRecDepth 16384

noncomputable section

namespace Cert.FfnRefIdeal.Hand

open Cert.FfnRefIdeal Cert.FfnRefIdeal.Gen Cert.FfnRefIdeal.Read Cert.Proof.Tables
open Idealize.ShloMosaic

variable (x0 : FVec Ideal S8192x2048 .f32) (x1 : FVec Ideal S2048 .f32) (x2 x3 : FVec Ideal S2048x5632 .f32) (x4 : FVec Ideal S5632x2048 .f32)

/-- The sum of a row's squares. -/
theorem v1_apply (r : Fin 8192) : val_main_v1 (F := Ideal) x0 (ix1 r) = ∑ j : Fin 2048, tb (n0 := 8192) (n1 := 2048) x0 r.val j.val * tb (n0 := 8192) (n1 := 2048) x0 r.val j.val := by
  refine (val_main_v1_apply x0 (ix1 r)).trans ?_
  rw [val_main_cst_apply]
  show Ideal.ofBits .f32 0x00000000#32 + _ = _
  rw [Ideal.ofBits_zero_f32, zero_add]
  refine Finset.sum_congr rfl fun k _ => ?_
  have hi : idx_main_v1 (ix1 r) k = ix2 r k := funext fun a => match a with | ⟨0, _⟩ => rfl | ⟨1, _⟩ => rfl
  rw [hi, val_main_v0_apply]
  exact congrArg₂ (fun a b : EReal => a * b) (tb_eq x0 r k) (tb_eq x0 r k)

/-- The normalised rows. -/
theorem v12_apply (r : Fin 8192) (k : Fin 2048) :
    val_main_v12 (F := Ideal) x0 x1 (ix2 r k) = nrm 2048 (Ideal.ofBits FTy.f32 0x45000000#32) (tb (n0 := 8192) (n1 := 2048) x0 r.val) (tv (n0 := 2048) x1) k.val := by
  have e8 : idx_main_v8 (ix2 r k) = ix2 r (0 : Fin 1) := funext fun a => match a with | ⟨0, _⟩ => rfl | ⟨1, _⟩ => rfl
  have e2 : idx_main_v2 (ix2 r (0 : Fin 1)) = ix1 r := funext fun a => match a with | ⟨0, _⟩ => rfl
  have e11 : idx_main_v11 (ix2 r k) = ix2 (0 : Fin 1) k := funext fun a => match a with | ⟨0, _⟩ => rfl | ⟨1, _⟩ => rfl
  have e10 : idx_main_v10 (ix2 (0 : Fin 1) k) = ix1 k := funext fun a => match a with | ⟨0, _⟩ => rfl
  rw [val_main_v12_apply, val_main_v9_apply, val_main_v8_apply, e8, val_main_v7_apply, val_main_v6_apply, val_main_v4_apply, val_main_v2_apply, e2, v1_apply,
    val_main_v3_apply, val_main_cst_0_apply, val_main_v5_apply, val_main_cst_1_apply, val_main_v11_apply, e11, val_main_v10_apply, e10, tb_eq x0 r k, tv_eq x1 k]
  rfl

/-- The gate's projection. -/
theorem v13_apply (r : Fin 8192) (j : Fin 5632) :
    val_main_v13 (F := Ideal) x0 x1 x2 (ix2 r j) = ∑ k : Fin 2048, nrm 2048 (Ideal.ofBits FTy.f32 0x45000000#32) (tb (n0 := 8192) (n1 := 2048) x0 r.val) (tv (n0 := 2048) x1) k.val * tb (n0 := 2048) (n1 := 5632) x2 k.val j.val := by
  refine (val_main_v13_apply x0 x1 x2 (ix2 r j)).trans (Finset.sum_congr rfl fun k _ => ?_)
  have el : lidx_main_v13 (ix2 r j) k = ix2 r k := funext fun a => match a with | ⟨0, _⟩ => rfl | ⟨1, _⟩ => rfl
  have er : ridx_main_v13 (ix2 r j) k = ix2 k j := funext fun a => match a with | ⟨0, _⟩ => rfl | ⟨1, _⟩ => rfl
  rw [el, er, v12_apply]
  exact congrArg₂ (fun a b : EReal => a * b) rfl (tb_eq x2 k j)

/-- The other factor's projection. -/
theorem v15_apply (r : Fin 8192) (j : Fin 5632) :
    val_main_v15 (F := Ideal) x0 x1 x3 (ix2 r j) = ∑ k : Fin 2048, nrm 2048 (Ideal.ofBits FTy.f32 0x45000000#32) (tb (n0 := 8192) (n1 := 2048) x0 r.val) (tv (n0 := 2048) x1) k.val * tb (n0 := 2048) (n1 := 5632) x3 k.val j.val := by
  refine (val_main_v15_apply x0 x1 x3 (ix2 r j)).trans (Finset.sum_congr rfl fun k _ => ?_)
  have el : lidx_main_v15 (ix2 r j) k = ix2 r k := funext fun a => match a with | ⟨0, _⟩ => rfl | ⟨1, _⟩ => rfl
  have er : ridx_main_v15 (ix2 r j) k = ix2 k j := funext fun a => match a with | ⟨0, _⟩ => rfl | ⟨1, _⟩ => rfl
  rw [el, er, v12_apply]
  exact congrArg₂ (fun a b : EReal => a * b) rfl (tb_eq x3 k j)

/-- The activation's quotient. -/
theorem call_apply (i : S8192x5632.Idx) : val_main_call0_v5 (F := Ideal) x0 x1 x2 i = Ideal.logistic (val_main_v13 (F := Ideal) x0 x1 x2 i) := by
  rw [val_main_call0_v5_apply, val_main_call0_v4_apply, val_main_call0_cst_0_apply, val_main_call0_v3_apply, val_main_call0_v2_apply, val_main_call0_cst_apply, val_main_call0_v1_apply, val_main_call0_v0_apply]
  generalize val_main_v13 (F := Ideal) x0 x1 x2 i = y
  show Ideal.div (Ideal.ofBits FTy.f32 0x3F800000#32) (Ideal.ofBits FTy.f32 0x3F800000#32 + Ideal.exp (-y)) = Ideal.div 1 (1 + Ideal.exp (-y))
  rw [Ideal.ofBits_one_f32]

/-- The gated product. -/
theorem v16_apply (r : Fin 8192) (j : Fin 5632) :
    val_main_v16 (F := Ideal) x0 x1 x2 x3 (ix2 r j) = glu (∑ k : Fin 2048, nrm 2048 (Ideal.ofBits FTy.f32 0x45000000#32) (tb (n0 := 8192) (n1 := 2048) x0 r.val) (tv (n0 := 2048) x1) k.val * tb (n0 := 2048) (n1 := 5632) x2 k.val j.val)
      (∑ k : Fin 2048, nrm 2048 (Ideal.ofBits FTy.f32 0x45000000#32) (tb (n0 := 8192) (n1 := 2048) x0 r.val) (tv (n0 := 2048) x1) k.val * tb (n0 := 2048) (n1 := 5632) x3 k.val j.val) := by
  rw [val_main_v16_apply, val_main_v14_apply, call_apply, v13_apply, v15_apply]
  rfl

/-- The result. -/
theorem v18_apply (r : Fin 8192) (q : Fin 2048) :
    val_main_v18 (F := Ideal) x0 x1 x2 x3 x4 (ix2 r q) = tb (n0 := 8192) (n1 := 2048) x0 r.val q.val + ∑ j : Fin 5632,
      glu (∑ k : Fin 2048, nrm 2048 (Ideal.ofBits FTy.f32 0x45000000#32) (tb (n0 := 8192) (n1 := 2048) x0 r.val) (tv (n0 := 2048) x1) k.val * tb (n0 := 2048) (n1 := 5632) x2 k.val j.val)
        (∑ k : Fin 2048, nrm 2048 (Ideal.ofBits FTy.f32 0x45000000#32) (tb (n0 := 8192) (n1 := 2048) x0 r.val) (tv (n0 := 2048) x1) k.val * tb (n0 := 2048) (n1 := 5632) x3 k.val j.val)
      * tb (n0 := 5632) (n1 := 2048) x4 j.val q.val := by
  rw [val_main_v18_apply]
  refine congrArg₂ (fun a b : EReal => a + b) (tb_eq x0 r q) ?_
  refine (val_main_v17_apply x0 x1 x2 x3 x4 (ix2 r q)).trans (Finset.sum_congr rfl fun j _ => ?_)
  have el : lidx_main_v17 (ix2 r q) j = ix2 r j := funext fun a => match a with | ⟨0, _⟩ => rfl | ⟨1, _⟩ => rfl
  have er : ridx_main_v17 (ix2 r q) j = ix2 j q := funext fun a => match a with | ⟨0, _⟩ => rfl | ⟨1, _⟩ => rfl
  rw [el, er, v16_apply]
  exact congrArg₂ (fun a b : EReal => a * b) rfl (tb_eq x4 j q)

end Cert.FfnRefIdeal.Hand

end
-- ==== Proof.FfnClaim.lean ====
module

public import proofs.«01_k».proof.Defs
public import proofs.«01_k».proof.Proof.FfnValue
public import proofs.«01_k».proof.Proof.FfnRef
public import proofs.«01_k».proof.Proof.Gen.FfnRefIdeal.Run

@[expose] public section

set_option maxRecDepth 16384

noncomputable section

namespace Cert.Proof.Ffn

open Idealize.ShloMosaic Idealize.ShloMosaic.TcCoe Idealize.SL.Sem
open Cert.FfnIdeal.Hand (Gy)

/-- The reference's array is the one the kernel leaves, on the same arguments. -/
theorem ref_y (m : (ℓ : Loc Cert.FfnIdeal.nD Cert.FfnIdeal.τ Cert.FfnIdeal.sig) → Buf (Elt Ideal) ℓ) (c : Dev Cert.FfnIdeal.nD) :
    Cert.FfnRefIdeal.Read.val_main_v18 (F := Ideal) (m ((c.tc : Thread _ _).loc Cert.FfnIdeal.main_arg0)) (m ((c.tc : Thread _ _).loc Cert.FfnIdeal.main_arg1))
      (m ((c.tc : Thread _ _).loc Cert.FfnIdeal.main_arg2)) (m ((c.tc : Thread _ _).loc Cert.FfnIdeal.main_arg3)) (m ((c.tc : Thread _ _).loc Cert.FfnIdeal.main_arg4)) = Gy m c := by
  funext i
  obtain ⟨r, q, rfl⟩ : ∃ (r : Fin 8192) (q : Fin 2048), i = ix2 r q := ⟨i 0, i 1, by funext a; match a with | ⟨0, _⟩ => rfl | ⟨1, _⟩ => rfl⟩
  rw [Cert.FfnRefIdeal.Hand.v18_apply]
  unfold Gy
  rw [Finset.sum_range]
  rfl

/-- Over the reals the kernel and the reference leave the same array. -/
theorem algebraic : Cert.algebraic_FfnIdeal_FfnRefIdeal := by
  intro m g m' g' _ hag
  refine ⟨fun c => Gy m c, ?_, ?_⟩
  · refine (θ_run _ _ _).mono (fun r h c => ?_) (Cert.FfnIdeal.Value.run (F := Ideal) m g)
    exact ⟨(h c).1.trans (Cert.FfnIdeal.Hand.G5_eq m c), (h c).2⟩
  · refine (θ_run _ _ _).mono (fun r h c => ?_) (Cert.FfnRefIdeal.Value.run (F := Ideal) m' g')
    obtain ⟨a0, a1, a2, a3, a4⟩ := hag c
    obtain ⟨h0, hk⟩ := h c
    refine ⟨h0.trans ((Cert.FfnRefIdeal.Read.val_main_v18_eq _ _ _ _ _).trans (?_ : _ = Gy m c)), hk⟩
    rw [a0, a1, a2, a3, a4]
    exact ref_y m c

end Cert.Proof.Ffn

end
-- ==== Proof.PrepSpec.lean ====
module

public import proofs.«01_k».proof.Proof.SsdSpec
public import proofs.«01_k».proof.Proof.Tables

@[expose] public section

noncomputable section

/-! # The new cache rows, on tables indexed by natural numbers -/

namespace Cert.Proof.PrepSpec

open Idealize.ShloMosaic Cert.Proof.Tables

/-- The literal a head's sum of squares is divided by. -/
def cnt : EReal := Ideal.ofBits FTy.f32 0x42800000#32

/-- A key of row `R`, at place `q` of four heads of 64: its head, which starts at column `off + q / 64 * 64`, divided by the root of its mean square, times the gain. -/
def key (u : ℕ → ℕ → EReal) (off : ℕ) (g : ℕ → EReal) (R q : ℕ) : EReal := nrm 64 cnt (fun j => u R (off + q / 64 * 64 + j)) g (q % 64)

/-- The new key rows: the compressed branch's keys as they are, then the selected branch's keys. -/
def newK (u g : ℕ → ℕ → EReal) (R C : ℕ) : EReal := if C < 256 then u R C else key u 512 (g 1) R (C - 256)

/-- The new value rows: the compressed branch's values, then the selected branch's. -/
def newV (u : ℕ → ℕ → EReal) (R C : ℕ) : EReal := if C < 256 then u R (256 + C) else u R (512 + C)

/-- The window branch's keys. -/
def winK (u g : ℕ → ℕ → EReal) (R q : ℕ) : EReal := key u 1024 (g 2) R q

/-- The window branch's values in the last 512 rows of sequence `b`. -/
def winV (u : ℕ → ℕ → EReal) (b t q : ℕ) : EReal := u (b * 4096 + (3584 + t)) (1280 + q)

end Cert.Proof.PrepSpec

end
-- ==== Proof.PrepMath.lean ====
module

public import proofs.«01_k».proof.Proof.PrepSpec

@[expose] public section

set_option maxRecDepth 16384

noncomputable section

/-! # A head's mean square as a product with an averaging matrix -/

namespace Cert.Proof.PrepMath

open Idealize.ShloMosaic Cert.Proof.Tables Cert.Proof.PrepSpec

/-- The entry of the averaging matrix within a head. -/
def wgt : EReal := Ideal.ofBits FTy.f32 0x3C800000#32

theorem wgt_eq : wgt = (((1 : ℝ) / 64 : ℝ) : EReal) := by
  unfold wgt
  simp [Ideal.ofBits, Ideal.ieee, -EReal.coe_mul]; norm_num

theorem cnt_eq : cnt = ((64 : ℝ) : EReal) := by
  unfold cnt
  simp [Ideal.ofBits, Ideal.ieee, -EReal.coe_mul]; norm_num

/-- A number whose absolute value is below the literal of infinity is real. -/
theorem real_of_lt {x : EReal} (h : max x (-x) < Ideal.ofBits FTy.f32 0x7F800000#32) : ∃ r : ℝ, x = (r : EReal) := by
  have hi : Ideal.ofBits FTy.f32 0x7F800000#32 = ⊤ := by simp [Ideal.ofBits, Ideal.ieee]
  rw [hi] at h
  induction x with
  | bot => simp at h
  | top => simp at h
  | coe r => exact ⟨r, rfl⟩

/-- A sum of reals taken among the extended reals. -/
theorem coe_sum {n : ℕ} (f : Fin n → ℝ) : ((∑ k, f k : ℝ) : EReal) = ∑ k, (f k : EReal) := by
  induction n with
  | zero => rw [Fin.sum_univ_zero, Fin.sum_univ_zero, EReal.coe_zero]
  | succ n ih => rw [Fin.sum_univ_succ, Fin.sum_univ_succ, EReal.coe_add, ih]

/-- A sum over 256 places that keeps one head is the sum over the head. -/
theorem sum_head (s : ℕ → ℝ) (h : ℕ) (hh : h < 4) :
    (∑ k : Fin 256, s k.val * (if k.val / 64 = h then (1 : ℝ) / 64 else 0)) = (∑ j : Fin 64, s (h * 64 + j.val)) * (1 / 64) := by
  rw [Finset.sum_mul]
  have e : ∀ k : Fin 256, s k.val * (if k.val / 64 = h then (1 : ℝ) / 64 else 0) = if k.val / 64 = h then s k.val * (1 / 64) else 0 := by
    intro k; split_ifs <;> simp
  rw [Finset.sum_congr rfl fun k _ => e k, ← Finset.sum_filter]
  refine (Finset.sum_bij (fun (j : Fin 64) _ => (⟨h * 64 + j.val, by omega⟩ : Fin 256)) ?_ ?_ ?_ ?_).symm
  · intro j _
    simp only [Finset.mem_filter, Finset.mem_univ, true_and]
    omega
  · intro a _ b _ hab
    have := congrArg Fin.val hab
    exact Fin.ext (by dsimp only at this; omega)
  · intro k hk
    simp only [Finset.mem_filter, Finset.mem_univ, true_and] at hk
    exact ⟨⟨k.val - h * 64, by omega⟩, Finset.mem_univ _, Fin.ext (by dsimp only; omega)⟩
  · intro j _
    rfl

/-- The product of the squares, cut in two parts, with the averaging matrix is the head's mean square, on real entries. -/
theorem mean_eq (x : ℕ → EReal) (h : ℕ) (hh : h < 4) (hx : ∀ k : Fin 256, ∃ r : ℝ, x k.val = (r : EReal)) :
    (∑ k : Fin 256, x k.val * x k.val * (if k.val / 64 = h then wgt else 0)) + (∑ k : Fin 256, (x k.val * x k.val - x k.val * x k.val) * (if k.val / 64 = h then wgt else 0))
      = Ideal.div (∑ j : Fin 64, x (h * 64 + j.val) * x (h * 64 + j.val)) cnt := by
  have hr : ∃ r : ℕ → ℝ, ∀ k : ℕ, k < 256 → x k = (r k : EReal) :=
    ⟨fun k => (x k).toReal, fun k hk => by obtain ⟨r, hr⟩ := hx ⟨k, hk⟩; dsimp only at hr ⊢; rw [hr, EReal.toReal_coe]⟩
  obtain ⟨r, hr⟩ := hr
  have h1 : ∀ k : Fin 256, x k.val * x k.val * (if k.val / 64 = h then wgt else 0) = ((r k.val * r k.val * (if k.val / 64 = h then (1 : ℝ) / 64 else 0) : ℝ) : EReal) := by
    intro k
    rw [hr k.val k.isLt, wgt_eq]
    split_ifs
    · rw [EReal.coe_mul, EReal.coe_mul]
    · rw [mul_zero, mul_zero, EReal.coe_zero]
  have h2 : ∀ k : Fin 256, (x k.val * x k.val - x k.val * x k.val) * (if k.val / 64 = h then wgt else 0) = 0 := by
    intro k
    rw [hr k.val k.isLt, ← EReal.coe_mul, ← EReal.coe_sub, sub_self, EReal.coe_zero, zero_mul]
  have h3 : ∀ j : Fin 64, x (h * 64 + j.val) * x (h * 64 + j.val) = ((r (h * 64 + j.val) * r (h * 64 + j.val) : ℝ) : EReal) := by
    intro j
    rw [hr _ (by omega), EReal.coe_mul]
  rw [Finset.sum_congr rfl fun k _ => h1 k, Finset.sum_congr rfl fun k _ => h2 k, Finset.sum_congr rfl fun j _ => h3 j, Finset.sum_const_zero, add_zero, cnt_eq,
    Ideal.div_coe (by norm_num), ← coe_sum, ← coe_sum, ← EReal.coe_mul]
  exact congrArg _ (sum_head (fun k => r k * r k) h hh)

/-- The body's key at place `q`: the entry times the reciprocal root of the product with the averaging matrix, times the gain. -/
theorem key_eq (u : ℕ → ℕ → EReal) (off : ℕ) (g : ℕ → EReal) (R : ℕ) (q : Fin 256) (hx : ∀ k : Fin 256, ∃ r : ℝ, u R (off + k.val) = (r : EReal)) :
    u R (off + q.val) * Ideal.rsqrt ((∑ k : Fin 256, u R (off + k.val) * u R (off + k.val) * (if k.val / 64 = q.val / 64 then wgt else 0))
      + (∑ k : Fin 256, (u R (off + k.val) * u R (off + k.val) - u R (off + k.val) * u R (off + k.val)) * (if k.val / 64 = q.val / 64 then wgt else 0)) + eps) * g (q.val % 64)
      = key u off g R q.val := by
  have hq := q.isLt
  rw [mean_eq (fun k => u R (off + k)) (q.val / 64) (by omega) hx]
  unfold key nrm
  beta_reduce
  rw [show off + q.val / 64 * 64 + q.val % 64 = off + q.val by omega]
  simp only [Nat.add_assoc]

end Cert.Proof.PrepMath

end
-- ==== Proof.PrepValue.lean ====
module

public import proofs.«01_k».proof.Proof.Gen.PrepIdeal.Value
public import proofs.«01_k».proof.Proof.PrepMath
public import Idealize.ShloMosaic.Lib.Pipeline.ValueKit
public import Idealize.ShloMosaic.Lib.Pipeline.ValueKit.Geometry
public import Idealize.ShloMosaic.Lib.Pipeline.ReadBack
public import Idealize.ShloMosaic.Lib.StableHlo.ReadAt

@[expose] public section

set_option maxRecDepth 16384

noncomputable section

namespace Cert.PrepIdeal.Hand

open Cert.PrepIdeal Cert.PrepIdeal.Gen Cert.Proof.Tables Cert.Proof.PrepSpec Cert.Proof.PrepMath
open Idealize.ShloMosaic Idealize.ShloMosaic.TcCoe Idealize.SL.Sem
open Idealize.ShloMosaic.Pipeline (Dat)
open Cert.KernelIdeal.Hand (rd2 rd2_eq)

variable (m : (ℓ : Loc nD τ sig) → Buf (Elt Ideal) ℓ)

/-! ## The body's values at an index -/

/-- The body's normalised key, of an entry, its row, a column of the averaging matrix and a gain. -/
def bk (e : EReal) (x : Fin 256 → EReal) (a : Fin 256 → EReal) (g : EReal) : EReal :=
  e * Ideal.rsqrt ((∑ k, x k * x k * a k) + (∑ k, (x k * x k - x k * x k) * a k) + eps) * g

/-- The selected branch's keys. -/
theorem pay36_apply (w : Vec Ideal S256x256 .bf16) (x : Vec Ideal S256x256 .f32) (g : Vec Ideal S1x256 .f32) (r q : Fin 256) :
    k0_pay36 (F := Ideal) (k0_pay2 w) x g (ix2 r q) = bk (x (ix2 r q)) (fun k => x (ix2 r k)) (fun k => w (ix2 k q)) (g (ix2 0 q)) := by
  pointwise [k0_pay36, k0_pay2]
  rfl

/-- The window branch's keys. -/
theorem pay40_apply (w : Vec Ideal S256x256 .bf16) (x : Vec Ideal S256x256 .f32) (g : Vec Ideal S1x256 .f32) (r q : Fin 256) :
    k0_pay40 (F := Ideal) x (k0_pay37 g) (k0_pay38 (k0_pay2 w) x) k0_pay39 (ix2 r q) = bk (x (ix2 r q)) (fun k => x (ix2 r k)) (fun k => w (ix2 k q)) (g (ix2 0 q)) := by
  pointwise [k0_pay40, k0_pay38, k0_pay37, k0_pay39, k0_pay2]
  rfl

/-! ## What each point leaves -/

/-- The window branch's keys of a point. -/
theorem o9 (c : Dev nD) (t : Fin cfg0.N) :
    (outsAt0 m c t).2.2.2.1 = k0_pay40 (F := Ideal) (View.ld (X0_1 m c t) (Rect.unit ![0, 1024] ![256, 256] inb_S256x1536_S256x256_0_1024)) (k0_pay37 (iblk m c 5 t))
      (k0_pay38 (k0_pay2 (iblk m c 2 t)) (View.ld (X0_1 m c t) (Rect.unit ![0, 1024] ![256, 256] inb_S256x1536_S256x256_0_1024))) k0_pay39 := by
  simp only [outsAt0]
  generalize X0_0 m c t = X0
  generalize X0_1 m c t = X1
  frame_out
  rfl

/-- The new key rows of a point. -/
theorem o7 (c : Dev nD) (t : Fin cfg0.N) :
    (outsAt0 m c t).2.1 = View.canon
      [⟨Rect.unit ![0, 256] ![256, 256] inb_S256x512_S256x256_0_256,
          k0_pay36 (F := Ideal) (k0_pay2 (iblk m c 2 t)) (View.ld (X0_1 m c t) (Rect.unit ![0, 512] ![256, 256] inb_S256x1536_S256x256_0_512)) (iblk m c 4 t)⟩,
        ⟨Rect.unit ![0, 0] ![256, 256] inb_S256x512_S256x256_0_0, View.ld (X0_1 m c t) (Rect.unit ![0, 0] ![256, 256] inb_S256x1536_S256x256_0_0)⟩] := by
  simp only [outsAt0]
  generalize X0_0 m c t = X0
  generalize X0_1 m c t = X1
  frame_out
  rfl

/-- The new value rows of a point. -/
theorem o8 (c : Dev nD) (t : Fin cfg0.N) :
    (outsAt0 m c t).2.2.1 = View.canon
      [⟨Rect.unit ![0, 256] ![256, 256] inb_S256x512_S256x256_0_256, View.ld (X0_1 m c t) (Rect.unit ![0, 768] ![256, 256] inb_S256x1536_S256x256_0_768)⟩,
        ⟨Rect.unit ![0, 0] ![256, 256] inb_S256x512_S256x256_0_0, View.ld (X0_1 m c t) (Rect.unit ![0, 256] ![256, 256] inb_S256x1536_S256x256_0_256)⟩] := by
  simp only [outsAt0]
  generalize X0_0 m c t = X0
  generalize X0_1 m c t = X1
  frame_out
  rfl

/-- Two blocks stored side by side. -/
theorem side (a b : Vec Ideal S256x256 .f32) (r : Fin 256) (C : Fin 512) :
    View.canon (s := S256x512) (e := .f32) (Val := Elt Ideal) [⟨Rect.unit ![0, 256] ![256, 256] inb_S256x512_S256x256_0_256, b⟩, ⟨Rect.unit ![0, 0] ![256, 256] inb_S256x512_S256x256_0_0, a⟩] (ix2 r C)
      = if h : C.val < 256 then a (ix2 r ⟨C.val, h⟩) else b (ix2 r ⟨C.val - 256, by omega⟩) := by
  have hC := C.isLt
  split_ifs with h
  · rw [View.canon_cons_of_not_mem]
    · refine (congrArg _ (?_ : ix2 r C = (Rect.unit (s := S256x512) ![0, 0] ![256, 256] inb_S256x512_S256x256_0_0).emb (ix2 r ⟨C.val, h⟩))).trans (View.canon_cons_emb (Rect.unit (s := S256x512) ![0, 0] ![256, 256] inb_S256x512_S256x256_0_0) a [] (ix2 r ⟨C.val, h⟩))
      funext d
      match d with
      | ⟨0, _⟩ => refine Fin.ext ?_; show r.val = 0 + 1 * r.val; omega
      | ⟨1, _⟩ => refine Fin.ext ?_; show C.val = 0 + 1 * C.val; omega
    · intro hm
      have h2 : 256 ≤ C.val := ((Rect.mem_set_unit (inb := inb_S256x512_S256x256_0_256)).mp hm (1 : Fin 2)).1
      omega
  · refine (congrArg _ (?_ : ix2 r C = (Rect.unit (s := S256x512) ![0, 256] ![256, 256] inb_S256x512_S256x256_0_256).emb (ix2 r ⟨C.val - 256, by omega⟩))).trans (View.canon_cons_emb (Rect.unit (s := S256x512) ![0, 256] ![256, 256] inb_S256x512_S256x256_0_256) b _ (ix2 r ⟨C.val - 256, by omega⟩))
    funext d
    match d with
    | ⟨0, _⟩ => refine Fin.ext ?_; show r.val = 0 + 1 * r.val; omega
    | ⟨1, _⟩ => refine Fin.ext ?_; show C.val = 256 + 1 * (C.val - 256); omega

/-! ## The blocks of the arguments -/

/-- The head of a lane, as the program computes it. -/
def hd (k : BitVec 32) : BitVec 32 :=
  Scalar.select
    (IntOp.andi
      (IntOp.cmpi .ne (if k = 0 then (0 : BitVec 32) else if k.msb = true then -1 else 1) (if (64#32 : BitVec 32) = 0 then (0 : BitVec 32) else if (64#32 : BitVec 32).msb = true then -1 else 1))
      (IntOp.cmpi .ne (IntOp.remsi ArithUnit.host k 64#32) 0#32))
    (IntOp.subi (IntOp.divsi ArithUnit.host k 64#32) 1#32)
    (IntOp.divsi ArithUnit.host k 64#32)

/-- It is the quotient by 64. -/
theorem hd_eq : ∀ k : Fin 256, hd (BitVec.ofNat 32 k.val) = BitVec.ofNat 32 (k.val / 64) := by
  decide +kernel

/-- The averaging matrix. -/
theorem V_v8 (c : Dev nD) (k j : Fin 256) : (V m c main_v8 : S256x256.Idx → EReal) (ix2 k j) = if k.val / 64 = j.val / 64 then wgt else 0 := by
  have hk := k.isLt; have hj := j.isLt
  have e : (V m c main_v8 : S256x256.Idx → EReal) (ix2 k j) = Scalar.select (IntOp.cmpi .eq (hd (BitVec.ofNat 32 k.val)) (hd (BitVec.ofNat 32 j.val))) wgt (0 : EReal) := by
    unfold V
    after_reads_at
    rfl
  rw [e, hd_eq k, hd_eq j]
  unfold Scalar.select IntOp.cmpi
  have hb : (BitVec.ofNat 32 (k.val / 64) == BitVec.ofNat 32 (j.val / 64)) = decide (k.val / 64 = j.val / 64) := by
    rw [Bool.beq_eq_decide_eq]
    refine decide_eq_decide.mpr ⟨fun h => ?_, fun h => by rw [h]⟩
    have := congrArg BitVec.toNat h
    rw [BitVec.toNat_ofNat, BitVec.toNat_ofNat] at this
    omega
  dsimp only
  rw [hb]
  by_cases h : k.val / 64 = j.val / 64
  · rw [if_pos h, decide_eq_true h]; rfl
  · rw [if_neg h, decide_eq_false h]; rfl

/-- The selected branch's gain. -/
theorem V_v18 (c : Dev nD) (q : Fin 256) : (V m c main_v18 : S1x256.Idx → EReal) (ix2 0 q) = (m ((c : Thread nD τ).loc main_arg2) : S3x64.Idx → EReal) (ix2 1 ⟨q.val % 64, Nat.mod_lt _ (by decide)⟩) := by
  unfold V
  after_reads_at

/-- The window branch's gain. -/
theorem V_v24 (c : Dev nD) (q : Fin 256) : (V m c main_v24 : S1x256.Idx → EReal) (ix2 0 q) = (m ((c : Thread nD τ).loc main_arg2) : S3x64.Idx → EReal) (ix2 2 ⟨q.val % 64, Nat.mod_lt _ (by decide)⟩) := by
  unfold V
  after_reads_at

/-- The window branch's values in the last rows. -/
theorem V_v27 (c : Dev nD) (b : Fin 2) (t : Fin 512) (q : Fin 256) :
    (V m c main_v27 : S2x512x256.Idx → EReal) (ix3 b t q) = winV (rd2 (n0 := 8192) (n1 := 5760) (m ((c : Thread nD τ).loc main_arg0))) b.val t.val q.val := by
  refine Eq.trans (?_ : _ = (m ((c : Thread nD τ).loc main_arg0) : S8192x5760.Idx → EReal) (ix2 (⟨b.val * 4096 + (3584 + t.val), by omega⟩ : Fin 8192) (⟨1280 + q.val, by omega⟩ : Fin 5760))) ?_
  · unfold V
    after_reads_at
  · exact rd2_eq _ _ _

theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem idx9 : ∀ t : Fin cfg0.N, win0_9.index t (0 : Fin 2) = t.val ∧ win0_9.index t (1 : Fin 2) = 0 := (by decide +kernel : ∀ t : Fin grid0.N, _)

theorem N_lt (t : Fin cfg0.N) : t.val < 32 := lt_of_lt_of_eq t.isLt (show cfg0.N = 32 from N_0)

/-- The projected rows. -/
def uT (c : Dev nD) : ℕ → ℕ → EReal := rd2 (n0 := 8192) (n1 := 5760) (m ((c : Thread nD τ).loc main_arg0))
/-- The gains of the keys. -/
def gT (c : Dev nD) : ℕ → ℕ → EReal := rd2 (n0 := 3) (n1 := 64) (m ((c : Thread nD τ).loc main_arg2))

/-- The block of projected rows. -/
theorem X1_apply (c : Dev nD) (t : Fin cfg0.N) (r : Fin 256) (q : Fin 1536) : (X0_1 m c t : S256x1536.Idx → EReal) (ix2 r q) = uT m c (t.val * 256 + r.val) q.val := by
  obtain ⟨e0, e1⟩ := idx1 t
  have ht := N_lt t
  unfold X0_1 Pipeline.Window.fill
  rw [dif_pos (moved0_1 t _)]
  unfold iblk
  refine (congrArg (V m c main_arg0) (?_ : _ = ix2 (⟨t.val * 256 + r.val, by omega⟩ : Fin 8192) (⟨q.val, by omega⟩ : Fin 5760))).trans ?_
  · funext a
    match a with
    | ⟨0, _⟩ => refine Fin.ext ?_; show win0_1.index t (0 : Fin 2) * 256 + 1 * r.val = t.val * 256 + r.val; omega
    | ⟨1, _⟩ => refine Fin.ext ?_; show win0_1.index t (1 : Fin 2) * 1536 + 1 * q.val = q.val; omega
  · rw [V_main_arg0]
    exact rd2_eq _ _ _

/-- 256 columns of the block. -/
theorem ld_apply (c : Dev nD) (t : Fin cfg0.N) (o : ℕ) (inb) (ho : o + 256 ≤ 1536) (r q : Fin 256) :
    View.ld (X0_1 m c t) (Rect.unit (s := S256x1536) ![0, o] ![256, 256] inb) (ix2 r q) = uT m c (t.val * 256 + r.val) (o + q.val) :=
  (ld2 (n0 := 256) (n1 := 1536) (k0 := 256) (k1 := 256) (X0_1 m c t) 0 o inb r q r ⟨o + q.val, by omega⟩ (Nat.zero_add _).symm rfl).trans (X1_apply m c t r _)

/-- The block of the averaging matrix. -/
theorem b2_apply (c : Dev nD) (t : Fin cfg0.N) (k j : Fin 256) : (iblk m c 2 t : S256x256.Idx → EReal) (ix2 k j) = if k.val / 64 = j.val / 64 then wgt else 0 := by
  obtain ⟨e0, e1⟩ := idx2 t
  unfold iblk
  refine (congrArg (V m c main_v8) (?_ : _ = ix2 k j)).trans (V_v8 m c k j)
  funext a
  match a with
  | ⟨0, _⟩ => refine Fin.ext ?_; show win0_2.index t (0 : Fin 2) * 256 + 1 * k.val = k.val; omega
  | ⟨1, _⟩ => refine Fin.ext ?_; show win0_2.index t (1 : Fin 2) * 256 + 1 * j.val = j.val; omega

/-- The block of the selected branch's gain. -/
theorem b4_apply (c : Dev nD) (t : Fin cfg0.N) (q : Fin 256) : (iblk m c 4 t : S1x256.Idx → EReal) (ix2 0 q) = gT m c 1 (q.val % 64) := by
  obtain ⟨e0, e1⟩ := idx4 t
  unfold iblk
  refine (congrArg (V m c main_v18) (?_ : _ = ix2 0 q)).trans ((V_v18 m c q).trans (rd2_eq _ _ _))
  funext a
  match a with
  | ⟨0, _⟩ => refine Fin.ext ?_; show win0_4.index t (0 : Fin 2) * 1 + 1 * 0 = 0; omega
  | ⟨1, _⟩ => refine Fin.ext ?_; show win0_4.index t (1 : Fin 2) * 256 + 1 * q.val = q.val; omega

/-- The block of the window branch's gain. -/
theorem b5_apply (c : Dev nD) (t : Fin cfg0.N) (q : Fin 256) : (iblk m c 5 t : S1x256.Idx → EReal) (ix2 0 q) = gT m c 2 (q.val % 64) := by
  obtain ⟨e0, e1⟩ := idx5 t
  unfold iblk
  refine (congrArg (V m c main_v24) (?_ : _ = ix2 0 q)).trans ((V_v24 m c q).trans (rd2_eq _ _ _))
  funext a
  match a with
  | ⟨0, _⟩ => refine Fin.ext ?_; show win0_5.index t (0 : Fin 2) * 1 + 1 * 0 = 0; omega
  | ⟨1, _⟩ => refine Fin.ext ?_; show win0_5.index t (1 : Fin 2) * 256 + 1 * q.val = q.val; omega

/-! ## The arrays the kernel leaves -/

/-- The columns that become keys are real numbers. -/
def Fin' (c : Dev nD) : Prop := ∀ (R : ℕ) (k : Fin 256), R < 8192 → (∃ r : ℝ, uT m c R (512 + k.val) = (r : EReal)) ∧ (∃ r : ℝ, uT m c R (1024 + k.val) = (r : EReal))

/-- The new key rows. -/
def G7 (c : Dev nD) : S8192x512.Idx → EReal := fun i => newK (uT m c) (gT m c) (i 0).val (i 1).val
/-- The new value rows. -/
def G8 (c : Dev nD) : S8192x512.Idx → EReal := fun i => newV (uT m c) (i 0).val (i 1).val
/-- The window branch's keys. -/
def G9 (c : Dev nD) : S8192x256.Idx → EReal := fun i => winK (uT m c) (gT m c) (i 0).val (i 1).val
/-- The window branch's values in the last rows. -/
def Gw (c : Dev nD) : S2x512x256.Idx → EReal := fun i => winV (uT m c) (i 0).val (i 1).val (i 2).val

/-- The body's key is the key. -/
theorem bk_key (c : Dev nD) (t : Fin cfg0.N) (o : ℕ) (inb) (ho : o + 256 ≤ 1536) (g : ℕ → EReal) (gb : EReal) (r q : Fin 256) (hg : gb = g (q.val % 64))
    (hx : ∀ k : Fin 256, ∃ z : ℝ, uT m c (t.val * 256 + r.val) (o + k.val) = (z : EReal)) :
    bk (View.ld (X0_1 m c t) (Rect.unit (s := S256x1536) ![0, o] ![256, 256] inb) (ix2 r q)) (fun k => View.ld (X0_1 m c t) (Rect.unit (s := S256x1536) ![0, o] ![256, 256] inb) (ix2 r k))
      (fun k => (iblk m c 2 t : S256x256.Idx → EReal) (ix2 k q)) gb = key (uT m c) o g (t.val * 256 + r.val) q.val := by
  have h1 : (fun k : Fin 256 => View.ld (X0_1 m c t) (Rect.unit (s := S256x1536) ![0, o] ![256, 256] inb) (ix2 r k)) = fun k : Fin 256 => uT m c (t.val * 256 + r.val) (o + k.val) :=
    funext fun k => ld_apply m c t o inb ho r k
  have h2 : (fun k : Fin 256 => (iblk m c 2 t : S256x256.Idx → EReal) (ix2 k q)) = fun k : Fin 256 => if k.val / 64 = q.val / 64 then wgt else 0 :=
    funext fun k => b2_apply m c t k q
  rw [ld_apply m c t o inb ho r q, h1, h2, hg]
  exact key_eq (uT m c) o g (t.val * 256 + r.val) q hx

theorem arr7 (c : Dev nD) (hx : Fin' m c) : (dats m 0 c).arrAt 7 cfg0.N = G7 m c := by
  refine (dats m 0 c).arrAt_eq_of_covers 7 _ (by decide +kernel) fun t hf y => ?_
  obtain ⟨e0, e1⟩ := idx7 t
  have ht := N_lt t
  rw [after0_7, o7]
  have hw := side (View.ld (X0_1 m c t) (Rect.unit ![0, 0] ![256, 256] inb_S256x1536_S256x256_0_0)) (k0_pay36 (F := Ideal) (k0_pay2 (iblk m c 2 t)) (View.ld (X0_1 m c t) (Rect.unit ![0, 512] ![256, 256] inb_S256x1536_S256x256_0_512)) (iblk m c 4 t))
  generalize View.canon (s := S256x512) (e := .f32) (Val := Elt Ideal) _ = o at hw ⊢
  show o y = _
  obtain ⟨r, C, rfl⟩ : ∃ (r : Fin 256) (C : Fin 512), y = ix2 r C := ⟨y 0, y 1, by funext a; match a with | ⟨0, _⟩ => rfl | ⟨1, _⟩ => rfl⟩
  rw [hw r C]
  have f0 : ((((cfg0.win 7).blk t).view.emb (ix2 r C)) (0 : Fin 2)).val = t.val * 256 + r.val := by
    show win0_7.index t (0 : Fin 2) * 256 + 1 * r.val = _
    omega
  have f1 : ((((cfg0.win 7).blk t).view.emb (ix2 r C)) (1 : Fin 2)).val = C.val := by
    show win0_7.index t (1 : Fin 2) * 512 + 1 * C.val = _
    omega
  unfold G7 newK
  rw [f0, f1]
  split_ifs with h
  · rw [ld_apply m c t 0 _ (by omega)]
    exact congrArg _ (Nat.zero_add _)
  · refine (pay36_apply _ _ _ _ _).trans ?_
    exact bk_key m c t 512 _ (by omega) (gT m c 1) _ r ⟨C.val - 256, by omega⟩ (b4_apply m c t _) (fun k => (hx _ k (by omega)).1)

theorem arr8 (c : Dev nD) : (dats m 0 c).arrAt 8 cfg0.N = G8 m c := by
  refine (dats m 0 c).arrAt_eq_of_covers 8 _ (by decide +kernel) fun t hf y => ?_
  obtain ⟨e0, e1⟩ := idx8 t
  have ht := N_lt t
  rw [after0_8, o8]
  have hw := side (View.ld (X0_1 m c t) (Rect.unit ![0, 256] ![256, 256] inb_S256x1536_S256x256_0_256)) (View.ld (X0_1 m c t) (Rect.unit ![0, 768] ![256, 256] inb_S256x1536_S256x256_0_768))
  generalize View.canon (s := S256x512) (e := .f32) (Val := Elt Ideal) _ = o at hw ⊢
  show o y = _
  obtain ⟨r, C, rfl⟩ : ∃ (r : Fin 256) (C : Fin 512), y = ix2 r C := ⟨y 0, y 1, by funext a; match a with | ⟨0, _⟩ => rfl | ⟨1, _⟩ => rfl⟩
  rw [hw r C]
  have f0 : ((((cfg0.win 8).blk t).view.emb (ix2 r C)) (0 : Fin 2)).val = t.val * 256 + r.val := by
    show win0_8.index t (0 : Fin 2) * 256 + 1 * r.val = _
    omega
  have f1 : ((((cfg0.win 8).blk t).view.emb (ix2 r C)) (1 : Fin 2)).val = C.val := by
    show win0_8.index t (1 : Fin 2) * 512 + 1 * C.val = _
    omega
  unfold G8 newV
  rw [f0, f1]
  split_ifs with h
  · rw [ld_apply m c t 256 _ (by omega)]
  · rw [ld_apply m c t 768 _ (by omega)]
    exact congrArg _ (by dsimp only; omega)

theorem arr9 (c : Dev nD) (hx : Fin' m c) : (dats m 0 c).arrAt 9 cfg0.N = G9 m c := by
  refine (dats m 0 c).arrAt_eq_of_covers 9 _ (by decide +kernel) fun t hf y => ?_
  obtain ⟨e0, e1⟩ := idx9 t
  have ht := N_lt t
  rw [after0_9, o9]
  have hw := pay40_apply (iblk m c 2 t) (View.ld (X0_1 m c t) (Rect.unit ![0, 1024] ![256, 256] inb_S256x1536_S256x256_0_1024)) (iblk m c 5 t)
  generalize k0_pay40 (F := Ideal) _ _ _ _ = o at hw ⊢
  show o y = _
  obtain ⟨r, q, rfl⟩ : ∃ (r : Fin 256) (q : Fin 256), y = ix2 r q := ⟨y 0, y 1, by funext a; match a with | ⟨0, _⟩ => rfl | ⟨1, _⟩ => rfl⟩
  rw [hw r q]
  have f0 : ((((cfg0.win 9).blk t).view.emb (ix2 r q)) (0 : Fin 2)).val = t.val * 256 + r.val := by
    show win0_9.index t (0 : Fin 2) * 256 + 1 * r.val = _
    omega
  have f1 : ((((cfg0.win 9).blk t).view.emb (ix2 r q)) (1 : Fin 2)).val = q.val := by
    show win0_9.index t (1 : Fin 2) * 256 + 1 * q.val = _
    omega
  unfold G9 winK
  rw [f0, f1]
  exact bk_key m c t 1024 _ (by omega) (gT m c 2) _ r q (b5_apply m c t _) (fun k => (hx _ k (by omega)).2)

end Cert.PrepIdeal.Hand

end
-- ==== Proof.PrepRef.lean ====
module

public import proofs.«01_k».proof.Proof.PrepSpec
public import proofs.«01_k».proof.Proof.Gen.PrepRefIdeal.Read

@[expose] public section

set_option maxRecDepth 16384

noncomputable section

namespace Cert.PrepRefIdeal.Hand

open Cert.PrepRefIdeal Cert.PrepRefIdeal.Read Cert.Proof.PrepSpec Cert.Proof.Tables
open Idealize.ShloMosaic
open Cert.KernelIdeal.Hand (rd2 rd2_eq)

variable (x0 : FVec Ideal S8192x5760 .f32) (x2 : FVec Ideal S3x64 .f32)

/-! ## The columns of the projected rows -/

/-- The compressed branch's keys. -/
theorem v38_apply (b : Fin 2) (t : Fin 4096) (h : Fin 4) (d : Fin 64) :
    val_main_v38 (F := Ideal) x0 (ix4 b t h d) = rd2 x0 (b.val * 4096 + t.val) (0 + h.val * 64 + d.val) := by
  pointwise [val_main_v38, val_main_v37, val_main_v2, val_main_v1, val_main_v0]
  refine (rd2_eq x0 _ _).trans ?_
  have := b.isLt; have := t.isLt; have := h.isLt; have := d.isLt
  congr 1
  all_goals first | omega | (dsimp only; omega)

/-- The selected branch's keys. -/
theorem v4_apply (b : Fin 2) (t : Fin 4096) (h : Fin 4) (d : Fin 64) :
    val_main_v4 (F := Ideal) x0 (ix4 b t h d) = rd2 x0 (b.val * 4096 + t.val) (512 + h.val * 64 + d.val) := by
  pointwise [val_main_v4, val_main_v3, val_main_v2, val_main_v1, val_main_v0]
  refine (rd2_eq x0 _ _).trans ?_
  have := b.isLt; have := t.isLt; have := h.isLt; have := d.isLt
  congr 1
  all_goals first | omega | (dsimp only; omega)

/-- The window branch's keys. -/
theorem v21_apply (b : Fin 2) (t : Fin 4096) (h : Fin 4) (d : Fin 64) :
    val_main_v21 (F := Ideal) x0 (ix4 b t h d) = rd2 x0 (b.val * 4096 + t.val) (1024 + h.val * 64 + d.val) := by
  pointwise [val_main_v21, val_main_v20, val_main_v2, val_main_v1, val_main_v0]
  refine (rd2_eq x0 _ _).trans ?_
  have := b.isLt; have := t.isLt; have := h.isLt; have := d.isLt
  congr 1
  all_goals first | omega | (dsimp only; omega)

/-- The compressed branch's values. -/
theorem v43_apply (b : Fin 2) (t : Fin 4096) (h : Fin 4) (d : Fin 64) :
    val_main_v43 (F := Ideal) x0 (ix4 b t h d) = rd2 x0 (b.val * 4096 + t.val) (256 + h.val * 64 + d.val) := by
  pointwise [val_main_v43, val_main_v42, val_main_v2, val_main_v1, val_main_v0]
  refine (rd2_eq x0 _ _).trans ?_
  have := b.isLt; have := t.isLt; have := h.isLt; have := d.isLt
  congr 1
  all_goals first | omega | (dsimp only; omega)

/-- The selected branch's values. -/
theorem v45_apply (b : Fin 2) (t : Fin 4096) (h : Fin 4) (d : Fin 64) :
    val_main_v45 (F := Ideal) x0 (ix4 b t h d) = rd2 x0 (b.val * 4096 + t.val) (768 + h.val * 64 + d.val) := by
  pointwise [val_main_v45, val_main_v44, val_main_v2, val_main_v1, val_main_v0]
  refine (rd2_eq x0 _ _).trans ?_
  have := b.isLt; have := t.isLt; have := h.isLt; have := d.isLt
  congr 1
  all_goals first | omega | (dsimp only; omega)

/-- The window branch's values in the last rows. -/
theorem v54_apply (b : Fin 2) (t : Fin 512) (q : Fin 256) :
    val_main_v54 (F := Ideal) x0 (ix3 b t q) = winV (rd2 x0) b.val t.val q.val := by
  pointwise [val_main_v54, val_main_v53, val_main_v52, val_main_v2, val_main_v1, val_main_v0]
  refine (rd2_eq x0 _ _).trans ?_
  have := b.isLt; have := t.isLt; have := q.isLt
  unfold winV
  congr 1
  all_goals first | omega | (dsimp only; omega)

/-! ## The normalised keys -/

/-- The selected branch's keys, normalised. -/
theorem v19_apply (b : Fin 2) (t : Fin 4096) (h : Fin 4) (d : Fin 64) :
    val_main_v19 (F := Ideal) x0 x2 (ix4 b t h d) = nrm 64 cnt (fun j => rd2 x0 (b.val * 4096 + t.val) (512 + h.val * 64 + j)) (rd2 x2 1) d.val := by
  have h4 := v4_apply x0
  unfold val_main_v19 val_main_v16 val_main_v15 val_main_v14 val_main_v13 val_main_v11 val_main_v9 val_main_v8 val_main_v7
  generalize val_main_v4 (F := Ideal) x0 = g at h4 ⊢
  pointwise [val_main_v18, val_main_v17, val_main_v6, val_main_v5, val_main_v10, val_main_v12, val_main_cst, val_main_cst_0, val_main_cst_1]
  simp only [h4, rd2_eq x2]
  rfl

/-- The window branch's keys, normalised. -/
theorem v36_apply (b : Fin 2) (t : Fin 4096) (h : Fin 4) (d : Fin 64) :
    val_main_v36 (F := Ideal) x0 x2 (ix4 b t h d) = nrm 64 cnt (fun j => rd2 x0 (b.val * 4096 + t.val) (1024 + h.val * 64 + j)) (rd2 x2 2) d.val := by
  have h4 := v21_apply x0
  unfold val_main_v36 val_main_v33 val_main_v32 val_main_v31 val_main_v30 val_main_v28 val_main_v26 val_main_v25 val_main_v24
  generalize val_main_v21 (F := Ideal) x0 = g at h4 ⊢
  pointwise [val_main_v35, val_main_v34, val_main_v23, val_main_v22, val_main_v27, val_main_v29, val_main_cst_2, val_main_cst_3, val_main_cst_4]
  simp only [h4, rd2_eq x2]
  rfl

/-! ## The results -/

/-- The window branch's keys as rows. -/
theorem v51_apply (R : Fin 8192) (q : Fin 256) : val_main_v51 (F := Ideal) x0 x2 (ix2 R q) = winK (rd2 x0) (rd2 x2) R.val q.val := by
  have h36 := v36_apply x0 x2
  unfold val_main_v51
  generalize val_main_v36 (F := Ideal) x0 x2 = g at h36 ⊢
  pointwise
  refine (h36 _ _ _ _).trans ?_
  have := R.isLt; have := q.isLt
  unfold winK key
  dsimp only
  rw [show R.val / 4096 * 4096 + R.val % 4096 = R.val by omega]

/-- The new key rows. -/
theorem v49_apply (R : Fin 8192) (C : Fin 512) : val_main_v49 (F := Ideal) x0 x2 (ix2 R C) = newK (rd2 x0) (rd2 x2) R.val C.val := by
  have h38 := v38_apply x0
  have h19 := v19_apply x0 x2
  unfold val_main_v49 val_main_v41 val_main_v39 val_main_v40
  generalize val_main_v38 (F := Ideal) x0 = g at h38 ⊢
  generalize val_main_v19 (F := Ideal) x0 x2 = k at h19 ⊢
  pointwise
  have := R.isLt; have := C.isLt
  have e0 : R.val / 4096 * 4096 + R.val % 4096 = R.val := by omega
  unfold newK key
  split_ifs with h h' h'
  · refine (h38 _ _ _ _).trans ?_
    dsimp only
    rw [e0, show 0 + C.val / 64 % 4 * 64 + C.val % 64 = C.val by omega]
  · omega
  · exact absurd h' (by decide)
  · rw [if_neg (show ¬ C.val < 256 by omega)]
    refine (h19 _ _ _ _).trans ?_
    dsimp only
    rw [e0, show C.val / 64 % 4 = (C.val - 256) / 64 by omega, show C.val % 64 = (C.val - 256) % 64 by omega]

/-- The new value rows. -/
theorem v50_apply (R : Fin 8192) (C : Fin 512) : val_main_v50 (F := Ideal) x0 (ix2 R C) = newV (rd2 x0) R.val C.val := by
  have h38 := v43_apply x0
  have h19 := v45_apply x0
  unfold val_main_v50 val_main_v48 val_main_v46 val_main_v47
  generalize val_main_v43 (F := Ideal) x0 = g at h38 ⊢
  generalize val_main_v45 (F := Ideal) x0 = k at h19 ⊢
  pointwise
  have := R.isLt; have := C.isLt
  have e0 : R.val / 4096 * 4096 + R.val % 4096 = R.val := by omega
  unfold newV
  split_ifs with h h' h'
  · refine (h38 _ _ _ _).trans ?_
    dsimp only
    rw [e0, show 256 + C.val / 64 % 4 * 64 + C.val % 64 = 256 + C.val by omega]
  · omega
  · exact absurd h' (by decide)
  · rw [if_neg (show ¬ C.val < 256 by omega)]
    refine (h19 _ _ _ _).trans ?_
    dsimp only
    rw [e0, show 768 + C.val / 64 % 4 * 64 + C.val % 64 = 512 + C.val by omega]

end Cert.PrepRefIdeal.Hand

end
-- ==== Proof.PrepClaim.lean ====
module

public import proofs.«01_k».proof.Defs
public import proofs.«01_k».proof.Proof.PrepValue
public import proofs.«01_k».proof.Proof.PrepRef
public import proofs.«01_k».proof.Proof.Gen.PrepRefIdeal.Run
public import proofs.«01_k».proof.Proof.Gen.Prep.Frame
public import Idealize.ShloMosaic.Adequacy
public import Idealize.ShloMosaic.Init

@[expose] public section

set_option maxRecDepth 16384

noncomputable section

namespace Cert.Proof.Prep

open Idealize.ShloMosaic Idealize.ShloMosaic.TcCoe Idealize.SL.Sem
open Cert.PrepIdeal.Hand (G7 G8 G9 Gw Fin' uT gT)
open Cert.KernelIdeal.Hand (rd2 rd2_eq)

/-- The side conditions of the precondition's operations. -/
theorem pre_facts : Cert.Pre_keys_finite.Facts := ⟨by decide, by decide, by decide⟩

attribute [local instance] pre_facts

/-- The precondition at an index: both entries are below the infinity in size. -/
theorem pre_apply (x0 : FVec Ideal Cert.Pre_keys_finite.S8192x5760 .f32) (x1 : FVec Ideal Cert.Pre_keys_finite.S64 .f32) (x2 : FVec Ideal Cert.Pre_keys_finite.S3x64 .f32) (R : Fin 8192) (k : Fin 256) :
    Cert.Pre_keys_finite.fn (F := Ideal) x0 x1 x2 (ix2 R k)
      = IntOp.andi (Ideal.cmp .olt (max (x0 (ix2 R ⟨512 + k.val, by omega⟩)) (-(x0 (ix2 R ⟨512 + k.val, by omega⟩)))) (Ideal.ofBits .f32 0x7F800000#32))
          (Ideal.cmp .olt (max (x0 (ix2 R ⟨1024 + k.val, by omega⟩)) (-(x0 (ix2 R ⟨1024 + k.val, by omega⟩)))) (Ideal.ofBits .f32 0x7F800000#32)) := by
  pointwise [Cert.Pre_keys_finite.fn]
  rfl

/-- The precondition makes the columns that become keys real numbers. -/
theorem fin_of_pre (m : (ℓ : Loc Cert.PrepIdeal.nD Cert.PrepIdeal.τ Cert.PrepIdeal.sig) → Buf (Elt Ideal) ℓ) (h : Cert.Pre_PrepIdeal_keys_finite m) (c : Dev Cert.PrepIdeal.nD) : Fin' m c := by
  intro R k hR
  have e := (pre_apply _ _ _ (⟨R, hR⟩ : Fin 8192) k).symm.trans (congrFun (h c) (ix2 (⟨R, hR⟩ : Fin 8192) k))
  have sp : ∀ p q : Bool, IntOp.andi (BitVec.ofBool p) (BitVec.ofBool q) = 1#1 → p = true ∧ q = true := by decide
  obtain ⟨e1, e2⟩ := sp _ _ e
  obtain ⟨r1, h1⟩ := PrepMath.real_of_lt (of_decide_eq_true e1)
  obtain ⟨r2, h2⟩ := PrepMath.real_of_lt (of_decide_eq_true e2)
  exact ⟨⟨r1, (rd2_eq _ _ _).symm.trans h1⟩, ⟨r2, (rd2_eq _ _ _).symm.trans h2⟩⟩

/-- The arrays a run of the kernel leaves in the results' buffers. -/
theorem kernel_run (m : (ℓ : Loc Cert.PrepIdeal.nD Cert.PrepIdeal.τ Cert.PrepIdeal.sig) → Buf (Elt Ideal) ℓ) (g : Dev Cert.PrepIdeal.nD → PrngReg) (hx : ∀ c, Fin' m c) :
    θ_run (Cert.PrepIdeal.defs (F := Ideal)) (onTc (τ := Cert.PrepIdeal.τ) (Cert.PrepIdeal.main (F := Ideal))) ⟨m, fun _ => 0, g⟩ (fun r => ∀ c : Dev Cert.PrepIdeal.nD,
      r.2.mem ((c.tc : Thread Cert.PrepIdeal.nD Cert.PrepIdeal.τ).loc Cert.PrepIdeal.main_v28_1) = G7 m c
      ∧ r.2.mem ((c.tc : Thread Cert.PrepIdeal.nD Cert.PrepIdeal.τ).loc Cert.PrepIdeal.main_v28_2) = G8 m c
      ∧ r.2.mem ((c.tc : Thread Cert.PrepIdeal.nD Cert.PrepIdeal.τ).loc Cert.PrepIdeal.main_v28_3) = G9 m c
      ∧ r.2.mem ((c.tc : Thread Cert.PrepIdeal.nD Cert.PrepIdeal.τ).loc Cert.PrepIdeal.main_v27) = Gw m c
      ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)) := by
  refine (θ_run _ _ _).mono (fun r h c => ?_) (Cert.PrepIdeal.Gen.run_main (F := Ideal) m g)
  refine ⟨(Cert.PrepIdeal.Value.post7 m r h c).trans (Cert.PrepIdeal.Hand.arr7 m c (hx c)), (Cert.PrepIdeal.Value.post8 m r h c).trans (Cert.PrepIdeal.Hand.arr8 m c),
    (Cert.PrepIdeal.Value.post9 m r h c).trans (Cert.PrepIdeal.Hand.arr9 m c (hx c)),
    ((h c).2 Cert.PrepIdeal.main_v27 (Pipeline.mem_restRefs_of Cert.PrepIdeal.main_v27 (by decide) (by decide))).trans (?_ : _ = Gw m c),
    Cert.PrepIdeal.Value.kept_main_arg0 m r h c, Cert.PrepIdeal.Value.kept_main_arg1 m r h c, Cert.PrepIdeal.Value.kept_main_arg2 m r h c⟩
  funext i
  obtain ⟨b, t, q, rfl⟩ : ∃ (b : Fin 2) (t : Fin 512) (q : Fin 256), i = ix3 b t q := ⟨i 0, i 1, i 2, by funext a; match a with | ⟨0, _⟩ => rfl | ⟨1, _⟩ => rfl | ⟨2, _⟩ => rfl⟩
  exact Cert.PrepIdeal.Hand.V_v27 m c b t q

/-- The reference's new key rows are the kernel's, on the same arguments. -/
theorem ref_nk (m : (ℓ : Loc Cert.PrepIdeal.nD Cert.PrepIdeal.τ Cert.PrepIdeal.sig) → Buf (Elt Ideal) ℓ) (c : Dev Cert.PrepIdeal.nD) :
    Cert.PrepRefIdeal.Read.val_main_v49 (F := Ideal) (m ((c.tc : Thread _ _).loc Cert.PrepIdeal.main_arg0)) (m ((c.tc : Thread _ _).loc Cert.PrepIdeal.main_arg2)) = G7 m c := by
  funext i
  obtain ⟨r, q, rfl⟩ : ∃ (r : Fin 8192) (q : Fin 512), i = ix2 r q := ⟨i 0, i 1, by funext a; match a with | ⟨0, _⟩ => rfl | ⟨1, _⟩ => rfl⟩
  rw [Cert.PrepRefIdeal.Hand.v49_apply]
  rfl

/-- The reference's new value rows are the kernel's, on the same arguments. -/
theorem ref_nv (m : (ℓ : Loc Cert.PrepIdeal.nD Cert.PrepIdeal.τ Cert.PrepIdeal.sig) → Buf (Elt Ideal) ℓ) (c : Dev Cert.PrepIdeal.nD) :
    Cert.PrepRefIdeal.Read.val_main_v50 (F := Ideal) (m ((c.tc : Thread _ _).loc Cert.PrepIdeal.main_arg0)) = G8 m c := by
  funext i
  obtain ⟨r, q, rfl⟩ : ∃ (r : Fin 8192) (q : Fin 512), i = ix2 r q := ⟨i 0, i 1, by funext a; match a with | ⟨0, _⟩ => rfl | ⟨1, _⟩ => rfl⟩
  rw [Cert.PrepRefIdeal.Hand.v50_apply]
  rfl

/-- The reference's window keys are the kernel's, on the same arguments. -/
theorem ref_wk (m : (ℓ : Loc Cert.PrepIdeal.nD Cert.PrepIdeal.τ Cert.PrepIdeal.sig) → Buf (Elt Ideal) ℓ) (c : Dev Cert.PrepIdeal.nD) :
    Cert.PrepRefIdeal.Read.val_main_v51 (F := Ideal) (m ((c.tc : Thread _ _).loc Cert.PrepIdeal.main_arg0)) (m ((c.tc : Thread _ _).loc Cert.PrepIdeal.main_arg2)) = G9 m c := by
  funext i
  obtain ⟨r, q, rfl⟩ : ∃ (r : Fin 8192) (q : Fin 256), i = ix2 r q := ⟨i 0, i 1, by funext a; match a with | ⟨0, _⟩ => rfl | ⟨1, _⟩ => rfl⟩
  rw [Cert.PrepRefIdeal.Hand.v51_apply]
  rfl

/-- The reference's window values are the kernel's, on the same arguments. -/
theorem ref_wv (m : (ℓ : Loc Cert.PrepIdeal.nD Cert.PrepIdeal.τ Cert.PrepIdeal.sig) → Buf (Elt Ideal) ℓ) (c : Dev Cert.PrepIdeal.nD) :
    Cert.PrepRefIdeal.Read.val_main_v54 (F := Ideal) (m ((c.tc : Thread _ _).loc Cert.PrepIdeal.main_arg0)) = Gw m c := by
  funext i
  obtain ⟨b, t, q, rfl⟩ : ∃ (b : Fin 2) (t : Fin 512) (q : Fin 256), i = ix3 b t q := ⟨i 0, i 1, i 2, by funext a; match a with | ⟨0, _⟩ => rfl | ⟨1, _⟩ => rfl | ⟨2, _⟩ => rfl⟩
  rw [Cert.PrepRefIdeal.Hand.v54_apply]
  rfl

/-- The reference's frame. -/
theorem frame_ri : Cert.quiescent_PrepRefIdeal := fun m ρ _ =>
  (θ_run Cert.PrepRefIdeal.defs _ _).mono (fun r h => ⟨fun c => (h c).2.2.2.2, sem_eq_zero_of_no_sems (by decide) r.2⟩)
    (Cert.PrepRefIdeal.Value.run (F := Ideal) m ρ)

/-- Over the reals, on arguments whose key columns are finite, the kernel and the reference leave the same four arrays. -/
theorem algebraic : Cert.algebraic_PrepIdeal_PrepRefIdeal_pre_keys_finite := by
  intro m g m' g' hpre hag
  refine ⟨fun c => G7 m c, fun c => G8 m c, fun c => G9 m c, fun c => Gw m c, kernel_run m g (fin_of_pre m hpre), ?_⟩
  refine (θ_run _ _ _).mono (fun r h c => ?_) (Cert.PrepRefIdeal.Value.run (F := Ideal) m' g')
  obtain ⟨a0, a1, a2⟩ := hag c
  obtain ⟨h0, h1, h2, h3, hk⟩ := h c
  refine ⟨h0.trans ((Cert.PrepRefIdeal.Read.val_main_v49_eq _ _).trans (?_ : _ = G7 m c)), h1.trans ((Cert.PrepRefIdeal.Read.val_main_v50_eq _).trans (?_ : _ = G8 m c)),
    h2.trans ((Cert.PrepRefIdeal.Read.val_main_v51_eq _ _).trans (?_ : _ = G9 m c)), h3.trans ((Cert.PrepRefIdeal.Read.val_main_v54_eq _).trans (?_ : _ = Gw m c)), hk⟩
  · rw [a0, a2]; exact ref_nk m c
  · rw [a0]; exact ref_nv m c
  · rw [a0, a2]; exact ref_wk m c
  · rw [a0]; exact ref_wv m c

end Cert.Proof.Prep

end
-- ==== Proof.RefFrames.lean ====
module

public import proofs.«01_k».proof.Defs
public import proofs.«01_k».proof.Proof.Gen.InProjRefIdeal.Run
public import proofs.«01_k».proof.Proof.Gen.OutProjRefIdeal.Run
public import proofs.«01_k».proof.Proof.Gen.FfnRefIdeal.Run
public import Idealize.ShloMosaic.Adequacy
public import Idealize.ShloMosaic.Init

@[expose] public section

noncomputable section

namespace Cert.Proof.Refs

open Idealize.ShloMosaic Idealize.SL.Sem

/-- Every run of the input projection's reference ends, its arguments unchanged. -/
theorem frame_InProjRefIdeal : Cert.quiescent_InProjRefIdeal := fun m ρ _ =>
  (θ_run Cert.InProjRefIdeal.defs _ _).mono (fun r h => ⟨fun c => (h c).2, sem_eq_zero_of_no_sems (by decide) r.2⟩) (Cert.InProjRefIdeal.Value.run (F := Ideal) m ρ)

/-- Every run of the output projection's reference ends, its arguments unchanged. -/
theorem frame_OutProjRefIdeal : Cert.quiescent_OutProjRefIdeal := fun m ρ _ =>
  (θ_run Cert.OutProjRefIdeal.defs _ _).mono (fun r h => ⟨fun c => (h c).2, sem_eq_zero_of_no_sems (by decide) r.2⟩) (Cert.OutProjRefIdeal.Value.run (F := Ideal) m ρ)

/-- Every run of the feed-forward's reference ends, its arguments unchanged. -/
theorem frame_FfnRefIdeal : Cert.quiescent_FfnRefIdeal := fun m ρ _ =>
  (θ_run Cert.FfnRefIdeal.defs _ _).mono (fun r h => ⟨fun c => (h c).2, sem_eq_zero_of_no_sems (by decide) r.2⟩) (Cert.FfnRefIdeal.Value.run (F := Ideal) m ρ)

end Cert.Proof.Refs

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.InProjIdeal.Value
public import proofs.«01_k».proof.Proof.Gen.OutProjIdeal.Value
public import proofs.«01_k».proof.Proof.Gen.FfnIdeal.Value
public import proofs.«01_k».proof.Proof.Gen.ReferenceIdeal.Run
public import proofs.«01_k».proof.Proof.Gen.ReferenceIdeal.Read
public import proofs.«01_k».proof.Proof.Gen.InProjRefIdeal.Run
public import proofs.«01_k».proof.Proof.Gen.InProjRefIdeal.Read
public import proofs.«01_k».proof.Proof.Gen.OutProjRefIdeal.Run
public import proofs.«01_k».proof.Proof.Gen.OutProjRefIdeal.Read
public import proofs.«01_k».proof.Proof.Gen.FfnRefIdeal.Run
public import proofs.«01_k».proof.Proof.Gen.FfnRefIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.PrepIdeal.Value
public import proofs.«01_k».proof.Proof.Gen.PrepRefIdeal.Run
public import proofs.«01_k».proof.Proof.Gen.PrepRefIdeal.Read
public import proofs.«01_k».proof.Proof.SsdClaim
public import proofs.«01_k».proof.Proof.ConvClaim
public import proofs.«01_k».proof.Proof.InProjClaim
public import proofs.«01_k».proof.Proof.OutProjClaim
public import proofs.«01_k».proof.Proof.FfnClaim
public import proofs.«01_k».proof.Proof.PrepClaim
public import proofs.«01_k».proof.Proof.RefFrames
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Conv.Gen.facts, Cert.ConvIdeal.Gen.facts, Cert.ConvRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.Ffn.Gen.facts, Cert.FfnIdeal.Gen.facts, Cert.FfnRefIdeal.Gen.facts, Cert.Prep.Gen.facts, Cert.PrepIdeal.Gen.facts, Cert.PrepRefIdeal.Gen.facts, Prep.pre_facts,
   Ssd.frame_k,
   Ssd.frame_ki,
   Ssd.frame_ri,
   Conv.frame_k,
   Conv.frame_ki,
   Conv.frame_ri,
   fun m ρ _ => Cert.InProj.Gen.frame m ρ,
   fun m ρ _ => Cert.InProjIdeal.Gen.frame m ρ,
   Refs.frame_InProjRefIdeal,
   fun m ρ _ => Cert.OutProj.Gen.frame m ρ,
   fun m ρ _ => Cert.OutProjIdeal.Gen.frame m ρ,
   Refs.frame_OutProjRefIdeal,
   fun m ρ _ => Cert.Ffn.Gen.frame m ρ,
   fun m ρ _ => Cert.FfnIdeal.Gen.frame m ρ,
   Refs.frame_FfnRefIdeal,
   fun m ρ _ => Cert.Prep.Gen.frame m ρ,
   fun m ρ _ => Cert.PrepIdeal.Gen.frame m ρ,
   fun m ρ _ => Cert.PrepIdeal.Gen.frame m ρ,
   Prep.frame_ri,
   fun m ρ _ => Prep.frame_ri m ρ trivial,
   trivial, Ssd.algebraic, trivial, Conv.algebraic, trivial, InProj.algebraic, trivial, OutProj.algebraic, trivial, Ffn.algebraic, trivial, Prep.algebraic⟩

end Cert.Proof

end
